-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)) (v6 : (c : Dev Cert.Kernel2Ideal.nD) → Buf (Elt Ideal) ((c.tc : Thread Cert.Kernel2Ideal.nD Cert.Kernel2Ideal.τ).loc Cert.Kernel2Ideal.main_v16_6)) (v7 : (c : Dev Cert.Kernel2Ideal.nD) → Buf (Elt Ideal) ((c.tc : Thread Cert.Kernel2Ideal.nD Cert.Kernel2Ideal.τ).loc Cert.Kernel2Ideal.main_v16_7)) (v8 : (c : Dev Cert.Kernel2Ideal.nD) → Buf (Elt Ideal) ((c.tc : Thread Cert.Kernel2Ideal.nD Cert.Kernel2Ideal.τ).loc Cert.Kernel2Ideal.main_v16_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_v16_6) = v6 c
          ∧ r.2.mem ((c.tc : Thread Cert.Kernel2Ideal.nD Cert.Kernel2Ideal.τ).loc Cert.Kernel2Ideal.main_v16_7) = v7 c
          ∧ r.2.mem ((c.tc : Thread Cert.Kernel2Ideal.nD Cert.Kernel2Ideal.τ).loc Cert.Kernel2Ideal.main_v16_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v26) = v4 c
          ∧ r.2.mem ((c.tc : Thread Cert.Reference2Ideal.nD Cert.Reference2Ideal.τ).loc Cert.Reference2Ideal.main_v27) = v5 c
          ∧ r.2.mem ((c.tc : Thread Cert.Reference2Ideal.nD Cert.Reference2Ideal.τ).loc Cert.Reference2Ideal.main_v30) = v6 c
          ∧ r.2.mem ((c.tc : Thread Cert.Reference2Ideal.nD Cert.Reference2Ideal.τ).loc Cert.Reference2Ideal.main_v44) = v7 c
          ∧ r.2.mem ((c.tc : Thread Cert.Reference2Ideal.nD Cert.Reference2Ideal.τ).loc Cert.Reference2Ideal.main_v45) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)) (v2 : (c : Dev Cert.Kernel3Ideal.nD) → Buf (Elt Ideal) ((c.tc : Thread Cert.Kernel3Ideal.nD Cert.Kernel3Ideal.τ).loc Cert.Kernel3Ideal.main_v33_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_v33_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v67) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S1x16384x8x64 : Shape := ⟨4, ![1, 16384, 8, 64]⟩
abbrev S1x16384x8 : Shape := ⟨3, ![1, 16384, 8]⟩
abbrev S_ : Shape := ⟨0, ![]⟩

class Facts : Prop where
  bcast_S_S1x16384x8x64 : S_.BroadcastsInDim S1x16384x8x64 (![] : Fin 0 → Fin S1x16384x8x64.rank)
  reducesTo_S1x16384x8x64_S_d0_1_2_3 : S1x16384x8x64.ReducesTo [0, 1, 2, 3] S_
  h_S_ : 0 < S_.numel
  bcast_S_S1x16384x8 : S_.BroadcastsInDim S1x16384x8 (![] : Fin 0 → Fin S1x16384x8.rank)
  reducesTo_S1x16384x8_S_d0_1_2 : S1x16384x8.ReducesTo [0, 1, 2] S_

variable [Facts]

def fn {F : FTy → Type} [FloatOps F] (main_arg0 : FVec F S1x16384x8x64 .f32) (main_arg1 : FVec F S1x16384x8x64 .f32) (main_arg2 : FVec F S1x16384x8x64 .f32) (main_arg3 : FVec F S1x16384x8 .f32) : IVec S_ 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_c : IVec S_ 1 := constantI S_ 1 1#1
  let main_v3 : IVec S_ 1 := (fun x v => Host.reduce IntOp.andi x v reducesTo_S1x16384x8x64_S_d0_1_2_3 h_S_) main_v2 main_c
  let main_v4 : FVec F S1x16384x8x64 .f32 := Host.absf main_arg1
  let main_cst_0 : FVec F S_ .f32 := constant S_ .f32 0x7F800000#32
  let main_v5 : FVec F S1x16384x8x64 .f32 := broadcastInDim S1x16384x8x64 ![] bcast_S_S1x16384x8x64 main_cst_0
  let main_v6 : IVec S1x16384x8x64 1 := cmpf .olt main_v4 main_v5
  let main_c_1 : IVec S_ 1 := constantI S_ 1 1#1
  let main_v7 : IVec S_ 1 := (fun x v => Host.reduce IntOp.andi x v reducesTo_S1x16384x8x64_S_d0_1_2_3 h_S_) main_v6 main_c_1
  let main_v8 : IVec S_ 1 := andi main_v3 main_v7
  let main_v9 : FVec F S1x16384x8 .f32 := Host.absf main_arg3
  let main_cst_2 : FVec F S_ .f32 := constant S_ .f32 0x7F800000#32
  let main_v10 : FVec F S1x16384x8 .f32 := broadcastInDim S1x16384x8 ![] bcast_S_S1x16384x8 main_cst_2
  let main_v11 : IVec S1x16384x8 1 := cmpf .olt main_v9 main_v10
  let main_c_3 : IVec S_ 1 := constantI S_ 1 1#1
  let main_v12 : IVec S_ 1 := (fun x v => Host.reduce IntOp.andi x v reducesTo_S1x16384x8_S_d0_1_2 h_S_) main_v11 main_c_3
  let main_v13 : IVec S_ 1 := andi main_v8 main_v12
  main_v13
-- ==== Pre_finite3.lean ====
abbrev S1x16384x512 : Shape := ⟨3, ![1, 16384, 512]⟩
abbrev S1x16384x1024 : Shape := ⟨3, ![1, 16384, 1024]⟩
abbrev S1x1x1024 : Shape := ⟨3, ![1, 1, 1024]⟩
abbrev S512 : Shape := ⟨1, ![512]⟩
abbrev S1024 : Shape := ⟨1, ![1024]⟩
abbrev S1024x1024 : Shape := ⟨2, ![1024, 1024]⟩
abbrev S1024x2048 : Shape := ⟨2, ![1024, 2048]⟩
abbrev S8x2x128x128 : Shape := ⟨4, ![8, 2, 128, 128]⟩
abbrev S_ : Shape := ⟨0, ![]⟩

class Facts : Prop where
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel

variable [Facts]

def fn {F : FTy → Type} [FloatOps F] (main_arg0 : FVec F S1x16384x512 .f32) (main_arg1 : FVec F S1x16384x512 .f32) (main_arg2 : FVec F S1x16384x512 .f32) (main_arg3 : FVec F S1x16384x1024 .f32) (main_arg4 : FVec F S1x1x1024 .f32) (main_arg5 : FVec F S1x1x1024 .f32) (main_arg6 : FVec F S1x1x1024 .f32) (main_arg7 : FVec F S512 .f32) (main_arg8 : FVec F S512 .f32) (main_arg9 : FVec F S1024 .f32) (main_arg10 : FVec F S1024x1024 .f32) (main_arg11 : FVec F S1024x2048 .f32) (main_arg12 : FVec F S8x2x128x128 .f32) : IVec S_ 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_c : IVec S_ 1 := constantI S_ 1 1#1
  let main_v3 : IVec S_ 1 := (fun x v => Host.reduce IntOp.andi x v reducesTo_S1x16384x512_S_d0_1_2 h_S_) main_v2 main_c
  let main_v4 : FVec F S1x16384x512 .f32 := Host.absf main_arg1
  let main_cst_0 : FVec F S_ .f32 := constant S_ .f32 0x7F800000#32
  let main_v5 : FVec F S1x16384x512 .f32 := broadcastInDim S1x16384x512 ![] bcast_S_S1x16384x512 main_cst_0
  let main_v6 : IVec S1x16384x512 1 := cmpf .olt main_v4 main_v5
  let main_c_1 : IVec S_ 1 := constantI S_ 1 1#1
  let main_v7 : IVec S_ 1 := (fun x v => Host.reduce IntOp.andi x v reducesTo_S1x16384x512_S_d0_1_2 h_S_) main_v6 main_c_1
  let main_v8 : IVec S_ 1 := andi main_v3 main_v7
  main_v8
-- ==== Kernel.lean ====
abbrev S1x16384x8x64 : Shape := ⟨4, ![1, 16384, 8, 64]⟩
abbrev S1x16384x8 : Shape := ⟨3, ![1, 16384, 8]⟩
abbrev S528 : Shape := ⟨1, ![528]⟩
abbrev S16384x512 : Shape := ⟨2, ![16384, 512]⟩
abbrev S16384x8 : Shape := ⟨2, ![16384, 8]⟩
abbrev S8x16384 : Shape := ⟨2, ![8, 16384]⟩
abbrev S_ : Shape := ⟨0, ![]⟩
abbrev S8x32x512 : Shape := ⟨3, ![8, 32, 512]⟩
abbrev S8x32 : Shape := ⟨2, ![8, 32]⟩
abbrev S8x32x1 : Shape := ⟨3, ![8, 32, 1]⟩
abbrev S16384x8x64 : Shape := ⟨3, ![16384, 8, 64]⟩
abbrev S8x64x16384 : Shape := ⟨3, ![8, 64, 16384]⟩
abbrev S8x16384x64 : Shape := ⟨3, ![8, 16384, 64]⟩
abbrev S8x16384x1 : Shape := ⟨3, ![8, 16384, 1]⟩
abbrev S8x16384x3 : Shape := ⟨3, ![8, 16384, 3]⟩
abbrev S8x16384x58 : Shape := ⟨3, ![8, 16384, 58]⟩
abbrev S8x16384x128 : Shape := ⟨3, ![8, 16384, 128]⟩
abbrev S256 : Shape := ⟨1, ![256]⟩
abbrev S8x64x512 : Shape := ⟨3, ![8, 64, 512]⟩
abbrev S1 : Shape := ⟨1, ![1]⟩
abbrev S8x512x128 : Shape := ⟨3, ![8, 512, 128]⟩
abbrev S8x1x512 : Shape := ⟨3, ![8, 1, 512]⟩
abbrev S16x512 : Shape := ⟨2, ![16, 512]⟩
abbrev S48x512 : Shape := ⟨2, ![48, 512]⟩
abbrev S1x512x128 : Shape := ⟨3, ![1, 512, 128]⟩
abbrev S512x128 : Shape := ⟨2, ![512, 128]⟩
abbrev S1x64x512 : Shape := ⟨3, ![1, 64, 512]⟩
abbrev S64x512 : Shape := ⟨2, ![64, 512]⟩
abbrev S128x512 : Shape := ⟨2, ![128, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 59
  | .vmem => 11
  | .smem => 3
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S1x16384x8, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8, .f32⟩
  | .hbm, ⟨8, _⟩ => ⟨S8x16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x16384, .f32⟩
  | .hbm, ⟨16, _⟩ => ⟨S8x16384, .f32⟩
  | .hbm, ⟨17, _⟩ => ⟨S8x16384, .f32⟩
  | .hbm, ⟨18, _⟩ => ⟨S8x32x512, .f32⟩
  | .hbm, ⟨19, _⟩ => ⟨S8x32, .f32⟩
  | .hbm, ⟨20, _⟩ => ⟨S8x32x1, .f32⟩
  | .hbm, ⟨21, _⟩ => ⟨S8x32x512, .f32⟩
  | .hbm, ⟨22, _⟩ => ⟨S8x32x512, .f32⟩
  | .hbm, ⟨23, _⟩ => ⟨S8x16384, .f32⟩
  | .hbm, ⟨24, _⟩ => ⟨S8x16384, .bf16⟩
  | .hbm, ⟨25, _⟩ => ⟨S8x16384, .f32⟩
  | .hbm, ⟨26, _⟩ => ⟨S8x16384, .f32⟩
  | .hbm, ⟨27, _⟩ => ⟨S8x16384, .bf16⟩
  | .hbm, ⟨28, _⟩ => ⟨S8x16384, .f32⟩
  | .hbm, ⟨29, _⟩ => ⟨S8x16384, .f32⟩
  | .hbm, ⟨30, _⟩ => ⟨S8x16384, .f32⟩
  | .hbm, ⟨31, _⟩ => ⟨S8x16384, .bf16⟩
  | .hbm, ⟨32, _⟩ => ⟨S8x16384, .f32⟩
  | .hbm, ⟨33, _⟩ => ⟨S_, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .bf16⟩
  | .hbm, ⟨38, _⟩ => ⟨S16384x8x64, .bf16⟩
  | .hbm, ⟨39, _⟩ => ⟨S8x64x16384, .bf16⟩
  | .hbm, ⟨40, _⟩ => ⟨S16384x512, .bf16⟩
  | .hbm, ⟨41, _⟩ => ⟨S16384x8x64, .bf16⟩
  | .hbm, ⟨42, _⟩ => ⟨S8x16384x64, .bf16⟩
  | .hbm, ⟨43, _⟩ => ⟨S8x16384x1, .f32⟩
  | .hbm, ⟨44, _⟩ => ⟨S8x16384x1, .f32⟩
  | .hbm, ⟨45, _⟩ => ⟨S8x16384x1, .f32⟩
  | .hbm, ⟨46, _⟩ => ⟨S8x16384x3, .f32⟩
  | .hbm, ⟨47, _⟩ => ⟨S8x16384x3, .bf16⟩
  | .hbm, ⟨48, _⟩ => ⟨S_, .bf16⟩
  | .hbm, ⟨49, _⟩ => ⟨S8x16384x3, .bf16⟩
  | .hbm, ⟨50, _⟩ => ⟨S_, .bf16⟩
  | .hbm, ⟨51, _⟩ => ⟨S8x16384x58, .bf16⟩
  | .hbm, ⟨52, _⟩ => ⟨S8x16384x128, .bf16⟩
  | .hbm, ⟨53, _⟩ => ⟨S16384x512, .bf16⟩
  | .hbm, ⟨54, _⟩ => ⟨S16384x8x64, .bf16⟩
  | .hbm, ⟨55, _⟩ => ⟨S8x64x16384, .bf16⟩
  | .hbm, ⟨56, _⟩ => ⟨S8x32, .f32⟩
  | .hbm, ⟨57, _⟩ => ⟨S256, .f32⟩
  | .hbm, ⟨58, _⟩ => ⟨S8x64x16384, .f32⟩
  | .local _ .vmem, ⟨0, _⟩ => ⟨S8x64x512, .bf16⟩
  | .local _ .vmem, ⟨1, _⟩ => ⟨S8x64x512, .bf16⟩
  | .local _ .vmem, ⟨2, _⟩ => ⟨S8x512x128, .bf16⟩
  | .local _ .vmem, ⟨3, _⟩ => ⟨S8x512x128, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .f32⟩
  | .local _ .vmem, ⟨7, _⟩ => ⟨S8x64x512, .f32⟩
  | .local _ .vmem, ⟨8, _⟩ => ⟨S8x1x512, .f32⟩
  | .local _ .vmem, ⟨9, _⟩ => ⟨S8x1x512, .f32⟩
  | .local _ .vmem, ⟨10, _⟩ => ⟨S8x64x512, .f32⟩
  | .local _ .smem, ⟨0, _⟩ => ⟨S528, .i32⟩
  | .local _ .smem, ⟨1, _⟩ => ⟨S528, .i32⟩
  | .local _ .smem, ⟨2, _⟩ => ⟨S256, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_call0_call0_cst : Ref sig .tc := ⟨.hbm, 13, rfl⟩
abbrev main_call0_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![528], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v3 : BitVec 32) (c0_i32_11 : BitVec 32) : Fin 1 → Nat :=
  let v27 : BitVec 32 := Scalar.addi c0_i32_11 v3
  let v28 : Index := Scalar.indexCast v27
  ![v28.toNat]
def k0_cond2 (v1 : BitVec 32) (v3 : BitVec 32) : BitVec 1 :=
  let v9 : BitVec 1 := Scalar.cmpi .slt v3 v1
  let v10 : BitVec 32 := Scalar.extui v9
  let c0_i32_1 : BitVec 32 := 0#32
  let v11 : BitVec 1 := Scalar.cmpi .ne v10 c0_i32_1
  v11

def k0_off3 (v3 : BitVec 32) (c0_i32_12 : BitVec 32) : Fin 1 → Nat :=
  let v32 : BitVec 32 := Scalar.addi c0_i32_12 v3
  let v33 : Index := Scalar.indexCast v32
  ![v33.toNat]
def k0_cond3 (v1 : BitVec 32) (v3 : BitVec 32) : BitVec 1 :=
  let v12 : BitVec 1 := Scalar.cmpi .eq v3 v1
  let v13 : BitVec 32 := Scalar.extui v12
  let c0_i32_2 : BitVec 32 := 0#32
  let v14 : BitVec 1 := Scalar.cmpi .ne v13 c0_i32_2
  v14

def k0_chk1 (v1 : BitVec 32) (v3 : BitVec 32) : Prop :=
  (∀ (k0_h2 : k0_cond2 v1 v3 = 1#1), ∀ (r : Fin 8), ∀ a, (k0_off2 v3 (BitVec.ofNat 32 (32 * r.val))) a + S1.size a ≤ S256.size a) ∧
  (∀ (k0_h3 : k0_cond3 v1 v3 = 1#1), ∀ (r : Fin 8), ∀ a, (k0_off3 v3 (BitVec.ofNat 32 (32 * r.val))) a + S1.size a ≤ S256.size a)
theorem k0_off2_inb : ∀ (v1 : BitVec 32) (v3 : BitVec 32) (k0_hw1 : k0_chk1 v1 v3), ∀ (k0_h2 : k0_cond2 v1 v3 = 1#1), ∀ (r : Fin 8), ∀ a, (k0_off2 v3 (BitVec.ofNat 32 (32 * r.val))) a + S1.size a ≤ S256.size a := fun v1 v3 k0_hw1 k0_h2 r => k0_hw1.1 k0_h2 r
theorem k0_off3_inb : ∀ (v1 : BitVec 32) (v3 : BitVec 32) (k0_hw1 : k0_chk1 v1 v3), ∀ (k0_h3 : k0_cond3 v1 v3 = 1#1), ∀ (r : Fin 8), ∀ a, (k0_off3 v3 (BitVec.ofNat 32 (32 * r.val))) a + S1.size a ≤ S256.size a := fun v1 v3 k0_hw1 k0_h3 r => k0_hw1.2 k0_h3 r

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat]

def cc0_transform_2 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S528) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S528) ![v0.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat]

def cc0_transform_4 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat]

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x16384x8x64 : Shape := ⟨4, ![1, 16384, 8, 64]⟩
abbrev S1x16384x8 : Shape := ⟨3, ![1, 16384, 8]⟩
abbrev S_ : Shape := ⟨0, ![]⟩
abbrev S16384 : Shape := ⟨1, ![16384]⟩
abbrev S1x8x16384x16384 : Shape := ⟨4, ![1, 8, 16384, 16384]⟩
abbrev S1x8x16384 : Shape := ⟨3, ![1, 8, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 45
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S1x16384x8, .f32⟩
  | .hbm, ⟨4, _⟩ => ⟨S_, .f32⟩
  | .hbm, ⟨5, _⟩ => ⟨S_, .f32⟩
  | .hbm, ⟨6, _⟩ => ⟨S1x16384x8, .f32⟩
  | .hbm, ⟨7, _⟩ => ⟨S16384, .i32⟩
  | .hbm, ⟨8, _⟩ => ⟨S1x8x16384x16384, .f32⟩
  | .hbm, ⟨9, _⟩ => ⟨S_, .f32⟩
  | .hbm, ⟨10, _⟩ => ⟨S1x8x16384x16384, .f32⟩
  | .hbm, ⟨11, _⟩ => ⟨S1x8x16384x16384, .f32⟩
  | .hbm, ⟨12, _⟩ => ⟨S1x8x16384, .f32⟩
  | .hbm, ⟨13, _⟩ => ⟨S1x8x16384x1, .f32⟩
  | .hbm, ⟨14, _⟩ => ⟨S1x8x16384x16384, .f32⟩
  | .hbm, ⟨15, _⟩ => ⟨S1x8x16384x16384, .f32⟩
  | .hbm, ⟨16, _⟩ => ⟨S1x8x16384, .f32⟩
  | .hbm, ⟨17, _⟩ => ⟨S1x8x1x16384, .f32⟩
  | .hbm, ⟨18, _⟩ => ⟨S1x8x16384x16384, .f32⟩
  | .hbm, ⟨19, _⟩ => ⟨S1x8x16384x16384, .f32⟩
  | .hbm, ⟨20, _⟩ => ⟨S1x16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S_, .f32⟩
  | .hbm, ⟨26, _⟩ => ⟨S_, .f32⟩
  | .hbm, ⟨27, _⟩ => ⟨S1x8x16384x16384, .i1⟩
  | .hbm, ⟨28, _⟩ => ⟨S1x8x16384x16384, .f32⟩
  | .hbm, ⟨29, _⟩ => ⟨S1x8x16384x16384, .f32⟩
  | .hbm, ⟨30, _⟩ => ⟨S_, .f32⟩
  | .hbm, ⟨31, _⟩ => ⟨S1x8x16384, .f32⟩
  | .hbm, ⟨32, _⟩ => ⟨S_, .f32⟩
  | .hbm, ⟨33, _⟩ => ⟨S1x8x16384, .f32⟩
  | .hbm, ⟨34, _⟩ => ⟨S1x8x16384, .f32⟩
  | .hbm, ⟨35, _⟩ => ⟨S1x8x16384x1, .f32⟩
  | .hbm, ⟨36, _⟩ => ⟨S1x8x16384x16384, .f32⟩
  | .hbm, ⟨37, _⟩ => ⟨S1x8x16384x16384, .f32⟩
  | .hbm, ⟨38, _⟩ => ⟨S1x8x16384x16384, .f32⟩
  | .hbm, ⟨39, _⟩ => ⟨S_, .f32⟩
  | .hbm, ⟨40, _⟩ => ⟨S1x8x16384, .f32⟩
  | .hbm, ⟨41, _⟩ => ⟨S1x8x16384x1, .f32⟩
  | .hbm, ⟨42, _⟩ => ⟨S1x8x16384x16384, .f32⟩
  | .hbm, ⟨43, _⟩ => ⟨S1x8x16384x16384, .f32⟩
  | .hbm, ⟨44, _⟩ => ⟨S8x64x16384, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x1x1024 : Shape := ⟨3, ![1, 1, 1024]⟩
abbrev S1024 : Shape := ⟨1, ![1024]⟩
abbrev S1024x3600 : Shape := ⟨2, ![1024, 3600]⟩
abbrev S8 : Shape := ⟨1, ![8]⟩
abbrev S4 : Shape := ⟨1, ![4]⟩
abbrev S1024x1536 : Shape := ⟨2, ![1024, 1536]⟩
abbrev S1024x512 : Shape := ⟨2, ![1024, 512]⟩
abbrev S1024x3584 : Shape := ⟨2, ![1024, 3584]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S16384x1024 : Shape := ⟨2, ![16384, 1024]⟩
abbrev S1x1024 : Shape := ⟨2, ![1, 1024]⟩
abbrev S16384x512 : Shape := ⟨2, ![16384, 512]⟩
abbrev S16384x128 : Shape := ⟨2, ![16384, 128]⟩
abbrev S128x16384 : Shape := ⟨2, ![128, 16384]⟩
abbrev S512x1024 : Shape := ⟨2, ![512, 1024]⟩
abbrev S512x512 : Shape := ⟨2, ![512, 512]⟩
abbrev S512x128 : Shape := ⟨2, ![512, 128]⟩
abbrev S128x512 : Shape := ⟨2, ![128, 512]⟩
abbrev S512 : Shape := ⟨1, ![512]⟩
abbrev S512x1 : Shape := ⟨2, ![512, 1]⟩

abbrev nBuf : Space → Nat
  | .hbm => 37
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x3600, .f32⟩
  | .hbm, ⟨5, _⟩ => ⟨S8, .f32⟩
  | .hbm, ⟨6, _⟩ => ⟨S4, .f32⟩
  | .hbm, ⟨7, _⟩ => ⟨S4, .f32⟩
  | .hbm, ⟨8, _⟩ => ⟨S1024x1536, .f32⟩
  | .hbm, ⟨9, _⟩ => ⟨S1024x1536, .f32⟩
  | .hbm, ⟨10, _⟩ => ⟨S1024x512, .f32⟩
  | .hbm, ⟨11, _⟩ => ⟨S1024x3584, .f32⟩
  | .hbm, ⟨12, _⟩ => ⟨S1024x3584, .bf16⟩
  | .hbm, ⟨13, _⟩ => ⟨S1024x8, .f32⟩
  | .hbm, ⟨14, _⟩ => ⟨S1024x8, .f32⟩
  | .hbm, ⟨15, _⟩ => ⟨S1024x16, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S16, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S16384x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x128, .f32⟩
  | .hbm, ⟨36, _⟩ => ⟨S128x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3584, .bf16⟩
  | .local _ .vmem, ⟨6, _⟩ => ⟨S1024x128, .f32⟩
  | .local _ .vmem, ⟨7, _⟩ => ⟨S1x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | .local _ .vmem, ⟨24, _⟩ => ⟨S128x512, .f32⟩
  | .local _ .vmem, ⟨25, _⟩ => ⟨S128x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev main_v16_6 : Ref sig .tc := ⟨.hbm, 34, rfl⟩
abbrev main_v16_7 : Ref sig .tc := ⟨.hbm, 35, rfl⟩
abbrev main_v16_8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S1x16384x1024 : Shape := ⟨3, ![1, 16384, 1024]⟩
abbrev S1x1x1024 : Shape := ⟨3, ![1, 1, 1024]⟩
abbrev S1024 : Shape := ⟨1, ![1024]⟩
abbrev S1024x3600 : Shape := ⟨2, ![1024, 3600]⟩
abbrev S8 : Shape := ⟨1, ![8]⟩
abbrev S4 : Shape := ⟨1, ![4]⟩
abbrev S_ : Shape := ⟨0, ![]⟩
abbrev S1x16384 : Shape := ⟨2, ![1, 16384]⟩
abbrev S1x16384x1 : Shape := ⟨3, ![1, 16384, 1]⟩
abbrev S1x16384x3600 : Shape := ⟨3, ![1, 16384, 3600]⟩
abbrev S16384x3600 : Shape := ⟨2, ![16384, 3600]⟩
abbrev S16384x512 : Shape := ⟨2, ![16384, 512]⟩
abbrev S16384x8 : Shape := ⟨2, ![16384, 8]⟩
abbrev S16384x4 : Shape := ⟨2, ![16384, 4]⟩
abbrev S1x8 : Shape := ⟨2, ![1, 8]⟩
abbrev S1x4 : Shape := ⟨2, ![1, 4]⟩
abbrev S16384x112 : Shape := ⟨2, ![16384, 112]⟩
abbrev S16384x128 : Shape := ⟨2, ![16384, 128]⟩
abbrev S128x16384 : Shape := ⟨2, ![128, 16384]⟩

abbrev nBuf : Space → Nat
  | .hbm => 104
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x3600, .f32⟩
  | .hbm, ⟨5, _⟩ => ⟨S8, .f32⟩
  | .hbm, ⟨6, _⟩ => ⟨S4, .f32⟩
  | .hbm, ⟨7, _⟩ => ⟨S4, .f32⟩
  | .hbm, ⟨8, _⟩ => ⟨S1x16384x1024, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S1x16384x3600, .f32⟩
  | .hbm, ⟨32, _⟩ => ⟨S16384x3600, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x8, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x4, .f32⟩
  | .hbm, ⟨41, _⟩ => ⟨S16384x4, .f32⟩
  | .hbm, ⟨42, _⟩ => ⟨S16384x512, .f32⟩
  | .hbm, ⟨43, _⟩ => ⟨S1x8, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S_, .f32⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S16384x8, .f32⟩
  | .hbm, ⟨52, _⟩ => ⟨S16384x8, .i1⟩
  | .hbm, ⟨53, _⟩ => ⟨S16384x8, .f32⟩
  | .hbm, ⟨54, _⟩ => ⟨S16384x8, .f32⟩
  | .hbm, ⟨55, _⟩ => ⟨S16384x8, .f32⟩
  | .hbm, ⟨56, _⟩ => ⟨S16384x8, .f32⟩
  | .hbm, ⟨57, _⟩ => ⟨S16384x8, .f32⟩
  | .hbm, ⟨58, _⟩ => ⟨S16384x8, .f32⟩
  | .hbm, ⟨59, _⟩ => ⟨S16384x8, .f32⟩
  | .hbm, ⟨60, _⟩ => ⟨S16384x8, .f32⟩
  | .hbm, ⟨61, _⟩ => ⟨S16384x8, .f32⟩
  | .hbm, ⟨62, _⟩ => ⟨S1x4, .f32⟩
  | .hbm, ⟨63, _⟩ => ⟨S16384x4, .f32⟩
  | .hbm, ⟨64, _⟩ => ⟨S16384x4, .f32⟩
  | .hbm, ⟨65, _⟩ => ⟨S1x4, .f32⟩
  | .hbm, ⟨66, _⟩ => ⟨S16384x4, .f32⟩
  | .hbm, ⟨67, _⟩ => ⟨S16384x4, .f32⟩
  | .hbm, ⟨68, _⟩ => ⟨S16384x4, .f32⟩
  | .hbm, ⟨69, _⟩ => ⟨S_, .f32⟩
  | .hbm, ⟨70, _⟩ => ⟨S16384x4, .f32⟩
  | .hbm, ⟨71, _⟩ => ⟨S16384x4, .f32⟩
  | .hbm, ⟨72, _⟩ => ⟨S16384x4, .f32⟩
  | .hbm, ⟨73, _⟩ => ⟨S16384x4, .f32⟩
  | .hbm, ⟨74, _⟩ => ⟨S16384x4, .i1⟩
  | .hbm, ⟨75, _⟩ => ⟨S16384x4, .f32⟩
  | .hbm, ⟨76, _⟩ => ⟨S16384x4, .f32⟩
  | .hbm, ⟨77, _⟩ => ⟨S16384x4, .f32⟩
  | .hbm, ⟨78, _⟩ => ⟨S16384x4, .f32⟩
  | .hbm, ⟨79, _⟩ => ⟨S16384x4, .f32⟩
  | .hbm, ⟨80, _⟩ => ⟨S16384x4, .f32⟩
  | .hbm, ⟨81, _⟩ => ⟨S16384x4, .f32⟩
  | .hbm, ⟨82, _⟩ => ⟨S16384x4, .f32⟩
  | .hbm, ⟨83, _⟩ => ⟨S16384x4, .f32⟩
  | .hbm, ⟨84, _⟩ => ⟨S_, .f32⟩
  | .hbm, ⟨85, _⟩ => ⟨S16384x112, .f32⟩
  | .hbm, ⟨86, _⟩ => ⟨S16384x112, .f32⟩
  | .hbm, ⟨87, _⟩ => ⟨S_, .f32⟩
  | .hbm, ⟨88, _⟩ => ⟨S16384x112, .f32⟩
  | .hbm, ⟨89, _⟩ => ⟨S16384x112, .f32⟩
  | .hbm, ⟨90, _⟩ => ⟨S16384x112, .f32⟩
  | .hbm, ⟨91, _⟩ => ⟨S16384x112, .f32⟩
  | .hbm, ⟨92, _⟩ => ⟨S16384x112, .i1⟩
  | .hbm, ⟨93, _⟩ => ⟨S16384x112, .f32⟩
  | .hbm, ⟨94, _⟩ => ⟨S16384x112, .f32⟩
  | .hbm, ⟨95, _⟩ => ⟨S16384x112, .f32⟩
  | .hbm, ⟨96, _⟩ => ⟨S16384x112, .f32⟩
  | .hbm, ⟨97, _⟩ => ⟨S16384x112, .f32⟩
  | .hbm, ⟨98, _⟩ => ⟨S16384x112, .f32⟩
  | .hbm, ⟨99, _⟩ => ⟨S16384x112, .f32⟩
  | .hbm, ⟨100, _⟩ => ⟨S16384x112, .f32⟩
  | .hbm, ⟨101, _⟩ => ⟨S16384x112, .f32⟩
  | .hbm, ⟨102, _⟩ => ⟨S16384x128, .f32⟩
  | .hbm, ⟨103, _⟩ => ⟨S128x16384, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1 : Ref sig .tc := ⟨.hbm, 82, rfl⟩
abbrev main_v41 : Ref sig .tc := ⟨.hbm, 83, rfl⟩
abbrev main_cst_3 : Ref sig .tc := ⟨.hbm, 84, rfl⟩
abbrev main_v42 : Ref sig .tc := ⟨.hbm, 85, rfl⟩
abbrev main_call2_v0 : Ref sig .tc := ⟨.hbm, 86, rfl⟩
abbrev main_call2_call0_cst : Ref sig .tc := ⟨.hbm, 87, rfl⟩
abbrev main_call2_call0_v0 : Ref sig .tc := ⟨.hbm, 88, rfl⟩
abbrev main_call2_call0_v1 : Ref sig .tc := ⟨.hbm, 89, rfl⟩
abbrev main_call2_call0_v2 : Ref sig .tc := ⟨.hbm, 90, rfl⟩
abbrev main_call2_call0_v3 : Ref sig .tc := ⟨.hbm, 91, rfl⟩
abbrev main_call2_call0_v4 : Ref sig .tc := ⟨.hbm, 92, rfl⟩
abbrev main_call2_call0_v5 : Ref sig .tc := ⟨.hbm, 93, rfl⟩
abbrev main_call2_call0_v6 : Ref sig .tc := ⟨.hbm, 94, rfl⟩
abbrev main_call2_call0_v7 : Ref sig .tc := ⟨.hbm, 95, rfl⟩
abbrev main_call2_call0_v8 : Ref sig .tc := ⟨.hbm, 96, rfl⟩
abbrev main_call2_call0_v9 : Ref sig .tc := ⟨.hbm, 97, rfl⟩
abbrev main_call2_call0_v10 : Ref sig .tc := ⟨.hbm, 98, rfl⟩
abbrev main_call2_call0_v11 : Ref sig .tc := ⟨.hbm, 99, rfl⟩
abbrev main_call2_v1 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩

abbrev nD : Nat := 1
abbrev τ : Topo := Topo.v7x

variable {F : FTy → Type} [FloatOps F]
-- ==== Kernel3.lean ====
abbrev S1x16384x512 : Shape := ⟨3, ![1, 16384, 512]⟩
abbrev S1x16384x1024 : Shape := ⟨3, ![1, 16384, 1024]⟩
abbrev S1x1x1024 : Shape := ⟨3, ![1, 1, 1024]⟩
abbrev S512 : Shape := ⟨1, ![512]⟩
abbrev S1024 : Shape := ⟨1, ![1024]⟩
abbrev S1024x1024 : Shape := ⟨2, ![1024, 1024]⟩
abbrev S1024x2048 : Shape := ⟨2, ![1024, 2048]⟩
abbrev S8x2x128x128 : Shape := ⟨4, ![8, 2, 128, 128]⟩
abbrev S16x128x128 : Shape := ⟨3, ![16, 128, 128]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S16384x512 : Shape := ⟨2, ![16384, 512]⟩
abbrev S16384x1024 : Shape := ⟨2, ![16384, 1024]⟩
abbrev S1x1024 : Shape := ⟨2, ![1, 1024]⟩
abbrev S16x128x16384 : Shape := ⟨3, ![16, 128, 16384]⟩
abbrev S512x1024 : Shape := ⟨2, ![512, 1024]⟩
abbrev S16x128x512 : Shape := ⟨3, ![16, 128, 512]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 125
  | .vmem => 25
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S512, .f32⟩
  | .hbm, ⟨8, _⟩ => ⟨S512, .f32⟩
  | .hbm, ⟨9, _⟩ => ⟨S1024, .f32⟩
  | .hbm, ⟨10, _⟩ => ⟨S1024x1024, .f32⟩
  | .hbm, ⟨11, _⟩ => ⟨S1024x2048, .f32⟩
  | .hbm, ⟨12, _⟩ => ⟨S8x2x128x128, .f32⟩
  | .hbm, ⟨13, _⟩ => ⟨S1024x1024, .bf16⟩
  | .hbm, ⟨14, _⟩ => ⟨S1024x2048, .bf16⟩
  | .hbm, ⟨15, _⟩ => ⟨S16x128x128, .f32⟩
  | .hbm, ⟨16, _⟩ => ⟨S16x128x128, .bf16⟩
  | .hbm, ⟨17, _⟩ => ⟨S512, .i32⟩
  | .hbm, ⟨18, _⟩ => ⟨S512x1, .i32⟩
  | .hbm, ⟨19, _⟩ => ⟨S_, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .i32⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i32⟩
  | .hbm, ⟨28, _⟩ => ⟨S512x1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S512x1, .i1⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S512x1, .i32⟩
  | .hbm, ⟨37, _⟩ => ⟨S1x512, .i32⟩
  | .hbm, ⟨38, _⟩ => ⟨S_, .i32⟩
  | .hbm, ⟨39, _⟩ => ⟨S_, .i32⟩
  | .hbm, ⟨40, _⟩ => ⟨S1x512, .i32⟩
  | .hbm, ⟨41, _⟩ => ⟨S1x512, .i32⟩
  | .hbm, ⟨42, _⟩ => ⟨S1x512, .i32⟩
  | .hbm, ⟨43, _⟩ => ⟨S_, .i32⟩
  | .hbm, ⟨44, _⟩ => ⟨S1x512, .i32⟩
  | .hbm, ⟨45, _⟩ => ⟨S1x512, .i1⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i1⟩
  | .hbm, ⟨51, _⟩ => ⟨S1x512, .i1⟩
  | .hbm, ⟨52, _⟩ => ⟨S_, .i32⟩
  | .hbm, ⟨53, _⟩ => ⟨S1x512, .i32⟩
  | .hbm, ⟨54, _⟩ => ⟨S1x512, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S_, .f32⟩
  | .hbm, ⟨60, _⟩ => ⟨S_, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S512x512, .bf16⟩
  | .hbm, ⟨65, _⟩ => ⟨S512x1, .i32⟩
  | .hbm, ⟨66, _⟩ => ⟨S_, .i32⟩
  | .hbm, ⟨67, _⟩ => ⟨S_, .i32⟩
  | .hbm, ⟨68, _⟩ => ⟨S512x1, .i32⟩
  | .hbm, ⟨69, _⟩ => ⟨S512x1, .i32⟩
  | .hbm, ⟨70, _⟩ => ⟨S512x1, .i32⟩
  | .hbm, ⟨71, _⟩ => ⟨S_, .i32⟩
  | .hbm, ⟨72, _⟩ => ⟨S512x1, .i32⟩
  | .hbm, ⟨73, _⟩ => ⟨S512x1, .i1⟩
  | .hbm, ⟨74, _⟩ => ⟨S512x1, .i32⟩
  | .hbm, ⟨75, _⟩ => ⟨S512x1, .i32⟩
  | .hbm, ⟨76, _⟩ => ⟨S_, .i32⟩
  | .hbm, ⟨77, _⟩ => ⟨S512x1, .i32⟩
  | .hbm, ⟨78, _⟩ => ⟨S512x1, .i1⟩
  | .hbm, ⟨79, _⟩ => ⟨S512x1, .i1⟩
  | .hbm, ⟨80, _⟩ => ⟨S_, .i32⟩
  | .hbm, ⟨81, _⟩ => ⟨S512x1, .i32⟩
  | .hbm, ⟨82, _⟩ => ⟨S512x1, .i32⟩
  | .hbm, ⟨83, _⟩ => ⟨S512x1, .i32⟩
  | .hbm, ⟨84, _⟩ => ⟨S1x512, .i32⟩
  | .hbm, ⟨85, _⟩ => ⟨S_, .i32⟩
  | .hbm, ⟨86, _⟩ => ⟨S_, .i32⟩
  | .hbm, ⟨87, _⟩ => ⟨S1x512, .i32⟩
  | .hbm, ⟨88, _⟩ => ⟨S1x512, .i32⟩
  | .hbm, ⟨89, _⟩ => ⟨S1x512, .i32⟩
  | .hbm, ⟨90, _⟩ => ⟨S_, .i32⟩
  | .hbm, ⟨91, _⟩ => ⟨S1x512, .i32⟩
  | .hbm, ⟨92, _⟩ => ⟨S1x512, .i1⟩
  | .hbm, ⟨93, _⟩ => ⟨S1x512, .i32⟩
  | .hbm, ⟨94, _⟩ => ⟨S1x512, .i32⟩
  | .hbm, ⟨95, _⟩ => ⟨S_, .i32⟩
  | .hbm, ⟨96, _⟩ => ⟨S1x512, .i32⟩
  | .hbm, ⟨97, _⟩ => ⟨S1x512, .i1⟩
  | .hbm, ⟨98, _⟩ => ⟨S1x512, .i1⟩
  | .hbm, ⟨99, _⟩ => ⟨S_, .i32⟩
  | .hbm, ⟨100, _⟩ => ⟨S1x512, .i32⟩
  | .hbm, ⟨101, _⟩ => ⟨S1x512, .i32⟩
  | .hbm, ⟨102, _⟩ => ⟨S1x512, .i32⟩
  | .hbm, ⟨103, _⟩ => ⟨S512x512, .i32⟩
  | .hbm, ⟨104, _⟩ => ⟨S512x512, .i32⟩
  | .hbm, ⟨105, _⟩ => ⟨S512x512, .i1⟩
  | .hbm, ⟨106, _⟩ => ⟨S_, .f32⟩
  | .hbm, ⟨107, _⟩ => ⟨S_, .f32⟩
  | .hbm, ⟨108, _⟩ => ⟨S512x512, .f32⟩
  | .hbm, ⟨109, _⟩ => ⟨S512x512, .f32⟩
  | .hbm, ⟨110, _⟩ => ⟨S512x512, .f32⟩
  | .hbm, ⟨111, _⟩ => ⟨S512x512, .bf16⟩
  | .hbm, ⟨112, _⟩ => ⟨S16384x512, .f32⟩
  | .hbm, ⟨113, _⟩ => ⟨S16384x512, .f32⟩
  | .hbm, ⟨114, _⟩ => ⟨S16384x512, .f32⟩
  | .hbm, ⟨115, _⟩ => ⟨S16384x1024, .f32⟩
  | .hbm, ⟨116, _⟩ => ⟨S1x1024, .f32⟩
  | .hbm, ⟨117, _⟩ => ⟨S1x1024, .f32⟩
  | .hbm, ⟨118, _⟩ => ⟨S1x1024, .f32⟩
  | .hbm, ⟨119, _⟩ => ⟨S1x512, .f32⟩
  | .hbm, ⟨120, _⟩ => ⟨S1x512, .f32⟩
  | .hbm, ⟨121, _⟩ => ⟨S1x1024, .f32⟩
  | .hbm, ⟨122, _⟩ => ⟨S16384x1024, .f32⟩
  | .hbm, ⟨123, _⟩ => ⟨S16384x1024, .bf16⟩
  | .hbm, ⟨124, _⟩ => ⟨S16x128x16384, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S1x1024, .f32⟩
  | .local _ .vmem, ⟨14, _⟩ => ⟨S1024x1024, .bf16⟩
  | .local _ .vmem, ⟨15, _⟩ => ⟨S1024x2048, .bf16⟩
  | .local _ .vmem, ⟨16, _⟩ => ⟨S16x128x128, .bf16⟩
  | .local _ .vmem, ⟨17, _⟩ => ⟨S512x512, .bf16⟩
  | .local _ .vmem, ⟨18, _⟩ => ⟨S512x512, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S16x128x512, .f32⟩
  | .local _ .vmem, ⟨24, _⟩ => ⟨S16x128x512, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v6 : Ref sig .tc := ⟨.hbm, 36, rfl⟩
abbrev main_v7 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_cst : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_c_2 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_c : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_0 : Ref sig .tc := ⟨.hbm, 80, rfl⟩
abbrev main_call3_v12 : Ref sig .tc := ⟨.hbm, 81, rfl⟩
abbrev main_call3_v13 : Ref sig .tc := ⟨.hbm, 82, rfl⟩
abbrev main_v15 : Ref sig .tc := ⟨.hbm, 83, rfl⟩
abbrev main_v16 : Ref sig .tc := ⟨.hbm, 84, rfl⟩
abbrev main_c_3 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_c : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_c_0 : Ref sig .tc := ⟨.hbm, 99, rfl⟩
abbrev main_call4_v12 : Ref sig .tc := ⟨.hbm, 100, rfl⟩
abbrev main_call4_v13 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_cst_4 : Ref sig .tc := ⟨.hbm, 106, rfl⟩
abbrev main_cst_5 : Ref sig .tc := ⟨.hbm, 107, rfl⟩
abbrev main_call5_v0 : Ref sig .tc := ⟨.hbm, 108, rfl⟩
abbrev main_call5_v1 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33_0 : Ref sig .tc := ⟨.hbm, 122, rfl⟩
abbrev main_v33_1 : Ref sig .tc := ⟨.hbm, 123, rfl⟩
abbrev main_v33_2 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S1x16384x512 : Shape := ⟨3, ![1, 16384, 512]⟩
abbrev S1x16384x1024 : Shape := ⟨3, ![1, 16384, 1024]⟩
abbrev S1x1x1024 : Shape := ⟨3, ![1, 1, 1024]⟩
abbrev S512 : Shape := ⟨1, ![512]⟩
abbrev S1024 : Shape := ⟨1, ![1024]⟩
abbrev S1024x1024 : Shape := ⟨2, ![1024, 1024]⟩
abbrev S1024x2048 : Shape := ⟨2, ![1024, 2048]⟩
abbrev S8x2x128x128 : Shape := ⟨4, ![8, 2, 128, 128]⟩
abbrev S1x16384x8x64 : Shape := ⟨4, ![1, 16384, 8, 64]⟩
abbrev S_ : Shape := ⟨0, ![]⟩
abbrev S1x16384x8 : Shape := ⟨3, ![1, 16384, 8]⟩
abbrev S1x16384x8x1 : Shape := ⟨4, ![1, 16384, 8, 1]⟩
abbrev S1x1x512 : Shape := ⟨3, ![1, 1, 512]⟩
abbrev S1x16384x4x128 : Shape := ⟨4, ![1, 16384, 4, 128]⟩
abbrev S1x16384x4 : Shape := ⟨3, ![1, 16384, 4]⟩
abbrev S1x16384x4x1 : Shape := ⟨4, ![1, 16384, 4, 1]⟩
abbrev S1x16384 : Shape := ⟨2, ![1, 16384]⟩
abbrev S1x16384x1 : Shape := ⟨3, ![1, 16384, 1]⟩
abbrev S16384x1024 : Shape := ⟨2, ![16384, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16x128x16384 : Shape := ⟨3, ![16, 128, 16384]⟩

abbrev nBuf : Space → Nat
  | .hbm => 93
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x16384x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S512, .f32⟩
  | .hbm, ⟨8, _⟩ => ⟨S512, .f32⟩
  | .hbm, ⟨9, _⟩ => ⟨S1024, .f32⟩
  | .hbm, ⟨10, _⟩ => ⟨S1024x1024, .f32⟩
  | .hbm, ⟨11, _⟩ => ⟨S1024x2048, .f32⟩
  | .hbm, ⟨12, _⟩ => ⟨S8x2x128x128, .f32⟩
  | .hbm, ⟨13, _⟩ => ⟨S1x16384x8x64, .f32⟩
  | .hbm, ⟨14, _⟩ => ⟨S1x16384x8x64, .f32⟩
  | .hbm, ⟨15, _⟩ => ⟨S_, .f32⟩
  | .hbm, ⟨16, _⟩ => ⟨S1x16384x8, .f32⟩
  | .hbm, ⟨17, _⟩ => ⟨S1x16384x8x1, .f32⟩
  | .hbm, ⟨18, _⟩ => ⟨S_, .f32⟩
  | .hbm, ⟨19, _⟩ => ⟨S1x16384x8x1, .f32⟩
  | .hbm, ⟨20, _⟩ => ⟨S1x16384x8x1, .f32⟩
  | .hbm, ⟨21, _⟩ => ⟨S_, .f32⟩
  | .hbm, ⟨22, _⟩ => ⟨S1x16384x8x1, .f32⟩
  | .hbm, ⟨23, _⟩ => ⟨S1x16384x8x1, .f32⟩
  | .hbm, ⟨24, _⟩ => ⟨S1x16384x8x1, .f32⟩
  | .hbm, ⟨25, _⟩ => ⟨S1x16384x8x64, .f32⟩
  | .hbm, ⟨26, _⟩ => ⟨S1x16384x8x64, .f32⟩
  | .hbm, ⟨27, _⟩ => ⟨S1x16384x512, .f32⟩
  | .hbm, ⟨28, _⟩ => ⟨S1x1x512, .f32⟩
  | .hbm, ⟨29, _⟩ => ⟨S1x16384x512, .f32⟩
  | .hbm, ⟨30, _⟩ => ⟨S1x16384x512, .f32⟩
  | .hbm, ⟨31, _⟩ => ⟨S1x16384x4x128, .f32⟩
  | .hbm, ⟨32, _⟩ => ⟨S1x16384x4x128, .f32⟩
  | .hbm, ⟨33, _⟩ => ⟨S_, .f32⟩
  | .hbm, ⟨34, _⟩ => ⟨S1x16384x4, .f32⟩
  | .hbm, ⟨35, _⟩ => ⟨S1x16384x4x1, .f32⟩
  | .hbm, ⟨36, _⟩ => ⟨S_, .f32⟩
  | .hbm, ⟨37, _⟩ => ⟨S1x16384x4x1, .f32⟩
  | .hbm, ⟨38, _⟩ => ⟨S1x16384x4x1, .f32⟩
  | .hbm, ⟨39, _⟩ => ⟨S_, .f32⟩
  | .hbm, ⟨40, _⟩ => ⟨S1x16384x4x1, .f32⟩
  | .hbm, ⟨41, _⟩ => ⟨S1x16384x4x1, .f32⟩
  | .hbm, ⟨42, _⟩ => ⟨S1x16384x4x1, .f32⟩
  | .hbm, ⟨43, _⟩ => ⟨S1x16384x4x128, .f32⟩
  | .hbm, ⟨44, _⟩ => ⟨S1x16384x4x128, .f32⟩
  | .hbm, ⟨45, _⟩ => ⟨S1x16384x512, .f32⟩
  | .hbm, ⟨46, _⟩ => ⟨S1x16384x512, .f32⟩
  | .hbm, ⟨47, _⟩ => ⟨S_, .f32⟩
  | .hbm, ⟨48, _⟩ => ⟨S1x16384x512, .f32⟩
  | .hbm, ⟨49, _⟩ => ⟨S1x16384x512, .f32⟩
  | .hbm, ⟨50, _⟩ => ⟨S_, .f32⟩
  | .hbm, ⟨51, _⟩ => ⟨S1x16384x512, .f32⟩
  | .hbm, ⟨52, _⟩ => ⟨S1x16384x512, .f32⟩
  | .hbm, ⟨53, _⟩ => ⟨S1x16384x512, .f32⟩
  | .hbm, ⟨54, _⟩ => ⟨S1x1x512, .f32⟩
  | .hbm, ⟨55, _⟩ => ⟨S1x16384x512, .f32⟩
  | .hbm, ⟨56, _⟩ => ⟨S1x16384x512, .f32⟩
  | .hbm, ⟨57, _⟩ => ⟨S1x16384x512, .f32⟩
  | .hbm, ⟨58, _⟩ => ⟨S1x16384x1024, .f32⟩
  | .hbm, ⟨59, _⟩ => ⟨S1x16384x1024, .f32⟩
  | .hbm, ⟨60, _⟩ => ⟨S1x16384x1024, .f32⟩
  | .hbm, ⟨61, _⟩ => ⟨S1x16384x1024, .f32⟩
  | .hbm, ⟨62, _⟩ => ⟨S1x16384x1024, .f32⟩
  | .hbm, ⟨63, _⟩ => ⟨S1x16384x1024, .f32⟩
  | .hbm, ⟨64, _⟩ => ⟨S_, .f32⟩
  | .hbm, ⟨65, _⟩ => ⟨S1x16384, .f32⟩
  | .hbm, ⟨66, _⟩ => ⟨S1x16384x1, .f32⟩
  | .hbm, ⟨67, _⟩ => ⟨S_, .f32⟩
  | .hbm, ⟨68, _⟩ => ⟨S1x16384x1, .f32⟩
  | .hbm, ⟨69, _⟩ => ⟨S1x16384x1, .f32⟩
  | .hbm, ⟨70, _⟩ => ⟨S_, .f32⟩
  | .hbm, ⟨71, _⟩ => ⟨S1x16384x1, .f32⟩
  | .hbm, ⟨72, _⟩ => ⟨S1x16384x1, .f32⟩
  | .hbm, ⟨73, _⟩ => ⟨S1x16384x1, .f32⟩
  | .hbm, ⟨74, _⟩ => ⟨S1x16384x1024, .f32⟩
  | .hbm, ⟨75, _⟩ => ⟨S1x16384x1024, .f32⟩
  | .hbm, ⟨76, _⟩ => ⟨S1x1x1024, .f32⟩
  | .hbm, ⟨77, _⟩ => ⟨S1x16384x1024, .f32⟩
  | .hbm, ⟨78, _⟩ => ⟨S1x16384x1024, .f32⟩
  | .hbm, ⟨79, _⟩ => ⟨S_, .f32⟩
  | .hbm, ⟨80, _⟩ => ⟨S1x1x1024, .f32⟩
  | .hbm, ⟨81, _⟩ => ⟨S1x1x1024, .f32⟩
  | .hbm, ⟨82, _⟩ => ⟨S1x16384x1024, .f32⟩
  | .hbm, ⟨83, _⟩ => ⟨S1x16384x1024, .f32⟩
  | .hbm, ⟨84, _⟩ => ⟨S1x16384x1024, .f32⟩
  | .hbm, ⟨85, _⟩ => ⟨S1x16384x1024, .f32⟩
  | .hbm, ⟨86, _⟩ => ⟨S16384x1024, .f32⟩
  | .hbm, ⟨87, _⟩ => ⟨S16384x2048, .f32⟩
  | .hbm, ⟨88, _⟩ => ⟨S16384x8x2x128, .f32⟩
  | .hbm, ⟨89, _⟩ => ⟨S8x2x128x16384, .f32⟩
  | .hbm, ⟨90, _⟩ => ⟨S16384x1024, .f32⟩
  | .hbm, ⟨91, _⟩ => ⟨S16384x1024, .bf16⟩
  | .hbm, ⟨92, _⟩ => ⟨S16x128x16384, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Proof.Input.Prep.lean ====
module

public import proofs.«01_k».proof.Proof.Gen.Kernel2Ideal.Frame
public import Idealize.ShloMosaic.Lib.Pointwise
public import Idealize.ShloMosaic.Lib.Claim
public import Idealize.ShloMosaic.Lib.IdealHost

@[expose] public section

set_option maxRecDepth 16384

noncomputable section

namespace Cert.Kernel2Ideal.Input

open Idealize.ShloMosaic Idealize.ShloMosaic.TcCoe
open Cert.Kernel2Ideal Cert.Kernel2Ideal.Gen
open StableHlo

/-! The arrays the host prepares for the kernel: what each is, and its entries. -/

/-- The columns of the queries, the keys, the values and the output gates. -/
def mainCols (w : FVec Ideal S1024x3600 .f32) : FVec Ideal S1024x3584 .bf16 :=
  truncf .bf16 (concatenate S1024x3584 1 [⟨S1024x1536, extractStridedSlice S1024x1536 ![0, 0] w slices_S1024x3600_S1024x1536_0_0⟩,
    ⟨S1024x1536, extractStridedSlice S1024x1536 ![0, 1544] w slices_S1024x3600_S1024x1536_0_1544⟩,
    ⟨S1024x512, extractStridedSlice S1024x512 ![0, 3088] w slices_S1024x3600_S1024x512_0_3088⟩]
    concatenates_S1024x1536_S1024x1536_S1024x512_S1024x3584_d1) bitsLt_bf16_f32

/-- The columns of the gates, filled up with zeros. -/
def gateCols (w : FVec Ideal S1024x3600 .f32) : FVec Ideal S1024x128 .f32 :=
  pad S1024x128 ![0, 0] ![0, 112] ![0, 0] (concatenate S1024x16 1 [⟨S1024x8, extractStridedSlice S1024x8 ![0, 1536] w slices_S1024x3600_S1024x8_0_1536⟩,
    ⟨S1024x8, extractStridedSlice S1024x8 ![0, 3080] w slices_S1024x3600_S1024x8_0_3080⟩] concatenates_S1024x8_S1024x8_S1024x16_d1)
    (sitofp .f32 (constantI S_ 32 0#32)) pads_S1024x16_S1024x128_000_01120 h_S_

/-- The biases of the gates, filled up with zeros. -/
def gateBias (bf : FVec Ideal S8 .f32) (bi bm : FVec Ideal S4 .f32) : FVec Ideal S1x128 .f32 :=
  shapeCast S1x128 (pad S128 ![0] ![112] ![0] (concatenate S16 0 [⟨S8, bf⟩, ⟨S4, bi⟩, ⟨S4, bm⟩] concatenates_S8_S4_S4_S16_d0)
    (sitofp .f32 (constantI S_ 32 0#32)) pads_S16_S128_01120 h_S_) shapeCasts_S128_S1x128

variable (m : (ℓ : Loc nD τ sig) → Buf (Elt Ideal) ℓ) (c : Dev nD)

/-- The arguments. -/
abbrev argX : FVec Ideal S1x16384x1024 .f32 := m ((c.tc : Thread nD τ).loc main_arg0)
abbrev argScale : FVec Ideal S1x1x1024 .f32 := m ((c.tc : Thread nD τ).loc main_arg1)
abbrev argShift : FVec Ideal S1x1x1024 .f32 := m ((c.tc : Thread nD τ).loc main_arg2)
abbrev argG : FVec Ideal S1024 .f32 := m ((c.tc : Thread nD τ).loc main_arg3)
abbrev argW : FVec Ideal S1024x3600 .f32 := m ((c.tc : Thread nD τ).loc main_arg4)
abbrev argBf : FVec Ideal S8 .f32 := m ((c.tc : Thread nD τ).loc main_arg5)
abbrev argBi : FVec Ideal S4 .f32 := m ((c.tc : Thread nD τ).loc main_arg6)
abbrev argBm : FVec Ideal S4 .f32 := m ((c.tc : Thread nD τ).loc main_arg7)

set_option maxHeartbeats 4000000 in
theorem V_main : V m c main_v4 = mainCols (argW m c) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_gate : V m c main_v8 = gateCols (argW m c) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_bias : V m c main_v11 = gateBias (argBf m c) (argBi m c) (argBm m c) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_x : V m c main_v12 = shapeCast S16384x1024 (argX m c) shapeCasts_S1x16384x1024_S16384x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_scale : V m c main_v13 = shapeCast S1x1024 (argScale m c) shapeCasts_S1x1x1024_S1x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_shift : V m c main_v14 = shapeCast S1x1024 (argShift m c) shapeCasts_S1x1x1024_S1x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_g : V m c main_v15 = shapeCast S1x1024 (argG m c) shapeCasts_S1024_S1x1024 := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

theorem mainCols_apply (w : Vec Ideal S1024x3600 .f32) (k : Fin 1024) (j : Fin 3584) :
    (mainCols w : Vec Ideal S1024x3584 .bf16) (ix2 k j) = if h : j.val < 1536 then w (ix2 k ⟨j.val, by omega⟩)
      else if h : j.val - 1536 < 1536 then w (ix2 k ⟨1544 + (j.val - 1536), by omega⟩) else w (ix2 k ⟨3088 + (j.val - 1536 - 1536), by omega⟩) := by
  pointwise [mainCols]

theorem fill_zero : (FloatOps.sitofp (F := Ideal) .f32 0#32) = (0 : EReal) := by
  simp [FloatOps.sitofp]

theorem gateCols_apply (w : Vec Ideal S1024x3600 .f32) (k : Fin 1024) (l : Fin 128) :
    (gateCols w : Vec Ideal S1024x128 .f32) (ix2 k l) = if h : l.val < 16 then (if h : l.val < 8 then w (ix2 k ⟨1536 + l.val, by omega⟩)
      else w (ix2 k ⟨3080 + (l.val - 8), by omega⟩)) else 0 := by
  pointwise [gateCols]
  rw [fill_zero]

theorem gateBias_apply (bf : Vec Ideal S8 .f32) (bi bm : Vec Ideal S4 .f32) (l : Fin 128) :
    (gateBias bf bi bm : Vec Ideal S1x128 .f32) (ix2 0 l) = if h : l.val < 16 then (if h : l.val < 8 then bf (ix1 ⟨l.val, h⟩)
      else if h : l.val - 8 < 4 then bi (ix1 ⟨l.val - 8, h⟩) else bm (ix1 ⟨l.val - 8 - 4, by omega⟩)) else 0 := by
  pointwise [gateBias]
  rw [fill_zero]

end Cert.Kernel2Ideal.Input

end
-- ==== Proof.Input.Math.lean ====
module

public import Idealize.ShloMosaic.PureOps.Ideal
public import Idealize.ShloMosaic.Lib.Pointwise

@[expose] public section

noncomputable section

namespace Cert.InputMath

open Idealize.ShloMosaic

/-! The input projection at one token, as functions of numbers. -/

/-- A token's activations, normalised by their root mean square and modulated. -/
def activation (x g sc sh : Fin 1024 → EReal) (k : Fin 1024) : EReal :=
  x k * Ideal.rsqrt (Ideal.div (∑ l : Fin 1024, x l * x l) (Ideal.ofBits .f32 1149239296#32) + Ideal.ofBits .f32 897988541#32) * g k * (1 + sc k) + sh k

/-- The hidden activations against a column of the weights. -/
def proj (h w : Fin 1024 → EReal) : EReal := ∑ k : Fin 1024, h k * w k

/-- The logarithm of the sigmoid. -/
def logSig (z : EReal) : EReal := min z 0 - Ideal.log1p (Ideal.exp (0 - max z (-z)))

/-- A lane of the gates: the forget gates' logarithms, the input gates as they are, the forget gates' logarithms of the second mixer,
    and lanes without a gate. -/
def gate (h : Fin 1024 → EReal) (w : Fin 1024 → Fin 3600 → EReal) (bf : Fin 8 → EReal) (bi bm : Fin 4 → EReal) (l : Fin 128) : EReal :=
  if hl : l.val < 8 then logSig (proj h (fun k => w k ⟨1536 + l.val, by omega⟩) + bf ⟨l.val, hl⟩)
  else if hl : l.val - 8 < 4 then proj h (fun k => w k ⟨3080 + (l.val - 8), by omega⟩) + bi ⟨l.val - 8, hl⟩
  else if hl : l.val - 8 - 4 < 4 then logSig (proj h (fun k => w k ⟨3084 + (l.val - 8 - 4), by omega⟩) + bm ⟨l.val - 8 - 4, hl⟩)
  else logSig 0

/-- The softplus of the negated number, negated, is the logarithm of the sigmoid. -/
theorem neg_softplus (z : EReal) : -(max (-z) 0 + Ideal.log1p (Ideal.exp (-(max (-z) (-(-z)))))) = logSig z := by
  unfold logSig
  have hm : max (-z) 0 ≠ ⊥ := fun h => by
    have := h ▸ le_max_right (-z) 0
    exact absurd this (by simp)
  have hl : Ideal.log1p (Ideal.exp (-(max (-z) (-(-z))))) ≠ ⊥ := by
    generalize max (-z) (-(-z)) = a
    have h0 : 0 ≤ Ideal.exp (-a) := by
      induction -a using EReal.rec with
      | bot => exact le_refl _
      | top => exact le_top
      | coe r => exact EReal.coe_nonneg.mpr (Real.exp_pos r).le
    generalize Ideal.exp (-a) = e at h0 ⊢
    unfold Ideal.log1p
    induction e using EReal.rec with
    | bot => exact absurd h0 (by simp)
    | top => rw [show (1 : EReal) + ⊤ = ⊤ from by rfl]; exact top_ne_bot
    | coe r =>
      have hr : 0 ≤ r := EReal.coe_nonneg.mp h0
      rw [show (1 : EReal) + (r : EReal) = ((1 + r : ℝ) : EReal) from by rw [EReal.coe_add]; rfl]
      show (if 1 + r ≤ 0 then (⊥ : EReal) else (Real.log (1 + r) : EReal)) ≠ ⊥
      rw [if_neg (by linarith)]
      exact EReal.coe_ne_bot _
  have e1 : -(max (-z) 0) = min z 0 := by
    rcases le_total z 0 with h | h
    · rw [max_eq_left (by simpa using EReal.neg_le_neg_iff.mpr h), min_eq_left h, neg_neg]
    · rw [max_eq_right (by simpa using EReal.neg_le_neg_iff.mpr h), min_eq_right h, neg_zero]
  rw [EReal.neg_add (.inl hm) (.inr hl), neg_neg, e1, max_comm, zero_sub]

end Cert.InputMath

end
-- ==== Proof.Input.Block.lean ====
module

public import proofs.«01_k».proof.Proof.Input.Math
public import proofs.«01_k».proof.Proof.Gen.Kernel2Ideal.Frame
public import Idealize.ShloMosaic.Lib.Pointwise

@[expose] public section

set_option maxRecDepth 16384

noncomputable section

namespace Cert.Kernel2Ideal.Input

open Idealize.ShloMosaic Idealize.ShloMosaic.TcCoe
open Cert.Kernel2Ideal Cert.Kernel2Ideal.Gen Cert.InputMath

/-! What the kernel computes for a block of 512 tokens, entry by entry. -/

variable (x : Vec Ideal S512x1024 .f32) (g sc sh : Vec Ideal S1x1024 .f32)

/-- The activations of the block's token `r`. -/
abbrev hid (r : Fin 512) : Fin 1024 → EReal :=
  activation (fun k => x (ix2 r k)) (fun k => g (ix2 0 k)) (fun k => sc (ix2 0 k)) (fun k => sh (ix2 0 k))

theorem pay3_apply (r : Fin 512) (k : Fin 1024) : k0_pay3 (F := Ideal) x g sc sh (ix2 r k) = hid x g sc sh r k := by
  unfold hid activation
  pointwise [k0_pay3]

theorem pay4_apply (r : Fin 512) (k : Fin 1024) : (k0_pay4 (F := Ideal) x g sc sh : Vec Ideal S512x1024 .bf16) (ix2 r k) = hid x g sc sh r k :=
  pay3_apply x g sc sh r k

theorem pay5_apply (w : Vec Ideal S1024x512 .bf16) (r j : Fin 512) :
    k0_pay5 (F := Ideal) x g sc sh w (ix2 r j) = proj (hid x g sc sh r) (fun k => w (ix2 k j)) := by
  unfold proj
  simp only [← pay4_apply]
  unfold k0_pay5
  generalize k0_pay4 (F := Ideal) x g sc sh = h
  pointwise []

theorem pay6_apply (w : Vec Ideal S1024x512 .bf16) (r j : Fin 512) :
    k0_pay6 (F := Ideal) x g sc sh w (ix2 r j) = proj (hid x g sc sh r) (fun k => w (ix2 k j)) := by
  unfold proj
  simp only [← pay4_apply]
  unfold k0_pay6
  generalize k0_pay4 (F := Ideal) x g sc sh = h
  pointwise []

theorem pay7_apply (h : Vec Ideal S512x1024 .bf16) (w : Vec Ideal S1024x512 .bf16) (r j : Fin 512) :
    k0_pay7 (F := Ideal) h w (ix2 r j) = proj (fun k => h (ix2 r k)) (fun k => w (ix2 k j)) := by
  unfold proj
  pointwise [k0_pay7]

theorem pay8_apply (h : Vec Ideal S512x1024 .bf16) (w : Vec Ideal S1024x512 .bf16) (r j : Fin 512) :
    k0_pay8 (F := Ideal) h w (ix2 r j) = proj (fun k => h (ix2 r k)) (fun k => w (ix2 k j)) := by
  unfold proj
  pointwise [k0_pay8]

theorem pay9_apply (h : Vec Ideal S512x1024 .bf16) (w : Vec Ideal S1024x512 .bf16) (r j : Fin 512) :
    k0_pay9 (F := Ideal) h w (ix2 r j) = proj (fun k => h (ix2 r k)) (fun k => w (ix2 k j)) := by
  unfold proj
  pointwise [k0_pay9]

theorem pay10_apply (h : Vec Ideal S512x1024 .bf16) (w : Vec Ideal S1024x512 .bf16) (r j : Fin 512) :
    k0_pay10 (F := Ideal) h w (ix2 r j) = proj (fun k => h (ix2 r k)) (fun k => w (ix2 k j)) := by
  unfold proj
  pointwise [k0_pay10]

theorem pay11_apply (h : Vec Ideal S512x1024 .bf16) (w : Vec Ideal S1024x512 .bf16) (r j : Fin 512) :
    k0_pay11 (F := Ideal) h w (ix2 r j) = proj (fun k => h (ix2 r k)) (fun k => w (ix2 k j)) := by
  unfold proj
  pointwise [k0_pay11]

theorem pay12_apply (h : Vec Ideal S512x1024 .f32) (w : Vec Ideal S1024x128 .f32) (r : Fin 512) (l : Fin 128) :
    k0_pay12 (F := Ideal) h w (ix2 r l) = proj (fun k => h (ix2 r k)) (fun k => w (ix2 k l)) := by
  unfold proj
  pointwise [k0_pay12]

theorem pay13_apply (b : Vec Ideal S1x128 .f32) (l : Fin 128) : k0_pay13 (F := Ideal) b (ix2 0 l) = b (ix2 0 l) := by
  pointwise [k0_pay13]

theorem input_lane : ∀ l : Fin 128, IntOp.andi (IntOp.cmpi .sge (BitVec.ofNat 32 l.val) 8#32) (IntOp.cmpi .slt (BitVec.ofNat 32 l.val) 12#32)
    = if 8 ≤ l.val ∧ l.val < 12 then 1#1 else 0#1 := by decide +kernel

/-- The lanes 8 to 11 are left as they are, the others go through the logarithm of the sigmoid. -/
theorem pay1_apply (z : Vec Ideal S512x128 .f32) (b : Vec Ideal S1x128 .f32) (r : Fin 512) (l : Fin 128) :
    k0_pay1 (F := Ideal) z b (ix2 r l) = if 8 ≤ l.val ∧ l.val < 12 then z (ix2 r l) + b (ix2 0 l) else logSig (z (ix2 r l) + b (ix2 0 l)) := by
  have e : k0_pay1 (F := Ideal) z b (ix2 r l)
      = Scalar.select (IntOp.andi (IntOp.cmpi .sge (BitVec.ofNat 32 l.val) 8#32) (IntOp.cmpi .slt (BitVec.ofNat 32 l.val) 12#32))
        (z (ix2 r l) + b (ix2 0 l)) (logSig (z (ix2 r l) + b (ix2 0 l))) := by
    unfold logSig
    pointwise [k0_pay1]
    rfl
  rw [e, input_lane]
  split <;> rfl

theorem pay2_apply (z : Vec Ideal S512x128 .f32) (b : Vec Ideal S1x128 .f32) (l : Fin 128) (r : Fin 512) :
    k0_pay2 (F := Ideal) z b (ix2 l r) = k0_pay1 (F := Ideal) z b (ix2 r l) := by
  unfold k0_pay2
  generalize k0_pay1 (F := Ideal) z b = y
  pointwise []

end Cert.Kernel2Ideal.Input

end
-- ==== Proof.Input.Blocks.lean ====
module

public import proofs.«01_k».proof.Proof.Input.Prep
public import proofs.«01_k».proof.Proof.Input.Block
public import Idealize.ShloMosaic.Lib.Pipeline.ValueKit.Geometry

@[expose] public section

set_option maxRecDepth 16384

noncomputable section

namespace Cert.Kernel2Ideal.Input

open Idealize.ShloMosaic Idealize.ShloMosaic.TcCoe
open Cert.Kernel2Ideal Cert.Kernel2Ideal.Gen Cert.InputMath

/-! What the kernel reads at a grid point: the token block's rows, and the prepared arrays whole. -/

variable (m : (ℓ : Loc nD τ sig) → Buf (Elt Ideal) ℓ) (c : Dev nD) (t : Fin grid0.N)

theorem tok_lt (r : Fin 512) : 512 * t.val + r.val < 16384 := by
  have h : t.val < 32 := t.isLt
  omega

/-- The token of the block's row `r`. -/
abbrev tok (r : Fin 512) : Fin 16384 := ⟨512 * t.val + r.val, tok_lt t r⟩

theorem index0 : ∀ t : Fin grid0.N, win0_0.index t (⟨0, by decide⟩ : Fin 2) = t.val := by decide +kernel

theorem blk0 (r : Fin 512) (k : Fin 1024) : (iblk m c 0 t : Vec Ideal S512x1024 .f32) (ix2 r k) = argX m c (ix3 0 (tok t r) k) := by
  have e : (iblk m c 0 t : Vec Ideal S512x1024 .f32) (ix2 r k) = V m c main_v12 (ix2 (tok t r) k) := by
    refine congrArg (V m c main_v12) (funext fun a => Fin.ext ?_)
    refine (ValueKit.rect_emb_unit_val _ _ _ _ _).trans ?_
    match a with
    | ⟨0, _⟩ =>
      show win0_0.index t (⟨0, by decide⟩ : Fin 2) * 512 + r.val = 512 * t.val + r.val
      rw [index0, Nat.mul_comm]
    | ⟨1, _⟩ => exact Nat.zero_add _
  rw [e, V_x]
  generalize tok t r = u
  pointwise []

theorem blk1 (k : Fin 1024) : (iblk m c 1 t : Vec Ideal S1x1024 .f32) (ix2 0 k) = argScale m c (ix3 0 0 k) := by
  have e : (iblk m c 1 t : Vec Ideal S1x1024 .f32) (ix2 0 k) = V m c main_v13 (ix2 0 k) := by
    refine congrArg (V m c main_v13) (funext fun a => Fin.ext ?_)
    refine (ValueKit.rect_emb_unit_val _ _ _ _ _).trans ?_
    match a with
    | ⟨0, _⟩ => exact Nat.zero_add _
    | ⟨1, _⟩ => exact Nat.zero_add _
  rw [e, V_scale]
  pointwise []

theorem blk2 (k : Fin 1024) : (iblk m c 2 t : Vec Ideal S1x1024 .f32) (ix2 0 k) = argShift m c (ix3 0 0 k) := by
  have e : (iblk m c 2 t : Vec Ideal S1x1024 .f32) (ix2 0 k) = V m c main_v14 (ix2 0 k) := by
    refine congrArg (V m c main_v14) (funext fun a => Fin.ext ?_)
    refine (ValueKit.rect_emb_unit_val _ _ _ _ _).trans ?_
    match a with
    | ⟨0, _⟩ => exact Nat.zero_add _
    | ⟨1, _⟩ => exact Nat.zero_add _
  rw [e, V_shift]
  pointwise []

theorem blk3 (k : Fin 1024) : (iblk m c 3 t : Vec Ideal S1x1024 .f32) (ix2 0 k) = argG m c (ix1 k) := by
  have e : (iblk m c 3 t : Vec Ideal S1x1024 .f32) (ix2 0 k) = V m c main_v15 (ix2 0 k) := by
    refine congrArg (V m c main_v15) (funext fun a => Fin.ext ?_)
    refine (ValueKit.rect_emb_unit_val _ _ _ _ _).trans ?_
    match a with
    | ⟨0, _⟩ => exact Nat.zero_add _
    | ⟨1, _⟩ => exact Nat.zero_add _
  rw [e, V_g]
  pointwise []

theorem blk4 (k : Fin 1024) (j : Fin 3584) : (iblk m c 4 t : Vec Ideal S1024x3584 .bf16) (ix2 k j) = (mainCols (argW m c) : Vec Ideal S1024x3584 .bf16) (ix2 k j) := by
  rw [← V_main]
  refine congrArg (V m c main_v4) (funext fun a => Fin.ext ?_)
  refine (ValueKit.rect_emb_unit_val _ _ _ _ _).trans ?_
  match a with
  | ⟨0, _⟩ => exact Nat.zero_add _
  | ⟨1, _⟩ => exact Nat.zero_add _

theorem blk5 (k : Fin 1024) (l : Fin 128) : (iblk m c 5 t : Vec Ideal S1024x128 .f32) (ix2 k l) = (gateCols (argW m c) : Vec Ideal S1024x128 .f32) (ix2 k l) := by
  rw [← V_gate]
  refine congrArg (V m c main_v8) (funext fun a => Fin.ext ?_)
  refine (ValueKit.rect_emb_unit_val _ _ _ _ _).trans ?_
  match a with
  | ⟨0, _⟩ => exact Nat.zero_add _
  | ⟨1, _⟩ => exact Nat.zero_add _

theorem blk6 (l : Fin 128) : (iblk m c 6 t : Vec Ideal S1x128 .f32) (ix2 0 l) = (gateBias (argBf m c) (argBi m c) (argBm m c) : Vec Ideal S1x128 .f32) (ix2 0 l) := by
  rw [← V_bias]
  refine congrArg (V m c main_v11) (funext fun a => Fin.ext ?_)
  refine (ValueKit.rect_emb_unit_val _ _ _ _ _).trans ?_
  match a with
  | ⟨0, _⟩ => exact Nat.zero_add _
  | ⟨1, _⟩ => exact Nat.zero_add _

/-! The loads of the body. -/

theorem ld_x (x : Vec Ideal S512x1024 .f32) (r : Fin 512) (k : Fin 1024) : View.ld x r0_0 (ix2 r k) = x (ix2 r k) := by
  refine congrArg x (funext fun a => Fin.ext ?_)
  match a with
  | ⟨0, _⟩ => exact (Nat.zero_add _).trans (Nat.one_mul _)
  | ⟨1, _⟩ => exact (Nat.zero_add _).trans (Nat.one_mul _)

theorem ld_row (x : Vec Ideal S1x1024 .f32) (k : Fin 1024) : View.ld x r0_1 (ix2 0 k) = x (ix2 0 k) := by
  refine congrArg x (funext fun a => Fin.ext ?_)
  match a with
  | ⟨0, _⟩ => exact (Nat.zero_add _).trans (Nat.one_mul _)
  | ⟨1, _⟩ => exact (Nat.zero_add _).trans (Nat.one_mul _)

theorem ld_gate (x : Vec Ideal S1024x128 .f32) (k : Fin 1024) (l : Fin 128) : View.ld x r0_10 (ix2 k l) = x (ix2 k l) := by
  refine congrArg x (funext fun a => Fin.ext ?_)
  match a with
  | ⟨0, _⟩ => exact (Nat.zero_add _).trans (Nat.one_mul _)
  | ⟨1, _⟩ => exact (Nat.zero_add _).trans (Nat.one_mul _)

theorem ld_bias (x : Vec Ideal S1x128 .f32) (l : Fin 128) : View.ld x r0_11 (ix2 0 l) = x (ix2 0 l) := by
  refine congrArg x (funext fun a => Fin.ext ?_)
  match a with
  | ⟨0, _⟩ => exact (Nat.zero_add _).trans (Nat.one_mul _)
  | ⟨1, _⟩ => exact (Nat.zero_add _).trans (Nat.one_mul _)

theorem ld_main0 (x : Vec Ideal S1024x3584 .bf16) (k : Fin 1024) (j : Fin 512) : View.ld x r0_2 (ix2 k j) = x (ix2 k ⟨0 + j.val, by omega⟩) := by
  refine congrArg x (funext fun a => Fin.ext ?_)
  match a with
  | ⟨0, _⟩ => exact (Nat.zero_add _).trans (Nat.one_mul _)
  | ⟨1, _⟩ => exact congrArg (_ + ·) (Nat.one_mul _)

theorem ld_main1 (x : Vec Ideal S1024x3584 .bf16) (k : Fin 1024) (j : Fin 512) : View.ld x r0_4 (ix2 k j) = x (ix2 k ⟨512 + j.val, by omega⟩) := by
  refine congrArg x (funext fun a => Fin.ext ?_)
  match a with
  | ⟨0, _⟩ => exact (Nat.zero_add _).trans (Nat.one_mul _)
  | ⟨1, _⟩ => exact congrArg (_ + ·) (Nat.one_mul _)

theorem ld_main2 (x : Vec Ideal S1024x3584 .bf16) (k : Fin 1024) (j : Fin 512) : View.ld x r0_5 (ix2 k j) = x (ix2 k ⟨1024 + j.val, by omega⟩) := by
  refine congrArg x (funext fun a => Fin.ext ?_)
  match a with
  | ⟨0, _⟩ => exact (Nat.zero_add _).trans (Nat.one_mul _)
  | ⟨1, _⟩ => exact congrArg (_ + ·) (Nat.one_mul _)

theorem ld_main3 (x : Vec Ideal S1024x3584 .bf16) (k : Fin 1024) (j : Fin 512) : View.ld x r0_6 (ix2 k j) = x (ix2 k ⟨1536 + j.val, by omega⟩) := by
  refine congrArg x (funext fun a => Fin.ext ?_)
  match a with
  | ⟨0, _⟩ => exact (Nat.zero_add _).trans (Nat.one_mul _)
  | ⟨1, _⟩ => exact congrArg (_ + ·) (Nat.one_mul _)

theorem ld_main4 (x : Vec Ideal S1024x3584 .bf16) (k : Fin 1024) (j : Fin 512) : View.ld x r0_7 (ix2 k j) = x (ix2 k ⟨2048 + j.val, by omega⟩) := by
  refine congrArg x (funext fun a => Fin.ext ?_)
  match a with
  | ⟨0, _⟩ => exact (Nat.zero_add _).trans (Nat.one_mul _)
  | ⟨1, _⟩ => exact congrArg (_ + ·) (Nat.one_mul _)

theorem ld_main5 (x : Vec Ideal S1024x3584 .bf16) (k : Fin 1024) (j : Fin 512) : View.ld x r0_8 (ix2 k j) = x (ix2 k ⟨2560 + j.val, by omega⟩) := by
  refine congrArg x (funext fun a => Fin.ext ?_)
  match a with
  | ⟨0, _⟩ => exact (Nat.zero_add _).trans (Nat.one_mul _)
  | ⟨1, _⟩ => exact congrArg (_ + ·) (Nat.one_mul _)

theorem ld_main6 (x : Vec Ideal S1024x3584 .bf16) (k : Fin 1024) (j : Fin 512) : View.ld x r0_9 (ix2 k j) = x (ix2 k ⟨3072 + j.val, by omega⟩) := by
  refine congrArg x (funext fun a => Fin.ext ?_)
  match a with
  | ⟨0, _⟩ => exact (Nat.zero_add _).trans (Nat.one_mul _)
  | ⟨1, _⟩ => exact congrArg (_ + ·) (Nat.one_mul _)

end Cert.Kernel2Ideal.Input

end
-- ==== Proof.Input.Output.lean ====
module

public import proofs.«01_k».proof.Proof.Input.Blocks
public import proofs.«01_k».proof.Proof.Gen.Kernel2Ideal.Value

@[expose] public section

set_option maxRecDepth 16384

noncomputable section

namespace Cert.Kernel2Ideal.Input

open Idealize.ShloMosaic Idealize.ShloMosaic.TcCoe
open Idealize.SL.Sem
open Cert.Kernel2Ideal Cert.Kernel2Ideal.Gen Cert.InputMath

/-! The result arrays after the run. -/

variable (m : (ℓ : Loc nD τ sig) → Buf (Elt Ideal) ℓ) (c : Dev nD)

/-- The hidden activations of a token. -/
abbrev hTok (u : Fin 16384) : Fin 1024 → EReal :=
  activation (fun k => argX m c (ix3 0 u k)) (fun k => argG m c (ix1 k)) (fun k => argScale m c (ix3 0 0 k)) (fun k => argShift m c (ix3 0 0 k))

/-- 512 columns of the projection, from column `off`. -/
def outMain (off : ℕ) (h : off + 512 ≤ 3600) : Vec Ideal S16384x512 .f32 := fun i =>
  proj (hTok m c (i 0)) (fun k => argW m c (ix2 k ⟨off + (i 1).val, Nat.lt_of_lt_of_le (Nat.add_lt_add_left (i 1).isLt off) h⟩))

/-- The gates. -/
def outGate : Vec Ideal S16384x128 .f32 := fun i =>
  gate (hTok m c (i 0)) (fun k j => argW m c (ix2 k j)) (fun n => argBf m c (ix1 n)) (fun n => argBi m c (ix1 n)) (fun n => argBm m c (ix1 n)) (i 1)

/-- The gates, a lane in a row. -/
def outGateT : Vec Ideal S128x16384 .f32 := fun i => outGate m c (ix2 (i 1) (i 0))

theorem outMain_apply (off : ℕ) (h : off + 512 ≤ 3600) (u : Fin 16384) (j : Fin 512) :
    outMain m c off h (ix2 u j) = proj (hTok m c u) (fun k => argW m c (ix2 k ⟨off + j.val, by omega⟩)) := rfl

theorem outGate_apply (u : Fin 16384) (l : Fin 128) :
    outGate m c (ix2 u l) = gate (hTok m c u) (fun k j => argW m c (ix2 k j)) (fun n => argBf m c (ix1 n)) (fun n => argBi m c (ix1 n)) (fun n => argBm m c (ix1 n)) l := rfl

/-! The block a grid point leaves. -/

theorem eta512 (y : S512x512.Idx) : y = ix2 (y 0) (y 1) := by
  funext a
  match a with
  | ⟨0, _⟩ => rfl
  | ⟨1, _⟩ => rfl
theorem eta128 (y : S512x128.Idx) : y = ix2 (y 0) (y 1) := by
  funext a
  match a with
  | ⟨0, _⟩ => rfl
  | ⟨1, _⟩ => rfl
theorem etaT (y : S128x512.Idx) : y = ix2 (y 0) (y 1) := by
  funext a
  match a with
  | ⟨0, _⟩ => rfl
  | ⟨1, _⟩ => rfl

theorem store512 (p : Vec Ideal S512x512 .f32) (y : S512x512.Idx) : View.canon [(⟨r0_3, p⟩ : View.Piece (Elt Ideal) S512x512 .f32)] y = p y := by
  refine View.canon_apply_of_pieces p _ ?_ y (cover0_7 p y)
  intro pc hpc
  rcases List.mem_cons.mp hpc with rfl | hpc
  · refine fun x => congrArg p (funext fun a => Fin.ext ?_)
    match a with
    | ⟨0, _⟩ => exact ((Nat.zero_add _).trans (Nat.one_mul _)).symm
    | ⟨1, _⟩ => exact ((Nat.zero_add _).trans (Nat.one_mul _)).symm
  nomatch hpc
theorem store128 (p : Vec Ideal S512x128 .f32) (y : S512x128.Idx) : View.canon [(⟨r0_12, p⟩ : View.Piece (Elt Ideal) S512x128 .f32)] y = p y := by
  refine View.canon_apply_of_pieces p _ ?_ y (cover0_14 p y)
  intro pc hpc
  rcases List.mem_cons.mp hpc with rfl | hpc
  · refine fun x => congrArg p (funext fun a => Fin.ext ?_)
    match a with
    | ⟨0, _⟩ => exact ((Nat.zero_add _).trans (Nat.one_mul _)).symm
    | ⟨1, _⟩ => exact ((Nat.zero_add _).trans (Nat.one_mul _)).symm
  nomatch hpc
theorem storeT (p : Vec Ideal S128x512 .f32) (y : S128x512.Idx) : View.canon [(⟨r0_13, p⟩ : View.Piece (Elt Ideal) S128x512 .f32)] y = p y := by
  refine View.canon_apply_of_pieces p _ ?_ y (cover0_15 p y)
  intro pc hpc
  rcases List.mem_cons.mp hpc with rfl | hpc
  · refine fun x => congrArg p (funext fun a => Fin.ext ?_)
    match a with
    | ⟨0, _⟩ => exact ((Nat.zero_add _).trans (Nat.one_mul _)).symm
    | ⟨1, _⟩ => exact ((Nat.zero_add _).trans (Nat.one_mul _)).symm
  nomatch hpc

variable (t : Fin grid0.N)

theorem hid_blk (r : Fin 512) : hid (View.ld (iblk m c 0 t : Vec Ideal S512x1024 .f32) r0_0) (View.ld (iblk m c 3 t : Vec Ideal S1x1024 .f32) r0_1)
    (View.ld (iblk m c 1 t : Vec Ideal S1x1024 .f32) r0_1) (View.ld (iblk m c 2 t : Vec Ideal S1x1024 .f32) r0_1) r = hTok m c (tok t r) := by
  have e0 : (fun k => View.ld (iblk m c 0 t : Vec Ideal S512x1024 .f32) r0_0 (ix2 r k)) = fun k => argX m c (ix3 0 (tok t r) k) :=
    funext fun k => (ld_x _ r k).trans (blk0 m c t r k)
  have e1 : (fun k => View.ld (iblk m c 3 t : Vec Ideal S1x1024 .f32) r0_1 (ix2 0 k)) = fun k => argG m c (ix1 k) :=
    funext fun k => (ld_row _ k).trans (blk3 m c t k)
  have e2 : (fun k => View.ld (iblk m c 1 t : Vec Ideal S1x1024 .f32) r0_1 (ix2 0 k)) = fun k => argScale m c (ix3 0 0 k) :=
    funext fun k => (ld_row _ k).trans (blk1 m c t k)
  have e3 : (fun k => View.ld (iblk m c 2 t : Vec Ideal S1x1024 .f32) r0_1 (ix2 0 k)) = fun k => argShift m c (ix3 0 0 k) :=
    funext fun k => (ld_row _ k).trans (blk2 m c t k)
  unfold hid
  rw [e0, e1, e2, e3]

theorem hid14 (r : Fin 512) : (fun k => (k0_pay14 (F := Ideal) (iblk m c 0 t) (iblk m c 1 t) (iblk m c 2 t) (iblk m c 3 t) (iblk m c 4 t) (iblk m c 5 t) (iblk m c 6 t) : Vec Ideal S512x1024 .bf16) (ix2 r k))
    = hTok m c (tok t r) :=
  (funext fun k => pay4_apply _ _ _ _ r k).trans (hid_blk m c t r)

theorem col0 (k : Fin 1024) (j : Fin 512) : View.ld (iblk m c 4 t : Vec Ideal S1024x3584 .bf16) r0_2 (ix2 k j) = argW m c (ix2 k ⟨0 + j.val, by omega⟩) := by
  refine (ld_main0 _ k j).trans ((blk4 m c t k _).trans ?_)
  rw [mainCols_apply, dif_pos (show _ < _ by show 0 + j.val < 1536; omega)]

theorem block0 (r j : Fin 512) : out0_7 (F := Ideal) (iblk m c 0 t) (iblk m c 1 t) (iblk m c 2 t) (iblk m c 3 t) (iblk m c 4 t) (iblk m c 5 t) (iblk m c 6 t) (ix2 r j)
    = outMain m c 0 (by decide) (ix2 (tok t r) j) := by
  refine (store512 _ _).trans ((pay5_apply _ _ _ _ _ r j).trans ?_)
  rw [hid_blk, funext fun k => col0 m c t k j]
  exact (outMain_apply m c 0 (by decide) (tok t r) j).symm

theorem col1 (k : Fin 1024) (j : Fin 512) : View.ld (iblk m c 4 t : Vec Ideal S1024x3584 .bf16) r0_4 (ix2 k j) = argW m c (ix2 k ⟨512 + j.val, by omega⟩) := by
  refine (ld_main1 _ k j).trans ((blk4 m c t k _).trans ?_)
  rw [mainCols_apply, dif_pos (show _ < _ by show 512 + j.val < 1536; omega)]

theorem block1 (r j : Fin 512) : out0_8 (F := Ideal) (iblk m c 0 t) (iblk m c 1 t) (iblk m c 2 t) (iblk m c 3 t) (iblk m c 4 t) (iblk m c 5 t) (iblk m c 6 t) (ix2 r j)
    = outMain m c 512 (by decide) (ix2 (tok t r) j) := by
  refine (store512 _ _).trans ((pay6_apply _ _ _ _ _ r j).trans ?_)
  rw [hid_blk, funext fun k => col1 m c t k j]
  exact (outMain_apply m c 512 (by decide) (tok t r) j).symm

theorem col2 (k : Fin 1024) (j : Fin 512) : View.ld (iblk m c 4 t : Vec Ideal S1024x3584 .bf16) r0_5 (ix2 k j) = argW m c (ix2 k ⟨1024 + j.val, by omega⟩) := by
  refine (ld_main2 _ k j).trans ((blk4 m c t k _).trans ?_)
  rw [mainCols_apply, dif_pos (show _ < _ by show 1024 + j.val < 1536; omega)]

theorem block2 (r j : Fin 512) : out0_9 (F := Ideal) (iblk m c 0 t) (iblk m c 1 t) (iblk m c 2 t) (iblk m c 3 t) (iblk m c 4 t) (iblk m c 5 t) (iblk m c 6 t) (ix2 r j)
    = outMain m c 1024 (by decide) (ix2 (tok t r) j) := by
  refine (store512 _ _).trans ((pay7_apply _ _ r j).trans ?_)
  rw [hid14, funext fun k => col2 m c t k j]
  exact (outMain_apply m c 1024 (by decide) (tok t r) j).symm

theorem col3 (k : Fin 1024) (j : Fin 512) : View.ld (iblk m c 4 t : Vec Ideal S1024x3584 .bf16) r0_6 (ix2 k j) = argW m c (ix2 k ⟨1544 + j.val, by omega⟩) := by
  refine (ld_main3 _ k j).trans ((blk4 m c t k _).trans ?_)
  rw [mainCols_apply, dif_neg (show ¬ _ < _ by show ¬ 1536 + j.val < 1536; omega), dif_pos (show _ < _ by show 1536 + j.val - 1536 < 1536; omega)]
  refine congrArg (fun n => argW m c (ix2 k n)) (Fin.ext ?_)
  show _ = 1544 + j.val
  dsimp only
  omega

theorem block3 (r j : Fin 512) : out0_10 (F := Ideal) (iblk m c 0 t) (iblk m c 1 t) (iblk m c 2 t) (iblk m c 3 t) (iblk m c 4 t) (iblk m c 5 t) (iblk m c 6 t) (ix2 r j)
    = outMain m c 1544 (by decide) (ix2 (tok t r) j) := by
  refine (store512 _ _).trans ((pay8_apply _ _ r j).trans ?_)
  rw [hid14, funext fun k => col3 m c t k j]
  exact (outMain_apply m c 1544 (by decide) (tok t r) j).symm

theorem col4 (k : Fin 1024) (j : Fin 512) : View.ld (iblk m c 4 t : Vec Ideal S1024x3584 .bf16) r0_7 (ix2 k j) = argW m c (ix2 k ⟨2056 + j.val, by omega⟩) := by
  refine (ld_main4 _ k j).trans ((blk4 m c t k _).trans ?_)
  rw [mainCols_apply, dif_neg (show ¬ _ < _ by show ¬ 2048 + j.val < 1536; omega), dif_pos (show _ < _ by show 2048 + j.val - 1536 < 1536; omega)]
  refine congrArg (fun n => argW m c (ix2 k n)) (Fin.ext ?_)
  show _ = 2056 + j.val
  dsimp only
  omega

theorem block4 (r j : Fin 512) : out0_11 (F := Ideal) (iblk m c 0 t) (iblk m c 1 t) (iblk m c 2 t) (iblk m c 3 t) (iblk m c 4 t) (iblk m c 5 t) (iblk m c 6 t) (ix2 r j)
    = outMain m c 2056 (by decide) (ix2 (tok t r) j) := by
  refine (store512 _ _).trans ((pay9_apply _ _ r j).trans ?_)
  rw [hid14, funext fun k => col4 m c t k j]
  exact (outMain_apply m c 2056 (by decide) (tok t r) j).symm

theorem col5 (k : Fin 1024) (j : Fin 512) : View.ld (iblk m c 4 t : Vec Ideal S1024x3584 .bf16) r0_8 (ix2 k j) = argW m c (ix2 k ⟨2568 + j.val, by omega⟩) := by
  refine (ld_main5 _ k j).trans ((blk4 m c t k _).trans ?_)
  rw [mainCols_apply, dif_neg (show ¬ _ < _ by show ¬ 2560 + j.val < 1536; omega), dif_pos (show _ < _ by show 2560 + j.val - 1536 < 1536; omega)]
  refine congrArg (fun n => argW m c (ix2 k n)) (Fin.ext ?_)
  show _ = 2568 + j.val
  dsimp only
  omega

theorem block5 (r j : Fin 512) : out0_12 (F := Ideal) (iblk m c 0 t) (iblk m c 1 t) (iblk m c 2 t) (iblk m c 3 t) (iblk m c 4 t) (iblk m c 5 t) (iblk m c 6 t) (ix2 r j)
    = outMain m c 2568 (by decide) (ix2 (tok t r) j) := by
  refine (store512 _ _).trans ((pay10_apply _ _ r j).trans ?_)
  rw [hid14, funext fun k => col5 m c t k j]
  exact (outMain_apply m c 2568 (by decide) (tok t r) j).symm

theorem col6 (k : Fin 1024) (j : Fin 512) : View.ld (iblk m c 4 t : Vec Ideal S1024x3584 .bf16) r0_9 (ix2 k j) = argW m c (ix2 k ⟨3088 + j.val, by omega⟩) := by
  refine (ld_main6 _ k j).trans ((blk4 m c t k _).trans ?_)
  rw [mainCols_apply, dif_neg (show ¬ _ < _ by show ¬ 3072 + j.val < 1536; omega), dif_neg (show ¬ _ < _ by show ¬ 3072 + j.val - 1536 < 1536; omega)]
  refine congrArg (fun n => argW m c (ix2 k n)) (Fin.ext ?_)
  show _ = 3088 + j.val
  dsimp only
  omega

theorem block6 (r j : Fin 512) : out0_13 (F := Ideal) (iblk m c 0 t) (iblk m c 1 t) (iblk m c 2 t) (iblk m c 3 t) (iblk m c 4 t) (iblk m c 5 t) (iblk m c 6 t) (ix2 r j)
    = outMain m c 3088 (by decide) (ix2 (tok t r) j) := by
  refine (store512 _ _).trans ((pay11_apply _ _ r j).trans ?_)
  rw [hid14, funext fun k => col6 m c t k j]
  exact (outMain_apply m c 3088 (by decide) (tok t r) j).symm

theorem gate_kernel (h : Fin 1024 → EReal) (w : Vec Ideal S1024x3600 .f32) (bf : Vec Ideal S8 .f32) (bi bm : Vec Ideal S4 .f32) (l : Fin 128) :
    (if 8 ≤ l.val ∧ l.val < 12 then proj h (fun k => (gateCols w : Vec Ideal S1024x128 .f32) (ix2 k l)) + (gateBias bf bi bm : Vec Ideal S1x128 .f32) (ix2 0 l)
      else logSig (proj h (fun k => (gateCols w : Vec Ideal S1024x128 .f32) (ix2 k l)) + (gateBias bf bi bm : Vec Ideal S1x128 .f32) (ix2 0 l)))
    = gate h (fun k j => w (ix2 k j)) (fun n => bf (ix1 n)) (fun n => bi (ix1 n)) (fun n => bm (ix1 n)) l := by
  unfold gate
  rw [gateBias_apply, funext fun k => gateCols_apply w k l]
  by_cases h8 : l.val < 8
  · rw [if_neg (by omega), dif_pos h8]
    simp only [dif_pos (show l.val < 16 by omega), dif_pos h8]
  · by_cases h12 : l.val - 8 < 4
    · rw [if_pos (by omega), dif_neg h8, dif_pos h12]
      simp only [dif_pos (show l.val < 16 by omega), dif_neg h8, dif_pos h12]
    · rw [if_neg (by omega), dif_neg h8, dif_neg h12]
      by_cases h16 : l.val - 8 - 4 < 4
      · rw [dif_pos h16]
        simp only [dif_pos (show l.val < 16 by omega), dif_neg h8, dif_neg h12]
        refine congrArg (fun f => logSig (proj h f + _)) (funext fun k => congrArg (fun n => w (ix2 k n)) (Fin.ext ?_))
        show 3080 + (l.val - 8) = 3084 + (l.val - 8 - 4)
        omega
      · rw [dif_neg h16]
        simp only [dif_neg (show ¬ l.val < 16 by omega)]
        refine congrArg logSig ?_
        unfold proj
        simp

theorem gate_blk (r : Fin 512) (l : Fin 128) : k0_pay1 (F := Ideal) (k0_pay15 (iblk m c 0 t) (iblk m c 1 t) (iblk m c 2 t) (iblk m c 3 t) (iblk m c 4 t) (iblk m c 5 t) (iblk m c 6 t))
    (k0_pay16 (iblk m c 0 t) (iblk m c 1 t) (iblk m c 2 t) (iblk m c 3 t) (iblk m c 4 t) (iblk m c 5 t) (iblk m c 6 t)) (ix2 r l) = outGate m c (ix2 (tok t r) l) := by
  have ez : (k0_pay15 (F := Ideal) (iblk m c 0 t) (iblk m c 1 t) (iblk m c 2 t) (iblk m c 3 t) (iblk m c 4 t) (iblk m c 5 t) (iblk m c 6 t) : Vec Ideal S512x128 .f32) (ix2 r l)
      = proj (hTok m c (tok t r)) (fun k => (gateCols (argW m c) : Vec Ideal S1024x128 .f32) (ix2 k l)) := by
    refine (pay12_apply _ _ r l).trans ?_
    rw [funext fun k => pay3_apply _ _ _ _ r k, hid_blk, funext fun k => (ld_gate _ k l).trans (blk5 m c t k l)]
  have eb : (k0_pay16 (F := Ideal) (iblk m c 0 t) (iblk m c 1 t) (iblk m c 2 t) (iblk m c 3 t) (iblk m c 4 t) (iblk m c 5 t) (iblk m c 6 t) : Vec Ideal S1x128 .f32) (ix2 0 l)
      = (gateBias (argBf m c) (argBi m c) (argBm m c) : Vec Ideal S1x128 .f32) (ix2 0 l) :=
    (pay13_apply _ l).trans ((ld_bias _ l).trans (blk6 m c t l))
  refine (pay1_apply _ _ r l).trans ?_
  rw [ez, eb]
  exact gate_kernel _ _ _ _ _ l

theorem block7 (r : Fin 512) (l : Fin 128) : out0_14 (F := Ideal) (iblk m c 0 t) (iblk m c 1 t) (iblk m c 2 t) (iblk m c 3 t) (iblk m c 4 t) (iblk m c 5 t) (iblk m c 6 t) (ix2 r l)
    = outGate m c (ix2 (tok t r) l) :=
  (store128 _ _).trans (gate_blk m c t r l)

theorem block8 (l : Fin 128) (r : Fin 512) : out0_15 (F := Ideal) (iblk m c 0 t) (iblk m c 1 t) (iblk m c 2 t) (iblk m c 3 t) (iblk m c 4 t) (iblk m c 5 t) (iblk m c 6 t) (ix2 l r)
    = outGateT m c (ix2 l (tok t r)) :=
  (storeT _ _).trans ((pay2_apply _ _ l r).trans (gate_blk m c t r l))

end Cert.Kernel2Ideal.Input

end
-- ==== Proof.Input.Arrays.lean ====
module

public import proofs.«01_k».proof.Proof.Input.Output

@[expose] public section

set_option maxRecDepth 16384

noncomputable section

namespace Cert.Kernel2Ideal.Input

open Idealize.ShloMosaic Idealize.ShloMosaic.TcCoe
open Idealize.SL.Sem
open Cert.Kernel2Ideal Cert.Kernel2Ideal.Gen Cert.InputMath

/-! The grid's blocks fill the result arrays. -/

variable (m : (ℓ : Loc nD τ sig) → Buf (Elt Ideal) ℓ) (c : Dev nD)

/-- The grid point of a token's block. -/
abbrev pt (u : ℕ) (h : u < 16384) : Fin grid0.N := ⟨u / 512, (show u / 512 < 32 by omega)⟩

theorem index7 : ∀ t : Fin grid0.N, win0_7.index t (⟨0, by decide⟩ : Fin 2) = t.val := by decide +kernel

theorem emb7 (G : Vec Ideal S16384x512 .f32) (t : Fin grid0.N) (r : Fin 512) (j : Fin 512) : G (((cfg0.win 7).blk t).view.emb (ix2 r j)) = G (ix2 (tok t r) j) := by
  refine congrArg G (funext fun a => Fin.ext ?_)
  refine (ValueKit.rect_emb_unit_val _ _ _ _ _).trans ?_
  match a with
  | ⟨0, _⟩ =>
    show win0_7.index t (⟨0, by decide⟩ : Fin 2) * 512 + r.val = 512 * t.val + r.val
    rw [index7, Nat.mul_comm]
  | ⟨1, _⟩ => exact Nat.zero_add _

theorem left7 (t : Fin grid0.N) (y : S512x512.Idx) :
    out0_7 (F := Ideal) (iblk m c 0 t) (iblk m c 1 t) (iblk m c 2 t) (iblk m c 3 t) (iblk m c 4 t) (iblk m c 5 t) (iblk m c 6 t) y
      = (outMain m c 0 (by decide) : Vec Ideal S16384x512 .f32) (((cfg0.win 7).blk t).view.emb y) := by
  obtain ⟨r, j, rfl⟩ : ∃ r j, y = ix2 r j := ⟨_, _, eta512 y⟩
  exact (block0 m c t r j).trans (emb7 (outMain m c 0 (by decide)) t r j).symm

theorem cover7 (i : S16384x512.Idx) : ∃ t : Fin grid0.N, (cfg0.win 7).flush t = true ∧ i ∈ ((cfg0.win 7).blk t).view.set := by
  have h0 : (i 0).val < 16384 := (i 0).isLt
  have h1 : (i 1).val < 512 := (i 1).isLt
  refine ⟨pt (i 0).val h0, flush0_7 _, ?_⟩
  refine (ValueKit.mem_set_slice_whole_iff main_v16_0 _ i (Pipeline.Window.mem_rect_iff (cfg0.win 7) _ i rfl)).mpr fun a => ?_
  match a with
  | ⟨0, _⟩ =>
    show win0_7.index (pt (i 0).val h0) (⟨0, by decide⟩ : Fin 2) * 512 ≤ (i 0).val ∧ (i 0).val < win0_7.index (pt (i 0).val h0) (⟨0, by decide⟩ : Fin 2) * 512 + 512
    rw [index7]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr7 : (dats m 0 c).arrAt 7 cfg0.N = outMain m c 0 (by decide) := by
  refine Pipeline.Dat.arrAt_eq_of_emb (dats m 0 c) (7 : Fin 16) (show Buf (Elt Ideal) ((c.tc : Thread nD τ).loc main_v16_0) from outMain m c 0 (by decide)) (fun t _ y => ?_) (fun i => cover7 i)
  exact (congrFun (after0_7 m c t) _).trans (left7 m c t y)

theorem index8 : ∀ t : Fin grid0.N, win0_8.index t (⟨0, by decide⟩ : Fin 2) = t.val := by decide +kernel

theorem emb8 (G : Vec Ideal S16384x512 .f32) (t : Fin grid0.N) (r : Fin 512) (j : Fin 512) : G (((cfg0.win 8).blk t).view.emb (ix2 r j)) = G (ix2 (tok t r) j) := by
  refine congrArg G (funext fun a => Fin.ext ?_)
  refine (ValueKit.rect_emb_unit_val _ _ _ _ _).trans ?_
  match a with
  | ⟨0, _⟩ =>
    show win0_8.index t (⟨0, by decide⟩ : Fin 2) * 512 + r.val = 512 * t.val + r.val
    rw [index8, Nat.mul_comm]
  | ⟨1, _⟩ => exact Nat.zero_add _

theorem left8 (t : Fin grid0.N) (y : S512x512.Idx) :
    out0_8 (F := Ideal) (iblk m c 0 t) (iblk m c 1 t) (iblk m c 2 t) (iblk m c 3 t) (iblk m c 4 t) (iblk m c 5 t) (iblk m c 6 t) y
      = (outMain m c 512 (by decide) : Vec Ideal S16384x512 .f32) (((cfg0.win 8).blk t).view.emb y) := by
  obtain ⟨r, j, rfl⟩ : ∃ r j, y = ix2 r j := ⟨_, _, eta512 y⟩
  exact (block1 m c t r j).trans (emb8 (outMain m c 512 (by decide)) t r j).symm

theorem cover8 (i : S16384x512.Idx) : ∃ t : Fin grid0.N, (cfg0.win 8).flush t = true ∧ i ∈ ((cfg0.win 8).blk t).view.set := by
  have h0 : (i 0).val < 16384 := (i 0).isLt
  have h1 : (i 1).val < 512 := (i 1).isLt
  refine ⟨pt (i 0).val h0, flush0_8 _, ?_⟩
  refine (ValueKit.mem_set_slice_whole_iff main_v16_1 _ i (Pipeline.Window.mem_rect_iff (cfg0.win 8) _ i rfl)).mpr fun a => ?_
  match a with
  | ⟨0, _⟩ =>
    show win0_8.index (pt (i 0).val h0) (⟨0, by decide⟩ : Fin 2) * 512 ≤ (i 0).val ∧ (i 0).val < win0_8.index (pt (i 0).val h0) (⟨0, by decide⟩ : Fin 2) * 512 + 512
    rw [index8]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr8 : (dats m 0 c).arrAt 8 cfg0.N = outMain m c 512 (by decide) := by
  refine Pipeline.Dat.arrAt_eq_of_emb (dats m 0 c) (8 : Fin 16) (show Buf (Elt Ideal) ((c.tc : Thread nD τ).loc main_v16_1) from outMain m c 512 (by decide)) (fun t _ y => ?_) (fun i => cover8 i)
  exact (congrFun (after0_8 m c t) _).trans (left8 m c t y)

theorem index9 : ∀ t : Fin grid0.N, win0_9.index t (⟨0, by decide⟩ : Fin 2) = t.val := by decide +kernel

theorem emb9 (G : Vec Ideal S16384x512 .f32) (t : Fin grid0.N) (r : Fin 512) (j : Fin 512) : G (((cfg0.win 9).blk t).view.emb (ix2 r j)) = G (ix2 (tok t r) j) := by
  refine congrArg G (funext fun a => Fin.ext ?_)
  refine (ValueKit.rect_emb_unit_val _ _ _ _ _).trans ?_
  match a with
  | ⟨0, _⟩ =>
    show win0_9.index t (⟨0, by decide⟩ : Fin 2) * 512 + r.val = 512 * t.val + r.val
    rw [index9, Nat.mul_comm]
  | ⟨1, _⟩ => exact Nat.zero_add _

theorem left9 (t : Fin grid0.N) (y : S512x512.Idx) :
    out0_9 (F := Ideal) (iblk m c 0 t) (iblk m c 1 t) (iblk m c 2 t) (iblk m c 3 t) (iblk m c 4 t) (iblk m c 5 t) (iblk m c 6 t) y
      = (outMain m c 1024 (by decide) : Vec Ideal S16384x512 .f32) (((cfg0.win 9).blk t).view.emb y) := by
  obtain ⟨r, j, rfl⟩ : ∃ r j, y = ix2 r j := ⟨_, _, eta512 y⟩
  exact (block2 m c t r j).trans (emb9 (outMain m c 1024 (by decide)) t r j).symm

theorem cover9 (i : S16384x512.Idx) : ∃ t : Fin grid0.N, (cfg0.win 9).flush t = true ∧ i ∈ ((cfg0.win 9).blk t).view.set := by
  have h0 : (i 0).val < 16384 := (i 0).isLt
  have h1 : (i 1).val < 512 := (i 1).isLt
  refine ⟨pt (i 0).val h0, flush0_9 _, ?_⟩
  refine (ValueKit.mem_set_slice_whole_iff main_v16_2 _ i (Pipeline.Window.mem_rect_iff (cfg0.win 9) _ i rfl)).mpr fun a => ?_
  match a with
  | ⟨0, _⟩ =>
    show win0_9.index (pt (i 0).val h0) (⟨0, by decide⟩ : Fin 2) * 512 ≤ (i 0).val ∧ (i 0).val < win0_9.index (pt (i 0).val h0) (⟨0, by decide⟩ : Fin 2) * 512 + 512
    rw [index9]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr9 : (dats m 0 c).arrAt 9 cfg0.N = outMain m c 1024 (by decide) := by
  refine Pipeline.Dat.arrAt_eq_of_emb (dats m 0 c) (9 : Fin 16) (show Buf (Elt Ideal) ((c.tc : Thread nD τ).loc main_v16_2) from outMain m c 1024 (by decide)) (fun t _ y => ?_) (fun i => cover9 i)
  exact (congrFun (after0_9 m c t) _).trans (left9 m c t y)

theorem index10 : ∀ t : Fin grid0.N, win0_10.index t (⟨0, by decide⟩ : Fin 2) = t.val := by decide +kernel

theorem emb10 (G : Vec Ideal S16384x512 .f32) (t : Fin grid0.N) (r : Fin 512) (j : Fin 512) : G (((cfg0.win 10).blk t).view.emb (ix2 r j)) = G (ix2 (tok t r) j) := by
  refine congrArg G (funext fun a => Fin.ext ?_)
  refine (ValueKit.rect_emb_unit_val _ _ _ _ _).trans ?_
  match a with
  | ⟨0, _⟩ =>
    show win0_10.index t (⟨0, by decide⟩ : Fin 2) * 512 + r.val = 512 * t.val + r.val
    rw [index10, Nat.mul_comm]
  | ⟨1, _⟩ => exact Nat.zero_add _

theorem left10 (t : Fin grid0.N) (y : S512x512.Idx) :
    out0_10 (F := Ideal) (iblk m c 0 t) (iblk m c 1 t) (iblk m c 2 t) (iblk m c 3 t) (iblk m c 4 t) (iblk m c 5 t) (iblk m c 6 t) y
      = (outMain m c 1544 (by decide) : Vec Ideal S16384x512 .f32) (((cfg0.win 10).blk t).view.emb y) := by
  obtain ⟨r, j, rfl⟩ : ∃ r j, y = ix2 r j := ⟨_, _, eta512 y⟩
  exact (block3 m c t r j).trans (emb10 (outMain m c 1544 (by decide)) t r j).symm

theorem cover10 (i : S16384x512.Idx) : ∃ t : Fin grid0.N, (cfg0.win 10).flush t = true ∧ i ∈ ((cfg0.win 10).blk t).view.set := by
  have h0 : (i 0).val < 16384 := (i 0).isLt
  have h1 : (i 1).val < 512 := (i 1).isLt
  refine ⟨pt (i 0).val h0, flush0_10 _, ?_⟩
  refine (ValueKit.mem_set_slice_whole_iff main_v16_3 _ i (Pipeline.Window.mem_rect_iff (cfg0.win 10) _ i rfl)).mpr fun a => ?_
  match a with
  | ⟨0, _⟩ =>
    show win0_10.index (pt (i 0).val h0) (⟨0, by decide⟩ : Fin 2) * 512 ≤ (i 0).val ∧ (i 0).val < win0_10.index (pt (i 0).val h0) (⟨0, by decide⟩ : Fin 2) * 512 + 512
    rw [index10]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr10 : (dats m 0 c).arrAt 10 cfg0.N = outMain m c 1544 (by decide) := by
  refine Pipeline.Dat.arrAt_eq_of_emb (dats m 0 c) (10 : Fin 16) (show Buf (Elt Ideal) ((c.tc : Thread nD τ).loc main_v16_3) from outMain m c 1544 (by decide)) (fun t _ y => ?_) (fun i => cover10 i)
  exact (congrFun (after0_10 m c t) _).trans (left10 m c t y)

theorem index11 : ∀ t : Fin grid0.N, win0_11.index t (⟨0, by decide⟩ : Fin 2) = t.val := by decide +kernel

theorem emb11 (G : Vec Ideal S16384x512 .f32) (t : Fin grid0.N) (r : Fin 512) (j : Fin 512) : G (((cfg0.win 11).blk t).view.emb (ix2 r j)) = G (ix2 (tok t r) j) := by
  refine congrArg G (funext fun a => Fin.ext ?_)
  refine (ValueKit.rect_emb_unit_val _ _ _ _ _).trans ?_
  match a with
  | ⟨0, _⟩ =>
    show win0_11.index t (⟨0, by decide⟩ : Fin 2) * 512 + r.val = 512 * t.val + r.val
    rw [index11, Nat.mul_comm]
  | ⟨1, _⟩ => exact Nat.zero_add _

theorem left11 (t : Fin grid0.N) (y : S512x512.Idx) :
    out0_11 (F := Ideal) (iblk m c 0 t) (iblk m c 1 t) (iblk m c 2 t) (iblk m c 3 t) (iblk m c 4 t) (iblk m c 5 t) (iblk m c 6 t) y
      = (outMain m c 2056 (by decide) : Vec Ideal S16384x512 .f32) (((cfg0.win 11).blk t).view.emb y) := by
  obtain ⟨r, j, rfl⟩ : ∃ r j, y = ix2 r j := ⟨_, _, eta512 y⟩
  exact (block4 m c t r j).trans (emb11 (outMain m c 2056 (by decide)) t r j).symm

theorem cover11 (i : S16384x512.Idx) : ∃ t : Fin grid0.N, (cfg0.win 11).flush t = true ∧ i ∈ ((cfg0.win 11).blk t).view.set := by
  have h0 : (i 0).val < 16384 := (i 0).isLt
  have h1 : (i 1).val < 512 := (i 1).isLt
  refine ⟨pt (i 0).val h0, flush0_11 _, ?_⟩
  refine (ValueKit.mem_set_slice_whole_iff main_v16_4 _ i (Pipeline.Window.mem_rect_iff (cfg0.win 11) _ i rfl)).mpr fun a => ?_
  match a with
  | ⟨0, _⟩ =>
    show win0_11.index (pt (i 0).val h0) (⟨0, by decide⟩ : Fin 2) * 512 ≤ (i 0).val ∧ (i 0).val < win0_11.index (pt (i 0).val h0) (⟨0, by decide⟩ : Fin 2) * 512 + 512
    rw [index11]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr11 : (dats m 0 c).arrAt 11 cfg0.N = outMain m c 2056 (by decide) := by
  refine Pipeline.Dat.arrAt_eq_of_emb (dats m 0 c) (11 : Fin 16) (show Buf (Elt Ideal) ((c.tc : Thread nD τ).loc main_v16_4) from outMain m c 2056 (by decide)) (fun t _ y => ?_) (fun i => cover11 i)
  exact (congrFun (after0_11 m c t) _).trans (left11 m c t y)

theorem index12 : ∀ t : Fin grid0.N, win0_12.index t (⟨0, by decide⟩ : Fin 2) = t.val := by decide +kernel

theorem emb12 (G : Vec Ideal S16384x512 .f32) (t : Fin grid0.N) (r : Fin 512) (j : Fin 512) : G (((cfg0.win 12).blk t).view.emb (ix2 r j)) = G (ix2 (tok t r) j) := by
  refine congrArg G (funext fun a => Fin.ext ?_)
  refine (ValueKit.rect_emb_unit_val _ _ _ _ _).trans ?_
  match a with
  | ⟨0, _⟩ =>
    show win0_12.index t (⟨0, by decide⟩ : Fin 2) * 512 + r.val = 512 * t.val + r.val
    rw [index12, Nat.mul_comm]
  | ⟨1, _⟩ => exact Nat.zero_add _

theorem left12 (t : Fin grid0.N) (y : S512x512.Idx) :
    out0_12 (F := Ideal) (iblk m c 0 t) (iblk m c 1 t) (iblk m c 2 t) (iblk m c 3 t) (iblk m c 4 t) (iblk m c 5 t) (iblk m c 6 t) y
      = (outMain m c 2568 (by decide) : Vec Ideal S16384x512 .f32) (((cfg0.win 12).blk t).view.emb y) := by
  obtain ⟨r, j, rfl⟩ : ∃ r j, y = ix2 r j := ⟨_, _, eta512 y⟩
  exact (block5 m c t r j).trans (emb12 (outMain m c 2568 (by decide)) t r j).symm

theorem cover12 (i : S16384x512.Idx) : ∃ t : Fin grid0.N, (cfg0.win 12).flush t = true ∧ i ∈ ((cfg0.win 12).blk t).view.set := by
  have h0 : (i 0).val < 16384 := (i 0).isLt
  have h1 : (i 1).val < 512 := (i 1).isLt
  refine ⟨pt (i 0).val h0, flush0_12 _, ?_⟩
  refine (ValueKit.mem_set_slice_whole_iff main_v16_5 _ i (Pipeline.Window.mem_rect_iff (cfg0.win 12) _ i rfl)).mpr fun a => ?_
  match a with
  | ⟨0, _⟩ =>
    show win0_12.index (pt (i 0).val h0) (⟨0, by decide⟩ : Fin 2) * 512 ≤ (i 0).val ∧ (i 0).val < win0_12.index (pt (i 0).val h0) (⟨0, by decide⟩ : Fin 2) * 512 + 512
    rw [index12]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr12 : (dats m 0 c).arrAt 12 cfg0.N = outMain m c 2568 (by decide) := by
  refine Pipeline.Dat.arrAt_eq_of_emb (dats m 0 c) (12 : Fin 16) (show Buf (Elt Ideal) ((c.tc : Thread nD τ).loc main_v16_5) from outMain m c 2568 (by decide)) (fun t _ y => ?_) (fun i => cover12 i)
  exact (congrFun (after0_12 m c t) _).trans (left12 m c t y)

theorem index13 : ∀ t : Fin grid0.N, win0_13.index t (⟨0, by decide⟩ : Fin 2) = t.val := by decide +kernel

theorem emb13 (G : Vec Ideal S16384x512 .f32) (t : Fin grid0.N) (r : Fin 512) (j : Fin 512) : G (((cfg0.win 13).blk t).view.emb (ix2 r j)) = G (ix2 (tok t r) j) := by
  refine congrArg G (funext fun a => Fin.ext ?_)
  refine (ValueKit.rect_emb_unit_val _ _ _ _ _).trans ?_
  match a with
  | ⟨0, _⟩ =>
    show win0_13.index t (⟨0, by decide⟩ : Fin 2) * 512 + r.val = 512 * t.val + r.val
    rw [index13, Nat.mul_comm]
  | ⟨1, _⟩ => exact Nat.zero_add _

theorem left13 (t : Fin grid0.N) (y : S512x512.Idx) :
    out0_13 (F := Ideal) (iblk m c 0 t) (iblk m c 1 t) (iblk m c 2 t) (iblk m c 3 t) (iblk m c 4 t) (iblk m c 5 t) (iblk m c 6 t) y
      = (outMain m c 3088 (by decide) : Vec Ideal S16384x512 .f32) (((cfg0.win 13).blk t).view.emb y) := by
  obtain ⟨r, j, rfl⟩ : ∃ r j, y = ix2 r j := ⟨_, _, eta512 y⟩
  exact (block6 m c t r j).trans (emb13 (outMain m c 3088 (by decide)) t r j).symm

theorem cover13 (i : S16384x512.Idx) : ∃ t : Fin grid0.N, (cfg0.win 13).flush t = true ∧ i ∈ ((cfg0.win 13).blk t).view.set := by
  have h0 : (i 0).val < 16384 := (i 0).isLt
  have h1 : (i 1).val < 512 := (i 1).isLt
  refine ⟨pt (i 0).val h0, flush0_13 _, ?_⟩
  refine (ValueKit.mem_set_slice_whole_iff main_v16_6 _ i (Pipeline.Window.mem_rect_iff (cfg0.win 13) _ i rfl)).mpr fun a => ?_
  match a with
  | ⟨0, _⟩ =>
    show win0_13.index (pt (i 0).val h0) (⟨0, by decide⟩ : Fin 2) * 512 ≤ (i 0).val ∧ (i 0).val < win0_13.index (pt (i 0).val h0) (⟨0, by decide⟩ : Fin 2) * 512 + 512
    rw [index13]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr13 : (dats m 0 c).arrAt 13 cfg0.N = outMain m c 3088 (by decide) := by
  refine Pipeline.Dat.arrAt_eq_of_emb (dats m 0 c) (13 : Fin 16) (show Buf (Elt Ideal) ((c.tc : Thread nD τ).loc main_v16_6) from outMain m c 3088 (by decide)) (fun t _ y => ?_) (fun i => cover13 i)
  exact (congrFun (after0_13 m c t) _).trans (left13 m c t y)

theorem index14 : ∀ t : Fin grid0.N, win0_14.index t (⟨0, by decide⟩ : Fin 2) = t.val := by decide +kernel

theorem emb14 (G : Vec Ideal S16384x128 .f32) (t : Fin grid0.N) (r : Fin 512) (j : Fin 128) : G (((cfg0.win 14).blk t).view.emb (ix2 r j)) = G (ix2 (tok t r) j) := by
  refine congrArg G (funext fun a => Fin.ext ?_)
  refine (ValueKit.rect_emb_unit_val _ _ _ _ _).trans ?_
  match a with
  | ⟨0, _⟩ =>
    show win0_14.index t (⟨0, by decide⟩ : Fin 2) * 512 + r.val = 512 * t.val + r.val
    rw [index14, Nat.mul_comm]
  | ⟨1, _⟩ => exact Nat.zero_add _

theorem left14 (t : Fin grid0.N) (y : S512x128.Idx) :
    out0_14 (F := Ideal) (iblk m c 0 t) (iblk m c 1 t) (iblk m c 2 t) (iblk m c 3 t) (iblk m c 4 t) (iblk m c 5 t) (iblk m c 6 t) y
      = (outGate m c : Vec Ideal S16384x128 .f32) (((cfg0.win 14).blk t).view.emb y) := by
  obtain ⟨r, j, rfl⟩ : ∃ r j, y = ix2 r j := ⟨_, _, eta128 y⟩
  exact (block7 m c t r j).trans (emb14 (outGate m c) t r j).symm

theorem cover14 (i : S16384x128.Idx) : ∃ t : Fin grid0.N, (cfg0.win 14).flush t = true ∧ i ∈ ((cfg0.win 14).blk t).view.set := by
  have h0 : (i 0).val < 16384 := (i 0).isLt
  have h1 : (i 1).val < 128 := (i 1).isLt
  refine ⟨pt (i 0).val h0, flush0_14 _, ?_⟩
  refine (ValueKit.mem_set_slice_whole_iff main_v16_7 _ i (Pipeline.Window.mem_rect_iff (cfg0.win 14) _ i rfl)).mpr fun a => ?_
  match a with
  | ⟨0, _⟩ =>
    show win0_14.index (pt (i 0).val h0) (⟨0, by decide⟩ : Fin 2) * 512 ≤ (i 0).val ∧ (i 0).val < win0_14.index (pt (i 0).val h0) (⟨0, by decide⟩ : Fin 2) * 512 + 512
    rw [index14]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

theorem arr14 : (dats m 0 c).arrAt 14 cfg0.N = outGate m c := by
  refine Pipeline.Dat.arrAt_eq_of_emb (dats m 0 c) (14 : Fin 16) (show Buf (Elt Ideal) ((c.tc : Thread nD τ).loc main_v16_7) from outGate m c) (fun t _ y => ?_) (fun i => cover14 i)
  exact (congrFun (after0_14 m c t) _).trans (left14 m c t y)

theorem index15 : ∀ t : Fin grid0.N, win0_15.index t (⟨1, by decide⟩ : Fin 2) = t.val := by decide +kernel

theorem emb15 (G : Vec Ideal S128x16384 .f32) (t : Fin grid0.N) (r : Fin 128) (j : Fin 512) : G (((cfg0.win 15).blk t).view.emb (ix2 r j)) = G (ix2 r (tok t j)) := by
  refine congrArg G (funext fun a => Fin.ext ?_)
  refine (ValueKit.rect_emb_unit_val _ _ _ _ _).trans ?_
  match a with
  | ⟨1, _⟩ =>
    show win0_15.index t (⟨1, by decide⟩ : Fin 2) * 512 + j.val = 512 * t.val + j.val
    rw [index15, Nat.mul_comm]
  | ⟨0, _⟩ => exact Nat.zero_add _

theorem left15 (t : Fin grid0.N) (y : S128x512.Idx) :
    out0_15 (F := Ideal) (iblk m c 0 t) (iblk m c 1 t) (iblk m c 2 t) (iblk m c 3 t) (iblk m c 4 t) (iblk m c 5 t) (iblk m c 6 t) y
      = (outGateT m c : Vec Ideal S128x16384 .f32) (((cfg0.win 15).blk t).view.emb y) := by
  obtain ⟨r, j, rfl⟩ : ∃ r j, y = ix2 r j := ⟨_, _, etaT y⟩
  exact (block8 m c t r j).trans (emb15 (outGateT m c) t r j).symm

theorem cover15 (i : S128x16384.Idx) : ∃ t : Fin grid0.N, (cfg0.win 15).flush t = true ∧ i ∈ ((cfg0.win 15).blk t).view.set := by
  have h0 : (i 0).val < 128 := (i 0).isLt
  have h1 : (i 1).val < 16384 := (i 1).isLt
  refine ⟨pt (i 1).val h1, flush0_15 _, ?_⟩
  refine (ValueKit.mem_set_slice_whole_iff main_v16_8 _ i (Pipeline.Window.mem_rect_iff (cfg0.win 15) _ i rfl)).mpr fun a => ?_
  match a with
  | ⟨1, _⟩ =>
    show win0_15.index (pt (i 1).val h1) (⟨1, by decide⟩ : Fin 2) * 512 ≤ (i 1).val ∧ (i 1).val < win0_15.index (pt (i 1).val h1) (⟨1, by decide⟩ : Fin 2) * 512 + 512
    rw [index15]
    show (i 1).val / 512 * 512 ≤ (i 1).val ∧ (i 1).val < (i 1).val / 512 * 512 + 512
    constructor <;> omega
  | ⟨0, _⟩ => exact ⟨Nat.zero_le _, Nat.lt_of_lt_of_eq h0 (Nat.zero_add _).symm⟩

theorem arr15 : (dats m 0 c).arrAt 15 cfg0.N = outGateT m c := by
  refine Pipeline.Dat.arrAt_eq_of_emb (dats m 0 c) (15 : Fin 16) (show Buf (Elt Ideal) ((c.tc : Thread nD τ).loc main_v16_8) from outGateT m c) (fun t _ y => ?_) (fun i => cover15 i)
  exact (congrFun (after0_15 m c t) _).trans (left15 m c t y)

end Cert.Kernel2Ideal.Input

end
-- ==== Proof.Input.Reference.lean ====
module

public import proofs.«01_k».proof.Proof.Gen.Reference2Ideal.Read
public import proofs.«01_k».proof.Proof.Input.Math
public import Idealize.ShloMosaic.Lib.Pointwise

@[expose] public section

set_option maxRecDepth 16384

noncomputable section

namespace Cert.Reference2Ideal.Read

open Idealize.ShloMosaic Idealize.ShloMosaic.TcCoe
open Cert.Reference2Ideal Cert.Reference2Ideal.Gen Cert.InputMath

/-! The reference's values, at an index. -/

variable (x0 : BufTy.Contents (Elt Ideal) ⟨S1x16384x1024, .f32⟩) (x1 x2 : BufTy.Contents (Elt Ideal) ⟨S1x1x1024, .f32⟩)
  (x3 : BufTy.Contents (Elt Ideal) ⟨S1024, .f32⟩) (x4 : BufTy.Contents (Elt Ideal) ⟨S1024x3600, .f32⟩)
  (x5 : BufTy.Contents (Elt Ideal) ⟨S8, .f32⟩) (x6 x7 : BufTy.Contents (Elt Ideal) ⟨S4, .f32⟩)

/-- A token's hidden activations. -/
abbrev token (u : Fin 16384) : Fin 1024 → EReal :=
  activation (fun k => x0 (ix3 0 u k)) (fun k => x3 (ix1 k)) (fun k => x1 (ix3 0 0 k)) (fun k => x2 (ix3 0 0 k))

/-- The sum of a token's squares. -/
theorem squares_at (u : Fin 16384) : val_main_v1 (F := Ideal) x0 (ix2 0 u) = ∑ k : Fin 1024, x0 (ix3 0 u k) * x0 (ix3 0 u k) := by
  pointwise [val_main_v1, val_main_cst, val_main_v0]

/-- The hidden activations are the token's. -/
theorem hidden_at (u : Fin 16384) (k : Fin 1024) : val_main_v18 (F := Ideal) x0 x1 x2 x3 (ix3 0 u k) = token x0 x1 x2 x3 u k := by
  have e := squares_at x0 u
  unfold token activation
  rw [← e]
  pointwise [val_main_v18, val_main_v17, val_main_v16, val_main_v15, val_main_v14, val_main_v13, val_main_cst_2, val_main_v12, val_main_v11, val_main_v10, val_main_v9, val_main_v8, val_main_v7, val_main_v6, val_main_v5, val_main_v4, val_main_v3, val_main_v2, val_main_cst_0, val_main_cst_1]

/-- A projection is the token's activations against a column. -/
theorem proj_at (u : Fin 16384) (n : Fin 3600) : val_main_v20 (F := Ideal) x0 x1 x2 x3 x4 (ix2 u n) = proj (token x0 x1 x2 x3 u) (fun k => x4 (ix2 k n)) := by
  have e : val_main_v20 (F := Ideal) x0 x1 x2 x3 x4 (ix2 u n) = val_main_v19 (F := Ideal) x0 x1 x2 x3 x4 (ix3 0 u n) := by
    unfold val_main_v20
    generalize val_main_v19 (F := Ideal) x0 x1 x2 x3 x4 = y
    pointwise []
  rw [e, val_main_v19_apply]
  unfold proj
  refine Finset.sum_congr rfl fun k _ => ?_
  have el : lidx_main_v19 (ix3 0 u n) k = ix3 0 u k := funext fun a => by
    match a with
    | ⟨0, _⟩ => rfl
    | ⟨1, _⟩ => rfl
    | ⟨2, _⟩ => rfl
  have er : ridx_main_v19 (ix3 0 u n) k = ix2 k n := funext fun a => by
    match a with
    | ⟨0, _⟩ => rfl
    | ⟨1, _⟩ => rfl
  rw [el, er, hidden_at]

/-- The columns from 0. -/
theorem cols0_at (u : Fin 16384) (j : Fin 512) :
    val_main_v21 (F := Ideal) x0 x1 x2 x3 x4 (ix2 u j) = proj (token x0 x1 x2 x3 u) (fun k => x4 (ix2 k ⟨0 + j.val, by omega⟩)) := by
  have e : val_main_v21 (F := Ideal) x0 x1 x2 x3 x4 (ix2 u j) = val_main_v20 (F := Ideal) x0 x1 x2 x3 x4 (ix2 u ⟨0 + j.val, by omega⟩) := by
    unfold val_main_v21
    generalize val_main_v20 (F := Ideal) x0 x1 x2 x3 x4 = y
    pointwise []
  rw [e, proj_at]

/-- The columns from 512. -/
theorem cols512_at (u : Fin 16384) (j : Fin 512) :
    val_main_v22 (F := Ideal) x0 x1 x2 x3 x4 (ix2 u j) = proj (token x0 x1 x2 x3 u) (fun k => x4 (ix2 k ⟨512 + j.val, by omega⟩)) := by
  have e : val_main_v22 (F := Ideal) x0 x1 x2 x3 x4 (ix2 u j) = val_main_v20 (F := Ideal) x0 x1 x2 x3 x4 (ix2 u ⟨512 + j.val, by omega⟩) := by
    unfold val_main_v22
    generalize val_main_v20 (F := Ideal) x0 x1 x2 x3 x4 = y
    pointwise []
  rw [e, proj_at]

/-- The columns from 1024. -/
theorem cols1024_at (u : Fin 16384) (j : Fin 512) :
    val_main_v23 (F := Ideal) x0 x1 x2 x3 x4 (ix2 u j) = proj (token x0 x1 x2 x3 u) (fun k => x4 (ix2 k ⟨1024 + j.val, by omega⟩)) := by
  have e : val_main_v23 (F := Ideal) x0 x1 x2 x3 x4 (ix2 u j) = val_main_v20 (F := Ideal) x0 x1 x2 x3 x4 (ix2 u ⟨1024 + j.val, by omega⟩) := by
    unfold val_main_v23
    generalize val_main_v20 (F := Ideal) x0 x1 x2 x3 x4 = y
    pointwise []
  rw [e, proj_at]

/-- The columns from 1544. -/
theorem cols1544_at (u : Fin 16384) (j : Fin 512) :
    val_main_v25 (F := Ideal) x0 x1 x2 x3 x4 (ix2 u j) = proj (token x0 x1 x2 x3 u) (fun k => x4 (ix2 k ⟨1544 + j.val, by omega⟩)) := by
  have e : val_main_v25 (F := Ideal) x0 x1 x2 x3 x4 (ix2 u j) = val_main_v20 (F := Ideal) x0 x1 x2 x3 x4 (ix2 u ⟨1544 + j.val, by omega⟩) := by
    unfold val_main_v25
    generalize val_main_v20 (F := Ideal) x0 x1 x2 x3 x4 = y
    pointwise []
  rw [e, proj_at]

/-- The columns from 2056. -/
theorem cols2056_at (u : Fin 16384) (j : Fin 512) :
    val_main_v26 (F := Ideal) x0 x1 x2 x3 x4 (ix2 u j) = proj (token x0 x1 x2 x3 u) (fun k => x4 (ix2 k ⟨2056 + j.val, by omega⟩)) := by
  have e : val_main_v26 (F := Ideal) x0 x1 x2 x3 x4 (ix2 u j) = val_main_v20 (F := Ideal) x0 x1 x2 x3 x4 (ix2 u ⟨2056 + j.val, by omega⟩) := by
    unfold val_main_v26
    generalize val_main_v20 (F := Ideal) x0 x1 x2 x3 x4 = y
    pointwise []
  rw [e, proj_at]

/-- The columns from 2568. -/
theorem cols2568_at (u : Fin 16384) (j : Fin 512) :
    val_main_v27 (F := Ideal) x0 x1 x2 x3 x4 (ix2 u j) = proj (token x0 x1 x2 x3 u) (fun k => x4 (ix2 k ⟨2568 + j.val, by omega⟩)) := by
  have e : val_main_v27 (F := Ideal) x0 x1 x2 x3 x4 (ix2 u j) = val_main_v20 (F := Ideal) x0 x1 x2 x3 x4 (ix2 u ⟨2568 + j.val, by omega⟩) := by
    unfold val_main_v27
    generalize val_main_v20 (F := Ideal) x0 x1 x2 x3 x4 = y
    pointwise []
  rw [e, proj_at]

/-- The columns from 3088. -/
theorem cols3088_at (u : Fin 16384) (j : Fin 512) :
    val_main_v30 (F := Ideal) x0 x1 x2 x3 x4 (ix2 u j) = proj (token x0 x1 x2 x3 u) (fun k => x4 (ix2 k ⟨3088 + j.val, by omega⟩)) := by
  have e : val_main_v30 (F := Ideal) x0 x1 x2 x3 x4 (ix2 u j) = val_main_v20 (F := Ideal) x0 x1 x2 x3 x4 (ix2 u ⟨3088 + j.val, by omega⟩) := by
    unfold val_main_v30
    generalize val_main_v20 (F := Ideal) x0 x1 x2 x3 x4 = y
    pointwise []
  rw [e, proj_at]

/-- The columns from 1536. -/
theorem cols1536_at (u : Fin 16384) (j : Fin 8) :
    val_main_v24 (F := Ideal) x0 x1 x2 x3 x4 (ix2 u j) = proj (token x0 x1 x2 x3 u) (fun k => x4 (ix2 k ⟨1536 + j.val, by omega⟩)) := by
  have e : val_main_v24 (F := Ideal) x0 x1 x2 x3 x4 (ix2 u j) = val_main_v20 (F := Ideal) x0 x1 x2 x3 x4 (ix2 u ⟨1536 + j.val, by omega⟩) := by
    unfold val_main_v24
    generalize val_main_v20 (F := Ideal) x0 x1 x2 x3 x4 = y
    pointwise []
  rw [e, proj_at]

/-- The columns from 3080. -/
theorem cols3080_at (u : Fin 16384) (j : Fin 4) :
    val_main_v28 (F := Ideal) x0 x1 x2 x3 x4 (ix2 u j) = proj (token x0 x1 x2 x3 u) (fun k => x4 (ix2 k ⟨3080 + j.val, by omega⟩)) := by
  have e : val_main_v28 (F := Ideal) x0 x1 x2 x3 x4 (ix2 u j) = val_main_v20 (F := Ideal) x0 x1 x2 x3 x4 (ix2 u ⟨3080 + j.val, by omega⟩) := by
    unfold val_main_v28
    generalize val_main_v20 (F := Ideal) x0 x1 x2 x3 x4 = y
    pointwise []
  rw [e, proj_at]

/-- The columns from 3084. -/
theorem cols3084_at (u : Fin 16384) (j : Fin 4) :
    val_main_v29 (F := Ideal) x0 x1 x2 x3 x4 (ix2 u j) = proj (token x0 x1 x2 x3 u) (fun k => x4 (ix2 k ⟨3084 + j.val, by omega⟩)) := by
  have e : val_main_v29 (F := Ideal) x0 x1 x2 x3 x4 (ix2 u j) = val_main_v20 (F := Ideal) x0 x1 x2 x3 x4 (ix2 u ⟨3084 + j.val, by omega⟩) := by
    unfold val_main_v29
    generalize val_main_v20 (F := Ideal) x0 x1 x2 x3 x4 = y
    pointwise []
  rw [e, proj_at]

/-- The gates from column 1536, with their biases. -/
theorem biased1536_at (u : Fin 16384) (j : Fin 8) :
    val_main_v33 (F := Ideal) x0 x1 x2 x3 x4 x5 (ix2 u j)
      = proj (token x0 x1 x2 x3 u) (fun k => x4 (ix2 k ⟨1536 + j.val, by omega⟩)) + x5 (ix1 j) := by
  rw [← cols1536_at]
  unfold val_main_v33
  generalize val_main_v24 (F := Ideal) x0 x1 x2 x3 x4 = y
  pointwise [val_main_v32, val_main_v31]

/-- The gates from column 3080, with their biases. -/
theorem biased3080_at (u : Fin 16384) (j : Fin 4) :
    val_main_v37 (F := Ideal) x0 x1 x2 x3 x4 x6 (ix2 u j)
      = proj (token x0 x1 x2 x3 u) (fun k => x4 (ix2 k ⟨3080 + j.val, by omega⟩)) + x6 (ix1 j) := by
  rw [← cols3080_at]
  unfold val_main_v37
  generalize val_main_v28 (F := Ideal) x0 x1 x2 x3 x4 = y
  pointwise [val_main_v36, val_main_v35]

/-- The gates from column 3084, with their biases. -/
theorem biased3084_at (u : Fin 16384) (j : Fin 4) :
    val_main_v40 (F := Ideal) x0 x1 x2 x3 x4 x7 (ix2 u j)
      = proj (token x0 x1 x2 x3 u) (fun k => x4 (ix2 k ⟨3084 + j.val, by omega⟩)) + x7 (ix1 j) := by
  rw [← cols3084_at]
  unfold val_main_v40
  generalize val_main_v29 (F := Ideal) x0 x1 x2 x3 x4 = y
  pointwise [val_main_v39, val_main_v38]

/-- The logarithm of the sigmoid, entry by entry. -/
theorem logSig0_at (i : S16384x8.Idx) : val_main_v34 (F := Ideal) x0 x1 x2 x3 x4 x5 i = logSig (val_main_v33 (F := Ideal) x0 x1 x2 x3 x4 x5 i) := by
  unfold val_main_v34 val_main_call0_v1 val_main_call0_call0_v11 val_main_call0_call0_v10 val_main_call0_call0_v9 val_main_call0_call0_v8 val_main_call0_call0_v7 val_main_call0_call0_v6 val_main_call0_call0_v4 val_main_call0_call0_v3 val_main_call0_call0_v1 val_main_call0_v0
  generalize val_main_v33 (F := Ideal) x0 x1 x2 x3 x4 x5 = y
  pointwise [val_main_call0_call0_v0, val_main_call0_call0_v2, val_main_call0_call0_v5, val_main_call0_call0_cst]
  rw [if_neg (not_not.mpr rfl)]
  exact neg_softplus _

/-- The logarithm of the sigmoid, entry by entry. -/
theorem logSig1_at (i : S16384x4.Idx) : val_main_v41 (F := Ideal) x0 x1 x2 x3 x4 x7 i = logSig (val_main_v40 (F := Ideal) x0 x1 x2 x3 x4 x7 i) := by
  unfold val_main_v41 val_main_call1_v1 val_main_call1_call0_v11 val_main_call1_call0_v10 val_main_call1_call0_v9 val_main_call1_call0_v8 val_main_call1_call0_v7 val_main_call1_call0_v6 val_main_call1_call0_v4 val_main_call1_call0_v3 val_main_call1_call0_v1 val_main_call1_v0
  generalize val_main_v40 (F := Ideal) x0 x1 x2 x3 x4 x7 = y
  pointwise [val_main_call1_call0_v0, val_main_call1_call0_v2, val_main_call1_call0_v5, val_main_call1_call0_cst]
  rw [if_neg (not_not.mpr rfl)]
  exact neg_softplus _

/-- The logarithm of the sigmoid, entry by entry. -/
theorem logSig2_at (i : S16384x112.Idx) : val_main_v43 (F := Ideal) i = logSig (val_main_v42 (F := Ideal) i) := by
  unfold val_main_v43 val_main_call2_v1 val_main_call2_call0_v11 val_main_call2_call0_v10 val_main_call2_call0_v9 val_main_call2_call0_v8 val_main_call2_call0_v7 val_main_call2_call0_v6 val_main_call2_call0_v4 val_main_call2_call0_v3 val_main_call2_call0_v1 val_main_call2_v0
  generalize val_main_v42 (F := Ideal) = y
  pointwise [val_main_call2_call0_v0, val_main_call2_call0_v2, val_main_call2_call0_v5, val_main_call2_call0_cst]
  rw [if_neg (not_not.mpr rfl)]
  exact neg_softplus _

/-- A lane without a gate. -/
theorem idle_at (i : S16384x112.Idx) : val_main_v42 (F := Ideal) i = 0 := by
  pointwise [val_main_v42, val_main_cst_3]

/-- The lanes of the gates. -/
theorem gates_at (u : Fin 16384) (l : Fin 128) : val_main_v44 (F := Ideal) x0 x1 x2 x3 x4 x5 x6 x7 (ix2 u l)
    = gate (token x0 x1 x2 x3 u) (fun k j => x4 (ix2 k j)) (fun n => x5 (ix1 n)) (fun n => x6 (ix1 n)) (fun n => x7 (ix1 n)) l := by
  have e : val_main_v44 (F := Ideal) x0 x1 x2 x3 x4 x5 x6 x7 (ix2 u l)
      = if hl : l.val < 8 then val_main_v34 (F := Ideal) x0 x1 x2 x3 x4 x5 (ix2 u ⟨l.val, hl⟩)
        else if hl : l.val - 8 < 4 then val_main_v37 (F := Ideal) x0 x1 x2 x3 x4 x6 (ix2 u ⟨l.val - 8, hl⟩)
        else if hl : l.val - 8 - 4 < 4 then val_main_v41 (F := Ideal) x0 x1 x2 x3 x4 x7 (ix2 u ⟨l.val - 8 - 4, hl⟩)
        else val_main_v43 (F := Ideal) (ix2 u ⟨l.val - 8 - 4 - 4, by omega⟩) := by
    unfold val_main_v44
    generalize val_main_v34 (F := Ideal) x0 x1 x2 x3 x4 x5 = y0
    generalize val_main_v37 (F := Ideal) x0 x1 x2 x3 x4 x6 = y1
    generalize val_main_v41 (F := Ideal) x0 x1 x2 x3 x4 x7 = y2
    generalize val_main_v43 (F := Ideal) = y3
    pointwise []
  rw [e]
  unfold gate
  split
  · rw [logSig0_at, biased1536_at]
  · split
    · rw [biased3080_at]
    · split
      · rw [logSig1_at, biased3084_at]
      · rw [logSig2_at, idle_at]

/-- The same lanes, lane by lane. -/
theorem gatesT_at (l : Fin 128) (u : Fin 16384) : val_main_v45 (F := Ideal) x0 x1 x2 x3 x4 x5 x6 x7 (ix2 l u)
    = val_main_v44 (F := Ideal) x0 x1 x2 x3 x4 x5 x6 x7 (ix2 u l) := by
  unfold val_main_v45
  generalize val_main_v44 (F := Ideal) x0 x1 x2 x3 x4 x5 x6 x7 = y
  pointwise []

end Cert.Reference2Ideal.Read

end
-- ==== Proof.Input.Agree.lean ====
module

public import proofs.«01_k».proof.Proof.Input.Arrays
public import proofs.«01_k».proof.Proof.Input.Reference
public import proofs.«01_k».proof.Proof.Gen.Reference2Ideal.Run

@[expose] public section

noncomputable section

namespace Cert.InputAgree

open Idealize.ShloMosaic Idealize.ShloMosaic.TcCoe
open Idealize.SL.Sem
open Cert.Kernel2Ideal Cert.Kernel2Ideal.Input Cert.Reference2Ideal.Read

variable (m : (ℓ : Loc nD τ sig) → Buf (Elt Ideal) ℓ) (c : Dev nD)

/-! The reference's stages at the kernel's arguments are the kernel's arrays. -/

/-- An index of a matrix has two coordinates. -/
theorem two_coords {a b : ℕ} (i : (⟨2, ![a, b]⟩ : Shape).Idx) : ∃ (x : Fin a) (y : Fin b), i = ix2 x y := ⟨i 0, i 1, by
  funext d
  match d with
  | ⟨0, _⟩ => rfl
  | ⟨1, _⟩ => rfl⟩

theorem main0 : val_main_v21 (F := Ideal) (argX m c) (argScale m c) (argShift m c) (argG m c) (argW m c) = outMain m c 0 (by decide) := by
  funext i
  obtain ⟨u, j, rfl⟩ := two_coords i
  exact (cols0_at _ _ _ _ _ u j).trans (outMain_apply m c 0 (by decide) u j).symm

theorem main512 : val_main_v22 (F := Ideal) (argX m c) (argScale m c) (argShift m c) (argG m c) (argW m c) = outMain m c 512 (by decide) := by
  funext i
  obtain ⟨u, j, rfl⟩ := two_coords i
  exact (cols512_at _ _ _ _ _ u j).trans (outMain_apply m c 512 (by decide) u j).symm

theorem main1024 : val_main_v23 (F := Ideal) (argX m c) (argScale m c) (argShift m c) (argG m c) (argW m c) = outMain m c 1024 (by decide) := by
  funext i
  obtain ⟨u, j, rfl⟩ := two_coords i
  exact (cols1024_at _ _ _ _ _ u j).trans (outMain_apply m c 1024 (by decide) u j).symm

theorem main1544 : val_main_v25 (F := Ideal) (argX m c) (argScale m c) (argShift m c) (argG m c) (argW m c) = outMain m c 1544 (by decide) := by
  funext i
  obtain ⟨u, j, rfl⟩ := two_coords i
  exact (cols1544_at _ _ _ _ _ u j).trans (outMain_apply m c 1544 (by decide) u j).symm

theorem main2056 : val_main_v26 (F := Ideal) (argX m c) (argScale m c) (argShift m c) (argG m c) (argW m c) = outMain m c 2056 (by decide) := by
  funext i
  obtain ⟨u, j, rfl⟩ := two_coords i
  exact (cols2056_at _ _ _ _ _ u j).trans (outMain_apply m c 2056 (by decide) u j).symm

theorem main2568 : val_main_v27 (F := Ideal) (argX m c) (argScale m c) (argShift m c) (argG m c) (argW m c) = outMain m c 2568 (by decide) := by
  funext i
  obtain ⟨u, j, rfl⟩ := two_coords i
  exact (cols2568_at _ _ _ _ _ u j).trans (outMain_apply m c 2568 (by decide) u j).symm

theorem main3088 : val_main_v30 (F := Ideal) (argX m c) (argScale m c) (argShift m c) (argG m c) (argW m c) = outMain m c 3088 (by decide) := by
  funext i
  obtain ⟨u, j, rfl⟩ := two_coords i
  exact (cols3088_at _ _ _ _ _ u j).trans (outMain_apply m c 3088 (by decide) u j).symm

theorem gates : val_main_v44 (F := Ideal) (argX m c) (argScale m c) (argShift m c) (argG m c) (argW m c) (argBf m c) (argBi m c) (argBm m c) = outGate m c := by
  funext i
  obtain ⟨u, l, rfl⟩ := two_coords i
  exact (gates_at _ _ _ _ _ _ _ _ u l).trans (outGate_apply m c u l).symm

theorem gatesT : val_main_v45 (F := Ideal) (argX m c) (argScale m c) (argShift m c) (argG m c) (argW m c) (argBf m c) (argBi m c) (argBm m c) = outGateT m c := by
  funext i
  obtain ⟨l, u, rfl⟩ := two_coords i
  exact (gatesT_at _ _ _ _ _ _ _ _ l u).trans (congrFun (gates m c) (ix2 u l))

end Cert.InputAgree

end
-- ==== Proof.Combine.Groups.lean ====
module

public import proofs.«01_k».proof.Proof.Gen.Kernel3Ideal.Frame
public import Idealize.ShloMosaic.Lib.Pointwise
public import Idealize.ShloMosaic.Lib.Claim
public import Idealize.ShloMosaic.Lib.IdealHost

@[expose] public section

set_option maxRecDepth 16384

noncomputable section

namespace Cert.Kernel3Ideal.Combine

open Idealize.ShloMosaic Idealize.ShloMosaic.TcCoe
open Cert.Kernel3Ideal Cert.Kernel3Ideal.Gen
open StableHlo

/-! The block matrices of the heads. -/

/-- The lanes' groups, down the rows: the lane's number over the group's size, rounded down. -/
def groupRows (n : BitVec 32) : IVec S512x1 32 :=
  select (andi (cmpi .ne (signi (broadcastInDim S512x1 ![0] bcast_S512_S512x1_0 (iotaInDim S512 32 0))) (broadcastInDim S512x1 ![] bcast_S_S512x1 (signi (constantI S_ 32 n))))
      (cmpi .ne (Host.remsi (broadcastInDim S512x1 ![0] bcast_S512_S512x1_0 (iotaInDim S512 32 0)) (broadcastInDim S512x1 ![] bcast_S_S512x1 (constantI S_ 32 n)))
        (broadcastInDim S512x1 ![] bcast_S_S512x1 (constantI S_ 32 0#32))))
    (subi (Host.divsi (broadcastInDim S512x1 ![0] bcast_S512_S512x1_0 (iotaInDim S512 32 0)) (broadcastInDim S512x1 ![] bcast_S_S512x1 (constantI S_ 32 n)))
      (broadcastInDim S512x1 ![] bcast_S_S512x1 (constantI S_ 32 1#32)))
    (Host.divsi (broadcastInDim S512x1 ![0] bcast_S512_S512x1_0 (iotaInDim S512 32 0)) (broadcastInDim S512x1 ![] bcast_S_S512x1 (constantI S_ 32 n)))

/-- The lanes' groups, along the columns. -/
def groupCols (n : BitVec 32) : IVec S1x512 32 :=
  select (andi (cmpi .ne (signi (broadcastInDim S1x512 ![1] bcast_S512_S1x512_1 (iotaInDim S512 32 0))) (broadcastInDim S1x512 ![] bcast_S_S1x512 (signi (constantI S_ 32 n))))
      (cmpi .ne (Host.remsi (broadcastInDim S1x512 ![1] bcast_S512_S1x512_1 (iotaInDim S512 32 0)) (broadcastInDim S1x512 ![] bcast_S_S1x512 (constantI S_ 32 n)))
        (broadcastInDim S1x512 ![] bcast_S_S1x512 (constantI S_ 32 0#32))))
    (subi (Host.divsi (broadcastInDim S1x512 ![1] bcast_S512_S1x512_1 (iotaInDim S512 32 0)) (broadcastInDim S1x512 ![] bcast_S_S1x512 (constantI S_ 32 n)))
      (broadcastInDim S1x512 ![] bcast_S_S1x512 (constantI S_ 32 1#32)))
    (Host.divsi (broadcastInDim S1x512 ![1] bcast_S512_S1x512_1 (iotaInDim S512 32 0)) (broadcastInDim S1x512 ![] bcast_S_S1x512 (constantI S_ 32 n)))

/-- The block matrix: the weight where two lanes are of one group. -/
def groupMatrix (n w : BitVec 32) : FVec Ideal S512x512 .bf16 :=
  truncf .bf16 (select (cmpi .eq (broadcastInDim S512x512 ![0, 1] bcast_S512x1_S512x512_0_1 (groupRows n)) (broadcastInDim S512x512 ![0, 1] bcast_S1x512_S512x512_0_1 (groupCols n)))
    (broadcastInDim S512x512 ![] bcast_S_S512x512 (constant S_ .f32 w)) (broadcastInDim S512x512 ![] bcast_S_S512x512 (constant S_ .f32 0x00000000#32))) bitsLt_bf16_f32

/-- The sign of a word. -/
def signWord (v : BitVec 32) : BitVec 32 := if v = 0 then 0 else if v.msb then -1 else 1

/-- A lane's number over the group's size, rounded down. -/
def floorDiv (v n : BitVec 32) : BitVec 32 :=
  Scalar.select (IntOp.andi (IntOp.cmpi .ne (signWord v) (signWord n)) (IntOp.cmpi .ne (IntOp.remsi .host v n) 0#32))
    (IntOp.subi (IntOp.divsi .host v n) 1#32) (IntOp.divsi .host v n)

theorem groupRows_apply (n : BitVec 32) (k : Fin 512) : groupRows n (ix2 k 0) = floorDiv (BitVec.ofNat 32 k.val) n := by
  rfl

theorem groupCols_apply (n : BitVec 32) (k : Fin 512) : groupCols n (ix2 0 k) = floorDiv (BitVec.ofNat 32 k.val) n := by
  rfl

theorem floorDiv64 : ∀ k : Fin 512, floorDiv (BitVec.ofNat 32 k.val) 64#32 = BitVec.ofNat 32 (k.val / 64) := by decide +kernel

theorem floorDiv128 : ∀ k : Fin 512, floorDiv (BitVec.ofNat 32 k.val) 128#32 = BitVec.ofNat 32 (k.val / 128) := by decide +kernel

theorem group_word : ∀ a b : Fin 8, IntOp.cmpi .eq (BitVec.ofNat 32 a.val) (BitVec.ofNat 32 b.val) = if a.val = b.val then 1#1 else 0#1 := by
  decide +kernel

theorem groupMatrix_at (n w : BitVec 32) (k j : Fin 512) : (groupMatrix n w : Vec Ideal S512x512 .bf16) (ix2 k j)
    = Scalar.select (IntOp.cmpi .eq (groupRows n (ix2 k 0)) (groupCols n (ix2 0 j))) (Ideal.ofBits .f32 w) 0 := by
  unfold groupMatrix
  generalize groupRows n = a
  generalize groupCols n = b
  pointwise []

theorem group64_apply (k j : Fin 512) : (groupMatrix 64#32 0x3C800000#32 : Vec Ideal S512x512 .bf16) (ix2 k j)
    = if k.val / 64 = j.val / 64 then Ideal.ofBits .f32 1015021568#32 else 0 := by
  rw [groupMatrix_at, groupRows_apply, groupCols_apply, floorDiv64, floorDiv64, group_word ⟨k.val / 64, by omega⟩ ⟨j.val / 64, by omega⟩]
  dsimp only
  split <;> rfl

theorem group128_apply (k j : Fin 512) : (groupMatrix 128#32 0x3C000000#32 : Vec Ideal S512x512 .bf16) (ix2 k j)
    = if k.val / 128 = j.val / 128 then Ideal.ofBits .f32 1006632960#32 else 0 := by
  rw [groupMatrix_at, groupRows_apply, groupCols_apply, floorDiv128, floorDiv128, group_word ⟨k.val / 128, by omega⟩ ⟨j.val / 128, by omega⟩]
  dsimp only
  split <;> rfl

end Cert.Kernel3Ideal.Combine

end
-- ==== Proof.Combine.Prep.lean ====
module

public import proofs.«01_k».proof.Proof.Gen.Kernel3Ideal.Frame
public import proofs.«01_k».proof.Proof.Combine.Groups
public import Idealize.ShloMosaic.Lib.Pointwise
public import Idealize.ShloMosaic.Lib.Claim
public import Idealize.ShloMosaic.Lib.IdealHost

@[expose] public section

set_option maxRecDepth 16384

noncomputable section

namespace Cert.Kernel3Ideal.Combine

open Idealize.ShloMosaic Idealize.ShloMosaic.TcCoe
open Cert.Kernel3Ideal Cert.Kernel3Ideal.Gen
open StableHlo

/-! The arrays the host prepares for the kernel: what each is, and its entries. -/

/-- The keys, one block of 128 keys after the other. -/
def keyRows (k : FVec Ideal S8x2x128x128 .f32) : FVec Ideal S16x128x128 .bf16 :=
  truncf .bf16 (shapeCast S16x128x128 k shapeCasts_S8x2x128x128_S16x128x128) bitsLt_bf16_f32

variable (m : (ℓ : Loc nD τ sig) → Buf (Elt Ideal) ℓ) (c : Dev nD)

/-- The arguments. -/
abbrev argFox : FVec Ideal S1x16384x512 .f32 := m ((c.tc : Thread nD τ).loc main_arg0)
abbrev argMh : FVec Ideal S1x16384x512 .f32 := m ((c.tc : Thread nD τ).loc main_arg1)
abbrev argMo : FVec Ideal S1x16384x512 .f32 := m ((c.tc : Thread nD τ).loc main_arg2)
abbrev argX : FVec Ideal S1x16384x1024 .f32 := m ((c.tc : Thread nD τ).loc main_arg3)
abbrev argGate : FVec Ideal S1x1x1024 .f32 := m ((c.tc : Thread nD τ).loc main_arg4)
abbrev argScale : FVec Ideal S1x1x1024 .f32 := m ((c.tc : Thread nD τ).loc main_arg5)
abbrev argShift : FVec Ideal S1x1x1024 .f32 := m ((c.tc : Thread nD τ).loc main_arg6)
abbrev argGfox : FVec Ideal S512 .f32 := m ((c.tc : Thread nD τ).loc main_arg7)
abbrev argGml : FVec Ideal S512 .f32 := m ((c.tc : Thread nD τ).loc main_arg8)
abbrev argGffn : FVec Ideal S1024 .f32 := m ((c.tc : Thread nD τ).loc main_arg9)
abbrev argWo : FVec Ideal S1024x1024 .f32 := m ((c.tc : Thread nD τ).loc main_arg10)
abbrev argWq : FVec Ideal S1024x2048 .f32 := m ((c.tc : Thread nD τ).loc main_arg11)
abbrev argKeys : FVec Ideal S8x2x128x128 .f32 := m ((c.tc : Thread nD τ).loc main_arg12)

set_option maxHeartbeats 8000000 in
theorem V_fox : V m c main_v23 = shapeCast S16384x512 (argFox m c) shapeCasts_S1x16384x512_S16384x512 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_mh : V m c main_v24 = shapeCast S16384x512 (argMh m c) shapeCasts_S1x16384x512_S16384x512 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_mo : V m c main_v25 = shapeCast S16384x512 (argMo m c) shapeCasts_S1x16384x512_S16384x512 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_x : V m c main_v26 = shapeCast S16384x1024 (argX m c) shapeCasts_S1x16384x1024_S16384x1024 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_gate : V m c main_v27 = shapeCast S1x1024 (argGate m c) shapeCasts_S1x1x1024_S1x1024 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_scale : V m c main_v28 = shapeCast S1x1024 (argScale m c) shapeCasts_S1x1x1024_S1x1024 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_shift : V m c main_v29 = shapeCast S1x1024 (argShift m c) shapeCasts_S1x1x1024_S1x1024 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_gfox : V m c main_v30 = shapeCast S1x512 (argGfox m c) shapeCasts_S512_S1x512 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_gml : V m c main_v31 = shapeCast S1x512 (argGml m c) shapeCasts_S512_S1x512 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_gffn : V m c main_v32 = shapeCast S1x1024 (argGffn m c) shapeCasts_S1024_S1x1024 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_wo : V m c main_v0 = truncf .bf16 (argWo m c) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp

set_option maxHeartbeats 8000000 in
theorem V_wq : V m c main_v1 = truncf .bf16 (argWq m c) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp

set_option maxHeartbeats 8000000 in
theorem V_keys : V m c main_v3 = keyRows (argKeys m c) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_bd64 : V m c main_v13 = groupMatrix 64#32 0x3C800000#32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

set_option maxHeartbeats 8000000 in
theorem V_bd128 : V m c main_v22 = groupMatrix 128#32 0x3C000000#32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    TRef.binary, TRef.nullary, TRef.ternary, TRef.unary, TRef.toBuf, TRef.ofBuf, cast_eq]
  after_results_simp
  rfl

theorem keyRows_apply (k : Vec Ideal S8x2x128x128 .f32) (p : Fin 16) (n d : Fin 128) :
    (keyRows k : Vec Ideal S16x128x128 .bf16) (ix3 p n d) = k (ix4 ⟨p.val / 2, by omega⟩ ⟨p.val % 2, by omega⟩ n d) := by
  pointwise [keyRows]

end Cert.Kernel3Ideal.Combine

end
-- ==== Proof.Combine.Math.lean ====
module

public import proofs.«01_k».proof.Proof.Input.Math
public import Idealize.ShloMosaic.PureOps.Ideal
public import Idealize.ShloMosaic.Lib.Pointwise

@[expose] public section

noncomputable section

namespace Cert.CombineMath

open Idealize.ShloMosaic Cert.InputMath

/-! The combination of the two mixers at one token, as functions of numbers. -/

/-- A head's mean of squares: 64 lanes of lane `j`'s head. -/
def mean64 (x : Fin 512 → EReal) (j : Fin 512) : EReal :=
  Ideal.div (∑ d : Fin 64, x ⟨64 * (j.val / 64) + d.val, by omega⟩ * x ⟨64 * (j.val / 64) + d.val, by omega⟩) (Ideal.ofBits .f32 1115684864#32)

/-- A head's mean of squares: 128 lanes of lane `j`'s head. -/
def mean128 (x : Fin 512 → EReal) (j : Fin 512) : EReal :=
  Ideal.div (∑ d : Fin 128, x ⟨128 * (j.val / 128) + d.val, by omega⟩ * x ⟨128 * (j.val / 128) + d.val, by omega⟩) (Ideal.ofBits .f32 1124073472#32)

/-- A lane over its head's root mean square. -/
def headNorm (mean : (Fin 512 → EReal) → Fin 512 → EReal) (x : Fin 512 → EReal) (j : Fin 512) : EReal :=
  x j * Ideal.rsqrt (mean x j + Ideal.ofBits .f32 897988541#32)

/-- The two mixers' lanes, the first as they are, the second through their gates. -/
def mixed (a b mo ga gb : Fin 512 → EReal) (k : Fin 1024) : EReal :=
  if h : k.val < 512 then headNorm mean64 a ⟨k.val, h⟩ * ga ⟨k.val, h⟩
  else Ideal.logistic (mo ⟨k.val - 512, by omega⟩) * (headNorm mean128 b ⟨k.val - 512, by omega⟩ * gb ⟨k.val - 512, by omega⟩)

/-- The residual: the token plus the gated output projection. -/
def resid (x gate mix : Fin 1024 → EReal) (w : Fin 1024 → Fin 1024 → EReal) (n : Fin 1024) : EReal :=
  x n + gate n * proj mix (fun k => w k n)

/-- A query against a key. -/
def score (h : Fin 1024 → EReal) (w : Fin 1024 → Fin 2048 → EReal) (key : Fin 128 → EReal) (p : Fin 16) : EReal :=
  ∑ d : Fin 128, key d * proj h (fun k => w k ⟨128 * p.val + d.val, by omega⟩)

/-! The kernel writes the head means as products with a block matrix. -/

/-- A sum of terms that vanish outside a group is the group's sum. -/
theorem sum_group {m n : ℕ} (J : Fin m) (y : Fin (m * n) → EReal) (c : EReal) :
    ∑ k : Fin (m * n), y k * (if k.val / n = J.val then c else 0) = ∑ d : Fin n, y (finProdFinEquiv (J, d)) * c := by
  rw [← Equiv.sum_comp finProdFinEquiv, Fintype.sum_prod_type, Finset.sum_eq_single J]
  · refine Finset.sum_congr rfl fun d _ => ?_
    have hn : 0 < n := Nat.lt_of_le_of_lt (Nat.zero_le _) d.isLt
    rw [if_pos]
    show (d.val + n * J.val) / n = J.val
    rw [Nat.add_mul_div_left _ _ hn, Nat.div_eq_of_lt d.isLt, Nat.zero_add]
  · intro a _ ha
    refine Finset.sum_eq_zero fun d _ => ?_
    have hn : 0 < n := Nat.lt_of_le_of_lt (Nat.zero_le _) d.isLt
    rw [if_neg, mul_zero]
    intro h
    refine ha (Fin.ext ?_)
    have h' : (d.val + n * a.val) / n = J.val := h
    rw [Nat.add_mul_div_left _ _ hn, Nat.div_eq_of_lt d.isLt, Nat.zero_add] at h'
    exact h'
  · exact fun h => absurd (Finset.mem_univ J) h

theorem word_64 : Ideal.ofBits .f32 1115684864#32 = ((64 : ℝ) : EReal) := by
  simp [Ideal.ofBits, Ideal.ieee, -EReal.coe_mul]; norm_num
theorem word_128 : Ideal.ofBits .f32 1124073472#32 = ((128 : ℝ) : EReal) := by
  simp [Ideal.ofBits, Ideal.ieee, -EReal.coe_mul]; norm_num
theorem word_64th : Ideal.ofBits .f32 1015021568#32 = (((64 : ℝ)⁻¹ : ℝ) : EReal) := by
  simp [Ideal.ofBits, Ideal.ieee, -EReal.coe_mul]; norm_num
theorem word_128th : Ideal.ofBits .f32 1006632960#32 = (((128 : ℝ)⁻¹ : ℝ) : EReal) := by
  simp [Ideal.ofBits, Ideal.ieee, -EReal.coe_mul]; norm_num

/-- Real terms times the inverse of a positive number sum up to the quotient of the sum. -/
theorem sum_mul_inv {n : ℕ} (y : Fin n → EReal) (hy : ∀ d, ∃ r : ℝ, y d = (r : EReal)) (b : ℝ) (hb : b ≠ 0) :
    ∑ d : Fin n, y d * ((b⁻¹ : ℝ) : EReal) = Ideal.div (∑ d : Fin n, y d) (b : EReal) := by
  choose r hr using hy
  simp only [hr]
  unfold Ideal.div
  rw [if_neg (by exact_mod_cast hb), ← EReal.coe_inv]
  have e1 : ∑ d : Fin n, ((r d : ℝ) : EReal) = ((∑ d : Fin n, r d : ℝ) : EReal) := by
    induction (Finset.univ : Finset (Fin n)) using Finset.cons_induction with
    | empty => simp
    | cons a s ha ih => rw [Finset.sum_cons, Finset.sum_cons, ih, EReal.coe_add]
  have e2 : ∑ d : Fin n, ((r d : ℝ) : EReal) * ((b⁻¹ : ℝ) : EReal) = ((∑ d : Fin n, r d * b⁻¹ : ℝ) : EReal) := by
    induction (Finset.univ : Finset (Fin n)) using Finset.cons_induction with
    | empty => simp
    | cons a s ha ih => rw [Finset.sum_cons, Finset.sum_cons, ih, EReal.coe_add, EReal.coe_mul]
  rw [e1, e2, ← EReal.coe_mul, Finset.sum_mul]

/-- The square's remainder vanishes at real numbers. -/
theorem sum_rest {n : ℕ} (x : Fin n → EReal) (hx : ∀ k, ∃ r : ℝ, x k = (r : EReal)) (b : Fin n → EReal) :
    ∑ k : Fin n, (x k * x k - x k * x k) * b k = 0 := by
  refine Finset.sum_eq_zero fun k _ => ?_
  obtain ⟨r, hr⟩ := hx k
  rw [hr, ← EReal.coe_mul, ← EReal.coe_sub, sub_self, EReal.coe_zero, zero_mul]

theorem square_real {x : EReal} (h : ∃ r : ℝ, x = (r : EReal)) : ∃ r : ℝ, x * x = (r : EReal) := by
  obtain ⟨r, rfl⟩ := h
  exact ⟨r * r, (EReal.coe_mul r r).symm⟩

theorem kernel64 (x : Fin 512 → EReal) (hx : ∀ k, ∃ r : ℝ, x k = (r : EReal)) (j : Fin 512) :
    ∑ k : Fin 512, x k * x k * (if k.val / 64 = j.val / 64 then Ideal.ofBits .f32 1015021568#32 else 0)
      + ∑ k : Fin 512, (x k * x k - x k * x k) * (if k.val / 64 = j.val / 64 then Ideal.ofBits .f32 1015021568#32 else 0) = mean64 x j := by
  rw [sum_rest x hx, add_zero]
  refine (sum_group (m := 8) (n := 64) ⟨j.val / 64, by omega⟩ (fun k => x k * x k) _).trans ?_
  rw [word_64th]
  refine (sum_mul_inv _ (fun d => square_real (hx _)) 64 (by norm_num)).trans ?_
  unfold mean64
  rw [word_64]
  refine congrArg (fun s => Ideal.div s _) (Finset.sum_congr rfl fun d _ => ?_)
  have e : (finProdFinEquiv ((⟨j.val / 64, by omega⟩ : Fin 8), d) : Fin (8 * 64)) = (⟨64 * (j.val / 64) + d.val, by omega⟩ : Fin 512) :=
    Fin.ext (Nat.add_comm _ _)
  rw [e]

theorem kernel128 (x : Fin 512 → EReal) (hx : ∀ k, ∃ r : ℝ, x k = (r : EReal)) (j : Fin 512) :
    ∑ k : Fin 512, x k * x k * (if k.val / 128 = j.val / 128 then Ideal.ofBits .f32 1006632960#32 else 0)
      + ∑ k : Fin 512, (x k * x k - x k * x k) * (if k.val / 128 = j.val / 128 then Ideal.ofBits .f32 1006632960#32 else 0) = mean128 x j := by
  rw [sum_rest x hx, add_zero]
  refine (sum_group (m := 4) (n := 128) ⟨j.val / 128, by omega⟩ (fun k => x k * x k) _).trans ?_
  rw [word_128th]
  refine (sum_mul_inv _ (fun d => square_real (hx _)) 128 (by norm_num)).trans ?_
  unfold mean128
  rw [word_128]
  refine congrArg (fun s => Ideal.div s _) (Finset.sum_congr rfl fun d _ => ?_)
  have e : (finProdFinEquiv ((⟨j.val / 128, by omega⟩ : Fin 4), d) : Fin (4 * 128)) = (⟨128 * (j.val / 128) + d.val, by omega⟩ : Fin 512) :=
    Fin.ext (Nat.add_comm _ _)
  rw [e]

/-- A number over one plus the exponential of the negated gate is the sigmoid times the number. -/
theorem div_sigmoid (a z : EReal) : Ideal.div a (1 + Ideal.exp (0 - z)) = Ideal.logistic z * a := by
  unfold Ideal.logistic
  rw [zero_sub]
  have h0 : 0 ≤ Ideal.exp (-z) := by
    induction -z using EReal.rec with
    | bot => exact le_refl _
    | top => exact le_top
    | coe r => exact EReal.coe_nonneg.mpr (Real.exp_pos r).le
  have h1 : (1 : EReal) + Ideal.exp (-z) ≠ 0 := fun h => by
    have : (1 : EReal) ≤ 1 + Ideal.exp (-z) := le_add_of_nonneg_right h0
    rw [h] at this
    exact absurd this (by simp)
  unfold Ideal.div
  rw [if_neg h1, if_neg h1, one_mul, mul_comm]

end Cert.CombineMath

end
-- ==== Proof.Combine.Block.lean ====
module

public import proofs.«01_k».proof.Proof.Combine.Math
public import proofs.«01_k».proof.Proof.Gen.Kernel3Ideal.Frame
public import Idealize.ShloMosaic.Lib.Pointwise

@[expose] public section

set_option maxRecDepth 16384

noncomputable section

namespace Cert.Kernel3Ideal.Combine

open Idealize.ShloMosaic Idealize.ShloMosaic.TcCoe
open Cert.Kernel3Ideal Cert.Kernel3Ideal.Gen Cert.InputMath Cert.CombineMath

/-! What the kernel computes for a block of 512 tokens, entry by entry. -/

/-- The kernel's head mean, as the two products with the block matrix. -/
abbrev blockMean (x : Vec Ideal S512x512 .f32) (b : Vec Ideal S512x512 .bf16) (r j : Fin 512) : EReal :=
  ∑ k : Fin 512, x (ix2 r k) * x (ix2 r k) * b (ix2 k j) + ∑ k : Fin 512, (x (ix2 r k) * x (ix2 r k) - x (ix2 r k) * x (ix2 r k)) * b (ix2 k j)

theorem pay3_apply (x : Vec Ideal S512x512 .f32) (b : Vec Ideal S512x512 .bf16) (g : Vec Ideal S1x512 .f32) (r j : Fin 512) :
    k0_pay3 (F := Ideal) x b g (ix2 r j) = x (ix2 r j) * Ideal.rsqrt (blockMean x b r j + Ideal.ofBits .f32 897988541#32) * g (ix2 0 j) := by
  unfold blockMean
  pointwise [k0_pay3]

theorem pay4_apply (x : Vec Ideal S512x512 .f32) (r j : Fin 512) : k0_pay4 (F := Ideal) x (ix2 r j) = x (ix2 r j) := by
  pointwise [k0_pay4]

theorem pay5_apply (x : Vec Ideal S512x512 .f32) (b : Vec Ideal S512x512 .bf16) (r j : Fin 512) :
    k0_pay5 (F := Ideal) x b (ix2 r j) = x (ix2 r j) * Ideal.rsqrt (blockMean x b r j + Ideal.ofBits .f32 897988541#32) := by
  unfold blockMean
  pointwise [k0_pay5]

/-- The lanes that enter the output projection. -/
def lanes (a mo h : Vec Ideal S512x512 .f32) (g : Vec Ideal S1x512 .f32) (r : Fin 512) (k : Fin 1024) : EReal :=
  if hk : k.val < 512 then a (ix2 r ⟨k.val, hk⟩)
  else Ideal.div (h (ix2 r ⟨k.val - 512, by omega⟩) * g (ix2 0 ⟨k.val - 512, by omega⟩)) (1 + Ideal.exp (0 - mo (ix2 r ⟨k.val - 512, by omega⟩)))

theorem pay6_apply (a mo h : Vec Ideal S512x512 .f32) (g : Vec Ideal S1x512 .f32) (x : Vec Ideal S512x1024 .f32) (gate : Vec Ideal S1x1024 .f32)
    (w : Vec Ideal S1024x1024 .bf16) (r : Fin 512) (n : Fin 1024) :
    k0_pay6 (F := Ideal) a mo h g x gate w (ix2 r n)
      = resid (fun k => x (ix2 r k)) (fun k => gate (ix2 0 k)) (lanes a mo h g r) (fun k l => w (ix2 k l)) n := by
  unfold resid proj lanes
  pointwise [k0_pay6]

theorem pay7_apply (a mo h : Vec Ideal S512x512 .f32) (g : Vec Ideal S1x512 .f32) (x : Vec Ideal S512x1024 .f32) (gate : Vec Ideal S1x1024 .f32)
    (w : Vec Ideal S1024x1024 .bf16) (gf : Vec Ideal S1x1024 .f32) (sc sh : Vec Ideal S1x1024 .f32) (r : Fin 512) (n : Fin 1024) :
    (k0_pay9 (F := Ideal) (k0_pay7 (F := Ideal) a mo h g x gate w gf) (k0_pay8 (F := Ideal) sc) sh : Vec Ideal S512x1024 .bf16) (ix2 r n)
      = activation (resid (fun k => x (ix2 r k)) (fun k => gate (ix2 0 k)) (lanes a mo h g r) (fun k l => w (ix2 k l)))
        (fun k => gf (ix2 0 k)) (fun k => sc (ix2 0 k)) (fun k => sh (ix2 0 k)) n := by
  unfold activation
  simp only [← pay6_apply]
  unfold k0_pay9 k0_pay7
  generalize k0_pay6 (F := Ideal) a mo h g x gate w = y
  pointwise [k0_pay8]

theorem pay10_apply (y : Vec Ideal S512x1024 .f32) (sc sh : Vec Ideal S1x1024 .f32) (w : Vec Ideal S1024x2048 .bf16) (r : Fin 512) (n : Fin 2048) :
    (k0_pay10 (F := Ideal) y sc sh w : Vec Ideal S512x2048 .bf16) (ix2 r n)
      = proj (fun k => (k0_pay9 (F := Ideal) y sc sh : Vec Ideal S512x1024 .bf16) (ix2 r k)) (fun k => w (ix2 k n)) := by
  unfold proj k0_pay10
  generalize k0_pay9 (F := Ideal) y sc sh = h
  pointwise []

/-- A block of queries against a block of keys. -/
abbrev against (q : Vec Ideal S512x2048 .bf16) (key : Vec Ideal S1x128x128 .bf16) (p : Fin 16) (n : Fin 128) (r : Fin 512) : EReal :=
  ∑ d : Fin 128, key (ix3 0 n d) * q (ix2 r ⟨128 * p.val + d.val, by omega⟩)

theorem score0 (y : Vec Ideal S512x1024 .f32) (sc sh : Vec Ideal S1x1024 .f32) (w : Vec Ideal S1024x2048 .bf16) (key : Vec Ideal S1x128x128 .bf16) (n : Fin 128) (r : Fin 512) :
    k0_pay11 (F := Ideal) y sc sh w key (ix3 0 n r) = against (k0_pay10 (F := Ideal) y sc sh w) key 0 n r := by
  unfold against
  unfold k0_pay11
  generalize k0_pay10 (F := Ideal) y sc sh w = q
  pointwise []

theorem score1 (y : Vec Ideal S512x1024 .f32) (sc sh : Vec Ideal S1x1024 .f32) (w : Vec Ideal S1024x2048 .bf16) (key : Vec Ideal S1x128x128 .bf16) (n : Fin 128) (r : Fin 512) :
    k0_pay12 (F := Ideal) y sc sh w key (ix3 0 n r) = against (k0_pay10 (F := Ideal) y sc sh w) key 1 n r := by
  unfold against
  unfold k0_pay12
  generalize k0_pay10 (F := Ideal) y sc sh w = q
  pointwise []

theorem score2 (y : Vec Ideal S512x1024 .f32) (sc sh : Vec Ideal S1x1024 .f32) (w : Vec Ideal S1024x2048 .bf16) (key : Vec Ideal S1x128x128 .bf16) (n : Fin 128) (r : Fin 512) :
    k0_pay14 (F := Ideal) (k0_pay13 (F := Ideal) y sc sh w key) (ix3 0 n r) = against (k0_pay10 (F := Ideal) y sc sh w) key 2 n r := by
  unfold against
  unfold k0_pay14 k0_pay13
  generalize k0_pay10 (F := Ideal) y sc sh w = q
  pointwise []

theorem score3 (q : Vec Ideal S512x2048 .bf16) (key : Vec Ideal S1x128x128 .bf16) (n : Fin 128) (r : Fin 512) :
    k0_pay15 (F := Ideal) q key (ix3 0 n r) = against q key 3 n r := by
  unfold against
  pointwise [k0_pay15]

theorem score4 (q : Vec Ideal S512x2048 .bf16) (key : Vec Ideal S1x128x128 .bf16) (n : Fin 128) (r : Fin 512) :
    k0_pay16 (F := Ideal) q key (ix3 0 n r) = against q key 4 n r := by
  unfold against
  pointwise [k0_pay16]

theorem score5 (q : Vec Ideal S512x2048 .bf16) (key : Vec Ideal S1x128x128 .bf16) (n : Fin 128) (r : Fin 512) :
    k0_pay17 (F := Ideal) q key (ix3 0 n r) = against q key 5 n r := by
  unfold against
  pointwise [k0_pay17]

theorem score6 (q : Vec Ideal S512x2048 .bf16) (key : Vec Ideal S1x128x128 .bf16) (n : Fin 128) (r : Fin 512) :
    k0_pay19 (F := Ideal) (k0_pay18 (F := Ideal) q key) (ix3 0 n r) = against q key 6 n r := by
  unfold against
  pointwise [k0_pay19, k0_pay18]

theorem score7 (q : Vec Ideal S512x2048 .bf16) (key : Vec Ideal S1x128x128 .bf16) (n : Fin 128) (r : Fin 512) :
    k0_pay20 (F := Ideal) q key (ix3 0 n r) = against q key 7 n r := by
  unfold against
  pointwise [k0_pay20]

theorem score8 (q : Vec Ideal S512x2048 .bf16) (key : Vec Ideal S1x128x128 .bf16) (n : Fin 128) (r : Fin 512) :
    k0_pay21 (F := Ideal) q key (ix3 0 n r) = against q key 8 n r := by
  unfold against
  pointwise [k0_pay21]

theorem score9 (q : Vec Ideal S512x2048 .bf16) (key : Vec Ideal S1x128x128 .bf16) (n : Fin 128) (r : Fin 512) :
    k0_pay22 (F := Ideal) q key (ix3 0 n r) = against q key 9 n r := by
  unfold against
  pointwise [k0_pay22]

theorem score10 (q : Vec Ideal S512x2048 .bf16) (key : Vec Ideal S1x128x128 .bf16) (n : Fin 128) (r : Fin 512) :
    k0_pay24 (F := Ideal) (k0_pay23 (F := Ideal) q key) (ix3 0 n r) = against q key 10 n r := by
  unfold against
  pointwise [k0_pay24, k0_pay23]

theorem score11 (q : Vec Ideal S512x2048 .bf16) (key : Vec Ideal S1x128x128 .bf16) (n : Fin 128) (r : Fin 512) :
    k0_pay25 (F := Ideal) q key (ix3 0 n r) = against q key 11 n r := by
  unfold against
  pointwise [k0_pay25]

theorem score12 (q : Vec Ideal S512x2048 .bf16) (key : Vec Ideal S1x128x128 .bf16) (n : Fin 128) (r : Fin 512) :
    k0_pay26 (F := Ideal) q key (ix3 0 n r) = against q key 12 n r := by
  unfold against
  pointwise [k0_pay26]

theorem score13 (q : Vec Ideal S512x2048 .bf16) (key : Vec Ideal S1x128x128 .bf16) (n : Fin 128) (r : Fin 512) :
    k0_pay27 (F := Ideal) q key (ix3 0 n r) = against q key 13 n r := by
  unfold against
  pointwise [k0_pay27]

theorem score14 (q : Vec Ideal S512x2048 .bf16) (key : Vec Ideal S1x128x128 .bf16) (n : Fin 128) (r : Fin 512) :
    k0_pay1 (F := Ideal) (k0_pay28 (F := Ideal) q key) (ix3 0 n r) = against q key 14 n r := by
  unfold against
  pointwise [k0_pay1, k0_pay28]

theorem score15 (q : Vec Ideal S512x2048 .bf16) (key : Vec Ideal S1x128x128 .bf16) (n : Fin 128) (r : Fin 512) :
    k0_pay2 (F := Ideal) q key (ix3 0 n r) = against q key 15 n r := by
  unfold against
  pointwise [k0_pay2]

end Cert.Kernel3Ideal.Combine

end
-- ==== Proof.Combine.Blocks.lean ====
module

public import proofs.«01_k».proof.Proof.Combine.Prep
public import proofs.«01_k».proof.Proof.Combine.Block
public import Idealize.ShloMosaic.Lib.Pipeline.ValueKit.Geometry

@[expose] public section

set_option maxRecDepth 16384

noncomputable section

namespace Cert.Kernel3Ideal.Combine

open Idealize.ShloMosaic Idealize.ShloMosaic.TcCoe
open Cert.Kernel3Ideal Cert.Kernel3Ideal.Gen Cert.InputMath Cert.CombineMath

/-! What the kernel reads at a grid point: the token block's rows, and the prepared arrays whole. -/

variable (m : (ℓ : Loc nD τ sig) → Buf (Elt Ideal) ℓ) (c : Dev nD) (t : Fin grid0.N)

theorem tok_lt (r : Fin 512) : 512 * t.val + r.val < 16384 := by
  have h : t.val < 32 := t.isLt
  omega

/-- An index of a matrix is given by its coordinates. -/
theorem at2 {a b : ℕ} {y : (⟨2, ![a, b]⟩ : Shape).Idx} {i : Fin a} {j : Fin b} (h0 : (y 0).val = i.val) (h1 : (y 1).val = j.val) : y = ix2 i j := by
  refine funext fun e => Fin.ext ?_
  match e with
  | ⟨0, _⟩ => exact h0
  | ⟨1, _⟩ => exact h1

theorem at3 {a b d : ℕ} {y : (⟨3, ![a, b, d]⟩ : Shape).Idx} {i : Fin a} {j : Fin b} {k : Fin d} (h0 : (y 0).val = i.val) (h1 : (y 1).val = j.val) (h2 : (y 2).val = k.val) :
    y = ix3 i j k := by
  refine funext fun e => Fin.ext ?_
  match e with
  | ⟨0, _⟩ => exact h0
  | ⟨1, _⟩ => exact h1
  | ⟨2, _⟩ => exact h2

theorem whole (n : ℕ) : 0 + 1 * n = n := by omega

/-- The token of the block's row `r`. -/
abbrev tok (r : Fin 512) : Fin 16384 := ⟨512 * t.val + r.val, tok_lt t r⟩

theorem index0 : ∀ t : Fin grid0.N, win0_0.index t (⟨0, by decide⟩ : Fin 2) = t.val := by decide +kernel

theorem rd0 (A : (b : Ref sig .tc) → Buf (Elt Ideal) ((c.tc : Thread nD τ).loc b)) (r : Fin 512) (k : Fin 512) :
    (((cfg0.win 0).blk t).view.read (Elt Ideal) (A (Pipeline.arrRef spec0 0)) : Vec Ideal S512x512 .f32) (ix2 r k) = A main_v23 (ix2 (tok t r) k) := by
  refine congrArg (A main_v23) (funext fun a => Fin.ext ?_)
  refine (ValueKit.rect_emb_unit_val _ _ _ _ _).trans ?_
  match a with
  | ⟨0, _⟩ =>
    show win0_0.index t (⟨0, by decide⟩ : Fin 2) * 512 + r.val = 512 * t.val + r.val
    rw [index0, Nat.mul_comm]
  | ⟨1, _⟩ => exact Nat.zero_add _

theorem blk0 (r : Fin 512) (k : Fin 512) : (iblk m c 0 t : Vec Ideal S512x512 .f32) (ix2 r k) = argFox m c (ix3 0 (tok t r) k) := by
  have e : (iblk m c 0 t : Vec Ideal S512x512 .f32) (ix2 r k) = V m c main_v23 (ix2 (tok t r) k) := rd0 c t (V m c) r k
  rw [e, V_fox]
  generalize tok t r = u
  pointwise []

theorem index1 : ∀ t : Fin grid0.N, win0_1.index t (⟨0, by decide⟩ : Fin 2) = t.val := by decide +kernel

theorem rd1 (A : (b : Ref sig .tc) → Buf (Elt Ideal) ((c.tc : Thread nD τ).loc b)) (r : Fin 512) (k : Fin 512) :
    (((cfg0.win 1).blk t).view.read (Elt Ideal) (A (Pipeline.arrRef spec0 1)) : Vec Ideal S512x512 .f32) (ix2 r k) = A main_v24 (ix2 (tok t r) k) := by
  refine congrArg (A main_v24) (funext fun a => Fin.ext ?_)
  refine (ValueKit.rect_emb_unit_val _ _ _ _ _).trans ?_
  match a with
  | ⟨0, _⟩ =>
    show win0_1.index t (⟨0, by decide⟩ : Fin 2) * 512 + r.val = 512 * t.val + r.val
    rw [index1, Nat.mul_comm]
  | ⟨1, _⟩ => exact Nat.zero_add _

theorem blk1 (r : Fin 512) (k : Fin 512) : (iblk m c 1 t : Vec Ideal S512x512 .f32) (ix2 r k) = argMh m c (ix3 0 (tok t r) k) := by
  have e : (iblk m c 1 t : Vec Ideal S512x512 .f32) (ix2 r k) = V m c main_v24 (ix2 (tok t r) k) := rd1 c t (V m c) r k
  rw [e, V_mh]
  generalize tok t r = u
  pointwise []

theorem index2 : ∀ t : Fin grid0.N, win0_2.index t (⟨0, by decide⟩ : Fin 2) = t.val := by decide +kernel

theorem rd2 (A : (b : Ref sig .tc) → Buf (Elt Ideal) ((c.tc : Thread nD τ).loc b)) (r : Fin 512) (k : Fin 512) :
    (((cfg0.win 2).blk t).view.read (Elt Ideal) (A (Pipeline.arrRef spec0 2)) : Vec Ideal S512x512 .f32) (ix2 r k) = A main_v25 (ix2 (tok t r) k) := by
  refine congrArg (A main_v25) (funext fun a => Fin.ext ?_)
  refine (ValueKit.rect_emb_unit_val _ _ _ _ _).trans ?_
  match a with
  | ⟨0, _⟩ =>
    show win0_2.index t (⟨0, by decide⟩ : Fin 2) * 512 + r.val = 512 * t.val + r.val
    rw [index2, Nat.mul_comm]
  | ⟨1, _⟩ => exact Nat.zero_add _

theorem blk2 (r : Fin 512) (k : Fin 512) : (iblk m c 2 t : Vec Ideal S512x512 .f32) (ix2 r k) = argMo m c (ix3 0 (tok t r) k) := by
  have e : (iblk m c 2 t : Vec Ideal S512x512 .f32) (ix2 r k) = V m c main_v25 (ix2 (tok t r) k) := rd2 c t (V m c) r k
  rw [e, V_mo]
  generalize tok t r = u
  pointwise []

theorem index3 : ∀ t : Fin grid0.N, win0_3.index t (⟨0, by decide⟩ : Fin 2) = t.val := by decide +kernel

theorem rd3 (A : (b : Ref sig .tc) → Buf (Elt Ideal) ((c.tc : Thread nD τ).loc b)) (r : Fin 512) (k : Fin 1024) :
    (((cfg0.win 3).blk t).view.read (Elt Ideal) (A (Pipeline.arrRef spec0 3)) : Vec Ideal S512x1024 .f32) (ix2 r k) = A main_v26 (ix2 (tok t r) k) := by
  refine congrArg (A main_v26) (funext fun a => Fin.ext ?_)
  refine (ValueKit.rect_emb_unit_val _ _ _ _ _).trans ?_
  match a with
  | ⟨0, _⟩ =>
    show win0_3.index t (⟨0, by decide⟩ : Fin 2) * 512 + r.val = 512 * t.val + r.val
    rw [index3, Nat.mul_comm]
  | ⟨1, _⟩ => exact Nat.zero_add _

theorem blk3 (r : Fin 512) (k : Fin 1024) : (iblk m c 3 t : Vec Ideal S512x1024 .f32) (ix2 r k) = argX m c (ix3 0 (tok t r) k) := by
  have e : (iblk m c 3 t : Vec Ideal S512x1024 .f32) (ix2 r k) = V m c main_v26 (ix2 (tok t r) k) := rd3 c t (V m c) r k
  rw [e, V_x]
  generalize tok t r = u
  pointwise []

theorem rd4 (A : (b : Ref sig .tc) → Buf (Elt Ideal) ((c.tc : Thread nD τ).loc b)) (k : Fin 1024) :
    (((cfg0.win 4).blk t).view.read (Elt Ideal) (A (Pipeline.arrRef spec0 4)) : Vec Ideal S1x1024 .f32) (ix2 0 k) = A main_v27 (ix2 0 k) :=
  congrArg (A main_v27) (at2 ((ValueKit.rect_emb_unit_val _ _ _ _ _).trans (Nat.zero_add _)) ((ValueKit.rect_emb_unit_val _ _ _ _ _).trans (Nat.zero_add _)))

theorem blk4 (k : Fin 1024) : (iblk m c 4 t : Vec Ideal S1x1024 .f32) (ix2 0 k) = argGate m c (ix3 0 0 k) := by
  have e : (iblk m c 4 t : Vec Ideal S1x1024 .f32) (ix2 0 k) = V m c main_v27 (ix2 0 k) := rd4 c t (V m c) k
  rw [e, V_gate]
  pointwise []

theorem rd5 (A : (b : Ref sig .tc) → Buf (Elt Ideal) ((c.tc : Thread nD τ).loc b)) (k : Fin 1024) :
    (((cfg0.win 5).blk t).view.read (Elt Ideal) (A (Pipeline.arrRef spec0 5)) : Vec Ideal S1x1024 .f32) (ix2 0 k) = A main_v28 (ix2 0 k) :=
  congrArg (A main_v28) (at2 ((ValueKit.rect_emb_unit_val _ _ _ _ _).trans (Nat.zero_add _)) ((ValueKit.rect_emb_unit_val _ _ _ _ _).trans (Nat.zero_add _)))

theorem blk5 (k : Fin 1024) : (iblk m c 5 t : Vec Ideal S1x1024 .f32) (ix2 0 k) = argScale m c (ix3 0 0 k) := by
  have e : (iblk m c 5 t : Vec Ideal S1x1024 .f32) (ix2 0 k) = V m c main_v28 (ix2 0 k) := rd5 c t (V m c) k
  rw [e, V_scale]
  pointwise []

theorem rd6 (A : (b : Ref sig .tc) → Buf (Elt Ideal) ((c.tc : Thread nD τ).loc b)) (k : Fin 1024) :
    (((cfg0.win 6).blk t).view.read (Elt Ideal) (A (Pipeline.arrRef spec0 6)) : Vec Ideal S1x1024 .f32) (ix2 0 k) = A main_v29 (ix2 0 k) :=
  congrArg (A main_v29) (at2 ((ValueKit.rect_emb_unit_val _ _ _ _ _).trans (Nat.zero_add _)) ((ValueKit.rect_emb_unit_val _ _ _ _ _).trans (Nat.zero_add _)))

theorem blk6 (k : Fin 1024) : (iblk m c 6 t : Vec Ideal S1x1024 .f32) (ix2 0 k) = argShift m c (ix3 0 0 k) := by
  have e : (iblk m c 6 t : Vec Ideal S1x1024 .f32) (ix2 0 k) = V m c main_v29 (ix2 0 k) := rd6 c t (V m c) k
  rw [e, V_shift]
  pointwise []

theorem rd7 (A : (b : Ref sig .tc) → Buf (Elt Ideal) ((c.tc : Thread nD τ).loc b)) (k : Fin 512) :
    (((cfg0.win 7).blk t).view.read (Elt Ideal) (A (Pipeline.arrRef spec0 7)) : Vec Ideal S1x512 .f32) (ix2 0 k) = A main_v30 (ix2 0 k) :=
  congrArg (A main_v30) (at2 ((ValueKit.rect_emb_unit_val _ _ _ _ _).trans (Nat.zero_add _)) ((ValueKit.rect_emb_unit_val _ _ _ _ _).trans (Nat.zero_add _)))

theorem blk7 (k : Fin 512) : (iblk m c 7 t : Vec Ideal S1x512 .f32) (ix2 0 k) = argGfox m c (ix1 k) := by
  have e : (iblk m c 7 t : Vec Ideal S1x512 .f32) (ix2 0 k) = V m c main_v30 (ix2 0 k) := rd7 c t (V m c) k
  rw [e, V_gfox]
  pointwise []

theorem rd8 (A : (b : Ref sig .tc) → Buf (Elt Ideal) ((c.tc : Thread nD τ).loc b)) (k : Fin 512) :
    (((cfg0.win 8).blk t).view.read (Elt Ideal) (A (Pipeline.arrRef spec0 8)) : Vec Ideal S1x512 .f32) (ix2 0 k) = A main_v31 (ix2 0 k) :=
  congrArg (A main_v31) (at2 ((ValueKit.rect_emb_unit_val _ _ _ _ _).trans (Nat.zero_add _)) ((ValueKit.rect_emb_unit_val _ _ _ _ _).trans (Nat.zero_add _)))

theorem blk8 (k : Fin 512) : (iblk m c 8 t : Vec Ideal S1x512 .f32) (ix2 0 k) = argGml m c (ix1 k) := by
  have e : (iblk m c 8 t : Vec Ideal S1x512 .f32) (ix2 0 k) = V m c main_v31 (ix2 0 k) := rd8 c t (V m c) k
  rw [e, V_gml]
  pointwise []

theorem rd9 (A : (b : Ref sig .tc) → Buf (Elt Ideal) ((c.tc : Thread nD τ).loc b)) (k : Fin 1024) :
    (((cfg0.win 9).blk t).view.read (Elt Ideal) (A (Pipeline.arrRef spec0 9)) : Vec Ideal S1x1024 .f32) (ix2 0 k) = A main_v32 (ix2 0 k) :=
  congrArg (A main_v32) (at2 ((ValueKit.rect_emb_unit_val _ _ _ _ _).trans (Nat.zero_add _)) ((ValueKit.rect_emb_unit_val _ _ _ _ _).trans (Nat.zero_add _)))

theorem blk9 (k : Fin 1024) : (iblk m c 9 t : Vec Ideal S1x1024 .f32) (ix2 0 k) = argGffn m c (ix1 k) := by
  have e : (iblk m c 9 t : Vec Ideal S1x1024 .f32) (ix2 0 k) = V m c main_v32 (ix2 0 k) := rd9 c t (V m c) k
  rw [e, V_gffn]
  pointwise []

theorem rd10 (A : (b : Ref sig .tc) → Buf (Elt Ideal) ((c.tc : Thread nD τ).loc b)) (k : Fin 1024) (j : Fin 1024) :
    (((cfg0.win 10).blk t).view.read (Elt Ideal) (A (Pipeline.arrRef spec0 10)) : Vec Ideal S1024x1024 .bf16) (ix2 k j) = A main_v0 (ix2 k j) :=
  congrArg (A main_v0) (at2 ((ValueKit.rect_emb_unit_val _ _ _ _ _).trans (Nat.zero_add _)) ((ValueKit.rect_emb_unit_val _ _ _ _ _).trans (Nat.zero_add _)))

theorem blk10 (k : Fin 1024) (j : Fin 1024) : (iblk m c 10 t : Vec Ideal S1024x1024 .bf16) (ix2 k j) = argWo m c (ix2 k j) := by
  have e : (iblk m c 10 t : Vec Ideal S1024x1024 .bf16) (ix2 k j) = V m c main_v0 (ix2 k j) := rd10 c t (V m c) k j
  rw [e, V_wo]
  rfl

theorem rd11 (A : (b : Ref sig .tc) → Buf (Elt Ideal) ((c.tc : Thread nD τ).loc b)) (k : Fin 1024) (j : Fin 2048) :
    (((cfg0.win 11).blk t).view.read (Elt Ideal) (A (Pipeline.arrRef spec0 11)) : Vec Ideal S1024x2048 .bf16) (ix2 k j) = A main_v1 (ix2 k j) :=
  congrArg (A main_v1) (at2 ((ValueKit.rect_emb_unit_val _ _ _ _ _).trans (Nat.zero_add _)) ((ValueKit.rect_emb_unit_val _ _ _ _ _).trans (Nat.zero_add _)))

theorem blk11 (k : Fin 1024) (j : Fin 2048) : (iblk m c 11 t : Vec Ideal S1024x2048 .bf16) (ix2 k j) = argWq m c (ix2 k j) := by
  have e : (iblk m c 11 t : Vec Ideal S1024x2048 .bf16) (ix2 k j) = V m c main_v1 (ix2 k j) := rd11 c t (V m c) k j
  rw [e, V_wq]
  rfl

theorem rd13 (A : (b : Ref sig .tc) → Buf (Elt Ideal) ((c.tc : Thread nD τ).loc b)) (k : Fin 512) (j : Fin 512) :
    (((cfg0.win 13).blk t).view.read (Elt Ideal) (A (Pipeline.arrRef spec0 13)) : Vec Ideal S512x512 .bf16) (ix2 k j) = A main_v13 (ix2 k j) :=
  congrArg (A main_v13) (at2 ((ValueKit.rect_emb_unit_val _ _ _ _ _).trans (Nat.zero_add _)) ((ValueKit.rect_emb_unit_val _ _ _ _ _).trans (Nat.zero_add _)))

theorem blk13 (k : Fin 512) (j : Fin 512) : (iblk m c 13 t : Vec Ideal S512x512 .bf16) (ix2 k j) = (groupMatrix 64#32 0x3C800000#32 : Vec Ideal S512x512 .bf16) (ix2 k j) := by
  have e : (iblk m c 13 t : Vec Ideal S512x512 .bf16) (ix2 k j) = V m c main_v13 (ix2 k j) := rd13 c t (V m c) k j
  rw [e, V_bd64]

theorem rd14 (A : (b : Ref sig .tc) → Buf (Elt Ideal) ((c.tc : Thread nD τ).loc b)) (k : Fin 512) (j : Fin 512) :
    (((cfg0.win 14).blk t).view.read (Elt Ideal) (A (Pipeline.arrRef spec0 14)) : Vec Ideal S512x512 .bf16) (ix2 k j) = A main_v22 (ix2 k j) :=
  congrArg (A main_v22) (at2 ((ValueKit.rect_emb_unit_val _ _ _ _ _).trans (Nat.zero_add _)) ((ValueKit.rect_emb_unit_val _ _ _ _ _).trans (Nat.zero_add _)))

theorem blk14 (k : Fin 512) (j : Fin 512) : (iblk m c 14 t : Vec Ideal S512x512 .bf16) (ix2 k j) = (groupMatrix 128#32 0x3C000000#32 : Vec Ideal S512x512 .bf16) (ix2 k j) := by
  have e : (iblk m c 14 t : Vec Ideal S512x512 .bf16) (ix2 k j) = V m c main_v22 (ix2 k j) := rd14 c t (V m c) k j
  rw [e, V_bd128]

theorem rd12 (A : (b : Ref sig .tc) → Buf (Elt Ideal) ((c.tc : Thread nD τ).loc b)) (p : Fin 16) (n d : Fin 128) :
    (((cfg0.win 12).blk t).view.read (Elt Ideal) (A (Pipeline.arrRef spec0 12)) : Vec Ideal S16x128x128 .bf16) (ix3 p n d) = A main_v3 (ix3 p n d) := by
  refine congrArg (A main_v3) (funext fun a => Fin.ext ?_)
  refine (ValueKit.rect_emb_unit_val _ _ _ _ _).trans ?_
  match a with
  | ⟨0, _⟩ => exact Nat.zero_add _
  | ⟨1, _⟩ => exact Nat.zero_add _
  | ⟨2, _⟩ => exact Nat.zero_add _

theorem blk12 (p : Fin 16) (n d : Fin 128) : (iblk m c 12 t : Vec Ideal S16x128x128 .bf16) (ix3 p n d) = (keyRows (argKeys m c) : Vec Ideal S16x128x128 .bf16) (ix3 p n d) := by
  have e : (iblk m c 12 t : Vec Ideal S16x128x128 .bf16) (ix3 p n d) = V m c main_v3 (ix3 p n d) := rd12 c t (V m c) p n d
  rw [e, V_keys]

/-! The loads of the body. -/

theorem ld_rows {φ : EltTy} (x : Vec Ideal S512x512 φ) (r : Fin 512) (k : Fin 512) : View.ld x r0_0 (ix2 r k) = x (ix2 r k) :=
  congrArg x (at2 (whole _) (whole _))

theorem ld_g (x : Vec Ideal S1x512 .f32) (k : Fin 512) : View.ld x r0_1 (ix2 0 k) = x (ix2 0 k) :=
  congrArg x (at2 (whole _) (whole _))

theorem ld_x (x : Vec Ideal S512x1024 .f32) (r : Fin 512) (k : Fin 1024) : View.ld x r0_2 (ix2 r k) = x (ix2 r k) :=
  congrArg x (at2 (whole _) (whole _))

theorem ld_row (x : Vec Ideal S1x1024 .f32) (k : Fin 1024) : View.ld x r0_3 (ix2 0 k) = x (ix2 0 k) :=
  congrArg x (at2 (whole _) (whole _))

theorem ld_wo (x : Vec Ideal S1024x1024 .bf16) (r : Fin 1024) (k : Fin 1024) : View.ld x r0_4 (ix2 r k) = x (ix2 r k) :=
  congrArg x (at2 (whole _) (whole _))

theorem ld_wq (x : Vec Ideal S1024x2048 .bf16) (r : Fin 1024) (k : Fin 2048) : View.ld x r0_5 (ix2 r k) = x (ix2 r k) :=
  congrArg x (at2 (whole _) (whole _))

theorem ld_key0 (x : Vec Ideal S16x128x128 .bf16) (n d : Fin 128) : View.ld x r0_6 (ix3 0 n d) = x (ix3 0 n d) :=
  congrArg x (at3 rfl (whole _) (whole _))

theorem ld_key1 (x : Vec Ideal S16x128x128 .bf16) (n d : Fin 128) : View.ld x r0_8 (ix3 0 n d) = x (ix3 1 n d) :=
  congrArg x (at3 rfl (whole _) (whole _))

theorem ld_key2 (x : Vec Ideal S16x128x128 .bf16) (n d : Fin 128) : View.ld x r0_10 (ix3 0 n d) = x (ix3 2 n d) :=
  congrArg x (at3 rfl (whole _) (whole _))

theorem ld_key3 (x : Vec Ideal S16x128x128 .bf16) (n d : Fin 128) : View.ld x r0_12 (ix3 0 n d) = x (ix3 3 n d) :=
  congrArg x (at3 rfl (whole _) (whole _))

theorem ld_key4 (x : Vec Ideal S16x128x128 .bf16) (n d : Fin 128) : View.ld x r0_14 (ix3 0 n d) = x (ix3 4 n d) :=
  congrArg x (at3 rfl (whole _) (whole _))

theorem ld_key5 (x : Vec Ideal S16x128x128 .bf16) (n d : Fin 128) : View.ld x r0_16 (ix3 0 n d) = x (ix3 5 n d) :=
  congrArg x (at3 rfl (whole _) (whole _))

theorem ld_key6 (x : Vec Ideal S16x128x128 .bf16) (n d : Fin 128) : View.ld x r0_18 (ix3 0 n d) = x (ix3 6 n d) :=
  congrArg x (at3 rfl (whole _) (whole _))

theorem ld_key7 (x : Vec Ideal S16x128x128 .bf16) (n d : Fin 128) : View.ld x r0_20 (ix3 0 n d) = x (ix3 7 n d) :=
  congrArg x (at3 rfl (whole _) (whole _))

theorem ld_key8 (x : Vec Ideal S16x128x128 .bf16) (n d : Fin 128) : View.ld x r0_22 (ix3 0 n d) = x (ix3 8 n d) :=
  congrArg x (at3 rfl (whole _) (whole _))

theorem ld_key9 (x : Vec Ideal S16x128x128 .bf16) (n d : Fin 128) : View.ld x r0_24 (ix3 0 n d) = x (ix3 9 n d) :=
  congrArg x (at3 rfl (whole _) (whole _))

theorem ld_key10 (x : Vec Ideal S16x128x128 .bf16) (n d : Fin 128) : View.ld x r0_26 (ix3 0 n d) = x (ix3 10 n d) :=
  congrArg x (at3 rfl (whole _) (whole _))

theorem ld_key11 (x : Vec Ideal S16x128x128 .bf16) (n d : Fin 128) : View.ld x r0_28 (ix3 0 n d) = x (ix3 11 n d) :=
  congrArg x (at3 rfl (whole _) (whole _))

theorem ld_key12 (x : Vec Ideal S16x128x128 .bf16) (n d : Fin 128) : View.ld x r0_30 (ix3 0 n d) = x (ix3 12 n d) :=
  congrArg x (at3 rfl (whole _) (whole _))

theorem ld_key13 (x : Vec Ideal S16x128x128 .bf16) (n d : Fin 128) : View.ld x r0_32 (ix3 0 n d) = x (ix3 13 n d) :=
  congrArg x (at3 rfl (whole _) (whole _))

theorem ld_key14 (x : Vec Ideal S16x128x128 .bf16) (n d : Fin 128) : View.ld x r0_34 (ix3 0 n d) = x (ix3 14 n d) :=
  congrArg x (at3 rfl (whole _) (whole _))

theorem ld_key15 (x : Vec Ideal S16x128x128 .bf16) (n d : Fin 128) : View.ld x r0_36 (ix3 0 n d) = x (ix3 15 n d) :=
  congrArg x (at3 rfl (whole _) (whole _))

end Cert.Kernel3Ideal.Combine

end
-- ==== Proof.Combine.Body.lean ====
module

public import proofs.«01_k».proof.Proof.Combine.Blocks

@[expose] public section

set_option maxRecDepth 16384

noncomputable section

namespace Cert.Kernel3Ideal.Combine

open Idealize.ShloMosaic Idealize.ShloMosaic.TcCoe
open Cert.Kernel3Ideal Cert.Kernel3Ideal.Gen Cert.InputMath Cert.CombineMath

/-! What the body leaves in the result windows, from the blocks it reads. -/

variable (x0 : Vec Ideal S512x512 .f32) (x1 : Vec Ideal S512x512 .f32) (x2 : Vec Ideal S512x512 .f32) (x3 : Vec Ideal S512x1024 .f32) (x4 : Vec Ideal S1x1024 .f32) (x5 : Vec Ideal S1x1024 .f32) (x6 : Vec Ideal S1x1024 .f32) (x7 : Vec Ideal S1x512 .f32) (x8 : Vec Ideal S1x512 .f32) (x9 : Vec Ideal S1x1024 .f32) (x10 : Vec Ideal S1024x1024 .bf16) (x11 : Vec Ideal S1024x2048 .bf16) (x12 : Vec Ideal S16x128x128 .bf16) (x13 : Vec Ideal S512x512 .bf16) (x14 : Vec Ideal S512x512 .bf16)

/-- The residual of the block's token `r`. -/
abbrev x1Row (r : Fin 512) : Fin 1024 → EReal :=
  resid (fun k => x3 (ix2 r k)) (fun k => x4 (ix2 0 k)) (mixed (fun k => x0 (ix2 r k)) (fun k => x1 (ix2 r k)) (fun k => x2 (ix2 r k)) (fun k => x7 (ix2 0 k)) (fun k => x8 (ix2 0 k)))
    (fun k l => x10 (ix2 k l))

/-- Its activations for the experts. -/
abbrev h2Row (r : Fin 512) : Fin 1024 → EReal :=
  activation (x1Row x0 x1 x2 x3 x4 x7 x8 x10 r) (fun k => x9 (ix2 0 k)) (fun k => x5 (ix2 0 k)) (fun k => x6 (ix2 0 k))

/-- The scores of the block. -/
def scoreBlk : Vec Ideal S16x128x512 .f32 := fun i =>
  score (h2Row x0 x1 x2 x3 x4 x5 x6 x7 x8 x9 x10 (i 2)) (fun k l => x11 (ix2 k l)) (fun d => x12 (ix3 (i 0) (i 1) d)) (i 0)

/-- The block matrices hold a group's inverse size where two lanes are of one group, and the two mixers' lanes are real. -/
structure Ready : Prop where
  g64 : ∀ k j : Fin 512, x13 (ix2 k j) = if k.val / 64 = j.val / 64 then Ideal.ofBits .f32 1015021568#32 else 0
  g128 : ∀ k j : Fin 512, x14 (ix2 k j) = if k.val / 128 = j.val / 128 then Ideal.ofBits .f32 1006632960#32 else 0
  fox : ∀ r k : Fin 512, ∃ a : ℝ, x0 (ix2 r k) = (a : EReal)
  mh : ∀ r k : Fin 512, ∃ a : ℝ, x1 (ix2 r k) = (a : EReal)

theorem blockMean_of (x : Vec Ideal S512x512 .f32) (b : Vec Ideal S512x512 .bf16) (r j : Fin 512) (X B : Fin 512 → EReal)
    (hx : ∀ k, x (ix2 r k) = X k) (hb : ∀ k, b (ix2 k j) = B k) :
    blockMean x b r j = ∑ k : Fin 512, X k * X k * B k + ∑ k : Fin 512, (X k * X k - X k * X k) * B k := by
  unfold blockMean
  simp only [hx, hb]

theorem eta_piece (z : S1x128x512.Idx) : z = ix3 0 (z 1) (z 2) := by
  funext a
  match a with
  | ⟨0, _⟩ => exact Subsingleton.elim (α := Fin 1) _ _
  | ⟨1, _⟩ => rfl
  | ⟨2, _⟩ => rfl

theorem store15 (p : Vec Ideal S512x1024 .f32) (y : S512x1024.Idx) : View.canon [(⟨r0_2, p⟩ : View.Piece (Elt Ideal) S512x1024 .f32)] y = p y := by
  refine View.canon_apply_of_pieces p _ ?_ y (cover0_15 p y)
  intro pc hpc
  rcases List.mem_cons.mp hpc with rfl | hpc
  · refine fun x => congrArg p (funext fun a => Fin.ext ?_)
    match a with
    | ⟨0, _⟩ => exact ((Nat.zero_add _).trans (Nat.one_mul _)).symm
    | ⟨1, _⟩ => exact ((Nat.zero_add _).trans (Nat.one_mul _)).symm
  nomatch hpc

theorem store16 (p : Vec Ideal S512x1024 .bf16) (y : S512x1024.Idx) : View.canon [(⟨r0_2, p⟩ : View.Piece (Elt Ideal) S512x1024 .bf16)] y = p y := by
  refine View.canon_apply_of_pieces p _ ?_ y (cover0_16 p y)
  intro pc hpc
  rcases List.mem_cons.mp hpc with rfl | hpc
  · refine fun x => congrArg p (funext fun a => Fin.ext ?_)
    match a with
    | ⟨0, _⟩ => exact ((Nat.zero_add _).trans (Nat.one_mul _)).symm
    | ⟨1, _⟩ => exact ((Nat.zero_add _).trans (Nat.one_mul _)).symm
  nomatch hpc

section

variable (H : Ready x0 x1 x13 x14)
include H

theorem lane_a (r j : Fin 512) : k0_pay29 (F := Ideal) x0 x1 x2 x3 x4 x5 x6 x7 x8 x9 x10 x11 x12 x13 x14 (ix2 r j)
    = headNorm mean64 (fun k => x0 (ix2 r k)) j * x7 (ix2 0 j) := by
  refine (pay3_apply _ _ _ r j).trans ?_
  rw [blockMean_of _ _ r j (fun k => x0 (ix2 r k)) _ (fun k => ld_rows x0 r k) (fun k => (ld_rows x13 k j).trans (H.g64 k j)), kernel64 _ (H.fox r), ld_rows x0 r j, ld_g x7 j]
  rfl

theorem lane_h (r j : Fin 512) : k0_pay31 (F := Ideal) x0 x1 x2 x3 x4 x5 x6 x7 x8 x9 x10 x11 x12 x13 x14 (ix2 r j)
    = headNorm mean128 (fun k => x1 (ix2 r k)) j := by
  refine (pay5_apply _ _ r j).trans ?_
  rw [blockMean_of _ _ r j (fun k => x1 (ix2 r k)) _ (fun k => ld_rows x1 r k) (fun k => (ld_rows x14 k j).trans (H.g128 k j)), kernel128 _ (H.mh r), ld_rows x1 r j]
  rfl

omit H in
theorem lane_mo (r j : Fin 512) : k0_pay30 (F := Ideal) x0 x1 x2 x3 x4 x5 x6 x7 x8 x9 x10 x11 x12 x13 x14 (ix2 r j) = x2 (ix2 r j) :=
  (pay4_apply _ r j).trans (ld_rows x2 r j)

theorem lanes_eq (r : Fin 512) : lanes (k0_pay29 (F := Ideal) x0 x1 x2 x3 x4 x5 x6 x7 x8 x9 x10 x11 x12 x13 x14) (k0_pay30 (F := Ideal) x0 x1 x2 x3 x4 x5 x6 x7 x8 x9 x10 x11 x12 x13 x14) (k0_pay31 (F := Ideal) x0 x1 x2 x3 x4 x5 x6 x7 x8 x9 x10 x11 x12 x13 x14) (View.ld x8 r0_1) r
    = mixed (fun k => x0 (ix2 r k)) (fun k => x1 (ix2 r k)) (fun k => x2 (ix2 r k)) (fun k => x7 (ix2 0 k)) (fun k => x8 (ix2 0 k)) := by
  funext k
  unfold lanes mixed
  by_cases h : k.val < 512
  · rw [dif_pos h, dif_pos h]
    exact lane_a x0 x1 x2 x3 x4 x5 x6 x7 x8 x9 x10 x11 x12 x13 x14 H r _
  · rw [dif_neg h, dif_neg h, lane_h x0 x1 x2 x3 x4 x5 x6 x7 x8 x9 x10 x11 x12 x13 x14 H r, lane_mo x0 x1 x2 x3 x4 x5 x6 x7 x8 x9 x10 x11 x12 x13 x14 r, ld_g x8, div_sigmoid]

theorem resid_eq (r : Fin 512) :
    resid (fun k => View.ld x3 r0_2 (ix2 r k)) (fun k => View.ld x4 r0_3 (ix2 0 k)) (lanes (k0_pay29 (F := Ideal) x0 x1 x2 x3 x4 x5 x6 x7 x8 x9 x10 x11 x12 x13 x14) (k0_pay30 (F := Ideal) x0 x1 x2 x3 x4 x5 x6 x7 x8 x9 x10 x11 x12 x13 x14) (k0_pay31 (F := Ideal) x0 x1 x2 x3 x4 x5 x6 x7 x8 x9 x10 x11 x12 x13 x14) (View.ld x8 r0_1) r)
      (fun k l => View.ld x10 r0_4 (ix2 k l)) = x1Row x0 x1 x2 x3 x4 x7 x8 x10 r := by
  rw [lanes_eq x0 x1 x2 x3 x4 x5 x6 x7 x8 x9 x10 x11 x12 x13 x14 H r, funext fun k => ld_x x3 r k, funext fun k => ld_row x4 k, funext fun k => funext fun l => ld_wo x10 k l]

theorem pay_x1 (r : Fin 512) (n : Fin 1024) :
    k0_pay6 (F := Ideal) (k0_pay29 x0 x1 x2 x3 x4 x5 x6 x7 x8 x9 x10 x11 x12 x13 x14) (k0_pay30 x0 x1 x2 x3 x4 x5 x6 x7 x8 x9 x10 x11 x12 x13 x14) (k0_pay31 x0 x1 x2 x3 x4 x5 x6 x7 x8 x9 x10 x11 x12 x13 x14) (View.ld x8 r0_1) (View.ld x3 r0_2) (View.ld x4 r0_3) (View.ld x10 r0_4) (ix2 r n)
      = x1Row x0 x1 x2 x3 x4 x7 x8 x10 r n := by
  refine (pay6_apply _ _ _ _ _ _ _ r n).trans ?_
  rw [resid_eq x0 x1 x2 x3 x4 x5 x6 x7 x8 x9 x10 x11 x12 x13 x14 H r]

theorem pay_h2 (r : Fin 512) (n : Fin 1024) :
    (k0_pay9 (F := Ideal) (k0_pay32 x0 x1 x2 x3 x4 x5 x6 x7 x8 x9 x10 x11 x12 x13 x14) (k0_pay33 x0 x1 x2 x3 x4 x5 x6 x7 x8 x9 x10 x11 x12 x13 x14) (View.ld x6 r0_3) : Vec Ideal S512x1024 .bf16) (ix2 r n)
      = h2Row x0 x1 x2 x3 x4 x5 x6 x7 x8 x9 x10 r n := by
  refine (pay7_apply _ _ _ _ _ _ _ _ _ _ r n).trans ?_
  rw [resid_eq x0 x1 x2 x3 x4 x5 x6 x7 x8 x9 x10 x11 x12 x13 x14 H r, funext fun k => ld_row x9 k, funext fun k => ld_row x5 k, funext fun k => ld_row x6 k]

theorem pay_q (r : Fin 512) (n : Fin 2048) : (k0_pay34 (F := Ideal) x0 x1 x2 x3 x4 x5 x6 x7 x8 x9 x10 x11 x12 x13 x14 : Vec Ideal S512x2048 .bf16) (ix2 r n)
    = proj (h2Row x0 x1 x2 x3 x4 x5 x6 x7 x8 x9 x10 r) (fun k => x11 (ix2 k n)) := by
  refine (pay10_apply _ _ _ _ r n).trans ?_
  rw [funext fun k => pay_h2 x0 x1 x2 x3 x4 x5 x6 x7 x8 x9 x10 x11 x12 x13 x14 H r k, funext fun k => ld_wq x11 k n]

theorem against_eq (key : Vec Ideal S1x128x128 .bf16) (p : Fin 16) (hk : ∀ n d : Fin 128, key (ix3 0 n d) = x12 (ix3 p n d)) (n : Fin 128) (r : Fin 512) :
    against (k0_pay34 (F := Ideal) x0 x1 x2 x3 x4 x5 x6 x7 x8 x9 x10 x11 x12 x13 x14) key p n r = scoreBlk x0 x1 x2 x3 x4 x5 x6 x7 x8 x9 x10 x11 x12 (ix3 p n r) := by
  unfold against scoreBlk score
  refine Finset.sum_congr rfl fun d _ => ?_
  rw [hk, pay_q x0 x1 x2 x3 x4 x5 x6 x7 x8 x9 x10 x11 x12 x13 x14 H]
  rfl

/-- A stored piece holds its rows of the scores. -/
theorem piece_of (f : Vec Ideal S1x128x512 .f32) (key : Vec Ideal S1x128x128 .bf16) (p : Fin 16) (e : S1x128x512.Idx → S16x128x512.Idx)
    (hf : ∀ n r, f (ix3 0 n r) = against (k0_pay34 (F := Ideal) x0 x1 x2 x3 x4 x5 x6 x7 x8 x9 x10 x11 x12 x13 x14) key p n r) (hk : ∀ n d, key (ix3 0 n d) = x12 (ix3 p n d)) (he : ∀ n r, e (ix3 0 n r) = ix3 p n r)
    (z : S1x128x512.Idx) : f z = scoreBlk x0 x1 x2 x3 x4 x5 x6 x7 x8 x9 x10 x11 x12 (e z) := by
  obtain ⟨n, r, rfl⟩ : ∃ (n : Fin 128) (r : Fin 512), z = ix3 0 n r := ⟨z 1, z 2, eta_piece z⟩
  rw [hf, he, against_eq x0 x1 x2 x3 x4 x5 x6 x7 x8 x9 x10 x11 x12 x13 x14 H key p hk]

theorem out17_apply (y : S16x128x512.Idx) : out0_17 (F := Ideal) x0 x1 x2 x3 x4 x5 x6 x7 x8 x9 x10 x11 x12 x13 x14 y = scoreBlk x0 x1 x2 x3 x4 x5 x6 x7 x8 x9 x10 x11 x12 y := by
  refine View.canon_apply_of_pieces (scoreBlk x0 x1 x2 x3 x4 x5 x6 x7 x8 x9 x10 x11 x12) _ ?_ y (cover0_17 _ _ _ _ _ _ _ _ _ _ _ _ _ _ _ _ y)
  intro pc hpc
  rcases List.mem_cons.mp hpc with rfl | hpc
  · exact piece_of x0 x1 x2 x3 x4 x5 x6 x7 x8 x9 x10 x11 x12 x13 x14 H _ _ 15 _ (score15 _ _) (ld_key15 x12) fun _ _ => at3 rfl (whole _) (whole _)
  rcases List.mem_cons.mp hpc with rfl | hpc
  · exact piece_of x0 x1 x2 x3 x4 x5 x6 x7 x8 x9 x10 x11 x12 x13 x14 H _ _ 14 _ (score14 _ _) (ld_key14 x12) fun _ _ => at3 rfl (whole _) (whole _)
  rcases List.mem_cons.mp hpc with rfl | hpc
  · exact piece_of x0 x1 x2 x3 x4 x5 x6 x7 x8 x9 x10 x11 x12 x13 x14 H _ _ 13 _ (score13 _ _) (ld_key13 x12) fun _ _ => at3 rfl (whole _) (whole _)
  rcases List.mem_cons.mp hpc with rfl | hpc
  · exact piece_of x0 x1 x2 x3 x4 x5 x6 x7 x8 x9 x10 x11 x12 x13 x14 H _ _ 12 _ (score12 _ _) (ld_key12 x12) fun _ _ => at3 rfl (whole _) (whole _)
  rcases List.mem_cons.mp hpc with rfl | hpc
  · exact piece_of x0 x1 x2 x3 x4 x5 x6 x7 x8 x9 x10 x11 x12 x13 x14 H _ _ 11 _ (score11 _ _) (ld_key11 x12) fun _ _ => at3 rfl (whole _) (whole _)
  rcases List.mem_cons.mp hpc with rfl | hpc
  · exact piece_of x0 x1 x2 x3 x4 x5 x6 x7 x8 x9 x10 x11 x12 x13 x14 H _ _ 10 _ (score10 _ _) (ld_key10 x12) fun _ _ => at3 rfl (whole _) (whole _)
  rcases List.mem_cons.mp hpc with rfl | hpc
  · exact piece_of x0 x1 x2 x3 x4 x5 x6 x7 x8 x9 x10 x11 x12 x13 x14 H _ _ 9 _ (score9 _ _) (ld_key9 x12) fun _ _ => at3 rfl (whole _) (whole _)
  rcases List.mem_cons.mp hpc with rfl | hpc
  · exact piece_of x0 x1 x2 x3 x4 x5 x6 x7 x8 x9 x10 x11 x12 x13 x14 H _ _ 8 _ (score8 _ _) (ld_key8 x12) fun _ _ => at3 rfl (whole _) (whole _)
  rcases List.mem_cons.mp hpc with rfl | hpc
  · exact piece_of x0 x1 x2 x3 x4 x5 x6 x7 x8 x9 x10 x11 x12 x13 x14 H _ _ 7 _ (score7 _ _) (ld_key7 x12) fun _ _ => at3 rfl (whole _) (whole _)
  rcases List.mem_cons.mp hpc with rfl | hpc
  · exact piece_of x0 x1 x2 x3 x4 x5 x6 x7 x8 x9 x10 x11 x12 x13 x14 H _ _ 6 _ (score6 _ _) (ld_key6 x12) fun _ _ => at3 rfl (whole _) (whole _)
  rcases List.mem_cons.mp hpc with rfl | hpc
  · exact piece_of x0 x1 x2 x3 x4 x5 x6 x7 x8 x9 x10 x11 x12 x13 x14 H _ _ 5 _ (score5 _ _) (ld_key5 x12) fun _ _ => at3 rfl (whole _) (whole _)
  rcases List.mem_cons.mp hpc with rfl | hpc
  · exact piece_of x0 x1 x2 x3 x4 x5 x6 x7 x8 x9 x10 x11 x12 x13 x14 H _ _ 4 _ (score4 _ _) (ld_key4 x12) fun _ _ => at3 rfl (whole _) (whole _)
  rcases List.mem_cons.mp hpc with rfl | hpc
  · exact piece_of x0 x1 x2 x3 x4 x5 x6 x7 x8 x9 x10 x11 x12 x13 x14 H _ _ 3 _ (score3 _ _) (ld_key3 x12) fun _ _ => at3 rfl (whole _) (whole _)
  rcases List.mem_cons.mp hpc with rfl | hpc
  · exact piece_of x0 x1 x2 x3 x4 x5 x6 x7 x8 x9 x10 x11 x12 x13 x14 H _ _ 2 _ (score2 _ _ _ _ _) (ld_key2 x12) fun _ _ => at3 rfl (whole _) (whole _)
  rcases List.mem_cons.mp hpc with rfl | hpc
  · exact piece_of x0 x1 x2 x3 x4 x5 x6 x7 x8 x9 x10 x11 x12 x13 x14 H _ _ 1 _ (score1 _ _ _ _ _) (ld_key1 x12) fun _ _ => at3 rfl (whole _) (whole _)
  rcases List.mem_cons.mp hpc with rfl | hpc
  · exact piece_of x0 x1 x2 x3 x4 x5 x6 x7 x8 x9 x10 x11 x12 x13 x14 H _ _ 0 _ (score0 _ _ _ _ _) (ld_key0 x12) fun _ _ => at3 rfl (whole _) (whole _)
  nomatch hpc

theorem out15_apply (r : Fin 512) (n : Fin 1024) : out0_15 (F := Ideal) x0 x1 x2 x3 x4 x5 x6 x7 x8 x9 x10 x11 x12 x13 x14 (ix2 r n) = x1Row x0 x1 x2 x3 x4 x7 x8 x10 r n :=
  (store15 _ _).trans (pay_x1 x0 x1 x2 x3 x4 x5 x6 x7 x8 x9 x10 x11 x12 x13 x14 H r n)

theorem out16_apply (r : Fin 512) (n : Fin 1024) : (out0_16 (F := Ideal) x0 x1 x2 x3 x4 x5 x6 x7 x8 x9 x10 x11 x12 x13 x14 : Vec Ideal S512x1024 .bf16) (ix2 r n) = h2Row x0 x1 x2 x3 x4 x5 x6 x7 x8 x9 x10 r n :=
  (store16 _ _).trans (pay_h2 x0 x1 x2 x3 x4 x5 x6 x7 x8 x9 x10 x11 x12 x13 x14 H r n)

end

end Cert.Kernel3Ideal.Combine

end
-- ==== Proof.Combine.Arrays.lean ====
module

public import proofs.«01_k».proof.Proof.Combine.Body
public import proofs.«01_k».proof.Proof.Gen.Kernel3Ideal.Value

@[expose] public section

set_option maxRecDepth 16384

noncomputable section

namespace Cert.Kernel3Ideal.Combine

open Idealize.ShloMosaic Idealize.ShloMosaic.TcCoe
open Idealize.SL.Sem
open Cert.Kernel3Ideal Cert.Kernel3Ideal.Gen Cert.InputMath Cert.CombineMath

/-! The result arrays after the run, when the two mixers' outputs are real. -/

variable (m : (ℓ : Loc nD τ sig) → Buf (Elt Ideal) ℓ) (c : Dev nD)

/-- The residual of a token. -/
abbrev x1Tok (u : Fin 16384) : Fin 1024 → EReal :=
  resid (fun k => argX m c (ix3 0 u k)) (fun k => argGate m c (ix3 0 0 k)) (mixed (fun k => argFox m c (ix3 0 u k)) (fun k => argMh m c (ix3 0 u k)) (fun k => argMo m c (ix3 0 u k))
    (fun k => argGfox m c (ix1 k)) (fun k => argGml m c (ix1 k))) (fun k l => argWo m c (ix2 k l))

/-- The activations of a token for the experts. -/
abbrev h2Tok (u : Fin 16384) : Fin 1024 → EReal :=
  activation (x1Tok m c u) (fun k => argGffn m c (ix1 k)) (fun k => argScale m c (ix3 0 0 k)) (fun k => argShift m c (ix3 0 0 k))

def outX1 : Vec Ideal S16384x1024 .f32 := fun i => x1Tok m c (i 0) (i 1)

def outH2 : Vec Ideal S16384x1024 .bf16 := fun i => h2Tok m c (i 0) (i 1)

/-- The scores of the router's keys. -/
def outScores : Vec Ideal S16x128x16384 .f32 := fun i =>
  score (h2Tok m c (i 2)) (fun k l => argWq m c (ix2 k l)) (fun d => (keyRows (argKeys m c) : Vec Ideal S16x128x128 .bf16) (ix3 (i 0) (i 1) d)) (i 0)

/-- The two mixers' outputs are real. -/
structure Mixers : Prop where
  fox : ∀ i : S1x16384x512.Idx, ∃ a : ℝ, argFox m c i = (a : EReal)
  mh : ∀ i : S1x16384x512.Idx, ∃ a : ℝ, argMh m c i = (a : EReal)

theorem x1Row_blk (t : Fin grid0.N) (r : Fin 512) : x1Row (iblk m c 0 t) (iblk m c 1 t) (iblk m c 2 t) (iblk m c 3 t) (iblk m c 4 t) (iblk m c 7 t) (iblk m c 8 t) (iblk m c 10 t) r = x1Tok m c (tok t r) := by
  unfold x1Row x1Tok
  rw [funext fun k => blk0 m c t r k, funext fun k => blk1 m c t r k, funext fun k => blk2 m c t r k, funext fun k => blk3 m c t r k, funext fun k => blk4 m c t k,
    funext fun k => blk7 m c t k, funext fun k => blk8 m c t k, funext fun k => funext fun l => blk10 m c t k l]

theorem h2Row_blk (t : Fin grid0.N) (r : Fin 512) : h2Row (iblk m c 0 t) (iblk m c 1 t) (iblk m c 2 t) (iblk m c 3 t) (iblk m c 4 t) (iblk m c 5 t) (iblk m c 6 t) (iblk m c 7 t) (iblk m c 8 t) (iblk m c 9 t) (iblk m c 10 t) r = h2Tok m c (tok t r) := by
  unfold h2Row h2Tok
  rw [x1Row_blk, funext fun k => blk9 m c t k, funext fun k => blk5 m c t k, funext fun k => blk6 m c t k]

theorem score_blk (t : Fin grid0.N) (p : Fin 16) (n : Fin 128) (r : Fin 512) : scoreBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 p n r) = outScores m c (ix3 p n (tok t r)) := by
  refine (show _ = score (h2Row (iblk m c 0 t) (iblk m c 1 t) (iblk m c 2 t) (iblk m c 3 t) (iblk m c 4 t) (iblk m c 5 t) (iblk m c 6 t) (iblk m c 7 t) (iblk m c 8 t) (iblk m c 9 t) (iblk m c 10 t) r) (fun k l => (iblk m c 11 t : Vec Ideal S1024x2048 .bf16) (ix2 k l)) (fun d => (iblk m c 12 t : Vec Ideal S16x128x128 .bf16) (ix3 p n d)) p from rfl).trans ?_
  rw [h2Row_blk, funext fun k => funext fun l => blk11 m c t k l, funext fun d => blk12 m c t p n d]
  rfl

/-- The grid point of a token's block. -/
abbrev pt (u : ℕ) (h : u < 16384) : Fin grid0.N := ⟨u / 512, (show u / 512 < 32 by omega)⟩

variable (M : Mixers m c)

include M in
theorem ready (t : Fin grid0.N) : Ready (iblk m c 0 t) (iblk m c 1 t) (iblk m c 13 t) (iblk m c 14 t) where
  g64 k j := (blk13 m c t k j).trans (group64_apply k j)
  g128 k j := (blk14 m c t k j).trans (group128_apply k j)
  fox r k := (M.fox (ix3 0 (tok t r) k)).imp fun a h => (blk0 m c t r k).trans h
  mh r k := (M.mh (ix3 0 (tok t r) k)).imp fun a h => (blk1 m c t r k).trans h

theorem index15 : ∀ t : Fin grid0.N, win0_15.index t (⟨0, by decide⟩ : Fin 2) = t.val := by decide +kernel

theorem emb15 (G : Vec Ideal S16384x1024 .f32) (t : Fin grid0.N) (r : Fin 512) (j : Fin 1024) : G (((cfg0.win 15).blk t).view.emb (ix2 r j)) = G (ix2 (tok t r) j) := by
  refine congrArg G (funext fun a => Fin.ext ?_)
  refine (ValueKit.rect_emb_unit_val _ _ _ _ _).trans ?_
  match a with
  | ⟨0, _⟩ =>
    show win0_15.index t (⟨0, by decide⟩ : Fin 2) * 512 + r.val = 512 * t.val + r.val
    rw [index15, Nat.mul_comm]
  | ⟨1, _⟩ => exact Nat.zero_add _

include M in
theorem left15 (t : Fin grid0.N) (y : S512x1024.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = (outX1 m c : Vec Ideal S16384x1024 .f32) (((cfg0.win 15).blk t).view.emb y) := by
  obtain ⟨r, j, rfl⟩ : ∃ r j, y = ix2 r j := ⟨y 0, y 1, at2 rfl rfl⟩
  exact ((out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ready m c M t) r j).trans (congrFun (x1Row_blk m c t r) j)).trans (emb15 (outX1 m c) t r j).symm

theorem cover15 (i : S16384x1024.Idx) : ∃ t : Fin grid0.N, (cfg0.win 15).flush t = true ∧ i ∈ ((cfg0.win 15).blk t).view.set := by
  have h0 : (i 0).val < 16384 := (i 0).isLt
  have h1 : (i 1).val < 1024 := (i 1).isLt
  refine ⟨pt (i 0).val h0, flush0_15 _, ?_⟩
  refine (ValueKit.mem_set_slice_whole_iff main_v33_0 _ i (Pipeline.Window.mem_rect_iff (cfg0.win 15) _ i rfl)).mpr fun a => ?_
  match a with
  | ⟨0, _⟩ =>
    show win0_15.index (pt (i 0).val h0) (⟨0, by decide⟩ : Fin 2) * 512 ≤ (i 0).val ∧ (i 0).val < win0_15.index (pt (i 0).val h0) (⟨0, by decide⟩ : Fin 2) * 512 + 512
    rw [index15]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

include M in
theorem arr15 : (dats m 0 c).arrAt 15 cfg0.N = outX1 m c := by
  refine Pipeline.Dat.arrAt_eq_of_emb (dats m 0 c) (15 : Fin 18) (show Buf (Elt Ideal) ((c.tc : Thread nD τ).loc main_v33_0) from outX1 m c) (fun t _ y => ?_) (fun i => cover15 i)
  exact (congrFun (after0_15 m c t) _).trans (left15 m c M t y)

theorem index16 : ∀ t : Fin grid0.N, win0_16.index t (⟨0, by decide⟩ : Fin 2) = t.val := by decide +kernel

theorem emb16 (G : Vec Ideal S16384x1024 .bf16) (t : Fin grid0.N) (r : Fin 512) (j : Fin 1024) : G (((cfg0.win 16).blk t).view.emb (ix2 r j)) = G (ix2 (tok t r) j) := by
  refine congrArg G (funext fun a => Fin.ext ?_)
  refine (ValueKit.rect_emb_unit_val _ _ _ _ _).trans ?_
  match a with
  | ⟨0, _⟩ =>
    show win0_16.index t (⟨0, by decide⟩ : Fin 2) * 512 + r.val = 512 * t.val + r.val
    rw [index16, Nat.mul_comm]
  | ⟨1, _⟩ => exact Nat.zero_add _

include M in
theorem left16 (t : Fin grid0.N) (y : S512x1024.Idx) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = (outH2 m c : Vec Ideal S16384x1024 .bf16) (((cfg0.win 16).blk t).view.emb y) := by
  obtain ⟨r, j, rfl⟩ : ∃ r j, y = ix2 r j := ⟨y 0, y 1, at2 rfl rfl⟩
  exact ((out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ready m c M t) r j).trans (congrFun (h2Row_blk m c t r) j)).trans (emb16 (outH2 m c) t r j).symm

theorem cover16 (i : S16384x1024.Idx) : ∃ t : Fin grid0.N, (cfg0.win 16).flush t = true ∧ i ∈ ((cfg0.win 16).blk t).view.set := by
  have h0 : (i 0).val < 16384 := (i 0).isLt
  have h1 : (i 1).val < 1024 := (i 1).isLt
  refine ⟨pt (i 0).val h0, flush0_16 _, ?_⟩
  refine (ValueKit.mem_set_slice_whole_iff main_v33_1 _ i (Pipeline.Window.mem_rect_iff (cfg0.win 16) _ i rfl)).mpr fun a => ?_
  match a with
  | ⟨0, _⟩ =>
    show win0_16.index (pt (i 0).val h0) (⟨0, by decide⟩ : Fin 2) * 512 ≤ (i 0).val ∧ (i 0).val < win0_16.index (pt (i 0).val h0) (⟨0, by decide⟩ : Fin 2) * 512 + 512
    rw [index16]
    show (i 0).val / 512 * 512 ≤ (i 0).val ∧ (i 0).val < (i 0).val / 512 * 512 + 512
    constructor <;> omega
  | ⟨1, _⟩ => exact ⟨Nat.zero_le _, Nat.lt_of_lt_of_eq h1 (Nat.zero_add _).symm⟩

include M in
theorem arr16 : (dats m 0 c).arrAt 16 cfg0.N = outH2 m c := by
  refine Pipeline.Dat.arrAt_eq_of_emb (dats m 0 c) (16 : Fin 18) (show Buf (Elt Ideal) ((c.tc : Thread nD τ).loc main_v33_1) from outH2 m c) (fun t _ y => ?_) (fun i => cover16 i)
  exact (congrFun (after0_16 m c t) _).trans (left16 m c M t y)

theorem index17 : ∀ t : Fin grid0.N, win0_17.index t (⟨2, by decide⟩ : Fin 3) = t.val := by decide +kernel

theorem emb17 (G : Vec Ideal S16x128x16384 .f32) (t : Fin grid0.N) (p : Fin 16) (n : Fin 128) (r : Fin 512) : G (((cfg0.win 17).blk t).view.emb (ix3 p n r)) = G (ix3 p n (tok t r)) := by
  refine congrArg G (funext fun a => Fin.ext ?_)
  refine (ValueKit.rect_emb_unit_val _ _ _ _ _).trans ?_
  match a with
  | ⟨0, _⟩ => exact Nat.zero_add _
  | ⟨1, _⟩ => exact Nat.zero_add _
  | ⟨2, _⟩ =>
    show win0_17.index t (⟨2, by decide⟩ : Fin 3) * 512 + r.val = 512 * t.val + r.val
    rw [index17, Nat.mul_comm]

include M in
theorem left17 (t : Fin grid0.N) (y : S16x128x512.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = (outScores m c : Vec Ideal S16x128x16384 .f32) (((cfg0.win 17).blk t).view.emb y) := by
  obtain ⟨p, n, r, rfl⟩ : ∃ p n r, y = ix3 p n r := ⟨y 0, y 1, y 2, at3 rfl rfl rfl⟩
  exact ((out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ready m c M t) (ix3 p n r)).trans (score_blk m c t p n r)).trans (emb17 (outScores m c) t p n r).symm

theorem cover17 (i : S16x128x16384.Idx) : ∃ t : Fin grid0.N, (cfg0.win 17).flush t = true ∧ i ∈ ((cfg0.win 17).blk t).view.set := by
  have h0 : (i 0).val < 16 := (i 0).isLt
  have h1 : (i 1).val < 128 := (i 1).isLt
  have h2 : (i 2).val < 16384 := (i 2).isLt
  refine ⟨pt (i 2).val h2, flush0_17 _, ?_⟩
  refine (ValueKit.mem_set_slice_whole_iff main_v33_2 _ i (Pipeline.Window.mem_rect_iff (cfg0.win 17) _ i rfl)).mpr fun a => ?_
  match a with
  | ⟨0, _⟩ => exact ⟨Nat.zero_le _, Nat.lt_of_lt_of_eq h0 (Nat.zero_add _).symm⟩
  | ⟨1, _⟩ => exact ⟨Nat.zero_le _, Nat.lt_of_lt_of_eq h1 (Nat.zero_add _).symm⟩
  | ⟨2, _⟩ =>
    show win0_17.index (pt (i 2).val h2) (⟨2, by decide⟩ : Fin 3) * 512 ≤ (i 2).val ∧ (i 2).val < win0_17.index (pt (i 2).val h2) (⟨2, by decide⟩ : Fin 3) * 512 + 512
    rw [index17]
    show (i 2).val / 512 * 512 ≤ (i 2).val ∧ (i 2).val < (i 2).val / 512 * 512 + 512
    constructor <;> omega

include M in
theorem arr17 : (dats m 0 c).arrAt 17 cfg0.N = outScores m c := by
  refine Pipeline.Dat.arrAt_eq_of_emb (dats m 0 c) (17 : Fin 18) (show Buf (Elt Ideal) ((c.tc : Thread nD τ).loc main_v33_2) from outScores m c) (fun t _ y => ?_) (fun i => cover17 i)
  exact (congrFun (after0_17 m c t) _).trans (left17 m c M t y)

end Cert.Kernel3Ideal.Combine

end
-- ==== Proof.Combine.Reference.lean ====
module

public import proofs.«01_k».proof.Proof.Gen.Reference3Ideal.Read
public import proofs.«01_k».proof.Proof.Combine.Math
public import Idealize.ShloMosaic.Lib.Pointwise

@[expose] public section

set_option maxRecDepth 16384

noncomputable section

namespace Cert.Reference3Ideal.Read

open Idealize.ShloMosaic Idealize.ShloMosaic.TcCoe
open Cert.Reference3Ideal Cert.Reference3Ideal.Gen Cert.InputMath Cert.CombineMath

/-! The reference's values, at an index. -/

variable (x0 x1 x2 : BufTy.Contents (Elt Ideal) ⟨S1x16384x512, .f32⟩) (x3 : BufTy.Contents (Elt Ideal) ⟨S1x16384x1024, .f32⟩)
  (x4 x5 x6 : BufTy.Contents (Elt Ideal) ⟨S1x1x1024, .f32⟩) (x7 x8 : BufTy.Contents (Elt Ideal) ⟨S512, .f32⟩) (x9 : BufTy.Contents (Elt Ideal) ⟨S1024, .f32⟩)
  (x10 : BufTy.Contents (Elt Ideal) ⟨S1024x1024, .f32⟩) (x11 : BufTy.Contents (Elt Ideal) ⟨S1024x2048, .f32⟩) (x12 : BufTy.Contents (Elt Ideal) ⟨S8x2x128x128, .f32⟩)

/-- A token's mixed lanes. -/
abbrev mixedTok (u : Fin 16384) : Fin 1024 → EReal :=
  mixed (fun k => x0 (ix3 0 u k)) (fun k => x1 (ix3 0 u k)) (fun k => x2 (ix3 0 u k)) (fun k => x7 (ix1 k)) (fun k => x8 (ix1 k))

/-- A token's residual. -/
abbrev residTok (u : Fin 16384) : Fin 1024 → EReal :=
  resid (fun k => x3 (ix3 0 u k)) (fun k => x4 (ix3 0 0 k)) (mixedTok x0 x1 x2 x7 x8 u) (fun k l => x10 (ix2 k l))

/-- A token's activations. -/
abbrev actTok (u : Fin 16384) : Fin 1024 → EReal :=
  activation (residTok x0 x1 x2 x3 x4 x7 x8 x10 u) (fun k => x9 (ix1 k)) (fun k => x5 (ix3 0 0 k)) (fun k => x6 (ix3 0 0 k))

theorem squares64_at (u : Fin 16384) (h : Fin 8) :
    val_main_v2 (F := Ideal) x0 (ix3 0 u h) = ∑ d : Fin 64, x0 (ix3 0 u ⟨64 * h.val + d.val, by omega⟩) * x0 (ix3 0 u ⟨64 * h.val + d.val, by omega⟩) := by
  pointwise [val_main_v2, val_main_cst, val_main_v1, val_main_v0]
  simp only [Nat.mul_comm h.val]

theorem squares128_at (u : Fin 16384) (h : Fin 4) :
    val_main_v17 (F := Ideal) x1 (ix3 0 u h) = ∑ d : Fin 128, x1 (ix3 0 u ⟨128 * h.val + d.val, by omega⟩) * x1 (ix3 0 u ⟨128 * h.val + d.val, by omega⟩) := by
  pointwise [val_main_v17, val_main_cst_2, val_main_v16, val_main_v15]
  simp only [Nat.mul_comm h.val]

theorem lane64_at (u : Fin 16384) (k : Fin 512) :
    val_main_v14 (F := Ideal) x0 x7 (ix3 0 u k) = headNorm mean64 (fun k => x0 (ix3 0 u k)) k * x7 (ix1 k) := by
  have e := squares64_at x0 u ⟨k.val / 64, by omega⟩
  unfold headNorm mean64
  rw [← e]
  pointwise [val_main_v14, val_main_v13, val_main_v12, val_main_v11, val_main_v10, val_main_v9, val_main_v8, val_main_v7, val_main_v6, val_main_v5, val_main_v4, val_main_v3, val_main_v0, val_main_cst_0, val_main_cst_1]

theorem lane128_at (u : Fin 16384) (k : Fin 512) :
    val_main_v35 (F := Ideal) x1 x8 (ix3 0 u k) = headNorm mean128 (fun k => x1 (ix3 0 u k)) k * x8 (ix1 k) := by
  have e := squares128_at x1 u ⟨k.val / 128, by omega⟩
  unfold headNorm mean128
  rw [← e]
  pointwise [val_main_v35, val_main_v34, val_main_v33, val_main_v32, val_main_v25, val_main_v24, val_main_v23, val_main_v22, val_main_v21, val_main_v20, val_main_v19, val_main_v18, val_main_v15, val_main_cst_3, val_main_cst_4]

theorem gate_at (u : Fin 16384) (k : Fin 512) : val_main_v31 (F := Ideal) x2 (ix3 0 u k) = Ideal.logistic (x2 (ix3 0 u k)) := by
  unfold Ideal.logistic
  pointwise [val_main_v31, val_main_v30, val_main_v29, val_main_v28, val_main_v27, val_main_v26, val_main_cst_5, val_main_cst_6]

theorem gated_at (u : Fin 16384) (k : Fin 512) :
    val_main_v36 (F := Ideal) x1 x2 x8 (ix3 0 u k) = Ideal.logistic (x2 (ix3 0 u k)) * (headNorm mean128 (fun k => x1 (ix3 0 u k)) k * x8 (ix1 k)) := by
  rw [← gate_at, ← lane128_at]
  rfl

theorem mixed_at (u : Fin 16384) (k : Fin 1024) : val_main_v37 (F := Ideal) x0 x1 x2 x7 x8 (ix3 0 u k) = mixedTok x0 x1 x2 x7 x8 u k := by
  unfold mixedTok mixed
  simp only [← lane64_at x0 x7 u, ← gated_at x1 x2 x8 u]
  unfold val_main_v37
  generalize val_main_v14 (F := Ideal) x0 x7 = a
  generalize val_main_v36 (F := Ideal) x1 x2 x8 = b
  pointwise []

theorem resid_at (u : Fin 16384) (n : Fin 1024) : val_main_v41 (F := Ideal) x0 x1 x2 x3 x4 x7 x8 x10 (ix3 0 u n) = residTok x0 x1 x2 x3 x4 x7 x8 x10 u n := by
  unfold residTok resid proj
  simp only [← mixed_at]
  unfold val_main_v41 val_main_v40 val_main_v39 val_main_v38
  generalize val_main_v37 (F := Ideal) x0 x1 x2 x7 x8 = y
  pointwise []

theorem squares_at (u : Fin 16384) : val_main_v43 (F := Ideal) x0 x1 x2 x3 x4 x7 x8 x10 (ix2 0 u)
    = ∑ k : Fin 1024, residTok x0 x1 x2 x3 x4 x7 x8 x10 u k * residTok x0 x1 x2 x3 x4 x7 x8 x10 u k := by
  simp only [← resid_at]
  unfold val_main_v43 val_main_v42
  generalize val_main_v41 (F := Ideal) x0 x1 x2 x3 x4 x7 x8 x10 = y
  pointwise [val_main_cst_7]

theorem act_at (u : Fin 16384) (k : Fin 1024) : val_main_v60 (F := Ideal) x0 x1 x2 x3 x4 x5 x6 x7 x8 x9 x10 (ix3 0 u k) = actTok x0 x1 x2 x3 x4 x5 x6 x7 x8 x9 x10 u k := by
  have e := squares_at x0 x1 x2 x3 x4 x7 x8 x10 u
  unfold actTok activation
  rw [← e, ← resid_at]
  unfold val_main_v60 val_main_v59 val_main_v58 val_main_v57 val_main_v56 val_main_v55 val_main_v54 val_main_v53 val_main_v52 val_main_v51 val_main_v50 val_main_v49 val_main_v48 val_main_v47 val_main_v46 val_main_v45 val_main_v44
  generalize val_main_v43 (F := Ideal) x0 x1 x2 x3 x4 x7 x8 x10 = z
  generalize val_main_v41 (F := Ideal) x0 x1 x2 x3 x4 x7 x8 x10 = y
  pointwise [val_main_cst_8, val_main_cst_9, val_main_cst_10]

/-- The first result is the residual. -/
theorem x1_at (u : Fin 16384) (n : Fin 1024) : val_main_v65 (F := Ideal) x0 x1 x2 x3 x4 x7 x8 x10 (ix2 u n) = residTok x0 x1 x2 x3 x4 x7 x8 x10 u n := by
  rw [← resid_at]
  unfold val_main_v65
  generalize val_main_v41 (F := Ideal) x0 x1 x2 x3 x4 x7 x8 x10 = y
  pointwise []

theorem rows_at (u : Fin 16384) (n : Fin 1024) : val_main_v61 (F := Ideal) x0 x1 x2 x3 x4 x5 x6 x7 x8 x9 x10 (ix2 u n) = actTok x0 x1 x2 x3 x4 x5 x6 x7 x8 x9 x10 u n := by
  rw [← act_at]
  unfold val_main_v61
  generalize val_main_v60 (F := Ideal) x0 x1 x2 x3 x4 x5 x6 x7 x8 x9 x10 = y
  pointwise []

/-- The second result is the activations. -/
theorem h2_at (u : Fin 16384) (n : Fin 1024) : val_main_v66 (F := Ideal) x0 x1 x2 x3 x4 x5 x6 x7 x8 x9 x10 (ix2 u n) = actTok x0 x1 x2 x3 x4 x5 x6 x7 x8 x9 x10 u n :=
  rows_at x0 x1 x2 x3 x4 x5 x6 x7 x8 x9 x10 u n

theorem query_at (u : Fin 16384) (n : Fin 2048) : val_main_v62 (F := Ideal) x0 x1 x2 x3 x4 x5 x6 x7 x8 x9 x10 x11 (ix2 u n)
    = proj (actTok x0 x1 x2 x3 x4 x5 x6 x7 x8 x9 x10 u) (fun k => x11 (ix2 k n)) := by
  unfold proj
  simp only [← rows_at]
  unfold val_main_v62
  generalize val_main_v61 (F := Ideal) x0 x1 x2 x3 x4 x5 x6 x7 x8 x9 x10 = y
  pointwise []

/-- The third result is the scores. -/
theorem score_at (p : Fin 16) (n : Fin 128) (u : Fin 16384) : val_main_v67 (F := Ideal) x0 x1 x2 x3 x4 x5 x6 x7 x8 x9 x10 x11 x12 (ix3 p n u)
    = score (actTok x0 x1 x2 x3 x4 x5 x6 x7 x8 x9 x10 u) (fun k l => x11 (ix2 k l)) (fun d => x12 (ix4 ⟨p.val / 2, by omega⟩ ⟨p.val % 2, by omega⟩ n d)) p := by
  unfold score
  simp only [← query_at]
  unfold val_main_v67 val_main_v64 val_main_v63
  generalize val_main_v62 (F := Ideal) x0 x1 x2 x3 x4 x5 x6 x7 x8 x9 x10 x11 = y
  pointwise []
  refine Finset.sum_congr rfl fun d _ => congrArg (fun z => x12 (ix4 ⟨p.val / 2, by omega⟩ ⟨p.val % 2, by omega⟩ n d) * y (ix2 u z)) (Fin.ext ?_)
  show p.val / 2 * 256 + p.val % 2 * 128 + d.val = 128 * p.val + d.val
  omega

end Cert.Reference3Ideal.Read

end
-- ==== Proof.Combine.Agree.lean ====
module

public import proofs.«01_k».proof.Proof.Combine.Arrays
public import proofs.«01_k».proof.Proof.Combine.Reference
public import proofs.«01_k».proof.Proof.Gen.Reference3Ideal.Run

@[expose] public section

noncomputable section

namespace Cert.CombineAgree

open Idealize.ShloMosaic Idealize.ShloMosaic.TcCoe
open Idealize.SL.Sem
open Cert.Kernel3Ideal Cert.Kernel3Ideal.Combine Cert.Reference3Ideal.Read

variable (m : (ℓ : Loc nD τ sig) → Buf (Elt Ideal) ℓ) (c : Dev nD)

/-! The reference's stages at the kernel's arguments are the kernel's arrays. -/

/-- An index of a matrix has two coordinates. -/
theorem two_coords {a b : ℕ} (i : (⟨2, ![a, b]⟩ : Shape).Idx) : ∃ (x : Fin a) (y : Fin b), i = ix2 x y := ⟨i 0, i 1, at2 rfl rfl⟩

/-- An index of a block of matrices has three. -/
theorem three_coords {a b d : ℕ} (i : (⟨3, ![a, b, d]⟩ : Shape).Idx) : ∃ (x : Fin a) (y : Fin b) (z : Fin d), i = ix3 x y z := ⟨i 0, i 1, i 2, at3 rfl rfl rfl⟩

theorem x1 : val_main_v65 (F := Ideal) (argFox m c) (argMh m c) (argMo m c) (argX m c) (argGate m c) (argGfox m c) (argGml m c) (argWo m c) = outX1 m c := by
  funext i
  obtain ⟨u, n, rfl⟩ := two_coords i
  exact x1_at _ _ _ _ _ _ _ _ u n

theorem h2 : val_main_v66 (F := Ideal) (argFox m c) (argMh m c) (argMo m c) (argX m c) (argGate m c) (argScale m c) (argShift m c) (argGfox m c) (argGml m c) (argGffn m c) (argWo m c)
    = outH2 m c := by
  funext i
  obtain ⟨u, n, rfl⟩ := two_coords i
  exact h2_at _ _ _ _ _ _ _ _ _ _ _ u n

theorem scores : val_main_v67 (F := Ideal) (argFox m c) (argMh m c) (argMo m c) (argX m c) (argGate m c) (argScale m c) (argShift m c) (argGfox m c) (argGml m c) (argGffn m c) (argWo m c)
    (argWq m c) (argKeys m c) = outScores m c := by
  funext i
  obtain ⟨p, n, u, rfl⟩ := three_coords i
  refine (score_at _ _ _ _ _ _ _ _ _ _ _ _ _ p n u).trans ?_
  refine congrArg (fun z => Cert.CombineMath.score (h2Tok m c u) (fun k l => argWq m c (ix2 k l)) z p) (funext fun d => ?_)
  exact (keyRows_apply (argKeys m c) p n d).symm

/-- The same at arrays that are the kernel's arguments. -/
theorem scores_of {y0 y1 y2 : BufTy.Contents (Elt Ideal) ⟨Cert.Reference3Ideal.S1x16384x512, .f32⟩} {y3 : BufTy.Contents (Elt Ideal) ⟨Cert.Reference3Ideal.S1x16384x1024, .f32⟩} {y4 y5 y6 : BufTy.Contents (Elt Ideal) ⟨Cert.Reference3Ideal.S1x1x1024, .f32⟩} {y7 y8 : BufTy.Contents (Elt Ideal) ⟨Cert.Reference3Ideal.S512, .f32⟩} {y9 : BufTy.Contents (Elt Ideal) ⟨Cert.Reference3Ideal.S1024, .f32⟩}
    {y10 : BufTy.Contents (Elt Ideal) ⟨Cert.Reference3Ideal.S1024x1024, .f32⟩} {y11 : BufTy.Contents (Elt Ideal) ⟨Cert.Reference3Ideal.S1024x2048, .f32⟩} {y12 : BufTy.Contents (Elt Ideal) ⟨Cert.Reference3Ideal.S8x2x128x128, .f32⟩}
    (h0 : y0 = argFox m c) (h1 : y1 = argMh m c) (h2 : y2 = argMo m c) (h3 : y3 = argX m c) (h4 : y4 = argGate m c) (h5 : y5 = argScale m c) (h6 : y6 = argShift m c) (h7 : y7 = argGfox m c) (h8 : y8 = argGml m c) (h9 : y9 = argGffn m c) (h10 : y10 = argWo m c) (h11 : y11 = argWq m c) (h12 : y12 = argKeys m c) :
    val_main_v67 (F := Ideal) y0 y1 y2 y3 y4 y5 y6 y7 y8 y9 y10 y11 y12 = outScores m c := by
  subst h0 h1 h2 h3 h4 h5 h6 h7 h8 h9 h10 h11 h12
  exact scores m c

end Cert.CombineAgree

end
-- ==== Proof.Flash.Math.Sums.lean ====
module

public import Idealize.ShloMosaic.PureOps.Ideal
public import Idealize.ShloMosaic.Lib.Pointwise

@[expose] public section

set_option maxRecDepth 16384

noncomputable section

namespace Cert.FlashMath

open Idealize.ShloMosaic

/-! Running sums along an axis, as the host computes them: a window of the whole axis, padded low by one less. -/

/-- Adding terms in order is their sum. -/
theorem foldl_add_eq {N : ℕ} (f : Fin N → EReal) (v : EReal) : (List.finRange N).foldl (fun r n => r + f n) v = v + ∑ n, f n := by
  have : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [this, ← List.sum_ofFn, List.ofFn_eq_map]

/-- What a running sum holds at position `t`: the entries at positions `t - 16383 + n`, where there are any. -/
def runSum (f : Fin 16384 → EReal) (t : Fin 16384) : EReal :=
  ∑ n : Fin 16384, if h : 16383 ≤ t.val + n.val then f ⟨t.val + n.val - 16383, by have := t.isLt; have := n.isLt; omega⟩ else 0

/-- The running sum of reals is real. -/
theorem runSum_real (f : Fin 16384 → ℝ) (t : Fin 16384) : ∃ r : ℝ, runSum (fun s => (f s : EReal)) t = r := by
  refine ⟨∑ n : Fin 16384, if h : 16383 ≤ t.val + n.val then f ⟨t.val + n.val - 16383, by have := t.isLt; have := n.isLt; omega⟩ else 0, ?_⟩
  unfold runSum
  have : ∀ (S : Finset (Fin 16384)) (g : Fin 16384 → ℝ), ((∑ s ∈ S, g s : ℝ) : EReal) = ∑ s ∈ S, (g s : EReal) := by
    classical
    intro S g
    induction S using Finset.induction_on with
    | empty => simp
    | insert i S hi ih => rw [Finset.sum_insert hi, Finset.sum_insert hi, EReal.coe_add, ih]
  rw [this]
  refine Finset.sum_congr rfl fun n _ => ?_
  split <;> simp

/-- The running sum along the rows of an 8 × 16384 array. -/
theorem window_rows (x : FVec Ideal (⟨2, ![8, 16384]⟩ : Shape) .f32) (init : EReal) (hi : init = 0)
    (h : (⟨2, ![8, 16384]⟩ : Shape).ReduceWindows (![1, 16384] : Fin 2 → ℕ) ![1, 1] ![0, 16383] ![0, 0] ⟨2, ![8, 16384]⟩) (r : Fin 8) (t : Fin 16384) :
    Ideal.hostReduceWindowAdd (s := ⟨2, ![8, 16384]⟩) (t := ⟨2, ![8, 16384]⟩) ![1, 16384] ![1, 1] ![0, 16383] ![0, 0] h x init (ix2 r t) = runSum (fun s => x (ix2 r s)) t := by
  subst hi
  have hN : (⟨2, ![1, 16384]⟩ : Shape).numel = 16384 := rfl
  unfold Ideal.hostReduceWindowAdd Host.reduceWindow
  refine (foldl_add_eq (N := (⟨2, ![1, 16384]⟩ : Shape).numel) _ _).trans ?_
  rw [zero_add]
  unfold runSum
  refine Fintype.sum_equiv (finCongr hN) _ _ fun n => ?_
  have hn : n.val < 16384 := n.isLt
  have ht := t.isLt
  have hr := r.isLt
  have e : (⟨2, ![1, 16384]⟩ : Shape).rowMajor.symm n = ix2 (0 : Fin 1) (⟨n.val, hn⟩ : Fin 16384) :=
    ((⟨2, ![1, 16384]⟩ : Shape).rowMajor.symm_apply_eq).2 (Fin.ext (by
      rw [Shape.rowMajor_val_two]; show n.val = 0 * 16384 + n.val; omega))
  have e0 : ((⟨2, ![1, 16384]⟩ : Shape).rowMajor.symm n 0).val = 0 := by rw [e]; rfl
  have e1 : ((⟨2, ![1, 16384]⟩ : Shape).rowMajor.symm n 1).val = n.val := by rw [e]; rfl
  rw [show (finCongr hN) n = (⟨n.val, hn⟩ : Fin 16384) from rfl]
  dsimp only
  by_cases hc : 16383 ≤ t.val + n.val
  · rw [dif_pos hc, dif_pos (fun a => by
      match a with
      | ⟨0, _⟩ =>
        show 0 ≤ r.val * 1 + ((⟨2, ![1, 16384]⟩ : Shape).rowMajor.symm n 0).val ∧ r.val * 1 + ((⟨2, ![1, 16384]⟩ : Shape).rowMajor.symm n 0).val - 0 < 8
        rw [e0]; omega
      | ⟨1, _⟩ =>
        show 16383 ≤ t.val * 1 + ((⟨2, ![1, 16384]⟩ : Shape).rowMajor.symm n 1).val ∧ t.val * 1 + ((⟨2, ![1, 16384]⟩ : Shape).rowMajor.symm n 1).val - 16383 < 16384
        rw [e1]; omega)]
    refine congrArg x (funext fun a => Fin.ext ?_)
    match a with
    | ⟨0, _⟩ =>
      show r.val * 1 + ((⟨2, ![1, 16384]⟩ : Shape).rowMajor.symm n 0).val - 0 = r.val
      rw [e0]; omega
    | ⟨1, _⟩ =>
      show t.val * 1 + ((⟨2, ![1, 16384]⟩ : Shape).rowMajor.symm n 1).val - 16383 = t.val + n.val - 16383
      rw [e1]; omega
  · rw [dif_neg hc, dif_neg (fun hin => hc (by
      have h1 := (hin ⟨1, by decide⟩).1
      change 16383 ≤ t.val * 1 + ((⟨2, ![1, 16384]⟩ : Shape).rowMajor.symm n 1).val at h1
      rw [e1] at h1; omega))]

/-- The running sum along the middle axis of a 1 × 16384 × 8 array. -/
theorem window_mid (x : FVec Ideal (⟨3, ![1, 16384, 8]⟩ : Shape) .f32) (init : EReal) (hi : init = 0)
    (h : (⟨3, ![1, 16384, 8]⟩ : Shape).ReduceWindows (![1, 16384, 1] : Fin 3 → ℕ) ![1, 1, 1] ![0, 16383, 0] ![0, 0, 0] ⟨3, ![1, 16384, 8]⟩) (r : Fin 8) (t : Fin 16384) :
    Ideal.hostReduceWindowAdd (s := ⟨3, ![1, 16384, 8]⟩) (t := ⟨3, ![1, 16384, 8]⟩) ![1, 16384, 1] ![1, 1, 1] ![0, 16383, 0] ![0, 0, 0] h x init (ix3 0 t r) = runSum (fun s => x (ix3 0 s r)) t := by
  subst hi
  have hN : (⟨3, ![1, 16384, 1]⟩ : Shape).numel = 16384 := rfl
  unfold Ideal.hostReduceWindowAdd Host.reduceWindow
  refine (foldl_add_eq (N := (⟨3, ![1, 16384, 1]⟩ : Shape).numel) _ _).trans ?_
  rw [zero_add]
  unfold runSum
  refine Fintype.sum_equiv (finCongr hN) _ _ fun n => ?_
  have hn : n.val < 16384 := n.isLt
  have ht := t.isLt
  have hr := r.isLt
  have e : (⟨3, ![1, 16384, 1]⟩ : Shape).rowMajor.symm n = ix3 (0 : Fin 1) (⟨n.val, hn⟩ : Fin 16384) (0 : Fin 1) :=
    ((⟨3, ![1, 16384, 1]⟩ : Shape).rowMajor.symm_apply_eq).2 (Fin.ext (by
      rw [Shape.rowMajor_val_three]; show n.val = (0 * 16384 + n.val) * 1 + 0; omega))
  have e0 : ((⟨3, ![1, 16384, 1]⟩ : Shape).rowMajor.symm n 0).val = 0 := by rw [e]; rfl
  have e1 : ((⟨3, ![1, 16384, 1]⟩ : Shape).rowMajor.symm n 1).val = n.val := by rw [e]; rfl
  have e2 : ((⟨3, ![1, 16384, 1]⟩ : Shape).rowMajor.symm n 2).val = 0 := by rw [e]; rfl
  rw [show (finCongr hN) n = (⟨n.val, hn⟩ : Fin 16384) from rfl]
  dsimp only
  by_cases hc : 16383 ≤ t.val + n.val
  · rw [dif_pos hc, dif_pos (fun a => by
      match a with
      | ⟨0, _⟩ =>
        show 0 ≤ 0 * 1 + ((⟨3, ![1, 16384, 1]⟩ : Shape).rowMajor.symm n 0).val ∧ 0 * 1 + ((⟨3, ![1, 16384, 1]⟩ : Shape).rowMajor.symm n 0).val - 0 < 1
        rw [e0]; omega
      | ⟨1, _⟩ =>
        show 16383 ≤ t.val * 1 + ((⟨3, ![1, 16384, 1]⟩ : Shape).rowMajor.symm n 1).val ∧ t.val * 1 + ((⟨3, ![1, 16384, 1]⟩ : Shape).rowMajor.symm n 1).val - 16383 < 16384
        rw [e1]; omega
      | ⟨2, _⟩ =>
        show 0 ≤ r.val * 1 + ((⟨3, ![1, 16384, 1]⟩ : Shape).rowMajor.symm n 2).val ∧ r.val * 1 + ((⟨3, ![1, 16384, 1]⟩ : Shape).rowMajor.symm n 2).val - 0 < 8
        rw [e2]; omega)]
    refine congrArg x (funext fun a => Fin.ext ?_)
    match a with
    | ⟨0, _⟩ =>
      show 0 * 1 + ((⟨3, ![1, 16384, 1]⟩ : Shape).rowMajor.symm n 0).val - 0 = 0
      rw [e0]
    | ⟨1, _⟩ =>
      show t.val * 1 + ((⟨3, ![1, 16384, 1]⟩ : Shape).rowMajor.symm n 1).val - 16383 = t.val + n.val - 16383
      rw [e1]; omega
    | ⟨2, _⟩ =>
      show r.val * 1 + ((⟨3, ![1, 16384, 1]⟩ : Shape).rowMajor.symm n 2).val - 0 = r.val
      rw [e2]; omega
  · rw [dif_neg hc, dif_neg (fun hin => hc (by
      have h1 := (hin ⟨1, by decide⟩).1
      change 16383 ≤ t.val * 1 + ((⟨3, ![1, 16384, 1]⟩ : Shape).rowMajor.symm n 1).val at h1
      rw [e1] at h1; omega))]

end Cert.FlashMath

end
-- ==== Proof.Flash.Math.Softmax.lean ====
module

public import Idealize.ShloMosaic.PureOps.Ideal
public import Idealize.ShloMosaic.Lib.Pointwise

@[expose] public section

noncomputable section

namespace Cert.FlashMath

open Idealize.ShloMosaic

/-! The online softmax over the extended reals: sums of weights relative to a shift, and one block's step of them. -/

/-- The weight of key `s` for query `q` relative to the shift `μ`: nothing for the keys after the query. -/
def wt (z : ℕ → ℝ) (q : ℕ) (μ : ℝ) (s : ℕ) : ℝ := if s ≤ q then (2 : ℝ) ^ (z s - μ) else 0

theorem wt_nonneg (z : ℕ → ℝ) (q : ℕ) (μ : ℝ) (s : ℕ) : 0 ≤ wt z q μ s := by
  unfold wt; split
  · positivity
  · exact le_refl _

theorem wt_shift (z : ℕ → ℝ) (q : ℕ) (μ ν : ℝ) (s : ℕ) : (2 : ℝ) ^ (μ - ν) * wt z q μ s = wt z q ν s := by
  unfold wt; split
  · rw [← Real.rpow_add (by norm_num)]; congr 1; ring
  · simp

/-- A nonnegative real times a sum of extended reals. -/
theorem mul_sum_coe {ι : Type*} (S : Finset ι) (a : ℝ) (ha : 0 ≤ a) (f : ι → EReal) : (a : EReal) * ∑ s ∈ S, f s = ∑ s ∈ S, (a : EReal) * f s := by
  classical
  induction S using Finset.induction_on with
  | empty => simp
  | insert i S hi ih =>
    rw [Finset.sum_insert hi, Finset.sum_insert hi, EReal.left_distrib_of_nonneg_of_ne_top (by exact_mod_cast ha) (EReal.coe_ne_top a), ih]

theorem coe_sum {ι : Type*} (S : Finset ι) (f : ι → ℝ) : ((∑ s ∈ S, f s : ℝ) : EReal) = ∑ s ∈ S, (f s : EReal) := by
  classical
  induction S using Finset.induction_on with
  | empty => simp
  | insert i S hi ih => rw [Finset.sum_insert hi, Finset.sum_insert hi, EReal.coe_add, ih]

/-- What a query's running maximum, sum and weighted sums hold after the keys before `T`. -/
def Good (z : ℕ → ℝ) (v : Fin 64 → ℕ → EReal) (q T : ℕ) (m l : EReal) (a : Fin 64 → EReal) : Prop :=
  ∃ μ : ℝ, m = μ ∧ l = ((∑ s ∈ Finset.range T, wt z q μ s : ℝ) : EReal) ∧ ∀ d, a d = ∑ s ∈ Finset.range T, (wt z q μ s : EReal) * v d s

/-- What they hold before the first key. -/
def Fresh (T : ℕ) (m l : EReal) (a : Fin 64 → EReal) : Prop := T = 0 ∧ m = ⊥ ∧ l = 0 ∧ ∀ d, a d = 0

theorem fold_max_lt_top {n : ℕ} (f : Fin n → EReal) (h : ∀ i, f i ≠ ⊤) : Finset.univ.fold max ⊥ f ≠ ⊤ := by
  have : ∀ S : Finset (Fin n), S.fold max ⊥ f ≠ ⊤ := by
    classical
    intro S
    induction S using Finset.induction_on with
    | empty => simp
    | insert i S hi ih =>
      rw [Finset.fold_insert hi]
      intro e
      rcases max_choice (f i) (S.fold max ⊥ f) with h' | h'
      · exact h i (h' ▸ e)
      · exact ih (h' ▸ e)
  exact this _

theorem le_fold_max {n : ℕ} (f : Fin n → EReal) (i : Fin n) : f i ≤ Finset.univ.fold max ⊥ f :=
  (Finset.le_fold_max (f i)).mpr (Or.inr ⟨i, Finset.mem_univ _, le_refl _⟩)

/-- The maximum of reals and −∞, one of them real, is real. -/
theorem fold_max_real {n : ℕ} (f : Fin n → EReal) (h : ∀ i, f i ≠ ⊤) (i : Fin n) (y : ℝ) (hi : f i = y) : ∃ μ : ℝ, Finset.univ.fold max ⊥ f = μ := by
  have h1 := fold_max_lt_top f h
  have h2 : Finset.univ.fold max ⊥ f ≠ ⊥ := fun e => by
    have := le_fold_max f i
    rw [e, hi] at this
    exact EReal.coe_ne_bot y (le_bot_iff.mp this)
  exact ⟨_, (EReal.coe_toReal h1 h2).symm⟩

theorem exp2_coe' (r : ℝ) : Ideal.exp2 (r : EReal) = (((2 : ℝ) ^ r : ℝ) : EReal) := rfl

/-- One block's step. `y i` is the raw score of the block's key `i`, `cb` what the block's scores lack; the maximum, the
    sum and the weighted sums the block leaves are good for 512 keys more. -/
theorem step (z : ℕ → ℝ) (v : Fin 64 → ℕ → EReal) (q T : ℕ) (m l : EReal) (a : Fin 64 → EReal)
    (h : Fresh T m l a ∨ Good z v q T m l a) (hT : T ≤ q) (y : Fin 512 → ℝ) (cb : ℝ) (hz : ∀ i : Fin 512, z (T + i.val) = y i + cb)
    (r1 : Fin 512 → EReal) (hr1 : ∀ i : Fin 512, r1 i = if T + i.val ≤ q then (y i : EReal) else ⊥)
    (m' : EReal) (hm : m' = max m (Finset.univ.fold max ⊥ r1 + (cb : EReal)))
    (r2 : Fin 512 → EReal) (hr2 : ∀ x : ℝ, m' - (cb : EReal) = x → ∀ i : Fin 512, r2 i = if T + i.val ≤ q then ((y i - x : ℝ) : EReal) else ⊥)
    (l' : EReal) (hl : l' = Ideal.exp2 (m - m') * l + ∑ i : Fin 512, Ideal.exp2 (r2 i))
    (a' : Fin 64 → EReal) (ha : ∀ d, a' d = Ideal.exp2 (m - m') * a d + ∑ i : Fin 512, v d (T + i.val) * Ideal.exp2 (r2 i)) :
    Good z v q (T + 512) m' l' a' := by
  obtain ⟨Y, hY⟩ := fold_max_real r1 (fun i => by rw [hr1]; split <;> simp) 0 (y 0) (by rw [hr1, if_pos (by simpa using hT)])
  obtain ⟨ν, hν⟩ : ∃ ν : ℝ, m' = ν := by
    rw [hm, hY, ← EReal.coe_add]
    rcases h with ⟨_, rfl, _⟩ | ⟨μ, rfl, _⟩
    · exact ⟨Y + cb, by simp⟩
    · exact ⟨max μ (Y + cb), ((EReal.coe_strictMono.monotone).map_max).symm⟩
  have hp : ∀ i : Fin 512, Ideal.exp2 (r2 i) = (wt z q ν (T + i.val) : EReal) := fun i => by
    rw [hr2 (ν - cb) (by rw [hν, EReal.coe_sub])]
    unfold wt
    split
    · rw [exp2_coe', hz]; congr 2; ring
    · rfl
  have hs : ∀ g : ℕ → EReal, ∑ s ∈ Finset.range (T + 512), g s = ∑ s ∈ Finset.range T, g s + ∑ i : Fin 512, g (T + i.val) := fun g => by
    rw [Finset.sum_range_add, Finset.sum_range (fun x => g (T + x))]
  have key : Ideal.exp2 (m - m') * l = ((∑ s ∈ Finset.range T, wt z q ν s : ℝ) : EReal) ∧ ∀ d, Ideal.exp2 (m - m') * a d = ∑ s ∈ Finset.range T, (wt z q ν s : EReal) * v d s := by
    rcases h with ⟨rfl, rfl, rfl, h0⟩ | ⟨μ, rfl, rfl, h0⟩
    · simp [h0]
    · have e : Ideal.exp2 ((μ : EReal) - m') = (((2 : ℝ) ^ (μ - ν) : ℝ) : EReal) := by rw [hν, ← EReal.coe_sub, exp2_coe']
      rw [e]
      refine ⟨?_, fun d => ?_⟩
      · rw [← EReal.coe_mul, Finset.mul_sum]
        exact congrArg _ (Finset.sum_congr rfl fun s _ => wt_shift z q μ ν s)
      · rw [h0, mul_sum_coe _ _ (by positivity)]
        refine Finset.sum_congr rfl fun s _ => ?_
        rw [← mul_assoc, ← EReal.coe_mul, wt_shift]
  refine ⟨ν, hν, ?_, fun d => ?_⟩
  · rw [hl, key.1, coe_sum, coe_sum, hs]
    exact congrArg₂ (· + ·) rfl (Finset.sum_congr rfl fun i _ => hp i)
  · rw [ha, key.2, hs]
    exact congrArg₂ (· + ·) rfl (Finset.sum_congr rfl fun i _ => by rw [hp, mul_comm])

end Cert.FlashMath

end
-- ==== Proof.Flash.Math.Attn.lean ====
module

public import proofs.«01_k».proof.Proof.Flash.Math.Softmax

@[expose] public section

noncomputable section

namespace Cert.FlashMath

open Idealize.ShloMosaic

/-! A query's attention as a weighted mean of the values, and its two ways of being computed. -/

/-- The share of key `s` among the weights of query `q`. -/
def share (z : ℕ → ℝ) (q s : ℕ) : ℝ := wt z q 0 s / ∑ s' ∈ Finset.range 16384, wt z q 0 s'

/-- The mean of the values under these shares. -/
def attn (z : ℕ → ℝ) (v : Fin 64 → ℕ → EReal) (q : ℕ) (d : Fin 64) : EReal := ∑ s ∈ Finset.range 16384, (share z q s : EReal) * v d s

theorem wt_pos (z : ℕ → ℝ) (q : ℕ) (μ : ℝ) (s : ℕ) (h : s ≤ q) : 0 < wt z q μ s := by
  unfold wt; rw [if_pos h]; positivity

theorem sum_wt_pos (z : ℕ → ℝ) (q : ℕ) (μ : ℝ) (T : ℕ) (h : q < T) : 0 < ∑ s ∈ Finset.range T, wt z q μ s :=
  Finset.sum_pos' (fun s _ => wt_nonneg z q μ s) ⟨q, Finset.mem_range.mpr h, wt_pos z q μ q (le_refl _)⟩

/-- Keys after the query add nothing. -/
theorem sum_wt_extend (z : ℕ → ℝ) (q : ℕ) (μ : ℝ) (T : ℕ) (h : q < T) (hT : T ≤ 16384) :
    ∑ s ∈ Finset.range T, wt z q μ s = ∑ s ∈ Finset.range 16384, wt z q μ s :=
  Finset.sum_subset (Finset.range_mono hT) fun s _ hs => by
    unfold wt; rw [if_neg]; intro h'; exact hs (Finset.mem_range.mpr (lt_of_le_of_lt h' h))

/-- A share does not depend on what the exponents are relative to. -/
theorem share_eq (z : ℕ → ℝ) (q s : ℕ) (μ : ℝ) (T : ℕ) (h : q < T) (hT : T ≤ 16384) :
    (∑ s' ∈ Finset.range T, wt z q μ s')⁻¹ * wt z q μ s = share z q s := by
  have hs := sum_wt_pos z q 0 16384 (lt_of_lt_of_le h hT)
  have e : ∀ s, wt z q μ s = (2 : ℝ) ^ (0 - μ) * wt z q 0 s := fun s => (wt_shift z q 0 μ s).symm
  have hc : (2 : ℝ) ^ (0 - μ) ≠ 0 := by positivity
  rw [sum_wt_extend z q μ T h hT, e s, Finset.sum_congr rfl fun s _ => e s, ← Finset.mul_sum]
  unfold share
  field_simp

theorem div_coe (x : EReal) (r : ℝ) (hr : r ≠ 0) : Ideal.div x (r : EReal) = ((r⁻¹ : ℝ) : EReal) * x := by
  unfold Ideal.div
  rw [if_neg (by exact_mod_cast hr), EReal.coe_inv, mul_comm]

/-- The running sums after the last key, divided. -/
theorem good_out (z : ℕ → ℝ) (v : Fin 64 → ℕ → EReal) (q T : ℕ) (m l : EReal) (a : Fin 64 → EReal) (h : Good z v q T m l a)
    (hq : q < T) (hT : T ≤ 16384) (d : Fin 64) : Ideal.div (a d) l = attn z v q d := by
  obtain ⟨μ, -, hl, ha⟩ := h
  have hp := sum_wt_pos z q μ T hq
  rw [hl, ha, div_coe _ _ hp.ne', mul_sum_coe _ _ (inv_nonneg.mpr hp.le)]
  unfold attn
  refine (Finset.sum_subset (Finset.range_mono hT) fun s _ hs => ?_).trans (Finset.sum_congr rfl fun s _ => ?_)
  · have : wt z q μ s = 0 := by
      unfold wt; rw [if_neg]; intro h'; exact hs (Finset.mem_range.mpr (lt_of_le_of_lt h' hq))
    rw [this]; simp
  · rw [← mul_assoc, ← EReal.coe_mul, share_eq z q s μ T hq hT]

/-- The softmax of scores that are the exponents of two in another unit, a number `b` apart. -/
theorem softmax_out (z : ℕ → ℝ) (v : Fin 64 → ℕ → EReal) (q : ℕ) (hq : q < 16384) (d : Fin 64) (S : Fin 16384 → ℝ) (b : ℝ)
    (hS : ∀ s : Fin 16384, S s = z s.val * Real.log 2 + b) (e : Fin 16384 → EReal) (M : ℝ)
    (he : ∀ s : Fin 16384, e s = if s.val ≤ q then ((Real.exp (S s - M) : ℝ) : EReal) else 0) :
    ∑ s : Fin 16384, v d s.val * Ideal.div (e s) (0 + ∑ s', e s') = attn z v q d := by
  have hw : ∀ s : Fin 16384, e s = ((Real.exp (b - M) * wt z q 0 s.val : ℝ) : EReal) := fun s => by
    rw [he]
    unfold wt
    split
    · rw [hS, Real.rpow_def_of_pos (by norm_num), ← Real.exp_add]; congr 2; ring
    · simp
  have hp := sum_wt_pos z q 0 16384 hq
  have hc : 0 < Real.exp (b - M) := Real.exp_pos _
  have hsum : (0 : EReal) + ∑ s', e s' = ((Real.exp (b - M) * ∑ s ∈ Finset.range 16384, wt z q 0 s : ℝ) : EReal) := by
    rw [zero_add, Finset.sum_congr rfl fun s _ => hw s, ← coe_sum, ← Finset.mul_sum, Finset.sum_range]
  rw [hsum]
  unfold attn
  refine Eq.trans ?_ (Finset.sum_range _).symm
  refine Finset.sum_congr rfl fun s _ => ?_
  rw [div_coe _ _ (mul_pos hc hp).ne', hw, ← EReal.coe_mul, mul_comm]
  refine congrArg (fun r : ℝ => (r : EReal) * v d s.val) ?_
  unfold share
  have hp' := hp.ne'
  have hc' := hc.ne'
  generalize ∑ s' ∈ Finset.range 16384, wt z q 0 s' = P at hp' ⊢
  generalize Real.exp (b - M) = C at hc' ⊢
  field_simp

/-- The maximum of the visible scores is real. -/
theorem max_real {q : ℕ} (hq : q < 16384) (f : Fin 16384 → EReal) (S : Fin 16384 → ℝ)
    (hf : ∀ s : Fin 16384, f s = if s.val ≤ q then (S s : EReal) else ⊥) : ∃ M : ℝ, max ⊥ (Finset.univ.fold max ⊥ f) = M := by
  obtain ⟨M, hM⟩ := fold_max_real f (fun i => by rw [hf]; split <;> simp) ⟨q, hq⟩ (S ⟨q, hq⟩) (by rw [hf, if_pos (le_refl q)])
  exact ⟨M, by rw [hM]; simp⟩

/-- A visible key's exponential relative to a real, and a hidden key's. -/
theorem exp_masked (c : Prop) [Decidable c] (x M : ℝ) :
    Ideal.exp ((if c then (x : EReal) else ⊥) - (M : EReal)) = if c then ((Real.exp (x - M) : ℝ) : EReal) else 0 := by
  split
  · rw [← EReal.coe_sub]; rfl
  · rfl

end Cert.FlashMath

end
-- ==== Proof.Flash.Math.Data.lean ====
module

public import proofs.«01_k».proof.Proof.Flash.Math.Sums
public import proofs.«01_k».proof.Proof.Flash.Math.Attn

@[expose] public section

noncomputable section

namespace Cert.FlashMath

open Idealize.ShloMosaic

/-! The attention's data as real numbers: the queries, the keys, the running sums of the gates' logarithms, and the scores. -/

/-- The shape of the queries, of the keys and of the values: one batch, the positions, the heads, the entries. -/
abbrev SHead : Shape := ⟨4, ![1, 16384, 8, 64]⟩
/-- The shape of the gates' logarithms: one batch, the positions, the heads. -/
abbrev SGate : Shape := ⟨3, ![1, 16384, 8]⟩

/-- Every entry of the array is real. -/
def Finite {s : Shape} (x : s.Idx → EReal) : Prop := ∀ i, ∃ r : ℝ, x i = (r : EReal)

/-- An entry as a real number. -/
def entry (x : SHead.Idx → EReal) (h : Fin 8) (d : Fin 64) (t : ℕ) : ℝ := if ht : t < 16384 then (x (ix4 0 ⟨t, ht⟩ h d)).toReal else 0

/-- An entry of the values. -/
def value (x : SHead.Idx → EReal) (h : Fin 8) (d : Fin 64) (t : ℕ) : EReal := if ht : t < 16384 then x (ix4 0 ⟨t, ht⟩ h d) else 0

/-- The sum of a head's gates' logarithms up to a position. -/
def gateSum (g : SGate.Idx → EReal) (h : Fin 8) (t : ℕ) : ℝ := if ht : t < 16384 then (runSum (fun s => g (ix3 0 s h)) ⟨t, ht⟩).toReal else 0

theorem entry_eq {x : SHead.Idx → EReal} (hx : Finite x) (h : Fin 8) (d : Fin 64) (t : Fin 16384) : x (ix4 0 t h d) = (entry x h d t.val : EReal) := by
  obtain ⟨r, hr⟩ := hx (ix4 0 t h d)
  unfold entry
  rw [dif_pos t.isLt, Fin.eta, hr, EReal.toReal_coe]

theorem value_eq (x : SHead.Idx → EReal) (h : Fin 8) (d : Fin 64) (t : Fin 16384) : x (ix4 0 t h d) = value x h d t.val := by
  unfold value
  rw [dif_pos t.isLt]

theorem gateSum_eq {g : SGate.Idx → EReal} (hg : Finite g) (h : Fin 8) (t : Fin 16384) : runSum (fun s => g (ix3 0 s h)) t = (gateSum g h t.val : EReal) := by
  obtain ⟨r, hr⟩ := runSum_real (fun s => (g (ix3 0 s h)).toReal) t
  have e : (fun s => (((g (ix3 0 s h)).toReal : ℝ) : EReal)) = fun s => g (ix3 0 s h) := funext fun s => by
    obtain ⟨a, ha⟩ := hg (ix3 0 s h)
    rw [ha, EReal.toReal_coe]
  rw [e] at hr
  unfold gateSum
  rw [dif_pos t.isLt, Fin.eta, hr, EReal.toReal_coe]

/-- The score of a key for a query, as an exponent of two, up to a number of the query's own. -/
def score (q k : SHead.Idx → EReal) (g : SGate.Idx → EReal) (h : Fin 8) (t s : ℕ) : ℝ :=
  ∑ d, entry k h d s * (entry q h d t * (0.125 * (Real.log 2)⁻¹)) - gateSum g h s * (Real.log 2)⁻¹

end Cert.FlashMath

end
-- ==== Proof.Flash.KernelIdeal.Word.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The word of a table that the body reads at grid point `i`. -/
abbrev word (a : Memref sig .tc .smem S528 .i32) (x : a.view.ty.Contents (Elt F)) (i : grid0.Coords) : BitVec 32 :=
  a.view.readAt (Elt F) (Rect.unit (s := S528) (k0_off1 i) S1.size (k0_off1_inb i)).toLoadRect x (Shape.Idx.first (numel1_S1.symm ▸ Nat.one_pos))

end Cert.KernelIdeal.Flash

end
-- ==== Proof.Flash.KernelIdeal.Points.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Word

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The query block of grid point `t`: the word of the first table. -/
abbrev qb (t : Fin 528) : ℕ := (lit0 t).toNat
/-- The key block of grid point `t`: the word of the second table. -/
abbrev kb (t : Fin 528) : ℕ := (lit1 t).toNat

/-- The grid runs through the lower triangle of pairs (query block, key block), row by row. -/
theorem pts : ∀ t : Fin 528, qb t * (qb t + 1) / 2 + kb t = t.val ∧ kb t ≤ qb t ∧ qb t < 32 := by decide +kernel

/-- What the body assumes of its two words holds at every point. -/
theorem pts_chk : ∀ t : Fin 528, k0_chk1 (lit0 t) (lit1 t) := by decide +kernel

/-- The body resets its scratch buffers at the first block of a row. -/
theorem pts_first : ∀ t : Fin 528, (Scalar.cmpi .ne (Scalar.extui (Scalar.cmpi .eq (lit1 t) 0#32) : BitVec 32) 0#32 = 1#1) ↔ kb t = 0 := by
  decide +kernel

/-- It runs its unmasked branch strictly below the diagonal, -/
theorem pts_off : ∀ t : Fin 528, (k0_cond2 (lit0 t) (lit1 t) = 1#1) ↔ kb t < qb t := by decide +kernel

/-- and its masked branch on the diagonal. -/
theorem pts_diag : ∀ t : Fin 528, (k0_cond3 (lit0 t) (lit1 t) = 1#1) ↔ kb t = qb t := by decide +kernel

/-- The point as a number below 528. -/
abbrev pt (t : Fin grid0.N) : Fin 528 := t.cast N_0

/-- The single coordinate of point `t` is `t`. -/
theorem coords_pt : ∀ t : Fin grid0.N, (grid0.coords t 0).val = t.val := by
  intro t
  have h := Pipeline.Grid.coords_val (G := grid0) t 0 (S := 1) (B := 528) (by decide) rfl
  have h2 : t.val < 528 := lt_of_lt_of_eq t.isLt N_0
  rw [h, Nat.div_one, Nat.mod_eq_of_lt h2]

end Cert.KernelIdeal.Flash

end
-- ==== Proof.Flash.KernelIdeal.Base.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Points

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The two prefetched tables' contents. -/
def tbl : pre0.Contents (Elt F) := fun
  | 0 => fun i => lit0 (S528.rowMajor i)
  | 1 => fun i => lit1 (S528.rowMajor i)
  | ⟨_ + 2, h⟩ => absurd h (Nat.not_lt.2 (Nat.le_add_left _ _))

theorem off1_val (t : Fin grid0.N) : k0_off1 (grid0.coords t) 0 = t.val := by
  have h := t.isLt
  have h2 : grid0.N = 528 := N_0
  show (BitVec.ofNat 32 (grid0.coords t 0).val).toNat = t.val
  rw [BitVec.toNat_ofNat, coords_pt]
  exact Nat.mod_eq_of_lt (by omega)

/-- The word of the first table at point `t`. -/
theorem tbl_word0 (t : Fin grid0.N) : word (F := F) (Memref.whole main_c) (tbl 0) (grid0.coords t) = lit0 (pt t) := by
  show lit0 _ = _
  refine congrArg lit0 (Fin.ext ?_)
  refine (Shape.rowMajor_val_one (d := ![528]) _).trans ?_
  exact (congrArg (· + 0 * 1) rfl).trans (off1_val t)
theorem tbl_word1 (t : Fin grid0.N) : word (F := F) (Memref.whole main_c_0) (tbl 1) (grid0.coords t) = lit1 (pt t) := by
  show lit1 _ = _
  refine congrArg lit1 (Fin.ext ?_)
  refine (Shape.rowMajor_val_one (d := ![528]) _).trans ?_
  exact (congrArg (· + 0 * 1) rfl).trans (off1_val t)
theorem tbl_at0 (i : grid0.Coords) : ∃ t : Fin 528, (tbl (F := F)).at 0 (Rect.unit (s := S528) (k0_off1 i) S1.size (k0_off1_inb i)) numel1_S1 = lit0 t :=
  ⟨_, rfl⟩
theorem tbl_at1 (i : grid0.Coords) : ∃ t : Fin 528, (tbl (F := F)).at 1 (Rect.unit (s := S528) (k0_off1 i) S1.size (k0_off1_inb i)) numel1_S1 = lit1 t :=
  ⟨_, rfl⟩

/-- Every window's block lies inside its array at the tables' words. -/
theorem tbl_ok : ok0 (tbl (F := F)) := by
  unfold ok0
  refine ⟨fun i => ?_, fun i => ?_, fun i => ?_, fun i => ?_⟩
  · obtain ⟨t, ht⟩ := tbl_at0 (F := F) i
    have h := (pts t).2.2
    refine ⟨fun a => ?_, .inr (Affine.block_words_dvd (of_decide_eq_true rfl) (by decide))⟩
    fin_cases a
    · exact (by decide : (0 + 1) * 8 ≤ 8)
    · exact (by decide : (0 + 1) * 64 ≤ 64)
    · show (((tbl (F := F)).at 0 (Rect.unit (s := S528) (k0_off1 i) S1.size (k0_off1_inb i)) numel1_S1).toNat + 1) * 512 ≤ 16384
      rw [ht]; unfold qb at h; omega
  · obtain ⟨t, ht⟩ := tbl_at1 (F := F) i
    have h := pts t
    refine ⟨fun a => ?_, .inr (Affine.block_words_dvd (of_decide_eq_true rfl) (by decide))⟩
    fin_cases a
    · exact (by decide : (0 + 1) * 8 ≤ 8)
    · show (((tbl (F := F)).at 1 (Rect.unit (s := S528) (k0_off1 i) S1.size (k0_off1_inb i)) numel1_S1).toNat + 1) * 512 ≤ 16384
      rw [ht]; unfold qb kb at h; omega
    · exact (by decide : (0 + 1) * 128 ≤ 128)
  · obtain ⟨t, ht⟩ := tbl_at1 (F := F) i
    have h := pts t
    refine ⟨fun a => ?_, .inr (Affine.block_words_dvd (of_decide_eq_true rfl) (by decide))⟩
    fin_cases a
    · exact (by decide : (0 + 1) * 8 ≤ 8)
    · exact (by decide : (0 + 1) * 64 ≤ 64)
    · show (((tbl (F := F)).at 1 (Rect.unit (s := S528) (k0_off1 i) S1.size (k0_off1_inb i)) numel1_S1).toNat + 1) * 512 ≤ 16384
      rw [ht]; unfold qb kb at h; omega
  · obtain ⟨t, ht⟩ := tbl_at0 (F := F) i
    have h := (pts t).2.2
    refine ⟨fun a => ?_, .inl rfl⟩
    fin_cases a
    · exact (by decide : (0 + 1) * 8 ≤ 8)
    · exact (by decide : (0 + 1) * 64 ≤ 64)
    · show (((tbl (F := F)).at 0 (Rect.unit (s := S528) (k0_off1 i) S1.size (k0_off1_inb i)) numel1_S1).toNat + 1) * 512 ≤ 16384
      rw [ht]; unfold qb at h; omega

/-- The tables are admissible. -/
abbrev adm : (p : Fin 1) → (pcfgs (F := F) p).Adm := fun _ => ⟨tbl, tbl_ok⟩

/-- The pipeline at the tables' contents. -/
abbrev cfgT : Pipeline.Cfg sig Λ₀ := Pipeline.pin (pcfgs (F := F)) adm 0

end Cert.KernelIdeal.Flash

end
-- ==== Proof.Flash.KernelIdeal.Main.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Base

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The contents of every buffer when the pipeline is entered: what the host operations leave. -/
abbrev V (m : (ℓ : Loc nD τ sig) → Buf (Elt F) ℓ) (c : Dev nD) (b : Ref sig .tc) : Buf (Elt F) ((c.tc : Thread nD τ).loc b) :=
  StableHlo.after (List.flatten [hostOps0, hostOps0_1, hostOps0_2]) (fun b => m (c, b)) b

set_option maxHeartbeats 800000 in
theorem hostOps0_fresh : (hostOps0 : List (HloOp τ sig (Elt F))).Forall fun op => op.fresh = ∅ := by
  simp only [List.Forall]; repeat' constructor
set_option maxHeartbeats 800000 in
theorem hostOps0_1_fresh : (hostOps0_1 : List (HloOp τ sig (Elt F))).Forall fun op => op.fresh = ∅ := by
  simp only [List.Forall]; repeat' constructor
set_option maxHeartbeats 800000 in
theorem hostOps0_2_fresh : (hostOps0_2 : List (HloOp τ sig (Elt F))).Forall fun op => op.fresh = ∅ := by
  simp only [List.Forall]; repeat' constructor

/-- `@main` runs its host operations and then the one pipeline. -/
theorem hmain (𝒱₀ : Variants) (m : (ℓ : Loc nD τ sig) → Buf (Elt F) ℓ) :
    Pipeline.HMainP (Ix := Unit) (Name := ℕ) (U := UR sig nD τ) (Lvl := ℕ) pcfgs 0 (defs₀ (F := F)) 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes argument 0. -/
theorem V_arg0 (m : (ℓ : Loc nD τ sig) → Buf (Elt F) ℓ) (c : Dev nD) : V m c main_arg0 = m ((c.tc : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes argument 1. -/
theorem V_arg1 (m : (ℓ : Loc nD τ sig) → Buf (Elt F) ℓ) (c : Dev nD) : V m c main_arg1 = m ((c.tc : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes argument 2. -/
theorem V_arg2 (m : (ℓ : Loc nD τ sig) → Buf (Elt F) ℓ) (c : Dev nD) : V m c main_arg2 = m ((c.tc : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes argument 3. -/
theorem V_arg3 (m : (ℓ : Loc nD τ sig) → Buf (Elt F) ℓ) (c : Dev nD) : V m c main_arg3 = m ((c.tc : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- Table 0 holds its literal when the pipeline is entered. -/
theorem V_tbl0 (m : (ℓ : Loc nD τ sig) → Buf (Elt F) ℓ) (c : Dev nD) : V m c main_c = tbl 0 := by
  have h : V m c main_c = StableHlo.after ((List.flatten [hostOps0, hostOps0_1, hostOps0_2]).take 1) (fun b => m (c, b)) main_c := by
    unfold V
    rw [show List.flatten [hostOps0, hostOps0_1, hostOps0_2] = ((List.flatten [hostOps0, hostOps0_1, hostOps0_2]).take 1) ++ (List.flatten [hostOps0, hostOps0_1, hostOps0_2]).drop 1 from rfl, StableHlo.after_append]
    exact StableHlo.after_of_forall_not_mem (b := Proc.devRef .tc main_c) _ _ (List.forall_iff_forall_mem.mp (by
      simp only [hostOps0, hostOps0_1, hostOps0_2, List.drop, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
  rw [h]
  rfl

set_option maxHeartbeats 4000000 in
/-- Table 1 holds its literal when the pipeline is entered. -/
theorem V_tbl1 (m : (ℓ : Loc nD τ sig) → Buf (Elt F) ℓ) (c : Dev nD) : V m c main_c_0 = tbl 1 := by
  have h : V m c main_c_0 = StableHlo.after ((List.flatten [hostOps0, hostOps0_1, hostOps0_2]).take 2) (fun b => m (c, b)) main_c_0 := by
    unfold V
    rw [show List.flatten [hostOps0, hostOps0_1, hostOps0_2] = ((List.flatten [hostOps0, hostOps0_1, hostOps0_2]).take 2) ++ (List.flatten [hostOps0, hostOps0_1, hostOps0_2]).drop 2 from rfl, StableHlo.after_append]
    exact StableHlo.after_of_forall_not_mem (b := Proc.devRef .tc main_c_0) _ _ (List.forall_iff_forall_mem.mp (by
      simp only [hostOps0, hostOps0_1, hostOps0_2, List.drop, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
  rw [h]
  rfl

theorem hpf (m : (ℓ : Loc nD τ sig) → Buf (Elt F) ℓ) (c : Dev nD) : ∀ k, V m c (pre0.ref k) = tbl k := fun
  | 0 => V_tbl0 m c
  | 1 => V_tbl1 m c
  | ⟨_ + 2, h⟩ => absurd h (Nat.not_lt.2 (Nat.le_add_left _ _))

end Cert.KernelIdeal.Flash

end
-- ==== Proof.Flash.KernelIdeal.Prep.lean ====
module

public import proofs.«01_k».proof.Proof.Flash.KernelIdeal.Main
public import proofs.«01_k».proof.Proof.Flash.Math.Sums
public import Idealize.ShloMosaic.Lib.Pointwise
public import Idealize.ShloMosaic.Lib.Claim

@[expose] public section

set_option maxRecDepth 16384

noncomputable section

namespace Cert.KernelIdeal.Flash

open Idealize.ShloMosaic Idealize.ShloMosaic.TcCoe
open Cert.KernelIdeal Cert.KernelIdeal.Gen
open StableHlo

/-! The arrays the host prepares for the pipeline, over the extended reals: what each is, and its entries. -/

/-- log₂ e. -/
def hLog2e : FVec Ideal S_ .f32 := Host.divf (constant S_ .f32 0x3F800000#32) (Host.log (constant S_ .f32 0x40000000#32))

/-- The gates' logarithms, a head in a row. -/
def hGates (g : FVec Ideal S1x16384x8 .f32) : FVec Ideal S8x16384 .f32 :=
  transpose S8x16384 [1, 0] (shapeCast S16384x8 g shapeCasts_S1x16384x8_S16384x8) transposes_S16384x8_S8x16384_1_0

/-- The running sums of the gates' logarithms, as exponents of two. -/
def hF2 (g : FVec Ideal S1x16384x8 .f32) : FVec Ideal S8x16384 .f32 :=
  mulf (Host.reduceWindowAdd ![1, 16384] ![1, 1] ![0, 16383] ![0, 0] (hGates g)
    (broadcastInDim S_ ![] bcast_S_S_ (constant S_ FTy.f32 0#32)) reduceWindows_S8x16384_S8x16384_w1s1p0_0_w16384s1p16383_0 h_S_)
    (broadcastInDim S8x16384 ![] bcast_S_S8x16384 hLog2e)

/-- The sums at the blocks' starts, a head's blocks in a row. -/
def hFs (f2 : FVec Ideal S8x16384 .f32) : FVec Ideal S256 .f32 :=
  shapeCast S256 (Host.slice S8x32 ![0, 0] ![1, 512] f2 slicesBy_S8x16384_S8x32_0s1_0s512) shapeCasts_S8x32_S256

/-- The sums relative to the block's start. -/
def hRel (f2 : FVec Ideal S8x16384 .f32) : FVec Ideal S8x16384 .f32 :=
  shapeCast S8x16384 (subf (shapeCast S8x32x512 f2 shapeCasts_S8x16384_S8x32x512)
    (broadcastInDim S8x32x512 ![0, 1, 2] bcast_S8x32x1_S8x32x512_0_1_2 (broadcastInDim S8x32x1 ![0, 1] bcast_S8x32_S8x32x1_0_1
      (Host.slice S8x32 ![0, 0] ![1, 512] f2 slicesBy_S8x16384_S8x32_0s1_0s512)))) shapeCasts_S8x32x512_S8x16384

/-- The queries, scaled, a head's queries in columns. -/
def hQa (q : FVec Ideal S1x16384x8x64 .f32) : FVec Ideal S8x64x16384 .bf16 :=
  transpose S8x64x16384 [1, 2, 0] (shapeCast S16384x8x64 (truncf .bf16 (mulf (shapeCast S16384x512 q shapeCasts_S1x16384x8x64_S16384x512)
    (broadcastInDim S16384x512 ![] bcast_S_S16384x512 (mulf (constant S_ .f32 0x3E000000#32) hLog2e))) bitsLt_bf16_f32) shapeCasts_S16384x512_S16384x8x64)
    transposes_S16384x8x64_S8x64x16384_1_2_0

/-- The values, a head's values in columns. -/
def hVt (v : FVec Ideal S1x16384x8x64 .f32) : FVec Ideal S8x64x16384 .bf16 :=
  transpose S8x64x16384 [1, 2, 0] (shapeCast S16384x8x64 (truncf .bf16 (shapeCast S16384x512 v shapeCasts_S1x16384x8x64_S16384x512) bitsLt_bf16_f32)
    shapeCasts_S16384x512_S16384x8x64) transposes_S16384x8x64_S8x64x16384_1_2_0

/-- A number at the width of the operands. -/
def hHi (x : FVec Ideal S8x16384 .f32) : FVec Ideal S8x16384 .f32 := extf .f32 (truncf .bf16 x bitsLt_bf16_f32) bitsLt_bf16_f32

/-- The keys in rows. -/
def hKeys (k : FVec Ideal S1x16384x8x64 .f32) : FVec Ideal S8x16384x64 .bf16 :=
  transpose S8x16384x64 [1, 0, 2] (shapeCast S16384x8x64 (truncf .bf16 (shapeCast S16384x512 k shapeCasts_S1x16384x8x64_S16384x512) bitsLt_bf16_f32)
      shapeCasts_S16384x512_S16384x8x64) transposes_S16384x8x64_S8x16384x64_1_0_2

/-- One number for each key, as a column. -/
def hCol (x : FVec Ideal S8x16384 .f32) : FVec Ideal S8x16384x1 .f32 := broadcastInDim S8x16384x1 ![0, 1] bcast_S8x16384_S8x16384x1_0_1 x

/-- The keys' rows put together: the keys, three columns, and the constant columns. -/
def hJoin (keys : FVec Ideal S8x16384x64 .bf16) (a b c : FVec Ideal S8x16384x1 .f32) : FVec Ideal S8x16384x128 .bf16 :=
  concatenate S8x16384x128 2 [⟨S8x16384x64, keys⟩,
    ⟨S8x16384x3, truncf .bf16 (concatenate S8x16384x3 2 [⟨S8x16384x1, a⟩, ⟨S8x16384x1, b⟩, ⟨S8x16384x1, c⟩]
      concatenates_S8x16384x1_S8x16384x1_S8x16384x1_S8x16384x3_d2) bitsLt_bf16_f32⟩,
    ⟨S8x16384x3, broadcastInDim S8x16384x3 ![] bcast_S_S8x16384x3 (constant S_ .bf16 0xBF80#16)⟩,
    ⟨S8x16384x58, broadcastInDim S8x16384x58 ![] bcast_S_S8x16384x58 (constant S_ .bf16 0x0000#16)⟩]
    concatenates_S8x16384x64_S8x16384x3_S8x16384x3_S8x16384x58_S8x16384x128_d2

/-- The keys extended by the relative sums. -/
def hKa (k : FVec Ideal S1x16384x8x64 .f32) (rel : FVec Ideal S8x16384 .f32) : FVec Ideal S8x16384x128 .bf16 :=
  hJoin (hKeys k) (hCol (hHi rel)) (hCol (hHi (subf rel (hHi rel)))) (hCol (hHi (subf (subf rel (hHi rel)) (hHi (subf rel (hHi rel))))))

variable (m : (ℓ : Loc nD τ sig) → Buf (Elt Ideal) ℓ) (c : Dev nD)

/-- The four arguments. -/
abbrev argQ : FVec Ideal S1x16384x8x64 .f32 := m ((c.tc : Thread nD τ).loc main_arg0)
abbrev argK : FVec Ideal S1x16384x8x64 .f32 := m ((c.tc : Thread nD τ).loc main_arg1)
abbrev argV : FVec Ideal S1x16384x8x64 .f32 := m ((c.tc : Thread nD τ).loc main_arg2)
abbrev argG : FVec Ideal S1x16384x8 .f32 := m ((c.tc : Thread nD τ).loc main_arg3)

set_option maxHeartbeats 4000000 in
theorem V_qa : V m c main_v30 = hQa (argQ m c) := by
  unfold V
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_vt : V m c main_v44 = hVt (argV m c) := by
  unfold V
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp
  rfl

set_option maxHeartbeats 4000000 in
theorem V_fs : V m c main_v46 = hFs (hF2 (argG m c)) := by
  unfold V
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp
  rfl

/-- The contents before the keys' columns are put together. -/
abbrev W : Valuation τ sig (Elt Ideal) := after ((List.flatten [hostOps0, hostOps0_1, hostOps0_2]).take 44) (fun b => m (c, b))

set_option maxHeartbeats 4000000 in
theorem W_keys : W m c main_v33 = hKeys (argK m c) := by
  unfold W
  simp only [hostOps0, hostOps0_1, hostOps0_2, List.flatten_cons, List.flatten_nil, List.append_nil, List.cons_append, List.nil_append, List.take_succ_cons, List.take_zero,
    TRef.binary, TRef.nullary, TRef.ternary, TRef.unary, TRef.toBuf, TRef.ofBuf, cast_eq]
  after_results_simp
  rfl

set_option maxHeartbeats 4000000 in
theorem W_hi : W m c main_v34 = hCol (hHi (hRel (hF2 (argG m c)))) := by
  unfold W
  simp only [hostOps0, hostOps0_1, hostOps0_2, List.flatten_cons, List.flatten_nil, List.append_nil, List.cons_append, List.nil_append, List.take_succ_cons, List.take_zero,
    TRef.binary, TRef.nullary, TRef.ternary, TRef.unary, TRef.toBuf, TRef.ofBuf, cast_eq]
  after_results_simp
  rfl

set_option maxHeartbeats 4000000 in
theorem W_mid : W m c main_v35 = hCol (hHi (subf (hRel (hF2 (argG m c))) (hHi (hRel (hF2 (argG m c)))))) := by
  unfold W
  simp only [hostOps0, hostOps0_1, hostOps0_2, List.flatten_cons, List.flatten_nil, List.append_nil, List.cons_append, List.nil_append, List.take_succ_cons, List.take_zero,
    TRef.binary, TRef.nullary, TRef.ternary, TRef.unary, TRef.toBuf, TRef.ofBuf, cast_eq]
  after_results_simp
  rfl

set_option maxHeartbeats 4000000 in
theorem W_lo : W m c main_v36 = hCol (hHi (subf (subf (hRel (hF2 (argG m c))) (hHi (hRel (hF2 (argG m c))))) (hHi (subf (hRel (hF2 (argG m c))) (hHi (hRel (hF2 (argG m c)))))))) := by
  unfold W
  simp only [hostOps0, hostOps0_1, hostOps0_2, List.flatten_cons, List.flatten_nil, List.append_nil, List.cons_append, List.nil_append, List.take_succ_cons, List.take_zero,
    TRef.binary, TRef.nullary, TRef.ternary, TRef.unary, TRef.toBuf, TRef.ofBuf, cast_eq]
  after_results_simp
  rfl

theorem tail_ka (X : Valuation τ sig (Elt Ideal)) :
    after ((List.flatten [hostOps0, hostOps0_1, hostOps0_2]).drop 44) X main_v41 = hJoin (X main_v33) (X main_v34) (X main_v35) (X main_v36) := rfl

theorem V_ka : V m c main_v41 = hKa (argK m c) (hRel (hF2 (argG m c))) := by
  have e : V m c main_v41 = after ((List.flatten [hostOps0, hostOps0_1, hostOps0_2]).drop 44) (W m c) main_v41 := by
    unfold V W
    rw [← after_append, List.take_append_drop]
  rw [e, tail_ka, W_keys, W_hi, W_mid, W_lo]
  rfl

end Cert.KernelIdeal.Flash

end
-- ==== Proof.Flash.Math.Cols.lean ====
module

public import proofs.«01_k».proof.Proof.Flash.Math.Softmax

@[expose] public section

noncomputable section

namespace Cert.FlashMath

open Idealize.ShloMosaic

/-! The products' operands as real numbers: a key's row, extended by its relative sum, against a query's column, extended
    by the shift. -/

/-- A key's row: the key, its relative sum, two zeros, three times −1, and zeros. -/
def keyRow (κ : Fin 64 → ℝ) (r : ℝ) (d : Fin 128) : ℝ :=
  if hd : d.val < 64 then κ ⟨d.val, hd⟩ else if d.val < 65 then r else if d.val < 67 then 0 else if d.val < 70 then -1 else 0

/-- A query's column: the query, three times −1, the shift, and zeros. -/
def queryCol (κ : Fin 64 → ℝ) (x : ℝ) (d : Fin 128) : ℝ :=
  if hd : d.val < 64 then κ ⟨d.val, hd⟩ else if d.val < 67 then -1 else if d.val < 68 then x else 0

/-- Their product is the key times the query, less the relative sum and the shift. -/
theorem keyRow_queryCol (κ θ : Fin 64 → ℝ) (r x : ℝ) :
    ∑ d : Fin 128, ((keyRow κ r d : ℝ) : EReal) * ((queryCol θ x d : ℝ) : EReal) = ((∑ d, κ d * θ d - r - x : ℝ) : EReal) := by
  rw [Finset.sum_congr rfl fun d _ => (EReal.coe_mul (keyRow κ r d) (queryCol θ x d)).symm, ← coe_sum]
  refine congrArg _ ?_
  rw [Fin.sum_univ_add (a := 64) (b := 64) (fun d => keyRow κ r d * queryCol θ x d)]
  have h1 : ∀ d : Fin 64, keyRow κ r (Fin.castAdd 64 d) * queryCol θ x (Fin.castAdd 64 d) = κ d * θ d := fun d => by
    unfold keyRow queryCol
    rw [dif_pos (by simp), dif_pos (by simp)]; rfl
  have h2 : ∀ d : Fin 64, keyRow κ r (Fin.natAdd 64 d) * queryCol θ x (Fin.natAdd 64 d) = (if d = 0 then -r else 0) + (if d = 3 then -x else 0) := fun d => by
    unfold keyRow queryCol
    rw [dif_neg (by simp), dif_neg (by simp)]
    simp only [Fin.ext_iff, Fin.val_natAdd]
    have e0 : ((0 : Fin 64) : ℕ) = 0 := rfl
    have e3 : ((3 : Fin 64) : ℕ) = 3 := rfl
    rw [e0, e3]
    have := d.isLt
    split_ifs <;> first | omega | simp
  rw [Finset.sum_congr rfl fun d _ => h1 d, Finset.sum_congr rfl fun d _ => h2 d, Finset.sum_add_distrib, Finset.sum_ite_eq', Finset.sum_ite_eq',
    if_pos (Finset.mem_univ _), if_pos (Finset.mem_univ _)]
  ring

end Cert.FlashMath

end
-- ==== Proof.Flash.KernelIdeal.Words.lean ====
module

public import proofs.«01_k».proof.Proof.Flash.KernelIdeal.Prep
public import proofs.«01_k».proof.Proof.Flash.Math.Sums
public import proofs.«01_k».proof.Proof.Flash.Math.Attn
public import proofs.«01_k».proof.Proof.Flash.Math.Cols
public import Idealize.ShloMosaic.Lib.Pointwise
public import Idealize.ShloMosaic.Lib.IdealHost

@[expose] public section

set_option maxRecDepth 16384

noncomputable section

namespace Cert.FlashMath

open Idealize.ShloMosaic

/-! The words the two programs write, as numbers. -/

theorem word_two : Ideal.ofBits .f32 1073741824#32 = ((2 : ℝ) : EReal) := by
  simp [Ideal.ofBits, Ideal.ieee, -EReal.coe_mul]; norm_num
theorem word_eighth : Ideal.ofBits .f32 1040187392#32 = ((0.125 : ℝ) : EReal) := by
  simp [Ideal.ofBits, Ideal.ieee, -EReal.coe_mul]; norm_num
theorem word_neg_one : Ideal.ofBits .f32 3212836864#32 = ((-1 : ℝ) : EReal) := by
  simp [Ideal.ofBits, Ideal.ieee, -EReal.coe_mul]; norm_num
theorem word_bot : Ideal.ofBits .f32 4286578688#32 = ⊥ := by
  simp [Ideal.ofBits, Ideal.ieee]
theorem word_top : Ideal.ofBits .f32 2139095040#32 = ⊤ := by
  simp [Ideal.ofBits, Ideal.ieee]
theorem word_neg_one_half : Ideal.ofBits .bf16 49024#16 = ((-1 : ℝ) : EReal) := Ideal.ofBits_neg_one_bf16

end Cert.FlashMath

namespace Cert.KernelIdeal.Flash

open Idealize.ShloMosaic Idealize.ShloMosaic.TcCoe StableHlo
open Cert.KernelIdeal Cert.KernelIdeal.Gen Cert.FlashMath

/-! The prepared arrays, at an index. -/

theorem hLog2e_apply (i : S_.Idx) : (hLog2e : Vec Ideal S_ .f32) i = (((Real.log 2)⁻¹ : ℝ) : EReal) := by
  have h : (hLog2e : Vec Ideal S_ .f32) i = Ideal.div 1 (Ideal.log (Ideal.ofBits .f32 1073741824#32)) := by pointwise [hLog2e]
  have hl : Real.log 2 ≠ 0 := (Real.log_pos (by norm_num)).ne'
  rw [h, word_two, Ideal.log_coe, if_neg (by norm_num), div_coe _ _ hl, mul_one]

theorem hQa_apply (q : Vec Ideal S1x16384x8x64 .f32) (h : Fin 8) (d : Fin 64) (t : Fin 16384) :
    hQa q (ix3 h d t) = q (ix4 0 t h d) * (Ideal.ofBits .f32 1040187392#32 * (hLog2e : Vec Ideal S_ .f32) Idealize.ShloMosaic.ix0) := by
  pointwise [hQa]

theorem hVt_apply (v : Vec Ideal S1x16384x8x64 .f32) (h : Fin 8) (d : Fin 64) (t : Fin 16384) : hVt v (ix3 h d t) = v (ix4 0 t h d) := by
  pointwise [hVt]

theorem hFs_apply (f : Vec Ideal S8x16384 .f32) (n : Fin 256) : hFs f (ix1 n) = f (ix2 ⟨n.val / 32, by omega⟩ ⟨512 * (n.val % 32), by omega⟩) := by
  pointwise [hFs]

theorem hRel_apply (f : Vec Ideal S8x16384 .f32) (h : Fin 8) (t : Fin 16384) :
    hRel f (ix2 h t) = f (ix2 h t) - f (ix2 h ⟨512 * (t.val / 512), by omega⟩) := by
  pointwise [hRel]

theorem hF2_apply (g : Vec Ideal S1x16384x8 .f32) (h : Fin 8) (t : Fin 16384) :
    hF2 g (ix2 h t) = runSum (fun s => g (ix3 0 s h)) t * (hLog2e : Vec Ideal S_ .f32) Idealize.ShloMosaic.ix0 := by
  have hw : Host.reduceWindowAdd ![1, 16384] ![1, 1] ![0, 16383] ![0, 0] (hGates g)
      (broadcastInDim S_ ![] bcast_S_S_ (constant S_ FTy.f32 0#32)) reduceWindows_S8x16384_S8x16384_w1s1p0_0_w16384s1p16383_0 h_S_ (ix2 h t)
      = runSum (fun s => g (ix3 0 s h)) t := by
    unfold Host.reduceWindowAdd
    rw [Ideal.hostReduceWindowAdd_def]
    refine (window_rows (hGates g) _ ?_ _ h t).trans (congrArg (fun f => runSum f t) (funext fun s => ?_))
    · pointwise []
    · pointwise [hGates]
  rw [← hw]
  pointwise [hF2]

theorem hGates_apply (g : Vec Ideal S1x16384x8 .f32) (h : Fin 8) (t : Fin 16384) : hGates g (ix2 h t) = g (ix3 0 t h) := by
  pointwise [hGates]

/-- A key's row, where the relative sum is real. -/
theorem hKa_apply (k : Vec Ideal S1x16384x8x64 .f32) (rel : Vec Ideal S8x16384 .f32) (h : Fin 8) (t : Fin 16384) (d : Fin 128)
    (κ : Fin 64 → ℝ) (hκ : ∀ d, k (ix4 0 t h d) = (κ d : EReal)) (r : ℝ) (hr : rel (ix2 h t) = (r : EReal)) :
    hKa k rel (ix3 h t d) = ((keyRow κ r d : ℝ) : EReal) := by
  have e : hKa k rel (ix3 h t d) = if hd : d.val < 64 then k (ix4 0 t ⟨(h.val * 64 + d.val) / 64, by omega⟩ ⟨(h.val * 64 + d.val) % 64, by omega⟩) else
      if _ : d.val - 64 < 3 then (if _ : d.val - 64 < 1 then rel (ix2 h t) else if _ : d.val - 64 - 1 < 1 then rel (ix2 h t) - rel (ix2 h t)
        else rel (ix2 h t) - rel (ix2 h t) - (rel (ix2 h t) - rel (ix2 h t)))
      else if _ : d.val - 64 - 3 < 3 then Ideal.ofBits .bf16 49024#16 else 0 := by
    pointwise [hKa, hJoin, hKeys, hCol, hHi]
  rw [e, hr, word_neg_one_half]
  unfold keyRow
  split
  · next hd =>
    rw [← hκ]
    refine congrArg k (congrArg₂ (fun a b => ix4 0 t a b) (Fin.ext ?_) (Fin.ext ?_))
    · show (h.val * 64 + d.val) / 64 = h.val; omega
    · show (h.val * 64 + d.val) % 64 = d.val; omega
  · rw [← EReal.coe_sub, ← EReal.coe_sub]
    have := d.isLt
    split_ifs <;> first | omega | rfl | simp

end Cert.KernelIdeal.Flash

end
-- ==== Proof.Flash.Math.Pre.lean ====
module

public import proofs.«01_k».proof.Pre_finite
public import proofs.«01_k».proof.Proof.Flash.Math.Data
public import proofs.«01_k».proof.Proof.Flash.KernelIdeal.Words
public import Idealize.ShloMosaic.Lib.Pointwise
public import Idealize.ShloMosaic.Lib.ReduceAll

@[expose] public section

set_option maxRecDepth 16384

noncomputable section

namespace Cert.Pre_finite

open Idealize.ShloMosaic Cert.FlashMath

/-! What the precondition says: the queries, the keys and the gates' logarithms are real. -/

theorem facts : Facts where
  bcast_S_S1x16384x8x64 := by decide
  reducesTo_S1x16384x8x64_S_d0_1_2_3 := by decide
  h_S_ := by decide
  bcast_S_S1x16384x8 := by decide
  reducesTo_S1x16384x8_S_d0_1_2 := by decide

/-- A number whose absolute value is below +∞ is real. -/
theorem real_of_abs_lt (x : EReal) (h : BitVec.ofBool (decide (max x (-x) < (⊤ : EReal))) = 1#1) : ∃ r : ℝ, x = (r : EReal) := by
  induction x with
  | bot => simp at h
  | top => simp at h
  | coe r => exact ⟨r, rfl⟩

theorem real_of_bound (x : EReal) (h : BitVec.ofBool (decide (max x (-x) < Ideal.ofBits .f32 2139095040#32)) = 1#1) : ∃ r : ℝ, x = (r : EReal) := by
  rw [word_top] at h
  exact real_of_abs_lt x h

theorem finite_of [Facts] (q k v : FVec Ideal S1x16384x8x64 .f32) (g : FVec Ideal S1x16384x8 .f32)
    (h : fn (F := Ideal) q k v g = fun _ => 1#1) : Finite (s := S1x16384x8x64) q ∧ Finite (s := S1x16384x8x64) k ∧ Finite (s := S1x16384x8) g := by
  have h0 := congrFun h (Shape.Idx.first Facts.h_S_)
  have : Subsingleton S_.Idx := ⟨fun a b => funext fun i => i.elim0⟩
  unfold fn at h0
  dsimp only at h0
  obtain ⟨h1, h2⟩ := IntOp.andi_eq_one.mp h0
  obtain ⟨h3, h4⟩ := IntOp.andi_eq_one.mp h1
  exact ⟨fun i => real_of_bound (q i) (Host.reduce_andi_all _ _ _ _ _ h3 i), fun i => real_of_bound (k i) (Host.reduce_andi_all _ _ _ _ _ h4 i),
    fun i => real_of_bound (g i) (Host.reduce_andi_all _ _ _ _ _ h2 i)⟩

end Cert.Pre_finite

end
-- ==== Proof.Combine.Pre.lean ====
module

public import proofs.«01_k».proof.Pre_finite3
public import proofs.«01_k».proof.Proof.Flash.Math.Pre

@[expose] public section

set_option maxRecDepth 16384

noncomputable section

namespace Cert.Pre_finite3

open Idealize.ShloMosaic

/-! What the precondition of the third call says: the two mixers' outputs are real. -/

theorem finite_of [Facts] (a b z : FVec Ideal S1x16384x512 .f32) (x : FVec Ideal S1x16384x1024 .f32) (ga sc sh : FVec Ideal S1x1x1024 .f32)
    (gf gm : FVec Ideal S512 .f32) (gn : FVec Ideal S1024 .f32) (wo : FVec Ideal S1024x1024 .f32) (wq : FVec Ideal S1024x2048 .f32) (ks : FVec Ideal S8x2x128x128 .f32)
    (h : fn (F := Ideal) a b z x ga sc sh gf gm gn wo wq ks = fun _ => 1#1) :
    (∀ i : S1x16384x512.Idx, ∃ r : ℝ, a i = (r : EReal)) ∧ (∀ i : S1x16384x512.Idx, ∃ r : ℝ, b i = (r : EReal)) := by
  have h0 := congrFun h (Shape.Idx.first Facts.h_S_)
  have : Subsingleton S_.Idx := ⟨fun a b => funext fun i => i.elim0⟩
  unfold fn at h0
  dsimp only at h0
  obtain ⟨h1, h2⟩ := IntOp.andi_eq_one.mp h0
  exact ⟨fun i => Cert.Pre_finite.real_of_bound (a i) (Host.reduce_andi_all _ _ _ _ _ h1 i), fun i => Cert.Pre_finite.real_of_bound (b i) (Host.reduce_andi_all _ _ _ _ _ h2 i)⟩

end Cert.Pre_finite3

end
-- ==== Proof.Flash.Kernel.Word.lean ====
module

public import proofs.«01_k».proof.Proof.Gen.Kernel.Launch
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The word of a table that the body reads at grid point `i`. -/
abbrev word (a : Memref sig .tc .smem S528 .i32) (x : a.view.ty.Contents (Elt F)) (i : grid0.Coords) : BitVec 32 :=
  a.view.readAt (Elt F) (Rect.unit (s := S528) (k0_off1 i) S1.size (k0_off1_inb i)).toLoadRect x (Shape.Idx.first (numel1_S1.symm ▸ Nat.one_pos))

end Cert.Kernel.Flash

end
-- ==== Proof.Flash.KernelIdeal.RunA.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Word

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 8000000 in
/-- The body's run at the first block of a query block, and not its last: from the operands' blocks and the three scratch buffers to what its stores leave
    in the scratch buffers, each as the list of pieces written. -/
noncomputable def runA (c : Dev nD) (i : grid0.Coords) (arg1 : Memref sig .tc .smem S528 .i32) (harg1 : arg1.IsWhole) (arg2 : Memref sig .tc .smem S528 .i32) (harg2 : arg2.IsWhole) (arg3 : Memref sig .tc .smem S256 .f32) (harg3 : arg3.IsWhole) (arg4 : Memref sig .tc .vmem S8x64x512 .bf16) (harg4 : arg4.IsWhole) (arg5 : Memref sig .tc .vmem S8x512x128 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x64x512 .f32) (harg10 : arg10.IsWhole)
    (x1 : arg1.view.ty.Contents (Elt F)) (x2 : arg2.view.ty.Contents (Elt F)) (x3 : Vec F S256 .f32) (x4 : Vec F S8x64x512 .bf16) (x5 : Vec F S8x512x128 .bf16) (x6 : Vec F S8x64x512 .bf16)
    (hw : k0_chk1 (word arg1 x1 i) (word arg2 x2 i)) (h0 : Scalar.cmpi .ne (Scalar.extui (Scalar.cmpi .eq (word arg2 x2 i) 0#32) : BitVec 32) 0#32 = 1#1) (h2 : k0_cond2 (word arg1 x1 i) (word arg2 x2 i) = 1#1) (h3 : ¬k0_cond3 (word arg1 x1 i) (word arg2 x2 i) = 1#1) :
    Σ' (LM : List (View.Piece (Elt F) S8x1x512 .f32)), Σ' (LL : List (View.Piece (Elt F) S8x1x512 .f32)), { LA : List (View.Piece (Elt F) S8x64x512 .f32) //
      ∀ (E : Set ℕ) (K : PUnit → sProp 𝕄),
        iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc0_fox_prompt i arg1 harg1 arg2 harg2 arg3 harg3 arg4 harg4 arg5 harg5 arg6 harg6 arg7 harg7 arg8 harg8 arg9 harg9 arg10 harg10) K } := by
  refine ⟨?_, ?_, ?_, fun E K => ?run⟩
  case run =>
    rw [cc0_fox_prompt_eq_skeleton]; unfold cc0_fox_prompt_skel
    unfold owns
    iintro ⟨H1, H2, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg3.eq_unread hf3; obtain rfl := harg4.eq_unread hf4; obtain rfl := harg5.eq_unread hf5; obtain rfl := harg6.eq_unread hf6
    sl_exec_parts (disch := first | sl_exact hw | sl_exact h0 | sl_exact h2 | sl_exact h3)
    sl_step
    iapply Hk
    isplitl [H1]; · iexact H1
    isplitl [H2]; · iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexists f7; isplitr; · ipureintro; rfl
      iexact H7
    isplitl [H8]; · iexists _; iexact H8
    isplitl [H9]; · iexists _; iexact H9
    iexists _; iexact H10

end Cert.KernelIdeal.Flash

end
-- ==== Proof.Flash.KernelIdeal.RunB.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Word

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 8000000 in
/-- The body's run at a block between the first and the last: from the operands' blocks and the three scratch buffers to what its stores leave
    in the scratch buffers, each as the list of pieces written. -/
noncomputable def runB (c : Dev nD) (i : grid0.Coords) (arg1 : Memref sig .tc .smem S528 .i32) (harg1 : arg1.IsWhole) (arg2 : Memref sig .tc .smem S528 .i32) (harg2 : arg2.IsWhole) (arg3 : Memref sig .tc .smem S256 .f32) (harg3 : arg3.IsWhole) (arg4 : Memref sig .tc .vmem S8x64x512 .bf16) (harg4 : arg4.IsWhole) (arg5 : Memref sig .tc .vmem S8x512x128 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x64x512 .f32) (harg10 : arg10.IsWhole)
    (x1 : arg1.view.ty.Contents (Elt F)) (x2 : arg2.view.ty.Contents (Elt F)) (x3 : Vec F S256 .f32) (x4 : Vec F S8x64x512 .bf16) (x5 : Vec F S8x512x128 .bf16) (x6 : Vec F S8x64x512 .bf16)
    (xm xl : Vec F S8x1x512 .f32) (xa : Vec F S8x64x512 .f32)
    (hw : k0_chk1 (word arg1 x1 i) (word arg2 x2 i)) (h0 : ¬Scalar.cmpi .ne (Scalar.extui (Scalar.cmpi .eq (word arg2 x2 i) 0#32) : BitVec 32) 0#32 = 1#1) (h2 : k0_cond2 (word arg1 x1 i) (word arg2 x2 i) = 1#1) (h3 : ¬k0_cond3 (word arg1 x1 i) (word arg2 x2 i) = 1#1) :
    Σ' (LM : List (View.Piece (Elt F) S8x1x512 .f32)), Σ' (LL : List (View.Piece (Elt F) S8x1x512 .f32)), { LA : List (View.Piece (Elt F) S8x64x512 .f32) //
      ∀ (E : Set ℕ) (K : PUnit → sProp 𝕄),
        iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare xm ∗ owns (c : Thread nD τ) arg9 fullShare xl ∗ owns (c : Thread nD τ) arg10 fullShare xa
            ∗ (iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc0_fox_prompt i arg1 harg1 arg2 harg2 arg3 harg3 arg4 harg4 arg5 harg5 arg6 harg6 arg7 harg7 arg8 harg8 arg9 harg9 arg10 harg10) K } := by
  refine ⟨?_, ?_, ?_, fun E K => ?run⟩
  case run =>
    rw [cc0_fox_prompt_eq_skeleton]; unfold cc0_fox_prompt_skel
    unfold owns
    iintro ⟨H1, H2, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10
    sl_exec_parts (disch := first | sl_exact hw | sl_exact h0 | sl_exact h2 | sl_exact h3)
    sl_step
    iapply Hk
    isplitl [H1]; · iexact H1
    isplitl [H2]; · iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexists f7; isplitr; · ipureintro; rfl
      iexact H7
    isplitl [H8]; · iexists _; iexact H8
    isplitl [H9]; · iexists _; iexact H9
    iexists _; iexact H10

end Cert.KernelIdeal.Flash

end
-- ==== Proof.Flash.KernelIdeal.RunC.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Word

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 8000000 in
/-- The body's run at the first block of a query block and at once its last: from the operands' blocks and the three scratch buffers to what its stores leave
    in the scratch buffers and in the output's buffer, each as the list of pieces written. -/
noncomputable def runC (c : Dev nD) (i : grid0.Coords) (arg1 : Memref sig .tc .smem S528 .i32) (harg1 : arg1.IsWhole) (arg2 : Memref sig .tc .smem S528 .i32) (harg2 : arg2.IsWhole) (arg3 : Memref sig .tc .smem S256 .f32) (harg3 : arg3.IsWhole) (arg4 : Memref sig .tc .vmem S8x64x512 .bf16) (harg4 : arg4.IsWhole) (arg5 : Memref sig .tc .vmem S8x512x128 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x64x512 .f32) (harg10 : arg10.IsWhole)
    (x1 : arg1.view.ty.Contents (Elt F)) (x2 : arg2.view.ty.Contents (Elt F)) (x3 : Vec F S256 .f32) (x4 : Vec F S8x64x512 .bf16) (x5 : Vec F S8x512x128 .bf16) (x6 : Vec F S8x64x512 .bf16)
    (hw : k0_chk1 (word arg1 x1 i) (word arg2 x2 i)) (h0 : Scalar.cmpi .ne (Scalar.extui (Scalar.cmpi .eq (word arg2 x2 i) 0#32) : BitVec 32) 0#32 = 1#1) (h2 : ¬k0_cond2 (word arg1 x1 i) (word arg2 x2 i) = 1#1) (h3 : k0_cond3 (word arg1 x1 i) (word arg2 x2 i) = 1#1) :
    Σ' (LO : List (View.Piece (Elt F) S8x64x512 .f32)), Σ' (LM : List (View.Piece (Elt F) S8x1x512 .f32)), Σ' (LL : List (View.Piece (Elt F) S8x1x512 .f32)), { LA : List (View.Piece (Elt F) S8x64x512 .f32) //
      ∀ (E : Set ℕ) (K : PUnit → sProp 𝕄),
        iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc0_fox_prompt i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    rw [cc0_fox_prompt_eq_skeleton]; unfold cc0_fox_prompt_skel
    unfold owns
    iintro ⟨H1, H2, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg3.eq_unread hf3; obtain rfl := harg4.eq_unread hf4; obtain rfl := harg5.eq_unread hf5; obtain rfl := harg6.eq_unread hf6
    sl_exec_parts (disch := first | sl_exact hw | sl_exact h0 | sl_exact h2 | sl_exact h3)
    sl_step
    iapply Hk
    isplitl [H1]; · iexact H1
    isplitl [H2]; · iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.KernelIdeal.Flash

end
-- ==== Proof.Flash.KernelIdeal.RunD.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Word

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 8000000 in
/-- The body's run at the last block of a query block, not its first: from the operands' blocks and the three scratch buffers to what its stores leave
    in the scratch buffers and in the output's buffer, each as the list of pieces written. -/
noncomputable def runD (c : Dev nD) (i : grid0.Coords) (arg1 : Memref sig .tc .smem S528 .i32) (harg1 : arg1.IsWhole) (arg2 : Memref sig .tc .smem S528 .i32) (harg2 : arg2.IsWhole) (arg3 : Memref sig .tc .smem S256 .f32) (harg3 : arg3.IsWhole) (arg4 : Memref sig .tc .vmem S8x64x512 .bf16) (harg4 : arg4.IsWhole) (arg5 : Memref sig .tc .vmem S8x512x128 .bf16) (harg5 : arg5.IsWhole) (arg6 : Memref sig .tc .vmem S8x64x512 .bf16) (harg6 : arg6.IsWhole) (arg7 : Memref sig .tc .vmem S8x64x512 .f32) (harg7 : arg7.IsWhole) (arg8 : Memref sig .tc .vmem S8x1x512 .f32) (harg8 : arg8.IsWhole) (arg9 : Memref sig .tc .vmem S8x1x512 .f32) (harg9 : arg9.IsWhole) (arg10 : Memref sig .tc .vmem S8x64x512 .f32) (harg10 : arg10.IsWhole)
    (x1 : arg1.view.ty.Contents (Elt F)) (x2 : arg2.view.ty.Contents (Elt F)) (x3 : Vec F S256 .f32) (x4 : Vec F S8x64x512 .bf16) (x5 : Vec F S8x512x128 .bf16) (x6 : Vec F S8x64x512 .bf16)
    (xm xl : Vec F S8x1x512 .f32) (xa : Vec F S8x64x512 .f32)
    (hw : k0_chk1 (word arg1 x1 i) (word arg2 x2 i)) (h0 : ¬Scalar.cmpi .ne (Scalar.extui (Scalar.cmpi .eq (word arg2 x2 i) 0#32) : BitVec 32) 0#32 = 1#1) (h2 : ¬k0_cond2 (word arg1 x1 i) (word arg2 x2 i) = 1#1) (h3 : k0_cond3 (word arg1 x1 i) (word arg2 x2 i) = 1#1) :
    Σ' (LO : List (View.Piece (Elt F) S8x64x512 .f32)), Σ' (LM : List (View.Piece (Elt F) S8x1x512 .f32)), Σ' (LL : List (View.Piece (Elt F) S8x1x512 .f32)), { LA : List (View.Piece (Elt F) S8x64x512 .f32) //
      ∀ (E : Set ℕ) (K : PUnit → sProp 𝕄),
        iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare xm ∗ owns (c : Thread nD τ) arg9 fullShare xl ∗ owns (c : Thread nD τ) arg10 fullShare xa
            ∗ (iprop((arg1.view.loc (c : Thread nD τ) ↦[arg1.view.set]{fullShare.right} x1) ∗ (arg2.view.loc (c : Thread nD τ) ↦[arg2.view.set]{fullShare.right} x2) ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc0_fox_prompt i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    rw [cc0_fox_prompt_eq_skeleton]; unfold cc0_fox_prompt_skel
    unfold owns
    iintro ⟨H1, H2, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10
    sl_exec_parts (disch := first | sl_exact hw | sl_exact h0 | sl_exact h2 | sl_exact h3)
    sl_step
    iapply Hk
    isplitl [H1]; · iexact H1
    isplitl [H2]; · iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.KernelIdeal.Flash

end
-- ==== Proof.Flash.KernelIdeal.Points2.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Main
public import proofs.«01_k».proof.Proof.Flash.KernelIdeal.RunA
public import proofs.«01_k».proof.Proof.Flash.KernelIdeal.RunB
public import proofs.«01_k».proof.Proof.Flash.KernelIdeal.RunC
public import proofs.«01_k».proof.Proof.Flash.KernelIdeal.RunD

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Window `w`'s block at point `t`, read off the array as the pipeline finds it. -/
def iblk (c : Dev nD) (w : Fin (cfgT (F := F)).W) (t : Fin grid0.N) : (((cfgT (F := F)).win w).xblock (grid0.coords t)).Idx → Elt F ((cfgT (F := F)).win w).elt :=
  (((cfgT (F := F)).win w).blk t).view.read (Elt F) (V m c (Pipeline.arrRef spec0 w))

/-- Input block 0 at point `t`. -/
abbrev blk0 (c : Dev nD) (t : Fin grid0.N) : Vec F S256 .f32 := iblk m c 0 t
/-- Input block 1 at point `t`. -/
abbrev blk1 (c : Dev nD) (t : Fin grid0.N) : Vec F S8x64x512 .bf16 := iblk m c 1 t
/-- Input block 2 at point `t`. -/
abbrev blk2 (c : Dev nD) (t : Fin grid0.N) : Vec F S8x512x128 .bf16 := iblk m c 2 t
/-- Input block 3 at point `t`. -/
abbrev blk3 (c : Dev nD) (t : Fin grid0.N) : Vec F S8x64x512 .bf16 := iblk m c 3 t

/-- The words the body reads at point `t` satisfy what it assumes of them. -/
theorem hchk (t : Fin grid0.N) : k0_chk1 (word (F := F) (Memref.whole main_c) (tbl 0) (grid0.coords t)) (word (F := F) (Memref.whole main_c_0) (tbl 1) (grid0.coords t)) := by
  rw [tbl_word0, tbl_word1]; exact pts_chk _
theorem hfirst (t : Fin grid0.N) : (Scalar.cmpi .ne (Scalar.extui (Scalar.cmpi .eq (word (F := F) (Memref.whole main_c_0) (tbl 1) (grid0.coords t)) 0#32) : BitVec 32) 0#32 = 1#1) ↔ kb (pt t) = 0 := by
  rw [tbl_word1]; exact pts_first _
theorem hoff (t : Fin grid0.N) : (k0_cond2 (word (F := F) (Memref.whole main_c) (tbl 0) (grid0.coords t)) (word (F := F) (Memref.whole main_c_0) (tbl 1) (grid0.coords t)) = 1#1) ↔ kb (pt t) < qb (pt t) := by
  rw [tbl_word0, tbl_word1]; exact pts_off _
theorem hdiag (t : Fin grid0.N) : (k0_cond3 (word (F := F) (Memref.whole main_c) (tbl 0) (grid0.coords t)) (word (F := F) (Memref.whole main_c_0) (tbl 1) (grid0.coords t)) = 1#1) ↔ kb (pt t) = qb (pt t) := by
  rw [tbl_word0, tbl_word1]; exact pts_diag _

/-- Which staging buffer each window uses. -/
abbrev Slots := (w : Fin 5) → Fin (spec0 w).nbuf

/-- Run A at point `t`, on the operands the pipeline passes there. -/
abbrev atA (c : Dev nD) (t : Fin grid0.N) (s : Slots) (hk : kb (pt t) = 0) (hd : kb (pt t) < qb (pt t)) :=
  runA (F := F) c (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (tbl 0) (tbl 1) (blk0 m c t) (blk1 m c t) (blk2 m c t) (blk3 m c t) (hchk t) ((hfirst t).mpr hk) ((hoff t).mpr hd) (fun h => absurd ((hdiag t).mp h) (by omega))

/-- Run B at point `t`, on the operands the pipeline passes there. -/
abbrev atB (c : Dev nD) (t : Fin grid0.N) (s : Slots) (hk : ¬kb (pt t) = 0) (hd : kb (pt t) < qb (pt t)) (xm xl : Vec F S8x1x512 .f32) (xa : Vec F S8x64x512 .f32) :=
  runB (F := F) c (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (tbl 0) (tbl 1) (blk0 m c t) (blk1 m c t) (blk2 m c t) (blk3 m c t) xm xl xa (hchk t) (fun h => hk ((hfirst t).mp h)) ((hoff t).mpr hd) (fun h => absurd ((hdiag t).mp h) (by omega))

/-- Run C at point `t`, on the operands the pipeline passes there. -/
abbrev atC (c : Dev nD) (t : Fin grid0.N) (s : Slots) (hk : kb (pt t) = 0) (hd : kb (pt t) = qb (pt t)) :=
  runC (F := F) c (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (tbl 0) (tbl 1) (blk0 m c t) (blk1 m c t) (blk2 m c t) (blk3 m c t) (hchk t) ((hfirst t).mpr hk) (fun h => absurd ((hoff t).mp h) (by omega)) ((hdiag t).mpr hd)

/-- Run D at point `t`, on the operands the pipeline passes there. -/
abbrev atD (c : Dev nD) (t : Fin grid0.N) (s : Slots) (hk : ¬kb (pt t) = 0) (hd : kb (pt t) = qb (pt t)) (xm xl : Vec F S8x1x512 .f32) (xa : Vec F S8x64x512 .f32) :=
  runD (F := F) c (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (tbl 0) (tbl 1) (blk0 m c t) (blk1 m c t) (blk2 m c t) (blk3 m c t) xm xl xa (hchk t) (fun h => hk ((hfirst t).mp h)) (fun h => absurd ((hoff t).mp h) (by omega)) ((hdiag t).mpr hd)

/-- What a proof tracks of the scratch buffers before each point (`Inv`), and states of the output block at the last
    block of a row (`Rl`), is kept by the four runs. -/
structure Closed (c : Dev nD) (Inv : ℕ → Vec F S8x1x512 .f32 → Vec F S8x1x512 .f32 → Vec F S8x64x512 .f32 → Prop)
    (Rl : Fin grid0.N → Vec F S8x64x512 .f32 → Prop) : Prop where
  zero : ∀ xm xl xa, Inv 0 xm xl xa
  A : ∀ (t : Fin grid0.N) (s : Slots) (hk : kb (pt t) = 0) (hd : kb (pt t) < qb (pt t)), Inv (t.val + 1) (View.canon (atA m c t s hk hd).1) (View.canon (atA m c t s hk hd).2.1) (View.canon (atA m c t s hk hd).2.2.1)
  B : ∀ (t : Fin grid0.N) (s : Slots) (hk : ¬kb (pt t) = 0) (hd : kb (pt t) < qb (pt t)) (xm xl : Vec F S8x1x512 .f32) (xa : Vec F S8x64x512 .f32), Inv t.val xm xl xa → Inv (t.val + 1) (View.canon (atB m c t s hk hd xm xl xa).1) (View.canon (atB m c t s hk hd xm xl xa).2.1) (View.canon (atB m c t s hk hd xm xl xa).2.2.1)
  C : ∀ (t : Fin grid0.N) (s : Slots) (hk : kb (pt t) = 0) (hd : kb (pt t) = qb (pt t)), Inv (t.val + 1) (View.canon (atC m c t s hk hd).2.1) (View.canon (atC m c t s hk hd).2.2.1) (View.canon (atC m c t s hk hd).2.2.2.1) ∧ Rl t (View.canon (atC m c t s hk hd).1)
  D : ∀ (t : Fin grid0.N) (s : Slots) (hk : ¬kb (pt t) = 0) (hd : kb (pt t) = qb (pt t)) (xm xl : Vec F S8x1x512 .f32) (xa : Vec F S8x64x512 .f32), Inv t.val xm xl xa → Inv (t.val + 1) (View.canon (atD m c t s hk hd xm xl xa).2.1) (View.canon (atD m c t s hk hd xm xl xa).2.2.1) (View.canon (atD m c t s hk hd xm xl xa).2.2.2.1) ∧ Rl t (View.canon (atD m c t s hk hd xm xl xa).1)

end Cert.KernelIdeal.Flash

end
-- ==== Proof.Flash.KernelIdeal.Covers.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Points2
public import Idealize.ShloMosaic.Lib.Ring

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem covA0 (c : Dev nD) (t : Fin grid0.N) (s : Slots) (hk : kb (pt t) = 0) (hd : kb (pt t) < qb (pt t)) :
    ∀ y : S8x1x512.Idx, ∃ p ∈ (atA m c t s hk hd).1, y ∈ p.1.set :=
  View.cover_of_wholeMem (atA m c t s hk hd).1 (by sl_whole_mem)

theorem covA1 (c : Dev nD) (t : Fin grid0.N) (s : Slots) (hk : kb (pt t) = 0) (hd : kb (pt t) < qb (pt t)) :
    ∀ y : S8x1x512.Idx, ∃ p ∈ (atA m c t s hk hd).2.1, y ∈ p.1.set :=
  View.cover_of_wholeMem (atA m c t s hk hd).2.1 (by sl_whole_mem)

theorem covA2 (c : Dev nD) (t : Fin grid0.N) (s : Slots) (hk : kb (pt t) = 0) (hd : kb (pt t) < qb (pt t)) :
    ∀ y : S8x64x512.Idx, ∃ p ∈ (atA m c t s hk hd).2.2.1, y ∈ p.1.set :=
  View.cover_of_wholeMem (atA m c t s hk hd).2.2.1 (by sl_whole_mem)

theorem covB0 (c : Dev nD) (t : Fin grid0.N) (s : Slots) (hk : ¬kb (pt t) = 0) (hd : kb (pt t) < qb (pt t)) (xm xl : Vec F S8x1x512 .f32) (xa : Vec F S8x64x512 .f32) :
    ∀ y : S8x1x512.Idx, ∃ p ∈ (atB m c t s hk hd xm xl xa).1, y ∈ p.1.set :=
  View.cover_of_tiled (atB m c t s hk hd xm xl xa).1 ![1, 1, 512] rfl

theorem covB1 (c : Dev nD) (t : Fin grid0.N) (s : Slots) (hk : ¬kb (pt t) = 0) (hd : kb (pt t) < qb (pt t)) (xm xl : Vec F S8x1x512 .f32) (xa : Vec F S8x64x512 .f32) :
    ∀ y : S8x1x512.Idx, ∃ p ∈ (atB m c t s hk hd xm xl xa).2.1, y ∈ p.1.set :=
  View.cover_of_tiled (atB m c t s hk hd xm xl xa).2.1 ![1, 1, 512] rfl

theorem covB2 (c : Dev nD) (t : Fin grid0.N) (s : Slots) (hk : ¬kb (pt t) = 0) (hd : kb (pt t) < qb (pt t)) (xm xl : Vec F S8x1x512 .f32) (xa : Vec F S8x64x512 .f32) :
    ∀ y : S8x64x512.Idx, ∃ p ∈ (atB m c t s hk hd xm xl xa).2.2.1, y ∈ p.1.set :=
  View.cover_of_tiled (atB m c t s hk hd xm xl xa).2.2.1 ![1, 64, 512] rfl

theorem covC0 (c : Dev nD) (t : Fin grid0.N) (s : Slots) (hk : kb (pt t) = 0) (hd : kb (pt t) = qb (pt t)) :
    ∀ y : S8x64x512.Idx, ∃ p ∈ (atC m c t s hk hd).1, y ∈ p.1.set :=
  View.cover_of_wholeMem (atC m c t s hk hd).1 (by sl_whole_mem)

theorem covC1 (c : Dev nD) (t : Fin grid0.N) (s : Slots) (hk : kb (pt t) = 0) (hd : kb (pt t) = qb (pt t)) :
    ∀ y : S8x1x512.Idx, ∃ p ∈ (atC m c t s hk hd).2.1, y ∈ p.1.set :=
  View.cover_of_wholeMem (atC m c t s hk hd).2.1 (by sl_whole_mem)

theorem covC2 (c : Dev nD) (t : Fin grid0.N) (s : Slots) (hk : kb (pt t) = 0) (hd : kb (pt t) = qb (pt t)) :
    ∀ y : S8x1x512.Idx, ∃ p ∈ (atC m c t s hk hd).2.2.1, y ∈ p.1.set :=
  View.cover_of_wholeMem (atC m c t s hk hd).2.2.1 (by sl_whole_mem)

theorem covC3 (c : Dev nD) (t : Fin grid0.N) (s : Slots) (hk : kb (pt t) = 0) (hd : kb (pt t) = qb (pt t)) :
    ∀ y : S8x64x512.Idx, ∃ p ∈ (atC m c t s hk hd).2.2.2.1, y ∈ p.1.set :=
  View.cover_of_wholeMem (atC m c t s hk hd).2.2.2.1 (by sl_whole_mem)

theorem covD0 (c : Dev nD) (t : Fin grid0.N) (s : Slots) (hk : ¬kb (pt t) = 0) (hd : kb (pt t) = qb (pt t)) (xm xl : Vec F S8x1x512 .f32) (xa : Vec F S8x64x512 .f32) :
    ∀ y : S8x64x512.Idx, ∃ p ∈ (atD m c t s hk hd xm xl xa).1, y ∈ p.1.set :=
  View.cover_of_wholeMem (atD m c t s hk hd xm xl xa).1 (by sl_whole_mem)

theorem covD1 (c : Dev nD) (t : Fin grid0.N) (s : Slots) (hk : ¬kb (pt t) = 0) (hd : kb (pt t) = qb (pt t)) (xm xl : Vec F S8x1x512 .f32) (xa : Vec F S8x64x512 .f32) :
    ∀ y : S8x1x512.Idx, ∃ p ∈ (atD m c t s hk hd xm xl xa).2.1, y ∈ p.1.set :=
  View.cover_of_tiled (atD m c t s hk hd xm xl xa).2.1 ![1, 1, 512] rfl

theorem covD2 (c : Dev nD) (t : Fin grid0.N) (s : Slots) (hk : ¬kb (pt t) = 0) (hd : kb (pt t) = qb (pt t)) (xm xl : Vec F S8x1x512 .f32) (xa : Vec F S8x64x512 .f32) :
    ∀ y : S8x1x512.Idx, ∃ p ∈ (atD m c t s hk hd xm xl xa).2.2.1, y ∈ p.1.set :=
  View.cover_of_tiled (atD m c t s hk hd xm xl xa).2.2.1 ![1, 1, 512] rfl

theorem covD3 (c : Dev nD) (t : Fin grid0.N) (s : Slots) (hk : ¬kb (pt t) = 0) (hd : kb (pt t) = qb (pt t)) (xm xl : Vec F S8x1x512 .f32) (xa : Vec F S8x64x512 .f32) :
    ∀ y : S8x64x512.Idx, ∃ p ∈ (atD m c t s hk hd xm xl xa).2.2.2.1, y ∈ p.1.set :=
  View.cover_of_tiled (atD m c t s hk hd xm xl xa).2.2.2.1 ![1, 64, 512] rfl

end Cert.KernelIdeal.Flash

end
-- ==== Proof.Flash.KernelIdeal.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Covers

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ)

/-- The tables, at half share, as the body may read them. -/
def heldT (c : Dev nD) : sProp 𝕄 :=
  iprop(((Memref.whole main_c).view.loc (c : Thread nD τ) ↦[(Memref.whole main_c).view.set]{fullShare.right} tbl (F := F) 0)
    ∗ ((Memref.whole main_c_0).view.loc (c : Thread nD τ) ↦[(Memref.whole main_c_0).view.set]{fullShare.right} tbl (F := F) 1))

theorem held_pair (c : Dev nD) (v : pre0.Contents (Elt F)) :
    (Pipeline.prefHeld pre0 c (fun _ => fullShare.right) v : sProp 𝕄)
      = iprop(((Memref.whole main_c).view.loc (c : Thread nD τ) ↦[(Memref.whole main_c).view.set]{fullShare.right} v 0)
    ∗ ((Memref.whole main_c_0).view.loc (c : Thread nD τ) ↦[(Memref.whole main_c_0).view.set]{fullShare.right} v 1)) := by
  unfold Pipeline.prefHeld
  rw [(Memref.isWhole_whole main_c).set_eq_univ, (Memref.isWhole_whole main_c_0).set_eq_univ]
  rw [show (Finset.univ : Finset (Fin 2)) = insert 0 {1} from by decide, bigSep_insert (by decide), bigSep_singleton]
  rfl

theorem PhiT_eq (c : Dev nD) : (Pipeline.ΦT pre0 (tbl (F := F)) c : sProp 𝕄) ⊢ heldT c := by
  unfold Pipeline.ΦT heldT
  rw [held_pair]

/-- The invariant of the sweep before point `n`: the scratch buffers at contents `Inv` holds of, the generator's
    register and the tables. -/
def PhiN (c : Dev nD) (Inv : ℕ → Vec F S8x1x512 .f32 → Vec F S8x1x512 .f32 → Vec F S8x64x512 .f32 → Prop) (n : ℕ) : sProp 𝕄 :=
  iprop(∃ xm xl xa, ⌜Inv n xm xl xa⌝ ∗ owns (c : Thread nD τ) (Memref.whole cc0_scratch0) fullShare xm ∗ owns (c : Thread nD τ) (Memref.whole cc0_scratch1) fullShare xl
    ∗ owns (c : Thread nD τ) (Memref.whole cc0_scratch2) fullShare xa ∗ (∃ r, prngReg c r) ∗ heldT c)

/-- The proof data: inputs left as found, the output block at the last block of a row as `Rl` says. -/
def rdat (c : Dev nD) (Inv : ℕ → Vec F S8x1x512 .f32 → Vec F S8x1x512 .f32 → Vec F S8x64x512 .f32 → Prop)
    (Rl : Fin grid0.N → Vec F S8x64x512 .f32 → Prop) : RDat τ (Elt F) Unit ℕ (UR sig nD τ) ℕ (cfgT (F := F)) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => kb (pt t) = qb (pt t) → Rl t X
  Φ t := PhiN c Inv t.val
  q _ := fullShare
  owed _ := 0

theorem finds0 (c : Dev nD) (Inv Rl) (t : Fin grid0.N) (Y) (h : (rdat m c Inv Rl).Finds 0 t Y) : Y = blk0 m c t := by
  obtain ⟨d, hd⟩ := RDat.finds_in_eq_fetched (rdat m c Inv Rl) 0 rfl (fun _ _ _ => rfl) (fun _ _ _ h => h) t Y h
  rw [hd]
  unfold RDat.fetched RDat.blockOf blk0 iblk
  rfl

theorem finds1 (c : Dev nD) (Inv Rl) (t : Fin grid0.N) (Y) (h : (rdat m c Inv Rl).Finds 1 t Y) : Y = blk1 m c t := by
  obtain ⟨d, hd⟩ := RDat.finds_in_eq_fetched (rdat m c Inv Rl) 1 rfl (fun _ _ _ => rfl) (fun _ _ _ h => h) t Y h
  rw [hd]
  unfold RDat.fetched RDat.blockOf blk1 iblk
  rfl

theorem finds2 (c : Dev nD) (Inv Rl) (t : Fin grid0.N) (Y) (h : (rdat m c Inv Rl).Finds 2 t Y) : Y = blk2 m c t := by
  obtain ⟨d, hd⟩ := RDat.finds_in_eq_fetched (rdat m c Inv Rl) 2 rfl (fun _ _ _ => rfl) (fun _ _ _ h => h) t Y h
  rw [hd]
  unfold RDat.fetched RDat.blockOf blk2 iblk
  rfl

theorem finds3 (c : Dev nD) (Inv Rl) (t : Fin grid0.N) (Y) (h : (rdat m c Inv Rl).Finds 3 t Y) : Y = blk3 m c t := by
  obtain ⟨d, hd⟩ := RDat.finds_in_eq_fetched (rdat m c Inv Rl) 3 rfl (fun _ _ _ => rfl) (fun _ _ _ h => h) t Y h
  rw [hd]
  unfold RDat.fetched RDat.blockOf blk3 iblk
  rfl

theorem defs₀_row (t : Fin grid0.N) (s : Slots) :
    defs₀ (F := F) .tc (cfgT (F := F)).body ((cfgT (F := F)).bodyArgs t s) = cc0_fox_prompt (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) := by
  unfold defs₀; rw [Defs.onTc_tc]

set_option maxHeartbeats 4000000 in
/-- The body at a point of case A: from the invariant before the point to the invariant after it. -/
theorem soundA (c : Dev nD) (Inv : ℕ → Vec F S8x1x512 .f32 → Vec F S8x1x512 .f32 → Vec F S8x64x512 .f32 → Prop)
    (Rl : Fin grid0.N → Vec F S8x64x512 .f32 → Prop) (hC : Closed m c Inv Rl) (t : Fin grid0.N) (s : Slots) (O : sProp 𝕄) (Y4 : Vec F S8x64x512 .f32) (hk : kb (pt t) = 0) (hd : kb (pt t) < qb (pt t)) :
    iprop(PhiN c Inv t.val ∗ O ∗ owns (c : Thread nD τ) (spec0_0.stage (s 0)) fullShare (blk0 m c t) ∗ owns (c : Thread nD τ) (spec0_1.stage (s 1)) fullShare (blk1 m c t) ∗ owns (c : Thread nD τ) (spec0_2.stage (s 2)) fullShare (blk2 m c t) ∗ owns (c : Thread nD τ) (spec0_3.stage (s 3)) fullShare (blk3 m c t) ∗ owns (c : Thread nD τ) (spec0_4.stage (s 4)) fullShare Y4)
    ⊢ wp frame (wpE (defs₀ (F := F)) Variants.none c none) Set.univ (cc0_fox_prompt (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _))
      fun _ => iprop(PhiN c Inv (t.val + 1) ∗ O ∗ (∃ X, ⌜X = blk0 m c t⌝ ∗ owns (c : Thread nD τ) (spec0_0.stage (s 0)) fullShare X) ∗ (∃ X, ⌜X = blk1 m c t⌝ ∗ owns (c : Thread nD τ) (spec0_1.stage (s 1)) fullShare X) ∗ (∃ X, ⌜X = blk2 m c t⌝ ∗ owns (c : Thread nD τ) (spec0_2.stage (s 2)) fullShare X) ∗ (∃ X, ⌜X = blk3 m c t⌝ ∗ owns (c : Thread nD τ) (spec0_3.stage (s 3)) fullShare X) ∗ (∃ X, ⌜kb (pt t) = qb (pt t) → Rl t X⌝ ∗ owns (c : Thread nD τ) (spec0_4.stage (s 4)) fullShare X)) := by
  rw [PhiN.eq_1, heldT.eq_1]
  iintro ⟨⟨%xm, %xl, %xa, %hI, HM, HL, HA, Hg, HT0, HT1⟩, Ho, H0, H1, H2, H3, H4⟩
  iapply ((atA m c t s hk hd).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexists _; iexact H4
  isplitl [HM]; · iexists _; iexact HM
  isplitl [HL]; · iexists _; iexact HL
  isplitl [HA]; · iexists _; iexact HA
  iintro ⟨HT0, HT1, H0, H1, H2, H3, ⟨%e4, H4⟩, ⟨%em, HM⟩, ⟨%el, HL⟩, ⟨%ea, HA⟩⟩
  isplitl [HM HL HA Hg HT0 HT1]
  · unfold PhiN; iexists (View.canon (atA m c t s hk hd).1); iexists (View.canon (atA m c t s hk hd).2.1); iexists (View.canon (atA m c t s hk hd).2.2.1)
    isplitr; · ipureintro; exact hC.A t s hk hd
    isplitl [HM]
    · unfold owns; iexists _; isplitr
      swap; · iexact HM
      ipureintro; exact View.read_writes_eq_canon _ _ _ (covA0 m c t s hk hd)
    isplitl [HL]
    · unfold owns; iexists _; isplitr
      swap; · iexact HL
      ipureintro; exact View.read_writes_eq_canon _ _ _ (covA1 m c t s hk hd)
    isplitl [HA]
    · unfold owns; iexists _; isplitr
      swap; · iexact HA
      ipureintro; exact View.read_writes_eq_canon _ _ _ (covA2 m c t s hk hd)
    isplitl [Hg]; · iexact Hg
    unfold heldT; isplitl [HT0]; · iexact HT0
    iexact HT1
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  iexists e4; isplitr; · ipureintro; exact fun h => absurd h (by omega)
  iexact H4

set_option maxHeartbeats 4000000 in
/-- The body at a point of case B: from the invariant before the point to the invariant after it. -/
theorem soundB (c : Dev nD) (Inv : ℕ → Vec F S8x1x512 .f32 → Vec F S8x1x512 .f32 → Vec F S8x64x512 .f32 → Prop)
    (Rl : Fin grid0.N → Vec F S8x64x512 .f32 → Prop) (hC : Closed m c Inv Rl) (t : Fin grid0.N) (s : Slots) (O : sProp 𝕄) (Y4 : Vec F S8x64x512 .f32) (hk : ¬kb (pt t) = 0) (hd : kb (pt t) < qb (pt t)) :
    iprop(PhiN c Inv t.val ∗ O ∗ owns (c : Thread nD τ) (spec0_0.stage (s 0)) fullShare (blk0 m c t) ∗ owns (c : Thread nD τ) (spec0_1.stage (s 1)) fullShare (blk1 m c t) ∗ owns (c : Thread nD τ) (spec0_2.stage (s 2)) fullShare (blk2 m c t) ∗ owns (c : Thread nD τ) (spec0_3.stage (s 3)) fullShare (blk3 m c t) ∗ owns (c : Thread nD τ) (spec0_4.stage (s 4)) fullShare Y4)
    ⊢ wp frame (wpE (defs₀ (F := F)) Variants.none c none) Set.univ (cc0_fox_prompt (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _))
      fun _ => iprop(PhiN c Inv (t.val + 1) ∗ O ∗ (∃ X, ⌜X = blk0 m c t⌝ ∗ owns (c : Thread nD τ) (spec0_0.stage (s 0)) fullShare X) ∗ (∃ X, ⌜X = blk1 m c t⌝ ∗ owns (c : Thread nD τ) (spec0_1.stage (s 1)) fullShare X) ∗ (∃ X, ⌜X = blk2 m c t⌝ ∗ owns (c : Thread nD τ) (spec0_2.stage (s 2)) fullShare X) ∗ (∃ X, ⌜X = blk3 m c t⌝ ∗ owns (c : Thread nD τ) (spec0_3.stage (s 3)) fullShare X) ∗ (∃ X, ⌜kb (pt t) = qb (pt t) → Rl t X⌝ ∗ owns (c : Thread nD τ) (spec0_4.stage (s 4)) fullShare X)) := by
  rw [PhiN.eq_1, heldT.eq_1]
  iintro ⟨⟨%xm, %xl, %xa, %hI, HM, HL, HA, Hg, HT0, HT1⟩, Ho, H0, H1, H2, H3, H4⟩
  iapply ((atB m c t s hk hd xm xl xa).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexists _; iexact H4
  isplitl [HM]; · iexact HM
  isplitl [HL]; · iexact HL
  isplitl [HA]; · iexact HA
  iintro ⟨HT0, HT1, H0, H1, H2, H3, ⟨%e4, H4⟩, ⟨%em, HM⟩, ⟨%el, HL⟩, ⟨%ea, HA⟩⟩
  isplitl [HM HL HA Hg HT0 HT1]
  · unfold PhiN; iexists (View.canon (atB m c t s hk hd xm xl xa).1); iexists (View.canon (atB m c t s hk hd xm xl xa).2.1); iexists (View.canon (atB m c t s hk hd xm xl xa).2.2.1)
    isplitr; · ipureintro; exact hC.B t s hk hd xm xl xa hI
    isplitl [HM]
    · unfold owns; iexists _; isplitr
      swap; · iexact HM
      ipureintro; exact View.read_writes_eq_canon _ _ _ (covB0 m c t s hk hd xm xl xa)
    isplitl [HL]
    · unfold owns; iexists _; isplitr
      swap; · iexact HL
      ipureintro; exact View.read_writes_eq_canon _ _ _ (covB1 m c t s hk hd xm xl xa)
    isplitl [HA]
    · unfold owns; iexists _; isplitr
      swap; · iexact HA
      ipureintro; exact View.read_writes_eq_canon _ _ _ (covB2 m c t s hk hd xm xl xa)
    isplitl [Hg]; · iexact Hg
    unfold heldT; isplitl [HT0]; · iexact HT0
    iexact HT1
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  iexists e4; isplitr; · ipureintro; exact fun h => absurd h (by omega)
  iexact H4

set_option maxHeartbeats 4000000 in
/-- The body at a point of case C: from the invariant before the point to the invariant after it. -/
theorem soundC (c : Dev nD) (Inv : ℕ → Vec F S8x1x512 .f32 → Vec F S8x1x512 .f32 → Vec F S8x64x512 .f32 → Prop)
    (Rl : Fin grid0.N → Vec F S8x64x512 .f32 → Prop) (hC : Closed m c Inv Rl) (t : Fin grid0.N) (s : Slots) (O : sProp 𝕄) (Y4 : Vec F S8x64x512 .f32) (hk : kb (pt t) = 0) (hd : kb (pt t) = qb (pt t)) :
    iprop(PhiN c Inv t.val ∗ O ∗ owns (c : Thread nD τ) (spec0_0.stage (s 0)) fullShare (blk0 m c t) ∗ owns (c : Thread nD τ) (spec0_1.stage (s 1)) fullShare (blk1 m c t) ∗ owns (c : Thread nD τ) (spec0_2.stage (s 2)) fullShare (blk2 m c t) ∗ owns (c : Thread nD τ) (spec0_3.stage (s 3)) fullShare (blk3 m c t) ∗ owns (c : Thread nD τ) (spec0_4.stage (s 4)) fullShare Y4)
    ⊢ wp frame (wpE (defs₀ (F := F)) Variants.none c none) Set.univ (cc0_fox_prompt (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _))
      fun _ => iprop(PhiN c Inv (t.val + 1) ∗ O ∗ (∃ X, ⌜X = blk0 m c t⌝ ∗ owns (c : Thread nD τ) (spec0_0.stage (s 0)) fullShare X) ∗ (∃ X, ⌜X = blk1 m c t⌝ ∗ owns (c : Thread nD τ) (spec0_1.stage (s 1)) fullShare X) ∗ (∃ X, ⌜X = blk2 m c t⌝ ∗ owns (c : Thread nD τ) (spec0_2.stage (s 2)) fullShare X) ∗ (∃ X, ⌜X = blk3 m c t⌝ ∗ owns (c : Thread nD τ) (spec0_3.stage (s 3)) fullShare X) ∗ (∃ X, ⌜kb (pt t) = qb (pt t) → Rl t X⌝ ∗ owns (c : Thread nD τ) (spec0_4.stage (s 4)) fullShare X)) := by
  rw [PhiN.eq_1, heldT.eq_1]
  iintro ⟨⟨%xm, %xl, %xa, %hI, HM, HL, HA, Hg, HT0, HT1⟩, Ho, H0, H1, H2, H3, H4⟩
  iapply ((atC m c t s hk hd).2.2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexists _; iexact H4
  isplitl [HM]; · iexists _; iexact HM
  isplitl [HL]; · iexists _; iexact HL
  isplitl [HA]; · iexists _; iexact HA
  iintro ⟨HT0, HT1, H0, H1, H2, H3, ⟨%e4, H4⟩, ⟨%em, HM⟩, ⟨%el, HL⟩, ⟨%ea, HA⟩⟩
  isplitl [HM HL HA Hg HT0 HT1]
  · unfold PhiN; iexists (View.canon (atC m c t s hk hd).2.1); iexists (View.canon (atC m c t s hk hd).2.2.1); iexists (View.canon (atC m c t s hk hd).2.2.2.1)
    isplitr; · ipureintro; exact (hC.C t s hk hd).1
    isplitl [HM]
    · unfold owns; iexists _; isplitr
      swap; · iexact HM
      ipureintro; exact View.read_writes_eq_canon _ _ _ (covC1 m c t s hk hd)
    isplitl [HL]
    · unfold owns; iexists _; isplitr
      swap; · iexact HL
      ipureintro; exact View.read_writes_eq_canon _ _ _ (covC2 m c t s hk hd)
    isplitl [HA]
    · unfold owns; iexists _; isplitr
      swap; · iexact HA
      ipureintro; exact View.read_writes_eq_canon _ _ _ (covC3 m c t s hk hd)
    isplitl [Hg]; · iexact Hg
    unfold heldT; isplitl [HT0]; · iexact HT0
    iexact HT1
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  iexists (View.canon (atC m c t s hk hd).1); isplitr; · ipureintro; exact fun _ => (hC.C t s hk hd).2
  unfold owns; iexists _; isplitr
  swap; · iexact H4
  ipureintro; exact View.read_writes_eq_canon _ _ _ (covC0 m c t s hk hd)

set_option maxHeartbeats 4000000 in
/-- The body at a point of case D: from the invariant before the point to the invariant after it. -/
theorem soundD (c : Dev nD) (Inv : ℕ → Vec F S8x1x512 .f32 → Vec F S8x1x512 .f32 → Vec F S8x64x512 .f32 → Prop)
    (Rl : Fin grid0.N → Vec F S8x64x512 .f32 → Prop) (hC : Closed m c Inv Rl) (t : Fin grid0.N) (s : Slots) (O : sProp 𝕄) (Y4 : Vec F S8x64x512 .f32) (hk : ¬kb (pt t) = 0) (hd : kb (pt t) = qb (pt t)) :
    iprop(PhiN c Inv t.val ∗ O ∗ owns (c : Thread nD τ) (spec0_0.stage (s 0)) fullShare (blk0 m c t) ∗ owns (c : Thread nD τ) (spec0_1.stage (s 1)) fullShare (blk1 m c t) ∗ owns (c : Thread nD τ) (spec0_2.stage (s 2)) fullShare (blk2 m c t) ∗ owns (c : Thread nD τ) (spec0_3.stage (s 3)) fullShare (blk3 m c t) ∗ owns (c : Thread nD τ) (spec0_4.stage (s 4)) fullShare Y4)
    ⊢ wp frame (wpE (defs₀ (F := F)) Variants.none c none) Set.univ (cc0_fox_prompt (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _))
      fun _ => iprop(PhiN c Inv (t.val + 1) ∗ O ∗ (∃ X, ⌜X = blk0 m c t⌝ ∗ owns (c : Thread nD τ) (spec0_0.stage (s 0)) fullShare X) ∗ (∃ X, ⌜X = blk1 m c t⌝ ∗ owns (c : Thread nD τ) (spec0_1.stage (s 1)) fullShare X) ∗ (∃ X, ⌜X = blk2 m c t⌝ ∗ owns (c : Thread nD τ) (spec0_2.stage (s 2)) fullShare X) ∗ (∃ X, ⌜X = blk3 m c t⌝ ∗ owns (c : Thread nD τ) (spec0_3.stage (s 3)) fullShare X) ∗ (∃ X, ⌜kb (pt t) = qb (pt t) → Rl t X⌝ ∗ owns (c : Thread nD τ) (spec0_4.stage (s 4)) fullShare X)) := by
  rw [PhiN.eq_1, heldT.eq_1]
  iintro ⟨⟨%xm, %xl, %xa, %hI, HM, HL, HA, Hg, HT0, HT1⟩, Ho, H0, H1, H2, H3, H4⟩
  iapply ((atD m c t s hk hd xm xl xa).2.2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexists _; iexact H4
  isplitl [HM]; · iexact HM
  isplitl [HL]; · iexact HL
  isplitl [HA]; · iexact HA
  iintro ⟨HT0, HT1, H0, H1, H2, H3, ⟨%e4, H4⟩, ⟨%em, HM⟩, ⟨%el, HL⟩, ⟨%ea, HA⟩⟩
  isplitl [HM HL HA Hg HT0 HT1]
  · unfold PhiN; iexists (View.canon (atD m c t s hk hd xm xl xa).2.1); iexists (View.canon (atD m c t s hk hd xm xl xa).2.2.1); iexists (View.canon (atD m c t s hk hd xm xl xa).2.2.2.1)
    isplitr; · ipureintro; exact (hC.D t s hk hd xm xl xa hI).1
    isplitl [HM]
    · unfold owns; iexists _; isplitr
      swap; · iexact HM
      ipureintro; exact View.read_writes_eq_canon _ _ _ (covD1 m c t s hk hd xm xl xa)
    isplitl [HL]
    · unfold owns; iexists _; isplitr
      swap; · iexact HL
      ipureintro; exact View.read_writes_eq_canon _ _ _ (covD2 m c t s hk hd xm xl xa)
    isplitl [HA]
    · unfold owns; iexists _; isplitr
      swap; · iexact HA
      ipureintro; exact View.read_writes_eq_canon _ _ _ (covD3 m c t s hk hd xm xl xa)
    isplitl [Hg]; · iexact Hg
    unfold heldT; isplitl [HT0]; · iexact HT0
    iexact HT1
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  iexists (View.canon (atD m c t s hk hd xm xl xa).1); isplitr; · ipureintro; exact fun _ => (hC.D t s hk hd xm xl xa hI).2
  unfold owns; iexists _; isplitr
  swap; · iexact H4
  ipureintro; exact View.read_writes_eq_canon _ _ _ (covD0 m c t s hk hd xm xl xa)

/-- The body keeps the invariant at every point. -/
theorem body_obligation (c : Dev nD) (Inv : ℕ → Vec F S8x1x512 .f32 → Vec F S8x1x512 .f32 → Vec F S8x64x512 .f32 → Prop)
    (Rl : Fin grid0.N → Vec F S8x64x512 .f32 → Prop) (hC : Closed m c Inv Rl) :
    (rdat m c Inv Rl).BodyObligation (defs₀ (F := F)) Variants.none () Set.univ := by
  intro t Y hY
  rw [bigSep_W0, bigSep_W0, defs₀_row]
  have e0 := finds0 m c Inv Rl t _ (hY 0)
  have e1 := finds1 m c Inv Rl t _ (hY 1)
  have e2 := finds2 m c Inv Rl t _ (hY 2)
  have e3 := finds3 m c Inv Rl t _ (hY 3)
  have hle := (pts (pt t)).2.1
  by_cases hk : kb (pt t) = 0
  · by_cases hd : kb (pt t) = qb (pt t)
    · exact triple_restated (soundC m c Inv Rl hC t ((cfgT (F := F)).slots t) ((rdat m c Inv Rl).owesAt () t.castSucc) (Y 4) hk hd) rfl (by rw [e0, e1, e2, e3]; exact .rfl) (fun _ => by rw [e0, e1, e2, e3]; exact .rfl)
    · exact triple_restated (soundA m c Inv Rl hC t ((cfgT (F := F)).slots t) ((rdat m c Inv Rl).owesAt () t.castSucc) (Y 4) hk (by omega)) rfl (by rw [e0, e1, e2, e3]; exact .rfl) (fun _ => by rw [e0, e1, e2, e3]; exact .rfl)
  · by_cases hd : kb (pt t) = qb (pt t)
    · exact triple_restated (soundD m c Inv Rl hC t ((cfgT (F := F)).slots t) ((rdat m c Inv Rl).owesAt () t.castSucc) (Y 4) hk hd) rfl (by rw [e0, e1, e2, e3]; exact .rfl) (fun _ => by rw [e0, e1, e2, e3]; exact .rfl)
    · exact triple_restated (soundB m c Inv Rl hC t ((cfgT (F := F)).slots t) ((rdat m c Inv Rl).owesAt () t.castSucc) (Y 4) hk (by omega)) rfl (by rw [e0, e1, e2, e3]; exact .rfl) (fun _ => by rw [e0, e1, e2, e3]; exact .rfl)

end Cert.KernelIdeal.Flash

end
-- ==== Proof.Flash.KernelIdeal.Launch.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import proofs.«01_k».proof.Proof.Flash.KernelIdeal.Body

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

/-- What the launch hands over is the invariant before the first point. -/
theorem hin (c : Dev nD) (Inv Rl) (hC : Closed m c Inv Rl) :
    iprop(Pipeline.ΦA (cfgT (F := F)).spec c ∗ Pipeline.ΦT pre0 (tbl (F := F)) c) ⊢ (rdat m c Inv Rl).Φ 0 := by
  refine (Idealize.SL.BI.Laws.sep_mono_right (PhiT_eq c)).trans ?_
  rw [show (rdat m c Inv Rl).Φ 0 = PhiN c Inv 0 from rfl]
  rw [show (Pipeline.ΦA (cfgT (F := F)).spec c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) from by
    unfold Pipeline.ΦA; rw [scopedRest0_eq]; simp only [owns_whole]; try rfl]
  unfold PhiN
  iintro ⟨⟨⟨⟨%xm, HM⟩, ⟨%xl, HL⟩, ⟨%xa, HA⟩⟩, Hg⟩, HT⟩
  iexists xm; iexists xl; iexists xa
  isplitr; · ipureintro; exact hC.zero _ _ _
  isplitl [HM]; · iexact HM
  isplitl [HL]; · iexact HL
  isplitl [HA]; · iexact HA
  isplitl [Hg]; · iexact Hg
  iexact HT

/-- After the last point the scratch buffers go back at whatever they hold. -/
theorem hout (c : Dev nD) (Inv Rl) : (rdat m c Inv Rl).Φ (Fin.last grid0.N) ⊢ Pipeline.ΦA (cfgT (F := F)).spec c := by
  rw [show (rdat m c Inv Rl).Φ (Fin.last grid0.N) = PhiN c Inv grid0.N from rfl]
  rw [show (Pipeline.ΦA (cfgT (F := F)).spec c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) from by
    unfold Pipeline.ΦA; rw [scopedRest0_eq]; simp only [owns_whole]; try rfl]
  unfold PhiN
  iintro ⟨%xm, %xl, %xa, -, HM, HL, HA, Hg, -⟩
  isplitl [HM HL HA]
  · isplitl [HM]; · iexists _; iexact HM
    isplitl [HL]; · iexists _; iexact HL
    iexists _; iexact HA
  iexact Hg

/-- From any memory with zero counters every execution ends, the arrays as the proof data says, the counters at zero. -/
theorem run_main (Inv : Dev nD → ℕ → Vec F S8x1x512 .f32 → Vec F S8x1x512 .f32 → Vec F S8x64x512 .f32 → Prop)
    (Rl : Dev nD → Fin grid0.N → Vec F S8x64x512 .f32 → Prop) (hC : ∀ c, Closed m c (Inv c) (Rl c)) :
    θ_run defs (onTc (τ := τ) (main (F := F))) (s₀ m ρ) (fun r => RDat.FramePost (cfgT (F := F)) (fun c => rdat m c (Inv c) (Rl c)) (V m) r ∧ r.2.sem = (fun _ => 0)) :=
  RDat.θ_run_frameP_track pcfgs adm 0 launch0 defs₀ Variants.none (fun c => rdat m c (Inv c) (Rl c)) m ρ main
    (hbody := fun c => body_obligation m c (Inv c) (Rl c) (hC c))
    (hshare := fun c w => by unfold RDat.share; split <;> rfl) (howed := fun _ _ => rfl) (V := V m) (hmain := hmain Variants.none m)
    (hA := fun _ _ => rfl) (hpf := hpf m) (hin := fun c => hin m c (Inv c) (Rl c) (hC c)) (hout := fun c => hout m c (Inv c) (Rl c))
    (Q' := fun r => RDat.FramePost (cfgT (F := F)) (fun c => rdat m c (Inv c) (Rl c)) (V m) r ∧ r.2.sem = (fun _ => 0)) (hQ' := fun _ h => h)

/-- The arguments end unchanged, read off the post. -/
theorem args_of_post {Inv : Dev nD → ℕ → Vec F S8x1x512 .f32 → Vec F S8x1x512 .f32 → Vec F S8x64x512 .f32 → Prop}
    {Rl : Dev nD → Fin grid0.N → Vec F S8x64x512 .f32 → Prop} {r} (h : RDat.FramePost (cfgT (F := F)) (fun c => rdat m c (Inv c) (Rl c)) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  ⟨((h c).2 main_arg0 (Pipeline.mem_restRefs_of (win := spec0) main_arg0 (by decide) (by decide))).trans (V_arg0 m c), ((h c).2 main_arg1 (Pipeline.mem_restRefs_of (win := spec0) main_arg1 (by decide) (by decide))).trans (V_arg1 m c), ((h c).2 main_arg2 (Pipeline.mem_restRefs_of (win := spec0) main_arg2 (by decide) (by decide))).trans (V_arg2 m c), ((h c).2 main_arg3 (Pipeline.mem_restRefs_of (win := spec0) main_arg3 (by decide) (by decide))).trans (V_arg3 m c)⟩

/-- The frame: the program runs, its arguments end unchanged and every counter ends at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun r h => ⟨fun c => args_of_post m h.1 c, h.2⟩)
    (run_main m ρ (fun _ _ _ _ _ => True) (fun _ _ _ => True) fun c =>
      ⟨fun _ _ _ => trivial, fun _ _ _ _ => trivial, fun _ _ _ _ _ _ _ _ => trivial, fun _ _ _ _ => ⟨trivial, trivial⟩, fun _ _ _ _ _ _ _ _ => ⟨trivial, trivial⟩⟩)

end Cert.KernelIdeal.Flash

end
-- ==== Proof.Flash.KernelIdeal.Rows.lean ====
module

public import proofs.«01_k».proof.Proof.Flash.KernelIdeal.Points2

@[expose] public section

set_option maxRecDepth 16384

noncomputable section

namespace Cert.KernelIdeal.Flash

open Idealize.ShloMosaic Idealize.ShloMosaic.TcCoe
open Cert.KernelIdeal Cert.KernelIdeal.Gen

variable {F : FTy → Type} [FloatOps F]

/-! One head's step of the attention: what the body computes of a head's row of the running maximum, of the running
    sum and of the running weighted sum, from the block of keys, the block of values and the row as it stood. -/

/-- The word of the row number, of the sixteen rows that extend a query operand. -/
def rowNo : IVec S16x512 32 := iota .tc S16x512 32 [0] iota_S16x512_d0_w32

/-- The sixteen extending rows of the first product: −1 in the first three, 0 below. -/
def augRel : FVec F S16x512 .f32 :=
  select (cmpi .slt rowNo (broadcast S16x512 3#32)) (broadcast S16x512 (Scalar.ofBits .f32 0xBF800000#32))
    (broadcast S16x512 (Scalar.ofBits .f32 0x00000000#32))

/-- A query operand: the queries, the extending rows, and zeros up to the width of the keys. -/
def operand (qa : Vec F S1x64x512 .bf16) (aug : FVec F S16x512 .f32) : FVec F S128x512 .bf16 :=
  concatenate S128x512 0 [⟨S64x512, shapeCast S64x512 qa shapeCasts_S1x64x512_S64x512⟩, ⟨S16x512, truncf .bf16 aug bitsLt_bf16_f32⟩,
    ⟨S48x512, broadcast S48x512 (Scalar.ofBits .bf16 0x0000#16)⟩] concatenates_S64x512_S16x512_S48x512_S128x512_d0

/-- Every key against every query. -/
def scores (ka : Vec F S1x512x128 .bf16) (op : FVec F S128x512 .bf16) : FVec F S512x512 .f32 :=
  matmul dot_S512x128_S128x512_S512x512_1_0_0_1_n_n none (shapeCast S512x128 ka shapeCasts_S1x512x128_S512x128) op
    (constant S512x512 .f32 0x00000000#32)

/-- On the diagonal block the keys after the query count as −∞. -/
def causal (b : Bool) (x : FVec F S512x512 .f32) : FVec F S512x512 .f32 :=
  match b with
  | true => select (cmpi .sle (iota .tc S512x512 32 [0] iota_S512x512_d0_w32) (iota .tc S512x512 32 [1] iota_S512x512_d1_w32)) x
      (broadcast S512x512 (Scalar.ofBits .f32 0xFF800000#32))
  | false => x

/-- The block's start, its sign changed. -/
def negStart (fs : F .f32) : F .f32 := Scalar.subf (Scalar.ofBits .f32 0x00000000#32) fs

/-- The new running maximum of a head's queries. -/
def maxRow (b : Bool) (ka : Vec F S1x512x128 .bf16) (qa : Vec F S1x64x512 .bf16) (fs : F .f32) (mp : Vec F S1x1x512 .f32) : FVec F S1x512 .f32 :=
  maximumf (shapeCast S1x512 mp shapeCasts_S1x1x512_S1x512)
    (addf (shapeCast S1x512 (multiReduction .maximumf [0] S512 (causal b (scores ka (operand qa augRel))) 0xFF800000#32
        reduces_S512x512_S512 (.inl rfl) rfl) shapeCasts_S512_S1x512) (broadcast S1x512 (negStart fs)))

/-- A number in three parts, each of the width of the operands: the leading part, -/
def hiPart (x : FVec F S1x512 .f32) : FVec F S1x512 .f32 := extf .f32 (truncf .bf16 x bitsLt_bf16_f32) bitsLt_bf16_f32
/-- what the leading part leaves, -/
def midPart (x : FVec F S1x512 .f32) : FVec F S1x512 .f32 :=
  extf .f32 (truncf .bf16 (subf x (hiPart x)) bitsLt_bf16_f32) bitsLt_bf16_f32
/-- and what both leave. -/
def loPart (x : FVec F S1x512 .f32) : FVec F S1x512 .f32 :=
  extf .f32 (truncf .bf16 (subf (subf x (hiPart x)) (midPart x)) bitsLt_bf16_f32) bitsLt_bf16_f32

/-- The sixteen extending rows of the second product: the three parts of the shifted maximum stand in the rows that
    meet the keys' entries −1. -/
def augMax (x : FVec F S1x512 .f32) : FVec F S16x512 .f32 :=
  select (cmpi .slt rowNo (broadcast S16x512 3#32)) (broadcast S16x512 (Scalar.ofBits .f32 0xBF800000#32))
    (select (cmpi .eq rowNo (broadcast S16x512 3#32))
      (broadcastTo S16x512 (shapeCast S1x512 (hiPart x) shapeCasts_S1x512_S1x512) broadcasts_S1x512_S16x512)
      (select (cmpi .eq rowNo (broadcast S16x512 4#32))
        (broadcastTo S16x512 (shapeCast S1x512 (midPart x) shapeCasts_S1x512_S1x512) broadcasts_S1x512_S16x512)
        (select (cmpi .eq rowNo (broadcast S16x512 5#32))
          (broadcastTo S16x512 (shapeCast S1x512 (loPart x) shapeCasts_S1x512_S1x512) broadcasts_S1x512_S16x512)
          (broadcast S16x512 (Scalar.ofBits .f32 0x00000000#32)))))

/-- The weights of the block's keys, relative to the new maximum. -/
def weights (b : Bool) (ka : Vec F S1x512x128 .bf16) (qa : Vec F S1x64x512 .bf16) (fs : F .f32) (mp : Vec F S1x1x512 .f32) : FVec F S512x512 .f32 :=
  exp2 (causal b (scores ka (operand qa (augMax (subf (maxRow b ka qa fs mp) (broadcast S1x512 (negStart fs)))))))

/-- What the old sums are scaled by. -/
def decay (b : Bool) (ka : Vec F S1x512x128 .bf16) (qa : Vec F S1x64x512 .bf16) (fs : F .f32) (mp : Vec F S1x1x512 .f32) : FVec F S1x512 .f32 :=
  exp2 (subf (shapeCast S1x512 mp shapeCasts_S1x1x512_S1x512) (maxRow b ka qa fs mp))

/-- The head's row of the running maximum after the block. -/
def newM (b : Bool) (ka : Vec F S1x512x128 .bf16) (qa : Vec F S1x64x512 .bf16) (fs : F .f32) (mp : Vec F S1x1x512 .f32) : FVec F S1x1x512 .f32 :=
  shapeCast S1x1x512 (maxRow b ka qa fs mp) shapeCasts_S1x512_S1x1x512

/-- The head's row of the running sum after the block. -/
def newL (b : Bool) (ka : Vec F S1x512x128 .bf16) (qa : Vec F S1x64x512 .bf16) (fs : F .f32) (mp lp : Vec F S1x1x512 .f32) : FVec F S1x1x512 .f32 :=
  shapeCast S1x1x512 (addf (mulf (decay b ka qa fs mp) (shapeCast S1x512 lp shapeCasts_S1x1x512_S1x512))
    (shapeCast S1x512 (multiReduction .add [0] S512 (weights b ka qa fs mp) 0x00000000#32 reduces_S512x512_S512 (.inl rfl) rfl)
      shapeCasts_S512_S1x512)) shapeCasts_S1x512_S1x1x512

/-- The head's rows of the running weighted sum after the block. -/
def newA (b : Bool) (ka : Vec F S1x512x128 .bf16) (qa : Vec F S1x64x512 .bf16) (fs : F .f32) (mp : Vec F S1x1x512 .f32)
    (ap : Vec F S1x64x512 .f32) (vt : Vec F S1x64x512 .bf16) : FVec F S1x64x512 .f32 :=
  shapeCast S1x64x512 (addf (mulf (broadcastTo S64x512 (decay b ka qa fs mp) broadcasts_S1x512_S64x512)
      (shapeCast S64x512 ap shapeCasts_S1x64x512_S64x512))
    (matmul dot_S64x512_S512x512_S64x512_1_0_0_1_n_n none (shapeCast S64x512 vt shapeCasts_S1x64x512_S64x512)
      (truncf .bf16 (weights b ka qa fs mp) bitsLt_bf16_f32) (constant S64x512 .f32 0x00000000#32))) shapeCasts_S64x512_S1x64x512

/-! Rows of the whole arrays. -/

theorem inb1 (h : Fin 8) : ∀ a, (![h.val, 0, 0] : Fin 3 → ℕ) a + S1x1x512.size a ≤ S8x1x512.size a := by
  intro a; have := h.isLt; fin_cases a <;> simp [S1x1x512, S8x1x512] <;> omega
theorem inb64 (h : Fin 8) : ∀ a, (![h.val, 0, 0] : Fin 3 → ℕ) a + S1x64x512.size a ≤ S8x64x512.size a := by
  intro a; have := h.isLt; fin_cases a <;> simp [S1x64x512, S8x64x512] <;> omega
theorem inb128 (h : Fin 8) : ∀ a, (![h.val, 0, 0] : Fin 3 → ℕ) a + S1x512x128.size a ≤ S8x512x128.size a := by
  intro a; have := h.isLt; fin_cases a <;> simp [S1x512x128, S8x512x128] <;> omega

/-- Where a head's row of a maximum or sum lies. -/
abbrev rect1 (h : Fin 8) : Rect S8x1x512 := Rect.unit (s := S8x1x512) ![h.val, 0, 0] S1x1x512.size (inb1 h)
/-- Where a head's rows of a weighted sum, of the queries or of the values lie. -/
abbrev rect64 (h : Fin 8) : Rect S8x64x512 := Rect.unit (s := S8x64x512) ![h.val, 0, 0] S1x64x512.size (inb64 h)
/-- Where a head's rows of the keys lie. -/
abbrev rect128 (h : Fin 8) : Rect S8x512x128 := Rect.unit (s := S8x512x128) ![h.val, 0, 0] S1x512x128.size (inb128 h)

def row1 (x : Vec F S8x1x512 .f32) (h : Fin 8) : Vec F S1x1x512 .f32 := fun j => x ((rect1 h).emb j)
def row64 {φ : EltTy} (x : Vec F S8x64x512 φ) (h : Fin 8) : Vec F S1x64x512 φ := fun j => x ((rect64 h).emb j)
def row128 (x : Vec F S8x512x128 .bf16) (h : Fin 8) : Vec F S1x512x128 .bf16 := fun j => x ((rect128 h).emb j)

/-- The block start of head `h` and key block `k`. -/
def start (x : Vec F S256 .f32) (h : Fin 8) (k : Fin 32) : F .f32 := x ((Rect.unit (s := S256) ![h.val * 32 + k.val] S1.size (by
    intro a; have := h.isLt; have := k.isLt; fin_cases a; show h.val * 32 + k.val + 1 ≤ 256; omega)).emb (Shape.Idx.first (numel1_S1.symm ▸ Nat.one_pos)))

/-- What one grid point makes of the scratch buffers. -/
structure Step (b : Bool) (fs : Vec F S256 .f32) (k : Fin 32) (qa : Vec F S8x64x512 .bf16) (ka : Vec F S8x512x128 .bf16) (vt : Vec F S8x64x512 .bf16)
    (xm xl : Vec F S8x1x512 .f32) (xa : Vec F S8x64x512 .f32) (ym yl : Vec F S8x1x512 .f32) (ya : Vec F S8x64x512 .f32) : Prop where
  m : ∀ h, row1 ym h = newM b (row128 ka h) (row64 qa h) (start fs h k) (row1 xm h)
  l : ∀ h, row1 yl h = newL b (row128 ka h) (row64 qa h) (start fs h k) (row1 xm h) (row1 xl h)
  a : ∀ h, row64 ya h = newA b (row128 ka h) (row64 qa h) (start fs h k) (row1 xm h) (row64 xa h) (row64 vt h)

/-! Lists of written rows read back. -/

/-- A head's row written to a maximum or sum. -/
abbrev piece1 (h : Fin 8) (w : Vec F S1x1x512 .f32) : View.Piece (Elt F) S8x1x512 .f32 := ⟨rect1 h, w⟩
/-- A head's rows written to a weighted sum. -/
abbrev piece64 (h : Fin 8) (w : Vec F S1x64x512 .f32) : View.Piece (Elt F) S8x64x512 .f32 := ⟨rect64 h, w⟩

theorem canon_at1 (h : Fin 8) (w : Vec F S1x1x512 .f32) (L : List (View.Piece (Elt F) S8x1x512 .f32)) (j : S1x1x512.Idx) :
    View.canon (Val := Elt F) (e := .f32) (piece1 h w :: L) ((rect1 h).emb j) = w j :=
  View.canon_cons_emb (Val := Elt F) (e := .f32) (s := S8x1x512) (rect1 h) w L j
theorem canon_at64 (h : Fin 8) (w : Vec F S1x64x512 .f32) (L : List (View.Piece (Elt F) S8x64x512 .f32)) (j : S1x64x512.Idx) :
    View.canon (Val := Elt F) (e := .f32) (piece64 h w :: L) ((rect64 h).emb j) = w j :=
  View.canon_cons_emb (Val := Elt F) (e := .f32) (s := S8x64x512) (rect64 h) w L j

theorem row1_ext {x : Vec F S8x1x512 .f32} {h : Fin 8} {w : Vec F S1x1x512 .f32} (e : ∀ j, x ((rect1 h).emb j) = w j) : row1 x h = w := funext e
theorem row64_ext {φ : EltTy} {x : Vec F S8x64x512 φ} {h : Fin 8} {w : Vec F S1x64x512 φ} (e : ∀ j, x ((rect64 h).emb j) = w j) : row64 x h = w := funext e
theorem row128_ext {x : Vec F S8x512x128 .bf16} {h : Fin 8} {w : Vec F S1x512x128 .bf16} (e : ∀ j, x ((rect128 h).emb j) = w j) : row128 x h = w := funext e

theorem canon_here1 (h : Fin 8) (w : Vec F S1x1x512 .f32) (L : List (View.Piece (Elt F) S8x1x512 .f32)) {y : Vec F S1x1x512 .f32} (e : w = y) :
    row1 (F := F) (View.canon (s := S8x1x512) (Val := Elt F) (e := .f32) (piece1 h w :: L)) h = y :=
  row1_ext fun j => (canon_at1 h w L j).trans (congrFun e j)
theorem canon_here64 (h : Fin 8) (w : Vec F S1x64x512 .f32) (L : List (View.Piece (Elt F) S8x64x512 .f32)) {y : Vec F S1x64x512 .f32} (e : w = y) :
    row64 (φ := .f32) (F := F) (View.canon (s := S8x64x512) (Val := Elt F) (e := .f32) (piece64 h w :: L)) h = y :=
  row64_ext fun j => (canon_at64 h w L j).trans (congrFun e j)

theorem emb1_not_mem {h k : Fin 8} (hk : h ≠ k) (j : S1x1x512.Idx) : (rect1 h).emb j ∉ (rect1 k).set := by
  have e : ((rect1 h).emb j 0).val = h.val := by
    have : (j 0).val < 1 := (j 0).isLt
    show h.val + 1 * (j 0).val = h.val; omega
  have hne : h.val ≠ k.val := fun e => hk (Fin.ext e)
  exact Rect.not_mem_set_of_axis (rect1 k) ((rect1 h).emb j) 0 k.val 1 rfl rfl rfl (by rw [e]; omega)
theorem emb64_not_mem {h k : Fin 8} (hk : h ≠ k) (j : S1x64x512.Idx) : (rect64 h).emb j ∉ (rect64 k).set := by
  have e : ((rect64 h).emb j 0).val = h.val := by
    have : (j 0).val < 1 := (j 0).isLt
    show h.val + 1 * (j 0).val = h.val; omega
  have hne : h.val ≠ k.val := fun e => hk (Fin.ext e)
  exact Rect.not_mem_set_of_axis (rect64 k) ((rect64 h).emb j) 0 k.val 1 rfl rfl rfl (by rw [e]; omega)

theorem canon_other1 {h k : Fin 8} (hk : h ≠ k) {w : Vec F S1x1x512 .f32} {L : List (View.Piece (Elt F) S8x1x512 .f32)}
    {y : Vec F S1x1x512 .f32} (e : row1 (F := F) (View.canon (s := S8x1x512) (Val := Elt F) (e := .f32) L) h = y) :
    row1 (F := F) (View.canon (s := S8x1x512) (Val := Elt F) (e := .f32) (piece1 k w :: L)) h = y :=
  row1_ext fun j => (View.canon_cons_of_not_mem (Val := Elt F) (e := .f32) (s := S8x1x512) (piece1 k w) L (emb1_not_mem hk j)).trans (congrFun e j)
theorem canon_other64 {h k : Fin 8} (hk : h ≠ k) {w : Vec F S1x64x512 .f32} {L : List (View.Piece (Elt F) S8x64x512 .f32)}
    {y : Vec F S1x64x512 .f32} (e : row64 (φ := .f32) (F := F) (View.canon (s := S8x64x512) (Val := Elt F) (e := .f32) L) h = y) :
    row64 (φ := .f32) (F := F) (View.canon (s := S8x64x512) (Val := Elt F) (e := .f32) (piece64 k w :: L)) h = y :=
  row64_ext fun j => (View.canon_cons_of_not_mem (Val := Elt F) (e := .f32) (s := S8x64x512) (piece64 k w) L (emb64_not_mem hk j)).trans (congrFun e j)

end Cert.KernelIdeal.Flash

end
-- ==== Proof.Flash.KernelIdeal.Blocks.lean ====
module
public import proofs.«01_k».proof.Proof.Flash.KernelIdeal.Prep
public import proofs.«01_k».proof.Proof.Flash.KernelIdeal.Rows
public import proofs.«01_k».proof.Proof.Flash.KernelIdeal.Points2
public import Idealize.ShloMosaic.Lib.Pipeline.ValueKit.Geometry
public import Idealize.ShloMosaic.Lib.Pointwise
@[expose] public section
set_option maxRecDepth 16384
noncomputable section
namespace Cert.KernelIdeal.Flash
open Idealize.ShloMosaic Idealize.ShloMosaic.TcCoe
open Cert.KernelIdeal Cert.KernelIdeal.Gen
variable {F : FTy → Type} [FloatOps F]

theorem row1_apply (x : Vec F S8x1x512 .f32) (h : Fin 8) (j : Fin 512) : row1 x h (ix3 0 0 j) = x (ix3 h 0 j) := by
  refine congrArg x (funext fun a => Fin.ext ?_)
  rw [ValueKit.rect_emb_unit_val]
  match a with
  | ⟨0, _⟩ => rfl
  | ⟨1, _⟩ => rfl
  | ⟨2, _⟩ => exact Nat.zero_add _
theorem row64_apply {φ : EltTy} (x : Vec F S8x64x512 φ) (h : Fin 8) (d : Fin 64) (j : Fin 512) : row64 x h (ix3 0 d j) = x (ix3 h d j) := by
  refine congrArg x (funext fun a => Fin.ext ?_)
  rw [ValueKit.rect_emb_unit_val]
  match a with
  | ⟨0, _⟩ => rfl
  | ⟨1, _⟩ => exact Nat.zero_add _
  | ⟨2, _⟩ => exact Nat.zero_add _
theorem row128_apply (x : Vec F S8x512x128 .bf16) (h : Fin 8) (i : Fin 512) (d : Fin 128) : row128 x h (ix3 0 i d) = x (ix3 h i d) := by
  refine congrArg x (funext fun a => Fin.ext ?_)
  rw [ValueKit.rect_emb_unit_val]
  match a with
  | ⟨0, _⟩ => rfl
  | ⟨1, _⟩ => exact Nat.zero_add _
  | ⟨2, _⟩ => exact Nat.zero_add _
theorem start_apply (x : Vec F S256 .f32) (h : Fin 8) (k : Fin 32) : start x h k = x (ix1 ⟨h.val * 32 + k.val, by have := h.isLt; have := k.isLt; omega⟩) := by
  refine congrArg x (funext fun a => Fin.ext ?_)
  rw [ValueKit.rect_emb_unit_val]
  match a with
  | ⟨0, _⟩ => rfl

/-- The word of a table that the index maps read at point `t`. -/
theorem at_val0 (t : Fin grid0.N) : (tbl (F := F)).at 0 (Rect.unit (s := S528) (k0_off1 (grid0.coords t)) S1.size (k0_off1_inb (grid0.coords t))) numel1_S1 = lit0 (pt t) := by
  show lit0 _ = _
  refine congrArg lit0 (Fin.ext ?_)
  refine (Shape.rowMajor_val_one (d := ![528]) _).trans ?_
  exact (congrArg (· + 0 * 1) rfl).trans (off1_val t)
theorem at_val1 (t : Fin grid0.N) : (tbl (F := F)).at 1 (Rect.unit (s := S528) (k0_off1 (grid0.coords t)) S1.size (k0_off1_inb (grid0.coords t))) numel1_S1 = lit1 (pt t) := by
  show lit1 _ = _
  refine congrArg lit1 (Fin.ext ?_)
  refine (Shape.rowMajor_val_one (d := ![528]) _).trans ?_
  exact (congrArg (· + 0 * 1) rfl).trans (off1_val t)

variable (m : (ℓ : Loc nD τ sig) → Buf (Elt F) ℓ)

theorem qlt (t : Fin grid0.N) (j : Fin 512) : 512 * qb (pt t) + j.val < 16384 := by
  have := (pts (pt t)).2.2; have := j.isLt; omega
theorem klt (t : Fin grid0.N) (j : Fin 512) : 512 * kb (pt t) + j.val < 16384 := by
  have h := (pts (pt t)).2; have := j.isLt; omega

theorem blk0_apply (c : Dev nD) (t : Fin grid0.N) (n : Fin 256) : blk0 m c t (ix1 n) = V m c main_v46 (ix1 n) := by
  refine congrArg (V m c main_v46) (funext fun a => Fin.ext ?_)
  refine (ValueKit.rect_emb_unit_val _ _ _ _ _).trans ?_
  match a with
  | ⟨0, _⟩ => exact Nat.zero_add _
theorem blk1_apply (c : Dev nD) (t : Fin grid0.N) (h : Fin 8) (d : Fin 64) (j : Fin 512) :
    blk1 m c t (ix3 h d j) = V m c main_v30 (ix3 h d ⟨512 * qb (pt t) + j.val, qlt t j⟩) := by
  refine congrArg (V m c main_v30) (funext fun a => Fin.ext ?_)
  refine (ValueKit.rect_emb_unit_val _ _ _ _ _).trans ?_
  match a with
  | ⟨0, _⟩ => exact Nat.zero_add _
  | ⟨1, _⟩ => exact Nat.zero_add _
  | ⟨2, _⟩ =>
    show ((tbl (F := F)).at 0 (Rect.unit (s := S528) (k0_off1 (grid0.coords t)) S1.size (k0_off1_inb (grid0.coords t))) numel1_S1).toNat * 512 + j.val = _
    rw [at_val0]; show _ = 512 * qb (pt t) + j.val; unfold qb; omega
theorem blk2_apply (c : Dev nD) (t : Fin grid0.N) (h : Fin 8) (i : Fin 512) (d : Fin 128) :
    blk2 m c t (ix3 h i d) = V m c main_v41 (ix3 h ⟨512 * kb (pt t) + i.val, klt t i⟩ d) := by
  refine congrArg (V m c main_v41) (funext fun a => Fin.ext ?_)
  refine (ValueKit.rect_emb_unit_val _ _ _ _ _).trans ?_
  match a with
  | ⟨0, _⟩ => exact Nat.zero_add _
  | ⟨2, _⟩ => exact Nat.zero_add _
  | ⟨1, _⟩ =>
    show ((tbl (F := F)).at 1 (Rect.unit (s := S528) (k0_off1 (grid0.coords t)) S1.size (k0_off1_inb (grid0.coords t))) numel1_S1).toNat * 512 + i.val = _
    rw [at_val1]; show _ = 512 * kb (pt t) + i.val; unfold kb; omega
theorem blk3_apply (c : Dev nD) (t : Fin grid0.N) (h : Fin 8) (d : Fin 64) (j : Fin 512) :
    blk3 m c t (ix3 h d j) = V m c main_v44 (ix3 h d ⟨512 * kb (pt t) + j.val, klt t j⟩) := by
  refine congrArg (V m c main_v44) (funext fun a => Fin.ext ?_)
  refine (ValueKit.rect_emb_unit_val _ _ _ _ _).trans ?_
  match a with
  | ⟨0, _⟩ => exact Nat.zero_add _
  | ⟨1, _⟩ => exact Nat.zero_add _
  | ⟨2, _⟩ =>
    show ((tbl (F := F)).at 1 (Rect.unit (s := S528) (k0_off1 (grid0.coords t)) S1.size (k0_off1_inb (grid0.coords t))) numel1_S1).toNat * 512 + j.val = _
    rw [at_val1]; show _ = 512 * kb (pt t) + j.val; unfold kb; omega
end Cert.KernelIdeal.Flash
end
-- ==== Proof.Flash.KernelIdeal.Loads.lean ====
module

public import proofs.«01_k».proof.Proof.Flash.KernelIdeal.Rows
public import Idealize.ShloMosaic.Lib.WholeRead

@[expose] public section

set_option maxRecDepth 16384

noncomputable section

namespace Cert.KernelIdeal.Flash

open Idealize.ShloMosaic Idealize.ShloMosaic.TcCoe
open Cert.KernelIdeal Cert.KernelIdeal.Gen

variable {F : FTy → Type} [FloatOps F]

/-! What the body's loads read, row by row; and the block starts it reads. -/

theorem load1 {sp : Space} {M : Memref sig .tc sp S8x1x512 .f32} (hM : M.IsWhole) (X : Vec F S8x1x512 .f32) (h : Fin 8) :
    View.readAt (Elt F) M.view (rect1 h).toLoadRect (hM.unread X) = row1 X h :=
  (row1_ext fun j => (hM.readAt_unread X (rect1 h).toLoadRect j).symm).symm
theorem load64 {φ : EltTy} {sp : Space} {M : Memref sig .tc sp S8x64x512 φ} (hM : M.IsWhole) (X : Vec F S8x64x512 φ) (h : Fin 8) :
    View.readAt (Elt F) M.view (rect64 h).toLoadRect (hM.unread X) = row64 X h :=
  (row64_ext fun j => (hM.readAt_unread X (rect64 h).toLoadRect j).symm).symm
theorem load128 {sp : Space} {M : Memref sig .tc sp S8x512x128 .bf16} (hM : M.IsWhole) (X : Vec F S8x512x128 .bf16) (h : Fin 8) :
    View.readAt (Elt F) M.view (rect128 h).toLoadRect (hM.unread X) = row128 X h :=
  (row128_ext fun j => (hM.readAt_unread X (rect128 h).toLoadRect j).symm).symm

theorem load_start {sp : Space} {M : Memref sig .tc sp S256 .f32} (hM : M.IsWhole) (X : Vec F S256 .f32) {off : Fin 1 → ℕ}
    (inb : ∀ a, off a + S1.size a ≤ S256.size a) (h : Fin 8) (k : Fin 32) (ho : off = ![h.val * 32 + k.val]) :
    View.readAt (Elt F) M.view (Rect.unit (s := S256) off S1.size inb).toLoadRect (hM.unread X) (Shape.Idx.first (numel1_S1.symm ▸ Nat.one_pos)) = start X h k := by
  subst ho
  exact hM.readAt_unread X _ _

/-- The key block of a grid point. -/
def kbF (t : Fin grid0.N) : Fin 32 := ⟨kb (pt t), lt_of_le_of_lt (pts (pt t)).2.1 (pts (pt t)).2.2⟩

theorem off2_eq (t : Fin grid0.N) (h : Fin 8) : k0_off2 (word (F := F) (Memref.whole main_c_0) (tbl 1) (grid0.coords t)) (BitVec.ofNat 32 (32 * h.val)) = ![h.val * 32 + (kbF t).val] := by
  rw [tbl_word1]
  have hk := (kbF t).isLt
  have hh := h.isLt
  have e : (BitVec.ofNat 32 (32 * h.val) + lit1 (pt t)).toNat = h.val * 32 + (kbF t).val := by
    have : (lit1 (pt t)).toNat = (kbF t).val := rfl
    rw [BitVec.toNat_add, BitVec.toNat_ofNat, this]
    omega
  unfold k0_off2
  funext a; fin_cases a
  exact e
theorem off3_eq (t : Fin grid0.N) (h : Fin 8) : k0_off3 (word (F := F) (Memref.whole main_c_0) (tbl 1) (grid0.coords t)) (BitVec.ofNat 32 (32 * h.val)) = ![h.val * 32 + (kbF t).val] := by
  rw [tbl_word1]
  have hk := (kbF t).isLt
  have hh := h.isLt
  have e : (BitVec.ofNat 32 (32 * h.val) + lit1 (pt t)).toNat = h.val * 32 + (kbF t).val := by
    have : (lit1 (pt t)).toNat = (kbF t).val := rfl
    rw [BitVec.toNat_add, BitVec.toNat_ofNat, this]
    omega
  unfold k0_off3
  funext a; fin_cases a
  exact e

theorem readRow1 {sp : Space} {v : View sig .tc sp S8x1x512 .f32} (L : List (View.Piece (Elt F) S8x1x512 .f32)) (h : Fin 8) :
    View.readCov (Val := Elt F) v L (rect1 h).toLoadRect = row1 (F := F) (View.canon (s := S8x1x512) (Val := Elt F) (e := .f32) L) h :=
  (row1_ext fun j => (congrFun (View.readCov_eq_canon' v L (rect1 h).toLoadRect) j).symm).symm

theorem emb_all1 (inb : ∀ a, (![0, 0, 0] : Fin 3 → ℕ) a + S8x1x512.size a ≤ S8x1x512.size a) (y : S8x1x512.Idx) :
    (Rect.unit (s := S8x1x512) ![0, 0, 0] S8x1x512.size inb).emb y = y :=
  Rect.emb_eq_of_coords _ _ _ fun a => by
    show (y a).val = (![0, 0, 0] : Fin 3 → ℕ) a + 1 * (y a).val
    fin_cases a <;> simp

theorem canon_all1 (inb : ∀ a, (![0, 0, 0] : Fin 3 → ℕ) a + S8x1x512.size a ≤ S8x1x512.size a) (z : Vec F S8x1x512 .f32) (L : List (View.Piece (Elt F) S8x1x512 .f32)) (h : Fin 8) :
    row1 (F := F) (View.canon (s := S8x1x512) (Val := Elt F) (e := .f32) (⟨Rect.unit (s := S8x1x512) ![0, 0, 0] S8x1x512.size inb, z⟩ :: L)) h = row1 z h :=
  row1_ext fun j => by
    have e := View.canon_cons_emb (s := S8x1x512) (Val := Elt F) (e := .f32) (Rect.unit (s := S8x1x512) ![0, 0, 0] S8x1x512.size inb) z L ((rect1 h).emb j)
    rw [emb_all1 inb ((rect1 h).emb j)] at e
    exact e

theorem readRow64 {sp : Space} {v : View sig .tc sp S8x64x512 .f32} (L : List (View.Piece (Elt F) S8x64x512 .f32)) (h : Fin 8) :
    View.readCov (Val := Elt F) v L (rect64 h).toLoadRect = row64 (φ := .f32) (F := F) (View.canon (s := S8x64x512) (Val := Elt F) (e := .f32) L) h :=
  (row64_ext fun j => (congrFun (View.readCov_eq_canon' v L (rect64 h).toLoadRect) j).symm).symm

theorem emb_all64 (inb : ∀ a, (![0, 0, 0] : Fin 3 → ℕ) a + S8x64x512.size a ≤ S8x64x512.size a) (y : S8x64x512.Idx) :
    (Rect.unit (s := S8x64x512) ![0, 0, 0] S8x64x512.size inb).emb y = y :=
  Rect.emb_eq_of_coords _ _ _ fun a => by
    show (y a).val = (![0, 0, 0] : Fin 3 → ℕ) a + 1 * (y a).val
    fin_cases a <;> simp

theorem canon_all64 (inb : ∀ a, (![0, 0, 0] : Fin 3 → ℕ) a + S8x64x512.size a ≤ S8x64x512.size a) (z : Vec F S8x64x512 .f32) (L : List (View.Piece (Elt F) S8x64x512 .f32)) (h : Fin 8) :
    row64 (φ := .f32) (F := F) (View.canon (s := S8x64x512) (Val := Elt F) (e := .f32) (⟨Rect.unit (s := S8x64x512) ![0, 0, 0] S8x64x512.size inb, z⟩ :: L)) h = row64 z h :=
  row64_ext fun j => by
    have e := View.canon_cons_emb (s := S8x64x512) (Val := Elt F) (e := .f32) (Rect.unit (s := S8x64x512) ![0, 0, 0] S8x64x512.size inb) z L ((rect64 h).emb j)
    rw [emb_all64 inb ((rect64 h).emb j)] at e
    exact e

theorem newM_of {b : Bool} {w : Vec F S1x1x512 .f32} {ka ka' : Vec F S1x512x128 .bf16} {qa qa' : Vec F S1x64x512 .bf16} {fs fs' : F .f32} {mp mp' : Vec F S1x1x512 .f32}
    (h1 : ka' = ka) (h2 : qa' = qa) (h3 : fs' = fs) (h4 : mp' = mp) (e : w = newM b ka' qa' fs' mp') : w = newM b ka qa fs mp := by
  subst h1 h2 h3 h4; exact e
theorem newL_of {b : Bool} {w : Vec F S1x1x512 .f32} {ka ka' : Vec F S1x512x128 .bf16} {qa qa' : Vec F S1x64x512 .bf16} {fs fs' : F .f32} {mp mp' lp lp' : Vec F S1x1x512 .f32}
    (h1 : ka' = ka) (h2 : qa' = qa) (h3 : fs' = fs) (h4 : mp' = mp) (h5 : lp' = lp) (e : w = newL b ka' qa' fs' mp' lp') : w = newL b ka qa fs mp lp := by
  subst h1 h2 h3 h4 h5; exact e
theorem newA_of {b : Bool} {w : Vec F S1x64x512 .f32} {ka ka' : Vec F S1x512x128 .bf16} {qa qa' : Vec F S1x64x512 .bf16} {fs fs' : F .f32} {mp mp' : Vec F S1x1x512 .f32}
    {ap ap' : Vec F S1x64x512 .f32} {vt vt' : Vec F S1x64x512 .bf16}
    (h1 : ka' = ka) (h2 : qa' = qa) (h3 : fs' = fs) (h4 : mp' = mp) (h5 : ap' = ap) (h6 : vt' = vt) (e : w = newA b ka' qa' fs' mp' ap' vt') : w = newA b ka qa fs mp ap vt := by
  subst h1 h2 h3 h4 h5 h6; exact e

end Cert.KernelIdeal.Flash

end
-- ==== Proof.Flash.KernelIdeal.Entries.lean ====
module

public import proofs.«01_k».proof.Proof.Flash.KernelIdeal.Blocks
public import proofs.«01_k».proof.Proof.Flash.KernelIdeal.Words
public import proofs.«01_k».proof.Proof.Flash.KernelIdeal.Loads
public import proofs.«01_k».proof.Proof.Flash.Math.Data

@[expose] public section

set_option maxRecDepth 16384

noncomputable section

namespace Cert.KernelIdeal.Flash

open Idealize.ShloMosaic Idealize.ShloMosaic.TcCoe
open Cert.KernelIdeal Cert.KernelIdeal.Gen Cert.FlashMath

/-! The blocks the body reads, as real numbers of the arguments. -/

variable (m : (ℓ : Loc nD τ sig) → Buf (Elt Ideal) ℓ)

/-- What the argument arrays are asked: the queries, the keys and the gates' logarithms are real. -/
structure Real (c : Dev nD) : Prop where
  q : Finite (s := SHead) (argQ m c)
  k : Finite (s := SHead) (argK m c)
  g : Finite (s := SGate) (argG m c)

/-- log₂ e. -/
abbrev lb : ℝ := (Real.log 2)⁻¹

variable {m} {c : Dev nD} (H : Real m c)

include H in
theorem f2_real (h : Fin 8) (t : Fin 16384) : hF2 (argG m c) (ix2 h t) = ((gateSum (argG m c) h t.val * (Real.log 2)⁻¹ : ℝ) : EReal) := by
  rw [hF2_apply, hLog2e_apply, EReal.coe_mul]
  have e := gateSum_eq (g := argG m c) H.g h t
  generalize runSum _ t = x at e ⊢
  rw [e]

include H in
theorem q_real (h : Fin 8) (d : Fin 64) (t : Fin 16384) :
    V m c main_v30 (ix3 h d t) = ((entry (argQ m c) h d t.val * (0.125 * (Real.log 2)⁻¹) : ℝ) : EReal) := by
  rw [V_qa, hQa_apply, hLog2e_apply, word_eighth, EReal.coe_mul, EReal.coe_mul]
  have e := entry_eq (x := argQ m c) H.q h d t
  generalize argQ m c (ix4 0 t h d) = x at e ⊢
  rw [e]

theorem v_value (h : Fin 8) (d : Fin 64) (t : Fin 16384) : V m c main_v44 (ix3 h d t) = value (argV m c) h d t.val := by
  rw [V_vt, hVt_apply]
  exact value_eq (argV m c) h d t

include H in
theorem fs_real (h : Fin 8) (k : Fin 32) (hn : h.val * 32 + k.val < 256) :
    V m c main_v46 (ix1 ⟨h.val * 32 + k.val, hn⟩) = ((gateSum (argG m c) h (512 * k.val) * (Real.log 2)⁻¹ : ℝ) : EReal) := by
  rw [V_fs, hFs_apply, ← f2_real H h ⟨512 * k.val, by omega⟩]
  refine congrArg (hF2 (argG m c)) (congrArg₂ (fun a b => ix2 a b) (Fin.ext ?_) (Fin.ext ?_))
  · show (h.val * 32 + k.val) / 32 = h.val; omega
  · show 512 * ((h.val * 32 + k.val) % 32) = 512 * k.val; omega

include H in
theorem rel_real (h : Fin 8) (t : Fin 16384) : hRel (hF2 (argG m c)) (ix2 h t)
    = ((gateSum (argG m c) h t.val * (Real.log 2)⁻¹ - gateSum (argG m c) h (512 * (t.val / 512)) * (Real.log 2)⁻¹ : ℝ) : EReal) := by
  rw [hRel_apply, f2_real H, f2_real H, ← EReal.coe_sub]

include H in
theorem k_real (h : Fin 8) (t : Fin 16384) (d : Fin 128) : V m c main_v41 (ix3 h t d)
    = ((keyRow (fun d => entry (argK m c) h d t.val)
        (gateSum (argG m c) h t.val * (Real.log 2)⁻¹ - gateSum (argG m c) h (512 * (t.val / 512)) * (Real.log 2)⁻¹) d : ℝ) : EReal) := by
  rw [V_ka]
  exact hKa_apply _ _ h t d _ (fun d => entry_eq (x := argK m c) H.k h d t) _ (rel_real H h t)

end Cert.KernelIdeal.Flash

end
-- ==== Proof.Flash.KernelIdeal.RowsIdeal.lean ====
module

public import proofs.«01_k».proof.Proof.Flash.KernelIdeal.Rows
public import proofs.«01_k».proof.Proof.Flash.KernelIdeal.Words
public import Idealize.ShloMosaic.Lib.Pointwise
public import Idealize.ShloMosaic.Lib.WordCmp

@[expose] public section

set_option maxRecDepth 16384

noncomputable section

namespace Cert.KernelIdeal.Flash

open Idealize.ShloMosaic Idealize.ShloMosaic.TcCoe
open Cert.KernelIdeal Cert.KernelIdeal.Gen Cert.FlashMath

/-! One head's step over the extended reals, at a query. -/

theorem slt3 : ∀ k : Fin 16, IntOp.cmpi .slt (BitVec.ofNat 32 k.val) 3#32 = if k.val < 3 then 1#1 else 0#1 := by decide
theorem eq3 : ∀ k : Fin 16, IntOp.cmpi .eq (BitVec.ofNat 32 k.val) 3#32 = if k.val = 3 then 1#1 else 0#1 := by decide
theorem eq4 : ∀ k : Fin 16, IntOp.cmpi .eq (BitVec.ofNat 32 k.val) 4#32 = if k.val = 4 then 1#1 else 0#1 := by decide
theorem eq5 : ∀ k : Fin 16, IntOp.cmpi .eq (BitVec.ofNat 32 k.val) 5#32 = if k.val = 5 then 1#1 else 0#1 := by decide

theorem select_if {α : Type} (c : Prop) [Decidable c] (a b : α) : Scalar.select (if c then 1#1 else 0#1) a b = if c then a else b := by
  split <;> rfl

theorem operand_apply (qa : Vec Ideal S1x64x512 .bf16) (aug : FVec Ideal S16x512 .f32) (k : Fin 128) (j : Fin 512) :
    operand qa aug (ix2 k j) = if h : k.val < 64 then qa (ix3 0 ⟨k.val, h⟩ j) else if h : k.val - 64 < 16 then aug (ix2 ⟨k.val - 64, h⟩ j) else 0 := by
  pointwise [operand]

theorem scores_apply (ka : Vec Ideal S1x512x128 .bf16) (op : FVec Ideal S128x512 .bf16) (i j : Fin 512) :
    scores ka op (ix2 i j) = ∑ x : Fin 128, ka (ix3 0 i x) * op (ix2 x j) := by
  pointwise [scores]

theorem augRel_apply (k : Fin 16) (j : Fin 512) : augRel (F := Ideal) (ix2 k j) = if k.val < 3 then ((-1 : ℝ) : EReal) else 0 := by
  have e : augRel (F := Ideal) (ix2 k j) = Scalar.select (IntOp.cmpi .slt (BitVec.ofNat 32 k.val) 3#32) (Ideal.ofBits .f32 3212836864#32) 0 := by
    pointwise [augRel, rowNo]
  rw [e, slt3, select_if, word_neg_one]

theorem augMax_apply (x : FVec Ideal S1x512 .f32) (k : Fin 16) (j : Fin 512) (r : ℝ) (hr : x (ix2 0 j) = (r : EReal)) :
    augMax (F := Ideal) x (ix2 k j) = if k.val < 3 then ((-1 : ℝ) : EReal) else if k.val = 3 then (r : EReal) else 0 := by
  have e : augMax (F := Ideal) x (ix2 k j) = Scalar.select (IntOp.cmpi .slt (BitVec.ofNat 32 k.val) 3#32) (Ideal.ofBits .f32 3212836864#32)
      (Scalar.select (IntOp.cmpi .eq (BitVec.ofNat 32 k.val) 3#32) (x (ix2 0 j))
        (Scalar.select (IntOp.cmpi .eq (BitVec.ofNat 32 k.val) 4#32) (x (ix2 0 j) - x (ix2 0 j))
          (Scalar.select (IntOp.cmpi .eq (BitVec.ofNat 32 k.val) 5#32) (x (ix2 0 j) - x (ix2 0 j) - (x (ix2 0 j) - x (ix2 0 j))) 0))) := by
    pointwise [augMax, rowNo, hiPart, midPart, loPart]
  rw [e, slt3, eq3, eq4, eq5, select_if, select_if, select_if, select_if, word_neg_one, hr, ← EReal.coe_sub, ← EReal.coe_sub, sub_self, sub_self]
  simp

/-- The keys after the query do not count on the diagonal block. -/
theorem causal_apply (b : Bool) (x : FVec Ideal S512x512 .f32) (i j : Fin 512) :
    causal (F := Ideal) b x (ix2 i j) = if b = true → i.val ≤ j.val then x (ix2 i j) else ⊥ := by
  cases b
  · simp [causal]
  · have e : causal (F := Ideal) true x (ix2 i j) = Scalar.select (IntOp.cmpi .sle (BitVec.ofNat 32 i.val) (BitVec.ofNat 32 j.val)) (x (ix2 i j))
        (Ideal.ofBits .f32 4286578688#32) := by
      pointwise [causal]
    rw [e, WordCmp.cmpi_sle_ofNat (by omega) (by omega), word_bot]
    by_cases hij : i.val ≤ j.val
    · rw [decide_eq_true hij, if_pos (fun _ => hij)]; rfl
    · rw [decide_eq_false hij, if_neg (fun h => hij (h rfl))]; rfl

variable (b : Bool) (ka : Vec Ideal S1x512x128 .bf16) (qa : Vec Ideal S1x64x512 .bf16) (fs : Ideal .f32) (mp lp : Vec Ideal S1x1x512 .f32)

theorem maxRow_apply (j : Fin 512) : maxRow b ka qa fs mp (ix2 0 j)
    = max (mp (ix3 0 0 j)) (Finset.univ.fold max ⊥ (fun i : Fin 512 => causal b (scores ka (operand qa augRel)) (ix2 i j)) + (0 - fs)) := by
  have e : maxRow b ka qa fs mp (ix2 0 j)
      = max (mp (ix3 0 0 j)) (Finset.univ.fold max (Ideal.ofBits .f32 4286578688#32) (fun i : Fin 512 => causal b (scores ka (operand qa augRel)) (ix2 i j)) + (0 - fs)) := by
    pointwise [maxRow, negStart]
  rw [e, word_bot]

theorem newM_apply (j : Fin 512) : newM b ka qa fs mp (ix3 0 0 j) = maxRow b ka qa fs mp (ix2 0 j) := by
  pointwise [newM]

/-- What the second product's exponents are. -/
def expo : FVec Ideal S512x512 .f32 :=
  causal b (scores ka (operand qa (augMax (subf (maxRow b ka qa fs mp) (broadcast S1x512 (negStart fs))))))

theorem shift_apply (j : Fin 512) : (subf (maxRow b ka qa fs mp) (broadcast S1x512 (negStart fs)) : FVec Ideal S1x512 .f32) (ix2 0 j)
    = maxRow b ka qa fs mp (ix2 0 j) - (0 - fs) := by
  pointwise [negStart]

theorem weights_apply (i j : Fin 512) : weights b ka qa fs mp (ix2 i j) = Ideal.exp2 (expo b ka qa fs mp (ix2 i j)) := rfl

theorem newL_apply (j : Fin 512) : newL b ka qa fs mp lp (ix3 0 0 j)
    = Ideal.exp2 (mp (ix3 0 0 j) - maxRow b ka qa fs mp (ix2 0 j)) * lp (ix3 0 0 j) + ∑ i : Fin 512, Ideal.exp2 (expo b ka qa fs mp (ix2 i j)) := by
  have e : newL b ka qa fs mp lp (ix3 0 0 j)
      = FloatOps.exp2 (mp (ix3 0 0 j) - maxRow b ka qa fs mp (ix2 0 j)) * lp (ix3 0 0 j) + ∑ i : Fin 512, weights b ka qa fs mp (ix2 i j) := by
    pointwise [newL, decay]
  exact e

theorem newA_apply (ap : Vec Ideal S1x64x512 .f32) (vt : Vec Ideal S1x64x512 .bf16) (d : Fin 64) (j : Fin 512) :
    newA b ka qa fs mp ap vt (ix3 0 d j)
    = Ideal.exp2 (mp (ix3 0 0 j) - maxRow b ka qa fs mp (ix2 0 j)) * ap (ix3 0 d j)
      + ∑ i : Fin 512, vt (ix3 0 d i) * Ideal.exp2 (expo b ka qa fs mp (ix2 i j)) := by
  have e : newA b ka qa fs mp ap vt (ix3 0 d j)
      = FloatOps.exp2 (mp (ix3 0 0 j) - maxRow b ka qa fs mp (ix2 0 j)) * ap (ix3 0 d j) + ∑ i : Fin 512, vt (ix3 0 d i) * weights b ka qa fs mp (ix2 i j) := by
    pointwise [newA, decay]
  exact e

/-- A product with the extended operands, the operands being real. -/
theorem scores_real (op : FVec Ideal S128x512 .bf16) (i j : Fin 512) (κ θ : Fin 64 → ℝ) (r x : ℝ)
    (hka : ∀ d : Fin 128, ka (ix3 0 i d) = ((keyRow κ r d : ℝ) : EReal)) (hop : ∀ d : Fin 128, op (ix2 d j) = ((queryCol θ x d : ℝ) : EReal)) :
    scores ka op (ix2 i j) = ((∑ d, κ d * θ d - r - x : ℝ) : EReal) := by
  rw [scores_apply, ← keyRow_queryCol]
  exact Finset.sum_congr rfl fun d _ => by rw [hka, hop]

theorem operand_real (aug : FVec Ideal S16x512 .f32) (j : Fin 512) (θ : Fin 64 → ℝ) (x : ℝ) (hqa : ∀ d, qa (ix3 0 d j) = (θ d : EReal))
    (haug : ∀ k : Fin 16, aug (ix2 k j) = if k.val < 3 then ((-1 : ℝ) : EReal) else if k.val = 3 then (x : EReal) else 0) (d : Fin 128) :
    operand qa aug (ix2 d j) = ((queryCol θ x d : ℝ) : EReal) := by
  rw [operand_apply]
  unfold queryCol
  have := d.isLt
  split
  · rw [hqa]
  · split
    · rw [haug]
      dsimp only
      split_ifs <;> first | omega | rfl
    · split_ifs <;> first | omega | rfl

/-- One block's step of a head's query. -/
theorem good_step (vt : Vec Ideal S1x64x512 .bf16) (ap : Vec Ideal S1x64x512 .f32) (j : Fin 512)
    (z : ℕ → ℝ) (v : Fin 64 → ℕ → EReal) (q T : ℕ) (hT : T ≤ q) (hb : ∀ i : Fin 512, (b = true → i.val ≤ j.val) ↔ T + i.val ≤ q)
    (κ : Fin 512 → Fin 64 → ℝ) (θ : Fin 64 → ℝ) (r : Fin 512 → ℝ) (f : ℝ) (hfs : fs = (f : EReal))
    (hka : ∀ (i : Fin 512) (d : Fin 128), ka (ix3 0 i d) = ((keyRow (κ i) (r i) d : ℝ) : EReal)) (hqa : ∀ d, qa (ix3 0 d j) = (θ d : EReal))
    (hvt : ∀ d (i : Fin 512), vt (ix3 0 d i) = v d (T + i.val))
    (hz : ∀ i : Fin 512, z (T + i.val) = ∑ d, κ i d * θ d - r i - f)
    (h : Fresh T (mp (ix3 0 0 j)) (lp (ix3 0 0 j)) (fun d => ap (ix3 0 d j)) ∨ Good z v q T (mp (ix3 0 0 j)) (lp (ix3 0 0 j)) (fun d => ap (ix3 0 d j))) :
    Good z v q (T + 512) (newM b ka qa fs mp (ix3 0 0 j)) (newL b ka qa fs mp lp (ix3 0 0 j)) (fun d => newA b ka qa fs mp ap vt (ix3 0 d j)) := by
  have hcb : (0 : EReal) - fs = ((-f : ℝ) : EReal) := by rw [hfs, zero_sub, EReal.coe_neg]
  refine step z v q T _ _ _ h hT (fun i => ∑ d, κ i d * θ d - r i) (-f) (fun i => by rw [hz]; ring)
    (fun i => causal b (scores ka (operand qa augRel)) (ix2 i j)) (fun i => ?_) _ ?_ (fun i => expo b ka qa fs mp (ix2 i j)) (fun x hx i => ?_) _ ?_ _ (fun d => ?_)
  · rw [causal_apply, if_congr (hb i) rfl rfl, scores_real ka _ i j (κ i) θ (r i) 0 (hka i) (operand_real qa _ j θ 0 hqa fun k => ?_), sub_zero]
    rw [augRel_apply]
    split_ifs <;> rfl
  · rw [newM_apply, maxRow_apply, hcb]
  · unfold expo
    rw [causal_apply, if_congr (hb i) rfl rfl, scores_real ka _ i j (κ i) θ (r i) x (hka i) (operand_real qa _ j θ x hqa fun k => ?_)]
    refine augMax_apply _ k j x ?_
    rw [shift_apply, hcb, ← newM_apply]
    exact hx
  · rw [newL_apply, newM_apply]
  · rw [newA_apply, newM_apply]
    exact congrArg₂ (· + ·) rfl (Finset.sum_congr rfl fun i _ => by rw [hvt])

theorem out_apply (a : Vec Ideal S8x64x512 .f32) (l : Vec Ideal S8x1x512 .f32) (h : Fin 8) (d : Fin 64) (j : Fin 512) :
    k0_pay8 a l (ix3 h d j) = Ideal.div (a (ix3 h d j)) (l (ix3 h 0 j)) := by
  pointwise [k0_pay8]

theorem pay1_apply (i : S8x1x512.Idx) : k0_pay1 (F := Ideal) i = ⊥ := word_bot
theorem pay2_apply (i : S8x1x512.Idx) : k0_pay2 (F := Ideal) i = 0 := Ideal.ofBits_zero_f32
theorem pay3_apply (i : S8x64x512.Idx) : k0_pay3 (F := Ideal) i = 0 := Ideal.ofBits_zero_f32

end Cert.KernelIdeal.Flash

end
-- ==== Proof.Flash.KernelIdeal.StepA.lean ====
module

public import proofs.«01_k».proof.Proof.Flash.KernelIdeal.Loads

@[expose] public section

set_option maxRecDepth 16384

noncomputable section

namespace Cert.KernelIdeal.Flash

open Idealize.ShloMosaic Idealize.ShloMosaic.TcCoe
open Cert.KernelIdeal Cert.KernelIdeal.Gen

variable {F : FTy → Type} [FloatOps F]

variable (m : (ℓ : Loc nD τ sig) → Buf (Elt F) ℓ)

/-! Run A, row by row: each row it leaves is the head's step of the rows it found. -/

theorem rdA_mp0 (c : Dev nD) (t : Fin grid0.N) (s : Slots) (hk : kb (pt t) = 0) (hd : kb (pt t) < qb (pt t)) :
    runA.sl.v31 (F := F) c (Memref.whole cc0_scratch0) = row1 k0_pay1 0 :=
  ((readRow1 (v := (Memref.whole cc0_scratch0).view) _ 0).trans ((canon_all1 inb_S8x1x512_S8x1x512_0_0_0 k0_pay1 [] 0)))

theorem rdA_lp0 (c : Dev nD) (t : Fin grid0.N) (s : Slots) (hk : kb (pt t) = 0) (hd : kb (pt t) < qb (pt t)) :
    runA.sl.v145 (F := F) c (Memref.whole cc0_scratch1) = row1 k0_pay2 0 :=
  ((readRow1 (v := (Memref.whole cc0_scratch1).view) _ 0).trans ((canon_all1 inb_S8x1x512_S8x1x512_0_0_0 k0_pay2 [] 0)))

theorem rdA_ap0 (c : Dev nD) (t : Fin grid0.N) (s : Slots) (hk : kb (pt t) = 0) (hd : kb (pt t) < qb (pt t)) :
    runA.sl.v232 (F := F) c (Memref.whole cc0_scratch2) = row64 (φ := .f32) k0_pay3 0 :=
  ((readRow64 (v := (Memref.whole cc0_scratch2).view) _ 0).trans ((canon_all64 inb_S8x64x512_S8x64x512_0_0_0 k0_pay3 [] 0)))

theorem rdA_mp1 (c : Dev nD) (t : Fin grid0.N) (s : Slots) (hk : kb (pt t) = 0) (hd : kb (pt t) < qb (pt t)) :
    runA.sl.v94 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd) = row1 k0_pay1 1 :=
  ((readRow1 (v := (Memref.whole cc0_scratch0).view) _ 1).trans ((canon_other1 (h := 1) (k := 0) (by decide) <| canon_all1 inb_S8x1x512_S8x1x512_0_0_0 k0_pay1 [] 1)))

theorem rdA_lp1 (c : Dev nD) (t : Fin grid0.N) (s : Slots) (hk : kb (pt t) = 0) (hd : kb (pt t) < qb (pt t)) :
    runA.sl.v222 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd) = row1 k0_pay2 1 :=
  ((readRow1 (v := (Memref.whole cc0_scratch1).view) _ 1).trans ((canon_other1 (h := 1) (k := 0) (by decide) <| canon_all1 inb_S8x1x512_S8x1x512_0_0_0 k0_pay2 [] 1)))

theorem rdA_ap1 (c : Dev nD) (t : Fin grid0.N) (s : Slots) (hk : kb (pt t) = 0) (hd : kb (pt t) < qb (pt t)) :
    runA.sl.v320 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd) = row64 (φ := .f32) k0_pay3 1 :=
  ((readRow64 (v := (Memref.whole cc0_scratch2).view) _ 1).trans ((canon_other64 (h := 1) (k := 0) (by decide) <| canon_all64 inb_S8x64x512_S8x64x512_0_0_0 k0_pay3 [] 1)))

theorem rdA_mp2 (c : Dev nD) (t : Fin grid0.N) (s : Slots) (hk : kb (pt t) = 0) (hd : kb (pt t) < qb (pt t)) :
    runA.sl.v171 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd) = row1 k0_pay1 2 :=
  ((readRow1 (v := (Memref.whole cc0_scratch0).view) _ 2).trans ((canon_other1 (h := 2) (k := 1) (by decide) <| canon_other1 (h := 2) (k := 0) (by decide) <| canon_all1 inb_S8x1x512_S8x1x512_0_0_0 k0_pay1 [] 2)))

theorem rdA_lp2 (c : Dev nD) (t : Fin grid0.N) (s : Slots) (hk : kb (pt t) = 0) (hd : kb (pt t) < qb (pt t)) :
    runA.sl.v310 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd) = row1 k0_pay2 2 :=
  ((readRow1 (v := (Memref.whole cc0_scratch1).view) _ 2).trans ((canon_other1 (h := 2) (k := 1) (by decide) <| canon_other1 (h := 2) (k := 0) (by decide) <| canon_all1 inb_S8x1x512_S8x1x512_0_0_0 k0_pay2 [] 2)))

theorem rdA_ap2 (c : Dev nD) (t : Fin grid0.N) (s : Slots) (hk : kb (pt t) = 0) (hd : kb (pt t) < qb (pt t)) :
    runA.sl.v408 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd) = row64 (φ := .f32) k0_pay3 2 :=
  ((readRow64 (v := (Memref.whole cc0_scratch2).view) _ 2).trans ((canon_other64 (h := 2) (k := 1) (by decide) <| canon_other64 (h := 2) (k := 0) (by decide) <| canon_all64 inb_S8x64x512_S8x64x512_0_0_0 k0_pay3 [] 2)))

theorem rdA_mp3 (c : Dev nD) (t : Fin grid0.N) (s : Slots) (hk : kb (pt t) = 0) (hd : kb (pt t) < qb (pt t)) :
    runA.sl.v259 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd) = row1 k0_pay1 3 :=
  ((readRow1 (v := (Memref.whole cc0_scratch0).view) _ 3).trans ((canon_other1 (h := 3) (k := 2) (by decide) <| canon_other1 (h := 3) (k := 1) (by decide) <| canon_other1 (h := 3) (k := 0) (by decide) <| canon_all1 inb_S8x1x512_S8x1x512_0_0_0 k0_pay1 [] 3)))

theorem rdA_lp3 (c : Dev nD) (t : Fin grid0.N) (s : Slots) (hk : kb (pt t) = 0) (hd : kb (pt t) < qb (pt t)) :
    runA.sl.v398 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd) = row1 k0_pay2 3 :=
  ((readRow1 (v := (Memref.whole cc0_scratch1).view) _ 3).trans ((canon_other1 (h := 3) (k := 2) (by decide) <| canon_other1 (h := 3) (k := 1) (by decide) <| canon_other1 (h := 3) (k := 0) (by decide) <| canon_all1 inb_S8x1x512_S8x1x512_0_0_0 k0_pay2 [] 3)))

theorem rdA_ap3 (c : Dev nD) (t : Fin grid0.N) (s : Slots) (hk : kb (pt t) = 0) (hd : kb (pt t) < qb (pt t)) :
    runA.sl.v496 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd) = row64 (φ := .f32) k0_pay3 3 :=
  ((readRow64 (v := (Memref.whole cc0_scratch2).view) _ 3).trans ((canon_other64 (h := 3) (k := 2) (by decide) <| canon_other64 (h := 3) (k := 1) (by decide) <| canon_other64 (h := 3) (k := 0) (by decide) <| canon_all64 inb_S8x64x512_S8x64x512_0_0_0 k0_pay3 [] 3)))

theorem rdA_mp4 (c : Dev nD) (t : Fin grid0.N) (s : Slots) (hk : kb (pt t) = 0) (hd : kb (pt t) < qb (pt t)) :
    runA.sl.v347 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd) = row1 k0_pay1 4 :=
  ((readRow1 (v := (Memref.whole cc0_scratch0).view) _ 4).trans ((canon_other1 (h := 4) (k := 3) (by decide) <| canon_other1 (h := 4) (k := 2) (by decide) <| canon_other1 (h := 4) (k := 1) (by decide) <| canon_other1 (h := 4) (k := 0) (by decide) <| canon_all1 inb_S8x1x512_S8x1x512_0_0_0 k0_pay1 [] 4)))

theorem rdA_lp4 (c : Dev nD) (t : Fin grid0.N) (s : Slots) (hk : kb (pt t) = 0) (hd : kb (pt t) < qb (pt t)) :
    runA.sl.v486 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd) = row1 k0_pay2 4 :=
  ((readRow1 (v := (Memref.whole cc0_scratch1).view) _ 4).trans ((canon_other1 (h := 4) (k := 3) (by decide) <| canon_other1 (h := 4) (k := 2) (by decide) <| canon_other1 (h := 4) (k := 1) (by decide) <| canon_other1 (h := 4) (k := 0) (by decide) <| canon_all1 inb_S8x1x512_S8x1x512_0_0_0 k0_pay2 [] 4)))

theorem rdA_ap4 (c : Dev nD) (t : Fin grid0.N) (s : Slots) (hk : kb (pt t) = 0) (hd : kb (pt t) < qb (pt t)) :
    runA.sl.v584 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd) = row64 (φ := .f32) k0_pay3 4 :=
  ((readRow64 (v := (Memref.whole cc0_scratch2).view) _ 4).trans ((canon_other64 (h := 4) (k := 3) (by decide) <| canon_other64 (h := 4) (k := 2) (by decide) <| canon_other64 (h := 4) (k := 1) (by decide) <| canon_other64 (h := 4) (k := 0) (by decide) <| canon_all64 inb_S8x64x512_S8x64x512_0_0_0 k0_pay3 [] 4)))

theorem rdA_mp5 (c : Dev nD) (t : Fin grid0.N) (s : Slots) (hk : kb (pt t) = 0) (hd : kb (pt t) < qb (pt t)) :
    runA.sl.v435 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd) = row1 k0_pay1 5 :=
  ((readRow1 (v := (Memref.whole cc0_scratch0).view) _ 5).trans ((canon_other1 (h := 5) (k := 4) (by decide) <| canon_other1 (h := 5) (k := 3) (by decide) <| canon_other1 (h := 5) (k := 2) (by decide) <| canon_other1 (h := 5) (k := 1) (by decide) <| canon_other1 (h := 5) (k := 0) (by decide) <| canon_all1 inb_S8x1x512_S8x1x512_0_0_0 k0_pay1 [] 5)))

theorem rdA_lp5 (c : Dev nD) (t : Fin grid0.N) (s : Slots) (hk : kb (pt t) = 0) (hd : kb (pt t) < qb (pt t)) :
    runA.sl.v574 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd) = row1 k0_pay2 5 :=
  ((readRow1 (v := (Memref.whole cc0_scratch1).view) _ 5).trans ((canon_other1 (h := 5) (k := 4) (by decide) <| canon_other1 (h := 5) (k := 3) (by decide) <| canon_other1 (h := 5) (k := 2) (by decide) <| canon_other1 (h := 5) (k := 1) (by decide) <| canon_other1 (h := 5) (k := 0) (by decide) <| canon_all1 inb_S8x1x512_S8x1x512_0_0_0 k0_pay2 [] 5)))

theorem rdA_ap5 (c : Dev nD) (t : Fin grid0.N) (s : Slots) (hk : kb (pt t) = 0) (hd : kb (pt t) < qb (pt t)) :
    runA.sl.v672 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd) = row64 (φ := .f32) k0_pay3 5 :=
  ((readRow64 (v := (Memref.whole cc0_scratch2).view) _ 5).trans ((canon_other64 (h := 5) (k := 4) (by decide) <| canon_other64 (h := 5) (k := 3) (by decide) <| canon_other64 (h := 5) (k := 2) (by decide) <| canon_other64 (h := 5) (k := 1) (by decide) <| canon_other64 (h := 5) (k := 0) (by decide) <| canon_all64 inb_S8x64x512_S8x64x512_0_0_0 k0_pay3 [] 5)))

theorem rdA_mp6 (c : Dev nD) (t : Fin grid0.N) (s : Slots) (hk : kb (pt t) = 0) (hd : kb (pt t) < qb (pt t)) :
    runA.sl.v523 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd) = row1 k0_pay1 6 :=
  ((readRow1 (v := (Memref.whole cc0_scratch0).view) _ 6).trans ((canon_other1 (h := 6) (k := 5) (by decide) <| canon_other1 (h := 6) (k := 4) (by decide) <| canon_other1 (h := 6) (k := 3) (by decide) <| canon_other1 (h := 6) (k := 2) (by decide) <| canon_other1 (h := 6) (k := 1) (by decide) <| canon_other1 (h := 6) (k := 0) (by decide) <| canon_all1 inb_S8x1x512_S8x1x512_0_0_0 k0_pay1 [] 6)))

theorem rdA_lp6 (c : Dev nD) (t : Fin grid0.N) (s : Slots) (hk : kb (pt t) = 0) (hd : kb (pt t) < qb (pt t)) :
    runA.sl.v662 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd) = row1 k0_pay2 6 :=
  ((readRow1 (v := (Memref.whole cc0_scratch1).view) _ 6).trans ((canon_other1 (h := 6) (k := 5) (by decide) <| canon_other1 (h := 6) (k := 4) (by decide) <| canon_other1 (h := 6) (k := 3) (by decide) <| canon_other1 (h := 6) (k := 2) (by decide) <| canon_other1 (h := 6) (k := 1) (by decide) <| canon_other1 (h := 6) (k := 0) (by decide) <| canon_all1 inb_S8x1x512_S8x1x512_0_0_0 k0_pay2 [] 6)))

theorem rdA_ap6 (c : Dev nD) (t : Fin grid0.N) (s : Slots) (hk : kb (pt t) = 0) (hd : kb (pt t) < qb (pt t)) :
    runA.sl.v697 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd) = row64 (φ := .f32) k0_pay3 6 :=
  ((readRow64 (v := (Memref.whole cc0_scratch2).view) _ 6).trans ((canon_other64 (h := 6) (k := 5) (by decide) <| canon_other64 (h := 6) (k := 4) (by decide) <| canon_other64 (h := 6) (k := 3) (by decide) <| canon_other64 (h := 6) (k := 2) (by decide) <| canon_other64 (h := 6) (k := 1) (by decide) <| canon_other64 (h := 6) (k := 0) (by decide) <| canon_all64 inb_S8x64x512_S8x64x512_0_0_0 k0_pay3 [] 6)))

theorem rdA_mp7 (c : Dev nD) (t : Fin grid0.N) (s : Slots) (hk : kb (pt t) = 0) (hd : kb (pt t) < qb (pt t)) :
    runA.sl.v611 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd) = row1 k0_pay1 7 :=
  ((readRow1 (v := (Memref.whole cc0_scratch0).view) _ 7).trans ((canon_other1 (h := 7) (k := 6) (by decide) <| canon_other1 (h := 7) (k := 5) (by decide) <| canon_other1 (h := 7) (k := 4) (by decide) <| canon_other1 (h := 7) (k := 3) (by decide) <| canon_other1 (h := 7) (k := 2) (by decide) <| canon_other1 (h := 7) (k := 1) (by decide) <| canon_other1 (h := 7) (k := 0) (by decide) <| canon_all1 inb_S8x1x512_S8x1x512_0_0_0 k0_pay1 [] 7)))

theorem rdA_lp7 (c : Dev nD) (t : Fin grid0.N) (s : Slots) (hk : kb (pt t) = 0) (hd : kb (pt t) < qb (pt t)) :
    runA.sl.v687 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd) = row1 k0_pay2 7 :=
  ((readRow1 (v := (Memref.whole cc0_scratch1).view) _ 7).trans ((canon_other1 (h := 7) (k := 6) (by decide) <| canon_other1 (h := 7) (k := 5) (by decide) <| canon_other1 (h := 7) (k := 4) (by decide) <| canon_other1 (h := 7) (k := 3) (by decide) <| canon_other1 (h := 7) (k := 2) (by decide) <| canon_other1 (h := 7) (k := 1) (by decide) <| canon_other1 (h := 7) (k := 0) (by decide) <| canon_all1 inb_S8x1x512_S8x1x512_0_0_0 k0_pay2 [] 7)))

theorem rdA_ap7 (c : Dev nD) (t : Fin grid0.N) (s : Slots) (hk : kb (pt t) = 0) (hd : kb (pt t) < qb (pt t)) :
    runA.sl.v708 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd) = row64 (φ := .f32) k0_pay3 7 :=
  ((readRow64 (v := (Memref.whole cc0_scratch2).view) _ 7).trans ((canon_other64 (h := 7) (k := 6) (by decide) <| canon_other64 (h := 7) (k := 5) (by decide) <| canon_other64 (h := 7) (k := 4) (by decide) <| canon_other64 (h := 7) (k := 3) (by decide) <| canon_other64 (h := 7) (k := 2) (by decide) <| canon_other64 (h := 7) (k := 1) (by decide) <| canon_other64 (h := 7) (k := 0) (by decide) <| canon_all64 inb_S8x64x512_S8x64x512_0_0_0 k0_pay3 [] 7)))

attribute [local irreducible] runA.sl.v31 runA.sl.v145 runA.sl.v232 runA.sl.v94 runA.sl.v222 runA.sl.v320 runA.sl.v171 runA.sl.v310 runA.sl.v408 runA.sl.v259 runA.sl.v398 runA.sl.v496 runA.sl.v347 runA.sl.v486 runA.sl.v584 runA.sl.v435 runA.sl.v574 runA.sl.v672 runA.sl.v523 runA.sl.v662 runA.sl.v697 runA.sl.v611 runA.sl.v687 runA.sl.v708

theorem atA_M0 (c : Dev nD) (t : Fin grid0.N) (s : Slots) (hk : kb (pt t) = 0) (hd : kb (pt t) < qb (pt t)) :
    row1 (F := F) (View.canon (atA m c t s hk hd).1) 0 = newM false (row128 (blk2 m c t) 0) (row64 (blk1 m c t) 0) (start (blk0 m c t) 0 (kbF t)) (row1 k0_pay1 0) :=
  by
  refine canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <| newM_of (mp' := runA.sl.v31 (F := F) c (Memref.whole cc0_scratch0)) (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off2_eq t 0)) (rdA_mp0 c t s hk hd) rfl

theorem atA_M1 (c : Dev nD) (t : Fin grid0.N) (s : Slots) (hk : kb (pt t) = 0) (hd : kb (pt t) < qb (pt t)) :
    row1 (F := F) (View.canon (atA m c t s hk hd).1) 1 = newM false (row128 (blk2 m c t) 1) (row64 (blk1 m c t) 1) (start (blk0 m c t) 1 (kbF t)) (row1 k0_pay1 1) :=
  by
  refine canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <| newM_of (mp' := runA.sl.v94 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off2_eq t 1)) (rdA_mp1 m c t s hk hd) rfl

theorem atA_M2 (c : Dev nD) (t : Fin grid0.N) (s : Slots) (hk : kb (pt t) = 0) (hd : kb (pt t) < qb (pt t)) :
    row1 (F := F) (View.canon (atA m c t s hk hd).1) 2 = newM false (row128 (blk2 m c t) 2) (row64 (blk1 m c t) 2) (start (blk0 m c t) 2 (kbF t)) (row1 k0_pay1 2) :=
  by
  refine canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <| newM_of (mp' := runA.sl.v171 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off2_eq t 2)) (rdA_mp2 m c t s hk hd) rfl

theorem atA_M3 (c : Dev nD) (t : Fin grid0.N) (s : Slots) (hk : kb (pt t) = 0) (hd : kb (pt t) < qb (pt t)) :
    row1 (F := F) (View.canon (atA m c t s hk hd).1) 3 = newM false (row128 (blk2 m c t) 3) (row64 (blk1 m c t) 3) (start (blk0 m c t) 3 (kbF t)) (row1 k0_pay1 3) :=
  by
  refine canon_other1 (h := 3) (k := 7) (by decide) <| canon_other1 (h := 3) (k := 6) (by decide) <| canon_other1 (h := 3) (k := 5) (by decide) <| canon_other1 (h := 3) (k := 4) (by decide) <| canon_here1 3 _ _ <| newM_of (mp' := runA.sl.v259 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off2_eq t 3)) (rdA_mp3 m c t s hk hd) rfl

theorem atA_M4 (c : Dev nD) (t : Fin grid0.N) (s : Slots) (hk : kb (pt t) = 0) (hd : kb (pt t) < qb (pt t)) :
    row1 (F := F) (View.canon (atA m c t s hk hd).1) 4 = newM false (row128 (blk2 m c t) 4) (row64 (blk1 m c t) 4) (start (blk0 m c t) 4 (kbF t)) (row1 k0_pay1 4) :=
  by
  refine canon_other1 (h := 4) (k := 7) (by decide) <| canon_other1 (h := 4) (k := 6) (by decide) <| canon_other1 (h := 4) (k := 5) (by decide) <| canon_here1 4 _ _ <| newM_of (mp' := runA.sl.v347 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off2_eq t 4)) (rdA_mp4 m c t s hk hd) rfl

theorem atA_M5 (c : Dev nD) (t : Fin grid0.N) (s : Slots) (hk : kb (pt t) = 0) (hd : kb (pt t) < qb (pt t)) :
    row1 (F := F) (View.canon (atA m c t s hk hd).1) 5 = newM false (row128 (blk2 m c t) 5) (row64 (blk1 m c t) 5) (start (blk0 m c t) 5 (kbF t)) (row1 k0_pay1 5) :=
  by
  refine canon_other1 (h := 5) (k := 7) (by decide) <| canon_other1 (h := 5) (k := 6) (by decide) <| canon_here1 5 _ _ <| newM_of (mp' := runA.sl.v435 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off2_eq t 5)) (rdA_mp5 m c t s hk hd) rfl

theorem atA_M6 (c : Dev nD) (t : Fin grid0.N) (s : Slots) (hk : kb (pt t) = 0) (hd : kb (pt t) < qb (pt t)) :
    row1 (F := F) (View.canon (atA m c t s hk hd).1) 6 = newM false (row128 (blk2 m c t) 6) (row64 (blk1 m c t) 6) (start (blk0 m c t) 6 (kbF t)) (row1 k0_pay1 6) :=
  by
  refine canon_other1 (h := 6) (k := 7) (by decide) <| canon_here1 6 _ _ <| newM_of (mp' := runA.sl.v523 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off2_eq t 6)) (rdA_mp6 m c t s hk hd) rfl

theorem atA_M7 (c : Dev nD) (t : Fin grid0.N) (s : Slots) (hk : kb (pt t) = 0) (hd : kb (pt t) < qb (pt t)) :
    row1 (F := F) (View.canon (atA m c t s hk hd).1) 7 = newM false (row128 (blk2 m c t) 7) (row64 (blk1 m c t) 7) (start (blk0 m c t) 7 (kbF t)) (row1 k0_pay1 7) :=
  by
  refine canon_here1 7 _ _ <| newM_of (mp' := runA.sl.v611 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off2_eq t 7)) (rdA_mp7 m c t s hk hd) rfl

theorem atA_L0 (c : Dev nD) (t : Fin grid0.N) (s : Slots) (hk : kb (pt t) = 0) (hd : kb (pt t) < qb (pt t)) :
    row1 (F := F) (View.canon (atA m c t s hk hd).2.1) 0 = newL false (row128 (blk2 m c t) 0) (row64 (blk1 m c t) 0) (start (blk0 m c t) 0 (kbF t)) (row1 k0_pay1 0) (row1 k0_pay2 0) :=
  by
  refine canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <| newL_of (mp' := runA.sl.v31 (F := F) c (Memref.whole cc0_scratch0)) (lp' := runA.sl.v145 (F := F) c (Memref.whole cc0_scratch1)) (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off2_eq t 0)) (rdA_mp0 c t s hk hd) (rdA_lp0 c t s hk hd) rfl

theorem atA_L1 (c : Dev nD) (t : Fin grid0.N) (s : Slots) (hk : kb (pt t) = 0) (hd : kb (pt t) < qb (pt t)) :
    row1 (F := F) (View.canon (atA m c t s hk hd).2.1) 1 = newL false (row128 (blk2 m c t) 1) (row64 (blk1 m c t) 1) (start (blk0 m c t) 1 (kbF t)) (row1 k0_pay1 1) (row1 k0_pay2 1) :=
  by
  refine canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <| newL_of (mp' := runA.sl.v94 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (lp' := runA.sl.v222 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd)) (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off2_eq t 1)) (rdA_mp1 m c t s hk hd) (rdA_lp1 m c t s hk hd) rfl

theorem atA_L2 (c : Dev nD) (t : Fin grid0.N) (s : Slots) (hk : kb (pt t) = 0) (hd : kb (pt t) < qb (pt t)) :
    row1 (F := F) (View.canon (atA m c t s hk hd).2.1) 2 = newL false (row128 (blk2 m c t) 2) (row64 (blk1 m c t) 2) (start (blk0 m c t) 2 (kbF t)) (row1 k0_pay1 2) (row1 k0_pay2 2) :=
  by
  refine canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <| newL_of (mp' := runA.sl.v171 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (lp' := runA.sl.v310 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd)) (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off2_eq t 2)) (rdA_mp2 m c t s hk hd) (rdA_lp2 m c t s hk hd) rfl

theorem atA_L3 (c : Dev nD) (t : Fin grid0.N) (s : Slots) (hk : kb (pt t) = 0) (hd : kb (pt t) < qb (pt t)) :
    row1 (F := F) (View.canon (atA m c t s hk hd).2.1) 3 = newL false (row128 (blk2 m c t) 3) (row64 (blk1 m c t) 3) (start (blk0 m c t) 3 (kbF t)) (row1 k0_pay1 3) (row1 k0_pay2 3) :=
  by
  refine canon_other1 (h := 3) (k := 7) (by decide) <| canon_other1 (h := 3) (k := 6) (by decide) <| canon_other1 (h := 3) (k := 5) (by decide) <| canon_other1 (h := 3) (k := 4) (by decide) <| canon_here1 3 _ _ <| newL_of (mp' := runA.sl.v259 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (lp' := runA.sl.v398 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd)) (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off2_eq t 3)) (rdA_mp3 m c t s hk hd) (rdA_lp3 m c t s hk hd) rfl

theorem atA_L4 (c : Dev nD) (t : Fin grid0.N) (s : Slots) (hk : kb (pt t) = 0) (hd : kb (pt t) < qb (pt t)) :
    row1 (F := F) (View.canon (atA m c t s hk hd).2.1) 4 = newL false (row128 (blk2 m c t) 4) (row64 (blk1 m c t) 4) (start (blk0 m c t) 4 (kbF t)) (row1 k0_pay1 4) (row1 k0_pay2 4) :=
  by
  refine canon_other1 (h := 4) (k := 7) (by decide) <| canon_other1 (h := 4) (k := 6) (by decide) <| canon_other1 (h := 4) (k := 5) (by decide) <| canon_here1 4 _ _ <| newL_of (mp' := runA.sl.v347 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (lp' := runA.sl.v486 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd)) (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off2_eq t 4)) (rdA_mp4 m c t s hk hd) (rdA_lp4 m c t s hk hd) rfl

theorem atA_L5 (c : Dev nD) (t : Fin grid0.N) (s : Slots) (hk : kb (pt t) = 0) (hd : kb (pt t) < qb (pt t)) :
    row1 (F := F) (View.canon (atA m c t s hk hd).2.1) 5 = newL false (row128 (blk2 m c t) 5) (row64 (blk1 m c t) 5) (start (blk0 m c t) 5 (kbF t)) (row1 k0_pay1 5) (row1 k0_pay2 5) :=
  by
  refine canon_other1 (h := 5) (k := 7) (by decide) <| canon_other1 (h := 5) (k := 6) (by decide) <| canon_here1 5 _ _ <| newL_of (mp' := runA.sl.v435 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (lp' := runA.sl.v574 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd)) (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off2_eq t 5)) (rdA_mp5 m c t s hk hd) (rdA_lp5 m c t s hk hd) rfl

theorem atA_L6 (c : Dev nD) (t : Fin grid0.N) (s : Slots) (hk : kb (pt t) = 0) (hd : kb (pt t) < qb (pt t)) :
    row1 (F := F) (View.canon (atA m c t s hk hd).2.1) 6 = newL false (row128 (blk2 m c t) 6) (row64 (blk1 m c t) 6) (start (blk0 m c t) 6 (kbF t)) (row1 k0_pay1 6) (row1 k0_pay2 6) :=
  by
  refine canon_other1 (h := 6) (k := 7) (by decide) <| canon_here1 6 _ _ <| newL_of (mp' := runA.sl.v523 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (lp' := runA.sl.v662 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd)) (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off2_eq t 6)) (rdA_mp6 m c t s hk hd) (rdA_lp6 m c t s hk hd) rfl

theorem atA_L7 (c : Dev nD) (t : Fin grid0.N) (s : Slots) (hk : kb (pt t) = 0) (hd : kb (pt t) < qb (pt t)) :
    row1 (F := F) (View.canon (atA m c t s hk hd).2.1) 7 = newL false (row128 (blk2 m c t) 7) (row64 (blk1 m c t) 7) (start (blk0 m c t) 7 (kbF t)) (row1 k0_pay1 7) (row1 k0_pay2 7) :=
  by
  refine canon_here1 7 _ _ <| newL_of (mp' := runA.sl.v611 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (lp' := runA.sl.v687 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hoff t).mpr hd)) (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off2_eq t 7)) (rdA_mp7 m c t s hk hd) (rdA_lp7 m c t s hk hd) rfl

theorem atA_A0 (c : Dev nD) (t : Fin grid0.N) (s : Slots) (hk : kb (pt t) = 0) (hd : kb (pt t) < qb (pt t)) :
    row64 (F := F) (φ := .f32) (View.canon (atA m c t s hk hd).2.2.1) 0 = newA false (row128 (blk2 m c t) 0) (row64 (blk1 m c t) 0) (start (blk0 m c t) 0 (kbF t)) (row1 k0_pay1 0) (row64 k0_pay3 0) (row64 (blk3 m c t) 0) :=
  by
  refine canon_other64 (h := 0) (k := 7) (by decide) <| canon_other64 (h := 0) (k := 6) (by decide) <| canon_other64 (h := 0) (k := 5) (by decide) <| canon_other64 (h := 0) (k := 4) (by decide) <| canon_other64 (h := 0) (k := 3) (by decide) <| canon_other64 (h := 0) (k := 2) (by decide) <| canon_other64 (h := 0) (k := 1) (by decide) <| canon_here64 0 _ _ <| newA_of (mp' := runA.sl.v31 (F := F) c (Memref.whole cc0_scratch0)) (ap' := runA.sl.v232 (F := F) c (Memref.whole cc0_scratch2)) (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off2_eq t 0)) (rdA_mp0 c t s hk hd) (rdA_ap0 c t s hk hd) (load64 (M := spec0_3.stage (s 3)) (hstage0_3 ((s 3).cast nbuf0_3)) (blk3 m c t) 0) rfl

theorem atA_A1 (c : Dev nD) (t : Fin grid0.N) (s : Slots) (hk : kb (pt t) = 0) (hd : kb (pt t) < qb (pt t)) :
    row64 (F := F) (φ := .f32) (View.canon (atA m c t s hk hd).2.2.1) 1 = newA false (row128 (blk2 m c t) 1) (row64 (blk1 m c t) 1) (start (blk0 m c t) 1 (kbF t)) (row1 k0_pay1 1) (row64 k0_pay3 1) (row64 (blk3 m c t) 1) :=
  by
  refine canon_other64 (h := 1) (k := 7) (by decide) <| canon_other64 (h := 1) (k := 6) (by decide) <| canon_other64 (h := 1) (k := 5) (by decide) <| canon_other64 (h := 1) (k := 4) (by decide) <| canon_other64 (h := 1) (k := 3) (by decide) <| canon_other64 (h := 1) (k := 2) (by decide) <| canon_here64 1 _ _ <| newA_of (mp' := runA.sl.v94 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (ap' := runA.sl.v320 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd)) (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off2_eq t 1)) (rdA_mp1 m c t s hk hd) (rdA_ap1 m c t s hk hd) (load64 (M := spec0_3.stage (s 3)) (hstage0_3 ((s 3).cast nbuf0_3)) (blk3 m c t) 1) rfl

theorem atA_A2 (c : Dev nD) (t : Fin grid0.N) (s : Slots) (hk : kb (pt t) = 0) (hd : kb (pt t) < qb (pt t)) :
    row64 (F := F) (φ := .f32) (View.canon (atA m c t s hk hd).2.2.1) 2 = newA false (row128 (blk2 m c t) 2) (row64 (blk1 m c t) 2) (start (blk0 m c t) 2 (kbF t)) (row1 k0_pay1 2) (row64 k0_pay3 2) (row64 (blk3 m c t) 2) :=
  by
  refine canon_other64 (h := 2) (k := 7) (by decide) <| canon_other64 (h := 2) (k := 6) (by decide) <| canon_other64 (h := 2) (k := 5) (by decide) <| canon_other64 (h := 2) (k := 4) (by decide) <| canon_other64 (h := 2) (k := 3) (by decide) <| canon_here64 2 _ _ <| newA_of (mp' := runA.sl.v171 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (ap' := runA.sl.v408 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd)) (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off2_eq t 2)) (rdA_mp2 m c t s hk hd) (rdA_ap2 m c t s hk hd) (load64 (M := spec0_3.stage (s 3)) (hstage0_3 ((s 3).cast nbuf0_3)) (blk3 m c t) 2) rfl

theorem atA_A3 (c : Dev nD) (t : Fin grid0.N) (s : Slots) (hk : kb (pt t) = 0) (hd : kb (pt t) < qb (pt t)) :
    row64 (F := F) (φ := .f32) (View.canon (atA m c t s hk hd).2.2.1) 3 = newA false (row128 (blk2 m c t) 3) (row64 (blk1 m c t) 3) (start (blk0 m c t) 3 (kbF t)) (row1 k0_pay1 3) (row64 k0_pay3 3) (row64 (blk3 m c t) 3) :=
  by
  refine canon_other64 (h := 3) (k := 7) (by decide) <| canon_other64 (h := 3) (k := 6) (by decide) <| canon_other64 (h := 3) (k := 5) (by decide) <| canon_other64 (h := 3) (k := 4) (by decide) <| canon_here64 3 _ _ <| newA_of (mp' := runA.sl.v259 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (ap' := runA.sl.v496 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd)) (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off2_eq t 3)) (rdA_mp3 m c t s hk hd) (rdA_ap3 m c t s hk hd) (load64 (M := spec0_3.stage (s 3)) (hstage0_3 ((s 3).cast nbuf0_3)) (blk3 m c t) 3) rfl

theorem atA_A4 (c : Dev nD) (t : Fin grid0.N) (s : Slots) (hk : kb (pt t) = 0) (hd : kb (pt t) < qb (pt t)) :
    row64 (F := F) (φ := .f32) (View.canon (atA m c t s hk hd).2.2.1) 4 = newA false (row128 (blk2 m c t) 4) (row64 (blk1 m c t) 4) (start (blk0 m c t) 4 (kbF t)) (row1 k0_pay1 4) (row64 k0_pay3 4) (row64 (blk3 m c t) 4) :=
  by
  refine canon_other64 (h := 4) (k := 7) (by decide) <| canon_other64 (h := 4) (k := 6) (by decide) <| canon_other64 (h := 4) (k := 5) (by decide) <| canon_here64 4 _ _ <| newA_of (mp' := runA.sl.v347 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (ap' := runA.sl.v584 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd)) (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off2_eq t 4)) (rdA_mp4 m c t s hk hd) (rdA_ap4 m c t s hk hd) (load64 (M := spec0_3.stage (s 3)) (hstage0_3 ((s 3).cast nbuf0_3)) (blk3 m c t) 4) rfl

theorem atA_A5 (c : Dev nD) (t : Fin grid0.N) (s : Slots) (hk : kb (pt t) = 0) (hd : kb (pt t) < qb (pt t)) :
    row64 (F := F) (φ := .f32) (View.canon (atA m c t s hk hd).2.2.1) 5 = newA false (row128 (blk2 m c t) 5) (row64 (blk1 m c t) 5) (start (blk0 m c t) 5 (kbF t)) (row1 k0_pay1 5) (row64 k0_pay3 5) (row64 (blk3 m c t) 5) :=
  by
  refine canon_other64 (h := 5) (k := 7) (by decide) <| canon_other64 (h := 5) (k := 6) (by decide) <| canon_here64 5 _ _ <| newA_of (mp' := runA.sl.v435 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (ap' := runA.sl.v672 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd)) (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off2_eq t 5)) (rdA_mp5 m c t s hk hd) (rdA_ap5 m c t s hk hd) (load64 (M := spec0_3.stage (s 3)) (hstage0_3 ((s 3).cast nbuf0_3)) (blk3 m c t) 5) rfl

theorem atA_A6 (c : Dev nD) (t : Fin grid0.N) (s : Slots) (hk : kb (pt t) = 0) (hd : kb (pt t) < qb (pt t)) :
    row64 (F := F) (φ := .f32) (View.canon (atA m c t s hk hd).2.2.1) 6 = newA false (row128 (blk2 m c t) 6) (row64 (blk1 m c t) 6) (start (blk0 m c t) 6 (kbF t)) (row1 k0_pay1 6) (row64 k0_pay3 6) (row64 (blk3 m c t) 6) :=
  by
  refine canon_other64 (h := 6) (k := 7) (by decide) <| canon_here64 6 _ _ <| newA_of (mp' := runA.sl.v523 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (ap' := runA.sl.v697 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd)) (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off2_eq t 6)) (rdA_mp6 m c t s hk hd) (rdA_ap6 m c t s hk hd) (load64 (M := spec0_3.stage (s 3)) (hstage0_3 ((s 3).cast nbuf0_3)) (blk3 m c t) 6) rfl

theorem atA_A7 (c : Dev nD) (t : Fin grid0.N) (s : Slots) (hk : kb (pt t) = 0) (hd : kb (pt t) < qb (pt t)) :
    row64 (F := F) (φ := .f32) (View.canon (atA m c t s hk hd).2.2.1) 7 = newA false (row128 (blk2 m c t) 7) (row64 (blk1 m c t) 7) (start (blk0 m c t) 7 (kbF t)) (row1 k0_pay1 7) (row64 k0_pay3 7) (row64 (blk3 m c t) 7) :=
  by
  refine canon_here64 7 _ _ <| newA_of (mp' := runA.sl.v611 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hoff t).mpr hd)) (ap' := runA.sl.v708 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hoff t).mpr hd)) (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off2_eq t 7)) (rdA_mp7 m c t s hk hd) (rdA_ap7 m c t s hk hd) (load64 (M := spec0_3.stage (s 3)) (hstage0_3 ((s 3).cast nbuf0_3)) (blk3 m c t) 7) rfl

end Cert.KernelIdeal.Flash

end
-- ==== Proof.Flash.KernelIdeal.StepB.lean ====
module

public import proofs.«01_k».proof.Proof.Flash.KernelIdeal.Loads

@[expose] public section

set_option maxRecDepth 16384

noncomputable section

namespace Cert.KernelIdeal.Flash

open Idealize.ShloMosaic Idealize.ShloMosaic.TcCoe
open Cert.KernelIdeal Cert.KernelIdeal.Gen

variable {F : FTy → Type} [FloatOps F]

variable (m : (ℓ : Loc nD τ sig) → Buf (Elt F) ℓ)

/-! Run B, row by row: each row it leaves is the head's step of the rows it found. -/

theorem atB_M0 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 0 = newM false (row128 (blk2 m c t) 0) (row64 (blk1 m c t) 0) (start (blk0 m c t) 0 (kbF t)) (row1 xm 0) :=
  canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <|
  newM_of (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off2_eq t 0)) (load1 (M := Memref.whole cc0_scratch0) (Memref.isWhole_whole _) xm 0) rfl

theorem atB_M1 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 1 = newM false (row128 (blk2 m c t) 1) (row64 (blk1 m c t) 1) (start (blk0 m c t) 1 (kbF t)) (row1 xm 1) :=
  canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <|
  newM_of (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off2_eq t 1)) (load1 (M := Memref.whole cc0_scratch0) (Memref.isWhole_whole _) xm 1) rfl

theorem atB_M2 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 2 = newM false (row128 (blk2 m c t) 2) (row64 (blk1 m c t) 2) (start (blk0 m c t) 2 (kbF t)) (row1 xm 2) :=
  canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <|
  newM_of (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off2_eq t 2)) (load1 (M := Memref.whole cc0_scratch0) (Memref.isWhole_whole _) xm 2) rfl

theorem atB_M3 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 3 = newM false (row128 (blk2 m c t) 3) (row64 (blk1 m c t) 3) (start (blk0 m c t) 3 (kbF t)) (row1 xm 3) :=
  canon_other1 (h := 3) (k := 7) (by decide) <| canon_other1 (h := 3) (k := 6) (by decide) <| canon_other1 (h := 3) (k := 5) (by decide) <| canon_other1 (h := 3) (k := 4) (by decide) <| canon_here1 3 _ _ <|
  newM_of (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off2_eq t 3)) (load1 (M := Memref.whole cc0_scratch0) (Memref.isWhole_whole _) xm 3) rfl

theorem atB_M4 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 4 = newM false (row128 (blk2 m c t) 4) (row64 (blk1 m c t) 4) (start (blk0 m c t) 4 (kbF t)) (row1 xm 4) :=
  canon_other1 (h := 4) (k := 7) (by decide) <| canon_other1 (h := 4) (k := 6) (by decide) <| canon_other1 (h := 4) (k := 5) (by decide) <| canon_here1 4 _ _ <|
  newM_of (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off2_eq t 4)) (load1 (M := Memref.whole cc0_scratch0) (Memref.isWhole_whole _) xm 4) rfl

theorem atB_M5 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 5 = newM false (row128 (blk2 m c t) 5) (row64 (blk1 m c t) 5) (start (blk0 m c t) 5 (kbF t)) (row1 xm 5) :=
  canon_other1 (h := 5) (k := 7) (by decide) <| canon_other1 (h := 5) (k := 6) (by decide) <| canon_here1 5 _ _ <|
  newM_of (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off2_eq t 5)) (load1 (M := Memref.whole cc0_scratch0) (Memref.isWhole_whole _) xm 5) rfl

theorem atB_M6 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 6 = newM false (row128 (blk2 m c t) 6) (row64 (blk1 m c t) 6) (start (blk0 m c t) 6 (kbF t)) (row1 xm 6) :=
  canon_other1 (h := 6) (k := 7) (by decide) <| canon_here1 6 _ _ <|
  newM_of (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off2_eq t 6)) (load1 (M := Memref.whole cc0_scratch0) (Memref.isWhole_whole _) xm 6) rfl

theorem atB_M7 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).1) 7 = newM false (row128 (blk2 m c t) 7) (row64 (blk1 m c t) 7) (start (blk0 m c t) 7 (kbF t)) (row1 xm 7) :=
  canon_here1 7 _ _ <|
  newM_of (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off2_eq t 7)) (load1 (M := Memref.whole cc0_scratch0) (Memref.isWhole_whole _) xm 7) rfl

theorem atB_L0 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 0 = newL false (row128 (blk2 m c t) 0) (row64 (blk1 m c t) 0) (start (blk0 m c t) 0 (kbF t)) (row1 xm 0) (row1 xl 0) :=
  canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <|
  newL_of (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off2_eq t 0)) (load1 (M := Memref.whole cc0_scratch0) (Memref.isWhole_whole _) xm 0) (load1 (M := Memref.whole cc0_scratch1) (Memref.isWhole_whole _) xl 0) rfl

theorem atB_L1 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 1 = newL false (row128 (blk2 m c t) 1) (row64 (blk1 m c t) 1) (start (blk0 m c t) 1 (kbF t)) (row1 xm 1) (row1 xl 1) :=
  canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <|
  newL_of (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off2_eq t 1)) (load1 (M := Memref.whole cc0_scratch0) (Memref.isWhole_whole _) xm 1) (load1 (M := Memref.whole cc0_scratch1) (Memref.isWhole_whole _) xl 1) rfl

theorem atB_L2 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 2 = newL false (row128 (blk2 m c t) 2) (row64 (blk1 m c t) 2) (start (blk0 m c t) 2 (kbF t)) (row1 xm 2) (row1 xl 2) :=
  canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <|
  newL_of (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off2_eq t 2)) (load1 (M := Memref.whole cc0_scratch0) (Memref.isWhole_whole _) xm 2) (load1 (M := Memref.whole cc0_scratch1) (Memref.isWhole_whole _) xl 2) rfl

theorem atB_L3 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 3 = newL false (row128 (blk2 m c t) 3) (row64 (blk1 m c t) 3) (start (blk0 m c t) 3 (kbF t)) (row1 xm 3) (row1 xl 3) :=
  canon_other1 (h := 3) (k := 7) (by decide) <| canon_other1 (h := 3) (k := 6) (by decide) <| canon_other1 (h := 3) (k := 5) (by decide) <| canon_other1 (h := 3) (k := 4) (by decide) <| canon_here1 3 _ _ <|
  newL_of (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off2_eq t 3)) (load1 (M := Memref.whole cc0_scratch0) (Memref.isWhole_whole _) xm 3) (load1 (M := Memref.whole cc0_scratch1) (Memref.isWhole_whole _) xl 3) rfl

theorem atB_L4 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 4 = newL false (row128 (blk2 m c t) 4) (row64 (blk1 m c t) 4) (start (blk0 m c t) 4 (kbF t)) (row1 xm 4) (row1 xl 4) :=
  canon_other1 (h := 4) (k := 7) (by decide) <| canon_other1 (h := 4) (k := 6) (by decide) <| canon_other1 (h := 4) (k := 5) (by decide) <| canon_here1 4 _ _ <|
  newL_of (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off2_eq t 4)) (load1 (M := Memref.whole cc0_scratch0) (Memref.isWhole_whole _) xm 4) (load1 (M := Memref.whole cc0_scratch1) (Memref.isWhole_whole _) xl 4) rfl

theorem atB_L5 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 5 = newL false (row128 (blk2 m c t) 5) (row64 (blk1 m c t) 5) (start (blk0 m c t) 5 (kbF t)) (row1 xm 5) (row1 xl 5) :=
  canon_other1 (h := 5) (k := 7) (by decide) <| canon_other1 (h := 5) (k := 6) (by decide) <| canon_here1 5 _ _ <|
  newL_of (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off2_eq t 5)) (load1 (M := Memref.whole cc0_scratch0) (Memref.isWhole_whole _) xm 5) (load1 (M := Memref.whole cc0_scratch1) (Memref.isWhole_whole _) xl 5) rfl

theorem atB_L6 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 6 = newL false (row128 (blk2 m c t) 6) (row64 (blk1 m c t) 6) (start (blk0 m c t) 6 (kbF t)) (row1 xm 6) (row1 xl 6) :=
  canon_other1 (h := 6) (k := 7) (by decide) <| canon_here1 6 _ _ <|
  newL_of (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off2_eq t 6)) (load1 (M := Memref.whole cc0_scratch0) (Memref.isWhole_whole _) xm 6) (load1 (M := Memref.whole cc0_scratch1) (Memref.isWhole_whole _) xl 6) rfl

theorem atB_L7 (c : Dev nD) (t : Fin grid0.N) (s : Slots) (hk : ¬kb (pt t) = 0) (hd : kb (pt t) < qb (pt t)) (xm xl : Vec F S8x1x512 .f32) (xa : Vec F S8x64x512 .f32) :
    row1 (F := F) (View.canon (atB m c t s hk hd xm xl xa).2.1) 7 = newL false (row128 (blk2 m c t) 7) (row64 (blk1 m c t) 7) (start (blk0 m c t) 7 (kbF t)) (row1 xm 7) (row1 xl 7) :=
  canon_here1 7 _ _ <|
  newL_of (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off2_eq t 7)) (load1 (M := Memref.whole cc0_scratch0) (Memref.isWhole_whole _) xm 7) (load1 (M := Memref.whole cc0_scratch1) (Memref.isWhole_whole _) xl 7) rfl

theorem atB_A0 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 0 = newA false (row128 (blk2 m c t) 0) (row64 (blk1 m c t) 0) (start (blk0 m c t) 0 (kbF t)) (row1 xm 0) (row64 xa 0) (row64 (blk3 m c t) 0) :=
  canon_other64 (h := 0) (k := 7) (by decide) <| canon_other64 (h := 0) (k := 6) (by decide) <| canon_other64 (h := 0) (k := 5) (by decide) <| canon_other64 (h := 0) (k := 4) (by decide) <| canon_other64 (h := 0) (k := 3) (by decide) <| canon_other64 (h := 0) (k := 2) (by decide) <| canon_other64 (h := 0) (k := 1) (by decide) <| canon_here64 0 _ _ <|
  newA_of (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off2_eq t 0)) (load1 (M := Memref.whole cc0_scratch0) (Memref.isWhole_whole _) xm 0) (load64 (M := Memref.whole cc0_scratch2) (Memref.isWhole_whole _) xa 0) (load64 (M := spec0_3.stage (s 3)) (hstage0_3 ((s 3).cast nbuf0_3)) (blk3 m c t) 0) rfl

theorem atB_A1 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 1 = newA false (row128 (blk2 m c t) 1) (row64 (blk1 m c t) 1) (start (blk0 m c t) 1 (kbF t)) (row1 xm 1) (row64 xa 1) (row64 (blk3 m c t) 1) :=
  canon_other64 (h := 1) (k := 7) (by decide) <| canon_other64 (h := 1) (k := 6) (by decide) <| canon_other64 (h := 1) (k := 5) (by decide) <| canon_other64 (h := 1) (k := 4) (by decide) <| canon_other64 (h := 1) (k := 3) (by decide) <| canon_other64 (h := 1) (k := 2) (by decide) <| canon_here64 1 _ _ <|
  newA_of (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off2_eq t 1)) (load1 (M := Memref.whole cc0_scratch0) (Memref.isWhole_whole _) xm 1) (load64 (M := Memref.whole cc0_scratch2) (Memref.isWhole_whole _) xa 1) (load64 (M := spec0_3.stage (s 3)) (hstage0_3 ((s 3).cast nbuf0_3)) (blk3 m c t) 1) rfl

theorem atB_A2 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 2 = newA false (row128 (blk2 m c t) 2) (row64 (blk1 m c t) 2) (start (blk0 m c t) 2 (kbF t)) (row1 xm 2) (row64 xa 2) (row64 (blk3 m c t) 2) :=
  canon_other64 (h := 2) (k := 7) (by decide) <| canon_other64 (h := 2) (k := 6) (by decide) <| canon_other64 (h := 2) (k := 5) (by decide) <| canon_other64 (h := 2) (k := 4) (by decide) <| canon_other64 (h := 2) (k := 3) (by decide) <| canon_here64 2 _ _ <|
  newA_of (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off2_eq t 2)) (load1 (M := Memref.whole cc0_scratch0) (Memref.isWhole_whole _) xm 2) (load64 (M := Memref.whole cc0_scratch2) (Memref.isWhole_whole _) xa 2) (load64 (M := spec0_3.stage (s 3)) (hstage0_3 ((s 3).cast nbuf0_3)) (blk3 m c t) 2) rfl

theorem atB_A3 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 3 = newA false (row128 (blk2 m c t) 3) (row64 (blk1 m c t) 3) (start (blk0 m c t) 3 (kbF t)) (row1 xm 3) (row64 xa 3) (row64 (blk3 m c t) 3) :=
  canon_other64 (h := 3) (k := 7) (by decide) <| canon_other64 (h := 3) (k := 6) (by decide) <| canon_other64 (h := 3) (k := 5) (by decide) <| canon_other64 (h := 3) (k := 4) (by decide) <| canon_here64 3 _ _ <|
  newA_of (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off2_eq t 3)) (load1 (M := Memref.whole cc0_scratch0) (Memref.isWhole_whole _) xm 3) (load64 (M := Memref.whole cc0_scratch2) (Memref.isWhole_whole _) xa 3) (load64 (M := spec0_3.stage (s 3)) (hstage0_3 ((s 3).cast nbuf0_3)) (blk3 m c t) 3) rfl

theorem atB_A4 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 4 = newA false (row128 (blk2 m c t) 4) (row64 (blk1 m c t) 4) (start (blk0 m c t) 4 (kbF t)) (row1 xm 4) (row64 xa 4) (row64 (blk3 m c t) 4) :=
  canon_other64 (h := 4) (k := 7) (by decide) <| canon_other64 (h := 4) (k := 6) (by decide) <| canon_other64 (h := 4) (k := 5) (by decide) <| canon_here64 4 _ _ <|
  newA_of (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off2_eq t 4)) (load1 (M := Memref.whole cc0_scratch0) (Memref.isWhole_whole _) xm 4) (load64 (M := Memref.whole cc0_scratch2) (Memref.isWhole_whole _) xa 4) (load64 (M := spec0_3.stage (s 3)) (hstage0_3 ((s 3).cast nbuf0_3)) (blk3 m c t) 4) rfl

theorem atB_A5 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 5 = newA false (row128 (blk2 m c t) 5) (row64 (blk1 m c t) 5) (start (blk0 m c t) 5 (kbF t)) (row1 xm 5) (row64 xa 5) (row64 (blk3 m c t) 5) :=
  canon_other64 (h := 5) (k := 7) (by decide) <| canon_other64 (h := 5) (k := 6) (by decide) <| canon_here64 5 _ _ <|
  newA_of (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off2_eq t 5)) (load1 (M := Memref.whole cc0_scratch0) (Memref.isWhole_whole _) xm 5) (load64 (M := Memref.whole cc0_scratch2) (Memref.isWhole_whole _) xa 5) (load64 (M := spec0_3.stage (s 3)) (hstage0_3 ((s 3).cast nbuf0_3)) (blk3 m c t) 5) rfl

theorem atB_A6 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 6 = newA false (row128 (blk2 m c t) 6) (row64 (blk1 m c t) 6) (start (blk0 m c t) 6 (kbF t)) (row1 xm 6) (row64 xa 6) (row64 (blk3 m c t) 6) :=
  canon_other64 (h := 6) (k := 7) (by decide) <| canon_here64 6 _ _ <|
  newA_of (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off2_eq t 6)) (load1 (M := Memref.whole cc0_scratch0) (Memref.isWhole_whole _) xm 6) (load64 (M := Memref.whole cc0_scratch2) (Memref.isWhole_whole _) xa 6) (load64 (M := spec0_3.stage (s 3)) (hstage0_3 ((s 3).cast nbuf0_3)) (blk3 m c t) 6) rfl

theorem atB_A7 (c : Dev nD) (t : Fin grid0.N) (s : Slots) (hk : ¬kb (pt t) = 0) (hd : kb (pt t) < qb (pt t)) (xm xl : Vec F S8x1x512 .f32) (xa : Vec F S8x64x512 .f32) :
    row64 (F := F) (φ := .f32) (View.canon (atB m c t s hk hd xm xl xa).2.2.1) 7 = newA false (row128 (blk2 m c t) 7) (row64 (blk1 m c t) 7) (start (blk0 m c t) 7 (kbF t)) (row1 xm 7) (row64 xa 7) (row64 (blk3 m c t) 7) :=
  canon_here64 7 _ _ <|
  newA_of (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off2_eq t 7)) (load1 (M := Memref.whole cc0_scratch0) (Memref.isWhole_whole _) xm 7) (load64 (M := Memref.whole cc0_scratch2) (Memref.isWhole_whole _) xa 7) (load64 (M := spec0_3.stage (s 3)) (hstage0_3 ((s 3).cast nbuf0_3)) (blk3 m c t) 7) rfl

end Cert.KernelIdeal.Flash

end
-- ==== Proof.Flash.KernelIdeal.StepC.lean ====
module

public import proofs.«01_k».proof.Proof.Flash.KernelIdeal.Loads

@[expose] public section

set_option maxRecDepth 16384

noncomputable section

namespace Cert.KernelIdeal.Flash

open Idealize.ShloMosaic Idealize.ShloMosaic.TcCoe
open Cert.KernelIdeal Cert.KernelIdeal.Gen

variable {F : FTy → Type} [FloatOps F]

variable (m : (ℓ : Loc nD τ sig) → Buf (Elt F) ℓ)

/-! Run C, row by row: each row it leaves is the head's step of the rows it found. -/

theorem rdC_mp0 (c : Dev nD) (t : Fin grid0.N) (s : Slots) (hk : kb (pt t) = 0) (hd : kb (pt t) = qb (pt t)) :
    runC.sl.v36 (F := F) c (Memref.whole cc0_scratch0) = row1 k0_pay1 0 :=
  ((readRow1 (v := (Memref.whole cc0_scratch0).view) _ 0).trans ((canon_all1 inb_S8x1x512_S8x1x512_0_0_0 k0_pay1 [] 0)))

theorem rdC_lp0 (c : Dev nD) (t : Fin grid0.N) (s : Slots) (hk : kb (pt t) = 0) (hd : kb (pt t) = qb (pt t)) :
    runC.sl.v160 (F := F) c (Memref.whole cc0_scratch1) = row1 k0_pay2 0 :=
  ((readRow1 (v := (Memref.whole cc0_scratch1).view) _ 0).trans ((canon_all1 inb_S8x1x512_S8x1x512_0_0_0 k0_pay2 [] 0)))

theorem rdC_ap0 (c : Dev nD) (t : Fin grid0.N) (s : Slots) (hk : kb (pt t) = 0) (hd : kb (pt t) = qb (pt t)) :
    runC.sl.v257 (F := F) c (Memref.whole cc0_scratch2) = row64 (φ := .f32) k0_pay3 0 :=
  ((readRow64 (v := (Memref.whole cc0_scratch2).view) _ 0).trans ((canon_all64 inb_S8x64x512_S8x64x512_0_0_0 k0_pay3 [] 0)))

theorem rdC_mp1 (c : Dev nD) (t : Fin grid0.N) (s : Slots) (hk : kb (pt t) = 0) (hd : kb (pt t) = qb (pt t)) :
    runC.sl.v104 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd) = row1 k0_pay1 1 :=
  ((readRow1 (v := (Memref.whole cc0_scratch0).view) _ 1).trans ((canon_other1 (h := 1) (k := 0) (by decide) <| canon_all1 inb_S8x1x512_S8x1x512_0_0_0 k0_pay1 [] 1)))

theorem rdC_lp1 (c : Dev nD) (t : Fin grid0.N) (s : Slots) (hk : kb (pt t) = 0) (hd : kb (pt t) = qb (pt t)) :
    runC.sl.v247 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd) = row1 k0_pay2 1 :=
  ((readRow1 (v := (Memref.whole cc0_scratch1).view) _ 1).trans ((canon_other1 (h := 1) (k := 0) (by decide) <| canon_all1 inb_S8x1x512_S8x1x512_0_0_0 k0_pay2 [] 1)))

theorem rdC_ap1 (c : Dev nD) (t : Fin grid0.N) (s : Slots) (hk : kb (pt t) = 0) (hd : kb (pt t) = qb (pt t)) :
    runC.sl.v355 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd) = row64 (φ := .f32) k0_pay3 1 :=
  ((readRow64 (v := (Memref.whole cc0_scratch2).view) _ 1).trans ((canon_other64 (h := 1) (k := 0) (by decide) <| canon_all64 inb_S8x64x512_S8x64x512_0_0_0 k0_pay3 [] 1)))

theorem rdC_mp2 (c : Dev nD) (t : Fin grid0.N) (s : Slots) (hk : kb (pt t) = 0) (hd : kb (pt t) = qb (pt t)) :
    runC.sl.v191 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd) = row1 k0_pay1 2 :=
  ((readRow1 (v := (Memref.whole cc0_scratch0).view) _ 2).trans ((canon_other1 (h := 2) (k := 1) (by decide) <| canon_other1 (h := 2) (k := 0) (by decide) <| canon_all1 inb_S8x1x512_S8x1x512_0_0_0 k0_pay1 [] 2)))

theorem rdC_lp2 (c : Dev nD) (t : Fin grid0.N) (s : Slots) (hk : kb (pt t) = 0) (hd : kb (pt t) = qb (pt t)) :
    runC.sl.v345 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd) = row1 k0_pay2 2 :=
  ((readRow1 (v := (Memref.whole cc0_scratch1).view) _ 2).trans ((canon_other1 (h := 2) (k := 1) (by decide) <| canon_other1 (h := 2) (k := 0) (by decide) <| canon_all1 inb_S8x1x512_S8x1x512_0_0_0 k0_pay2 [] 2)))

theorem rdC_ap2 (c : Dev nD) (t : Fin grid0.N) (s : Slots) (hk : kb (pt t) = 0) (hd : kb (pt t) = qb (pt t)) :
    runC.sl.v453 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd) = row64 (φ := .f32) k0_pay3 2 :=
  ((readRow64 (v := (Memref.whole cc0_scratch2).view) _ 2).trans ((canon_other64 (h := 2) (k := 1) (by decide) <| canon_other64 (h := 2) (k := 0) (by decide) <| canon_all64 inb_S8x64x512_S8x64x512_0_0_0 k0_pay3 [] 2)))

theorem rdC_mp3 (c : Dev nD) (t : Fin grid0.N) (s : Slots) (hk : kb (pt t) = 0) (hd : kb (pt t) = qb (pt t)) :
    runC.sl.v289 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd) = row1 k0_pay1 3 :=
  ((readRow1 (v := (Memref.whole cc0_scratch0).view) _ 3).trans ((canon_other1 (h := 3) (k := 2) (by decide) <| canon_other1 (h := 3) (k := 1) (by decide) <| canon_other1 (h := 3) (k := 0) (by decide) <| canon_all1 inb_S8x1x512_S8x1x512_0_0_0 k0_pay1 [] 3)))

theorem rdC_lp3 (c : Dev nD) (t : Fin grid0.N) (s : Slots) (hk : kb (pt t) = 0) (hd : kb (pt t) = qb (pt t)) :
    runC.sl.v443 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd) = row1 k0_pay2 3 :=
  ((readRow1 (v := (Memref.whole cc0_scratch1).view) _ 3).trans ((canon_other1 (h := 3) (k := 2) (by decide) <| canon_other1 (h := 3) (k := 1) (by decide) <| canon_other1 (h := 3) (k := 0) (by decide) <| canon_all1 inb_S8x1x512_S8x1x512_0_0_0 k0_pay2 [] 3)))

theorem rdC_ap3 (c : Dev nD) (t : Fin grid0.N) (s : Slots) (hk : kb (pt t) = 0) (hd : kb (pt t) = qb (pt t)) :
    runC.sl.v551 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd) = row64 (φ := .f32) k0_pay3 3 :=
  ((readRow64 (v := (Memref.whole cc0_scratch2).view) _ 3).trans ((canon_other64 (h := 3) (k := 2) (by decide) <| canon_other64 (h := 3) (k := 1) (by decide) <| canon_other64 (h := 3) (k := 0) (by decide) <| canon_all64 inb_S8x64x512_S8x64x512_0_0_0 k0_pay3 [] 3)))

theorem rdC_mp4 (c : Dev nD) (t : Fin grid0.N) (s : Slots) (hk : kb (pt t) = 0) (hd : kb (pt t) = qb (pt t)) :
    runC.sl.v387 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd) = row1 k0_pay1 4 :=
  ((readRow1 (v := (Memref.whole cc0_scratch0).view) _ 4).trans ((canon_other1 (h := 4) (k := 3) (by decide) <| canon_other1 (h := 4) (k := 2) (by decide) <| canon_other1 (h := 4) (k := 1) (by decide) <| canon_other1 (h := 4) (k := 0) (by decide) <| canon_all1 inb_S8x1x512_S8x1x512_0_0_0 k0_pay1 [] 4)))

theorem rdC_lp4 (c : Dev nD) (t : Fin grid0.N) (s : Slots) (hk : kb (pt t) = 0) (hd : kb (pt t) = qb (pt t)) :
    runC.sl.v541 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd) = row1 k0_pay2 4 :=
  ((readRow1 (v := (Memref.whole cc0_scratch1).view) _ 4).trans ((canon_other1 (h := 4) (k := 3) (by decide) <| canon_other1 (h := 4) (k := 2) (by decide) <| canon_other1 (h := 4) (k := 1) (by decide) <| canon_other1 (h := 4) (k := 0) (by decide) <| canon_all1 inb_S8x1x512_S8x1x512_0_0_0 k0_pay2 [] 4)))

theorem rdC_ap4 (c : Dev nD) (t : Fin grid0.N) (s : Slots) (hk : kb (pt t) = 0) (hd : kb (pt t) = qb (pt t)) :
    runC.sl.v649 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd) = row64 (φ := .f32) k0_pay3 4 :=
  ((readRow64 (v := (Memref.whole cc0_scratch2).view) _ 4).trans ((canon_other64 (h := 4) (k := 3) (by decide) <| canon_other64 (h := 4) (k := 2) (by decide) <| canon_other64 (h := 4) (k := 1) (by decide) <| canon_other64 (h := 4) (k := 0) (by decide) <| canon_all64 inb_S8x64x512_S8x64x512_0_0_0 k0_pay3 [] 4)))

theorem rdC_mp5 (c : Dev nD) (t : Fin grid0.N) (s : Slots) (hk : kb (pt t) = 0) (hd : kb (pt t) = qb (pt t)) :
    runC.sl.v485 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd) = row1 k0_pay1 5 :=
  ((readRow1 (v := (Memref.whole cc0_scratch0).view) _ 5).trans ((canon_other1 (h := 5) (k := 4) (by decide) <| canon_other1 (h := 5) (k := 3) (by decide) <| canon_other1 (h := 5) (k := 2) (by decide) <| canon_other1 (h := 5) (k := 1) (by decide) <| canon_other1 (h := 5) (k := 0) (by decide) <| canon_all1 inb_S8x1x512_S8x1x512_0_0_0 k0_pay1 [] 5)))

theorem rdC_lp5 (c : Dev nD) (t : Fin grid0.N) (s : Slots) (hk : kb (pt t) = 0) (hd : kb (pt t) = qb (pt t)) :
    runC.sl.v639 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd) = row1 k0_pay2 5 :=
  ((readRow1 (v := (Memref.whole cc0_scratch1).view) _ 5).trans ((canon_other1 (h := 5) (k := 4) (by decide) <| canon_other1 (h := 5) (k := 3) (by decide) <| canon_other1 (h := 5) (k := 2) (by decide) <| canon_other1 (h := 5) (k := 1) (by decide) <| canon_other1 (h := 5) (k := 0) (by decide) <| canon_all1 inb_S8x1x512_S8x1x512_0_0_0 k0_pay2 [] 5)))

theorem rdC_ap5 (c : Dev nD) (t : Fin grid0.N) (s : Slots) (hk : kb (pt t) = 0) (hd : kb (pt t) = qb (pt t)) :
    runC.sl.v747 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd) = row64 (φ := .f32) k0_pay3 5 :=
  ((readRow64 (v := (Memref.whole cc0_scratch2).view) _ 5).trans ((canon_other64 (h := 5) (k := 4) (by decide) <| canon_other64 (h := 5) (k := 3) (by decide) <| canon_other64 (h := 5) (k := 2) (by decide) <| canon_other64 (h := 5) (k := 1) (by decide) <| canon_other64 (h := 5) (k := 0) (by decide) <| canon_all64 inb_S8x64x512_S8x64x512_0_0_0 k0_pay3 [] 5)))

theorem rdC_mp6 (c : Dev nD) (t : Fin grid0.N) (s : Slots) (hk : kb (pt t) = 0) (hd : kb (pt t) = qb (pt t)) :
    runC.sl.v583 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd) = row1 k0_pay1 6 :=
  ((readRow1 (v := (Memref.whole cc0_scratch0).view) _ 6).trans ((canon_other1 (h := 6) (k := 5) (by decide) <| canon_other1 (h := 6) (k := 4) (by decide) <| canon_other1 (h := 6) (k := 3) (by decide) <| canon_other1 (h := 6) (k := 2) (by decide) <| canon_other1 (h := 6) (k := 1) (by decide) <| canon_other1 (h := 6) (k := 0) (by decide) <| canon_all1 inb_S8x1x512_S8x1x512_0_0_0 k0_pay1 [] 6)))

theorem rdC_lp6 (c : Dev nD) (t : Fin grid0.N) (s : Slots) (hk : kb (pt t) = 0) (hd : kb (pt t) = qb (pt t)) :
    runC.sl.v737 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd) = row1 k0_pay2 6 :=
  ((readRow1 (v := (Memref.whole cc0_scratch1).view) _ 6).trans ((canon_other1 (h := 6) (k := 5) (by decide) <| canon_other1 (h := 6) (k := 4) (by decide) <| canon_other1 (h := 6) (k := 3) (by decide) <| canon_other1 (h := 6) (k := 2) (by decide) <| canon_other1 (h := 6) (k := 1) (by decide) <| canon_other1 (h := 6) (k := 0) (by decide) <| canon_all1 inb_S8x1x512_S8x1x512_0_0_0 k0_pay2 [] 6)))

theorem rdC_ap6 (c : Dev nD) (t : Fin grid0.N) (s : Slots) (hk : kb (pt t) = 0) (hd : kb (pt t) = qb (pt t)) :
    runC.sl.v777 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd) = row64 (φ := .f32) k0_pay3 6 :=
  ((readRow64 (v := (Memref.whole cc0_scratch2).view) _ 6).trans ((canon_other64 (h := 6) (k := 5) (by decide) <| canon_other64 (h := 6) (k := 4) (by decide) <| canon_other64 (h := 6) (k := 3) (by decide) <| canon_other64 (h := 6) (k := 2) (by decide) <| canon_other64 (h := 6) (k := 1) (by decide) <| canon_other64 (h := 6) (k := 0) (by decide) <| canon_all64 inb_S8x64x512_S8x64x512_0_0_0 k0_pay3 [] 6)))

theorem rdC_mp7 (c : Dev nD) (t : Fin grid0.N) (s : Slots) (hk : kb (pt t) = 0) (hd : kb (pt t) = qb (pt t)) :
    runC.sl.v681 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd) = row1 k0_pay1 7 :=
  ((readRow1 (v := (Memref.whole cc0_scratch0).view) _ 7).trans ((canon_other1 (h := 7) (k := 6) (by decide) <| canon_other1 (h := 7) (k := 5) (by decide) <| canon_other1 (h := 7) (k := 4) (by decide) <| canon_other1 (h := 7) (k := 3) (by decide) <| canon_other1 (h := 7) (k := 2) (by decide) <| canon_other1 (h := 7) (k := 1) (by decide) <| canon_other1 (h := 7) (k := 0) (by decide) <| canon_all1 inb_S8x1x512_S8x1x512_0_0_0 k0_pay1 [] 7)))

theorem rdC_lp7 (c : Dev nD) (t : Fin grid0.N) (s : Slots) (hk : kb (pt t) = 0) (hd : kb (pt t) = qb (pt t)) :
    runC.sl.v767 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd) = row1 k0_pay2 7 :=
  ((readRow1 (v := (Memref.whole cc0_scratch1).view) _ 7).trans ((canon_other1 (h := 7) (k := 6) (by decide) <| canon_other1 (h := 7) (k := 5) (by decide) <| canon_other1 (h := 7) (k := 4) (by decide) <| canon_other1 (h := 7) (k := 3) (by decide) <| canon_other1 (h := 7) (k := 2) (by decide) <| canon_other1 (h := 7) (k := 1) (by decide) <| canon_other1 (h := 7) (k := 0) (by decide) <| canon_all1 inb_S8x1x512_S8x1x512_0_0_0 k0_pay2 [] 7)))

theorem rdC_ap7 (c : Dev nD) (t : Fin grid0.N) (s : Slots) (hk : kb (pt t) = 0) (hd : kb (pt t) = qb (pt t)) :
    runC.sl.v788 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd) = row64 (φ := .f32) k0_pay3 7 :=
  ((readRow64 (v := (Memref.whole cc0_scratch2).view) _ 7).trans ((canon_other64 (h := 7) (k := 6) (by decide) <| canon_other64 (h := 7) (k := 5) (by decide) <| canon_other64 (h := 7) (k := 4) (by decide) <| canon_other64 (h := 7) (k := 3) (by decide) <| canon_other64 (h := 7) (k := 2) (by decide) <| canon_other64 (h := 7) (k := 1) (by decide) <| canon_other64 (h := 7) (k := 0) (by decide) <| canon_all64 inb_S8x64x512_S8x64x512_0_0_0 k0_pay3 [] 7)))

attribute [local irreducible] runC.sl.v36 runC.sl.v160 runC.sl.v257 runC.sl.v104 runC.sl.v247 runC.sl.v355 runC.sl.v191 runC.sl.v345 runC.sl.v453 runC.sl.v289 runC.sl.v443 runC.sl.v551 runC.sl.v387 runC.sl.v541 runC.sl.v649 runC.sl.v485 runC.sl.v639 runC.sl.v747 runC.sl.v583 runC.sl.v737 runC.sl.v777 runC.sl.v681 runC.sl.v767 runC.sl.v788

theorem atC_M0 (c : Dev nD) (t : Fin grid0.N) (s : Slots) (hk : kb (pt t) = 0) (hd : kb (pt t) = qb (pt t)) :
    row1 (F := F) (View.canon (atC m c t s hk hd).2.1) 0 = newM true (row128 (blk2 m c t) 0) (row64 (blk1 m c t) 0) (start (blk0 m c t) 0 (kbF t)) (row1 k0_pay1 0) :=
  by
  refine canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <| newM_of (mp' := runC.sl.v36 (F := F) c (Memref.whole cc0_scratch0)) (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off3_eq t 0)) (rdC_mp0 c t s hk hd) rfl

theorem atC_M1 (c : Dev nD) (t : Fin grid0.N) (s : Slots) (hk : kb (pt t) = 0) (hd : kb (pt t) = qb (pt t)) :
    row1 (F := F) (View.canon (atC m c t s hk hd).2.1) 1 = newM true (row128 (blk2 m c t) 1) (row64 (blk1 m c t) 1) (start (blk0 m c t) 1 (kbF t)) (row1 k0_pay1 1) :=
  by
  refine canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <| newM_of (mp' := runC.sl.v104 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off3_eq t 1)) (rdC_mp1 m c t s hk hd) rfl

theorem atC_M2 (c : Dev nD) (t : Fin grid0.N) (s : Slots) (hk : kb (pt t) = 0) (hd : kb (pt t) = qb (pt t)) :
    row1 (F := F) (View.canon (atC m c t s hk hd).2.1) 2 = newM true (row128 (blk2 m c t) 2) (row64 (blk1 m c t) 2) (start (blk0 m c t) 2 (kbF t)) (row1 k0_pay1 2) :=
  by
  refine canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <| newM_of (mp' := runC.sl.v191 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off3_eq t 2)) (rdC_mp2 m c t s hk hd) rfl

theorem atC_M3 (c : Dev nD) (t : Fin grid0.N) (s : Slots) (hk : kb (pt t) = 0) (hd : kb (pt t) = qb (pt t)) :
    row1 (F := F) (View.canon (atC m c t s hk hd).2.1) 3 = newM true (row128 (blk2 m c t) 3) (row64 (blk1 m c t) 3) (start (blk0 m c t) 3 (kbF t)) (row1 k0_pay1 3) :=
  by
  refine canon_other1 (h := 3) (k := 7) (by decide) <| canon_other1 (h := 3) (k := 6) (by decide) <| canon_other1 (h := 3) (k := 5) (by decide) <| canon_other1 (h := 3) (k := 4) (by decide) <| canon_here1 3 _ _ <| newM_of (mp' := runC.sl.v289 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off3_eq t 3)) (rdC_mp3 m c t s hk hd) rfl

theorem atC_M4 (c : Dev nD) (t : Fin grid0.N) (s : Slots) (hk : kb (pt t) = 0) (hd : kb (pt t) = qb (pt t)) :
    row1 (F := F) (View.canon (atC m c t s hk hd).2.1) 4 = newM true (row128 (blk2 m c t) 4) (row64 (blk1 m c t) 4) (start (blk0 m c t) 4 (kbF t)) (row1 k0_pay1 4) :=
  by
  refine canon_other1 (h := 4) (k := 7) (by decide) <| canon_other1 (h := 4) (k := 6) (by decide) <| canon_other1 (h := 4) (k := 5) (by decide) <| canon_here1 4 _ _ <| newM_of (mp' := runC.sl.v387 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off3_eq t 4)) (rdC_mp4 m c t s hk hd) rfl

theorem atC_M5 (c : Dev nD) (t : Fin grid0.N) (s : Slots) (hk : kb (pt t) = 0) (hd : kb (pt t) = qb (pt t)) :
    row1 (F := F) (View.canon (atC m c t s hk hd).2.1) 5 = newM true (row128 (blk2 m c t) 5) (row64 (blk1 m c t) 5) (start (blk0 m c t) 5 (kbF t)) (row1 k0_pay1 5) :=
  by
  refine canon_other1 (h := 5) (k := 7) (by decide) <| canon_other1 (h := 5) (k := 6) (by decide) <| canon_here1 5 _ _ <| newM_of (mp' := runC.sl.v485 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off3_eq t 5)) (rdC_mp5 m c t s hk hd) rfl

theorem atC_M6 (c : Dev nD) (t : Fin grid0.N) (s : Slots) (hk : kb (pt t) = 0) (hd : kb (pt t) = qb (pt t)) :
    row1 (F := F) (View.canon (atC m c t s hk hd).2.1) 6 = newM true (row128 (blk2 m c t) 6) (row64 (blk1 m c t) 6) (start (blk0 m c t) 6 (kbF t)) (row1 k0_pay1 6) :=
  by
  refine canon_other1 (h := 6) (k := 7) (by decide) <| canon_here1 6 _ _ <| newM_of (mp' := runC.sl.v583 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off3_eq t 6)) (rdC_mp6 m c t s hk hd) rfl

theorem atC_M7 (c : Dev nD) (t : Fin grid0.N) (s : Slots) (hk : kb (pt t) = 0) (hd : kb (pt t) = qb (pt t)) :
    row1 (F := F) (View.canon (atC m c t s hk hd).2.1) 7 = newM true (row128 (blk2 m c t) 7) (row64 (blk1 m c t) 7) (start (blk0 m c t) 7 (kbF t)) (row1 k0_pay1 7) :=
  by
  refine canon_here1 7 _ _ <| newM_of (mp' := runC.sl.v681 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off3_eq t 7)) (rdC_mp7 m c t s hk hd) rfl

theorem atC_L0 (c : Dev nD) (t : Fin grid0.N) (s : Slots) (hk : kb (pt t) = 0) (hd : kb (pt t) = qb (pt t)) :
    row1 (F := F) (View.canon (atC m c t s hk hd).2.2.1) 0 = newL true (row128 (blk2 m c t) 0) (row64 (blk1 m c t) 0) (start (blk0 m c t) 0 (kbF t)) (row1 k0_pay1 0) (row1 k0_pay2 0) :=
  by
  refine canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <| newL_of (mp' := runC.sl.v36 (F := F) c (Memref.whole cc0_scratch0)) (lp' := runC.sl.v160 (F := F) c (Memref.whole cc0_scratch1)) (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off3_eq t 0)) (rdC_mp0 c t s hk hd) (rdC_lp0 c t s hk hd) rfl

theorem atC_L1 (c : Dev nD) (t : Fin grid0.N) (s : Slots) (hk : kb (pt t) = 0) (hd : kb (pt t) = qb (pt t)) :
    row1 (F := F) (View.canon (atC m c t s hk hd).2.2.1) 1 = newL true (row128 (blk2 m c t) 1) (row64 (blk1 m c t) 1) (start (blk0 m c t) 1 (kbF t)) (row1 k0_pay1 1) (row1 k0_pay2 1) :=
  by
  refine canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <| newL_of (mp' := runC.sl.v104 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (lp' := runC.sl.v247 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd)) (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off3_eq t 1)) (rdC_mp1 m c t s hk hd) (rdC_lp1 m c t s hk hd) rfl

theorem atC_L2 (c : Dev nD) (t : Fin grid0.N) (s : Slots) (hk : kb (pt t) = 0) (hd : kb (pt t) = qb (pt t)) :
    row1 (F := F) (View.canon (atC m c t s hk hd).2.2.1) 2 = newL true (row128 (blk2 m c t) 2) (row64 (blk1 m c t) 2) (start (blk0 m c t) 2 (kbF t)) (row1 k0_pay1 2) (row1 k0_pay2 2) :=
  by
  refine canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <| newL_of (mp' := runC.sl.v191 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (lp' := runC.sl.v345 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd)) (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off3_eq t 2)) (rdC_mp2 m c t s hk hd) (rdC_lp2 m c t s hk hd) rfl

theorem atC_L3 (c : Dev nD) (t : Fin grid0.N) (s : Slots) (hk : kb (pt t) = 0) (hd : kb (pt t) = qb (pt t)) :
    row1 (F := F) (View.canon (atC m c t s hk hd).2.2.1) 3 = newL true (row128 (blk2 m c t) 3) (row64 (blk1 m c t) 3) (start (blk0 m c t) 3 (kbF t)) (row1 k0_pay1 3) (row1 k0_pay2 3) :=
  by
  refine canon_other1 (h := 3) (k := 7) (by decide) <| canon_other1 (h := 3) (k := 6) (by decide) <| canon_other1 (h := 3) (k := 5) (by decide) <| canon_other1 (h := 3) (k := 4) (by decide) <| canon_here1 3 _ _ <| newL_of (mp' := runC.sl.v289 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (lp' := runC.sl.v443 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd)) (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off3_eq t 3)) (rdC_mp3 m c t s hk hd) (rdC_lp3 m c t s hk hd) rfl

theorem atC_L4 (c : Dev nD) (t : Fin grid0.N) (s : Slots) (hk : kb (pt t) = 0) (hd : kb (pt t) = qb (pt t)) :
    row1 (F := F) (View.canon (atC m c t s hk hd).2.2.1) 4 = newL true (row128 (blk2 m c t) 4) (row64 (blk1 m c t) 4) (start (blk0 m c t) 4 (kbF t)) (row1 k0_pay1 4) (row1 k0_pay2 4) :=
  by
  refine canon_other1 (h := 4) (k := 7) (by decide) <| canon_other1 (h := 4) (k := 6) (by decide) <| canon_other1 (h := 4) (k := 5) (by decide) <| canon_here1 4 _ _ <| newL_of (mp' := runC.sl.v387 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (lp' := runC.sl.v541 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd)) (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off3_eq t 4)) (rdC_mp4 m c t s hk hd) (rdC_lp4 m c t s hk hd) rfl

theorem atC_L5 (c : Dev nD) (t : Fin grid0.N) (s : Slots) (hk : kb (pt t) = 0) (hd : kb (pt t) = qb (pt t)) :
    row1 (F := F) (View.canon (atC m c t s hk hd).2.2.1) 5 = newL true (row128 (blk2 m c t) 5) (row64 (blk1 m c t) 5) (start (blk0 m c t) 5 (kbF t)) (row1 k0_pay1 5) (row1 k0_pay2 5) :=
  by
  refine canon_other1 (h := 5) (k := 7) (by decide) <| canon_other1 (h := 5) (k := 6) (by decide) <| canon_here1 5 _ _ <| newL_of (mp' := runC.sl.v485 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (lp' := runC.sl.v639 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd)) (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off3_eq t 5)) (rdC_mp5 m c t s hk hd) (rdC_lp5 m c t s hk hd) rfl

theorem atC_L6 (c : Dev nD) (t : Fin grid0.N) (s : Slots) (hk : kb (pt t) = 0) (hd : kb (pt t) = qb (pt t)) :
    row1 (F := F) (View.canon (atC m c t s hk hd).2.2.1) 6 = newL true (row128 (blk2 m c t) 6) (row64 (blk1 m c t) 6) (start (blk0 m c t) 6 (kbF t)) (row1 k0_pay1 6) (row1 k0_pay2 6) :=
  by
  refine canon_other1 (h := 6) (k := 7) (by decide) <| canon_here1 6 _ _ <| newL_of (mp' := runC.sl.v583 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (lp' := runC.sl.v737 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd)) (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off3_eq t 6)) (rdC_mp6 m c t s hk hd) (rdC_lp6 m c t s hk hd) rfl

theorem atC_L7 (c : Dev nD) (t : Fin grid0.N) (s : Slots) (hk : kb (pt t) = 0) (hd : kb (pt t) = qb (pt t)) :
    row1 (F := F) (View.canon (atC m c t s hk hd).2.2.1) 7 = newL true (row128 (blk2 m c t) 7) (row64 (blk1 m c t) 7) (start (blk0 m c t) 7 (kbF t)) (row1 k0_pay1 7) (row1 k0_pay2 7) :=
  by
  refine canon_here1 7 _ _ <| newL_of (mp' := runC.sl.v681 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (lp' := runC.sl.v767 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.whole cc0_scratch1) (tbl 0) (tbl 1) (blk0 m c t) (blk1 m c t) (blk2 m c t) (hchk t) ((hdiag t).mpr hd)) (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off3_eq t 7)) (rdC_mp7 m c t s hk hd) (rdC_lp7 m c t s hk hd) rfl

theorem atC_A0 (c : Dev nD) (t : Fin grid0.N) (s : Slots) (hk : kb (pt t) = 0) (hd : kb (pt t) = qb (pt t)) :
    row64 (F := F) (φ := .f32) (View.canon (atC m c t s hk hd).2.2.2.1) 0 = newA true (row128 (blk2 m c t) 0) (row64 (blk1 m c t) 0) (start (blk0 m c t) 0 (kbF t)) (row1 k0_pay1 0) (row64 k0_pay3 0) (row64 (blk3 m c t) 0) :=
  by
  refine canon_other64 (h := 0) (k := 7) (by decide) <| canon_other64 (h := 0) (k := 6) (by decide) <| canon_other64 (h := 0) (k := 5) (by decide) <| canon_other64 (h := 0) (k := 4) (by decide) <| canon_other64 (h := 0) (k := 3) (by decide) <| canon_other64 (h := 0) (k := 2) (by decide) <| canon_other64 (h := 0) (k := 1) (by decide) <| canon_here64 0 _ _ <| newA_of (mp' := runC.sl.v36 (F := F) c (Memref.whole cc0_scratch0)) (ap' := runC.sl.v257 (F := F) c (Memref.whole cc0_scratch2)) (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off3_eq t 0)) (rdC_mp0 c t s hk hd) (rdC_ap0 c t s hk hd) (load64 (M := spec0_3.stage (s 3)) (hstage0_3 ((s 3).cast nbuf0_3)) (blk3 m c t) 0) rfl

theorem atC_A1 (c : Dev nD) (t : Fin grid0.N) (s : Slots) (hk : kb (pt t) = 0) (hd : kb (pt t) = qb (pt t)) :
    row64 (F := F) (φ := .f32) (View.canon (atC m c t s hk hd).2.2.2.1) 1 = newA true (row128 (blk2 m c t) 1) (row64 (blk1 m c t) 1) (start (blk0 m c t) 1 (kbF t)) (row1 k0_pay1 1) (row64 k0_pay3 1) (row64 (blk3 m c t) 1) :=
  by
  refine canon_other64 (h := 1) (k := 7) (by decide) <| canon_other64 (h := 1) (k := 6) (by decide) <| canon_other64 (h := 1) (k := 5) (by decide) <| canon_other64 (h := 1) (k := 4) (by decide) <| canon_other64 (h := 1) (k := 3) (by decide) <| canon_other64 (h := 1) (k := 2) (by decide) <| canon_here64 1 _ _ <| newA_of (mp' := runC.sl.v104 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (ap' := runC.sl.v355 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd)) (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off3_eq t 1)) (rdC_mp1 m c t s hk hd) (rdC_ap1 m c t s hk hd) (load64 (M := spec0_3.stage (s 3)) (hstage0_3 ((s 3).cast nbuf0_3)) (blk3 m c t) 1) rfl

theorem atC_A2 (c : Dev nD) (t : Fin grid0.N) (s : Slots) (hk : kb (pt t) = 0) (hd : kb (pt t) = qb (pt t)) :
    row64 (F := F) (φ := .f32) (View.canon (atC m c t s hk hd).2.2.2.1) 2 = newA true (row128 (blk2 m c t) 2) (row64 (blk1 m c t) 2) (start (blk0 m c t) 2 (kbF t)) (row1 k0_pay1 2) (row64 k0_pay3 2) (row64 (blk3 m c t) 2) :=
  by
  refine canon_other64 (h := 2) (k := 7) (by decide) <| canon_other64 (h := 2) (k := 6) (by decide) <| canon_other64 (h := 2) (k := 5) (by decide) <| canon_other64 (h := 2) (k := 4) (by decide) <| canon_other64 (h := 2) (k := 3) (by decide) <| canon_here64 2 _ _ <| newA_of (mp' := runC.sl.v191 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (ap' := runC.sl.v453 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd)) (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off3_eq t 2)) (rdC_mp2 m c t s hk hd) (rdC_ap2 m c t s hk hd) (load64 (M := spec0_3.stage (s 3)) (hstage0_3 ((s 3).cast nbuf0_3)) (blk3 m c t) 2) rfl

theorem atC_A3 (c : Dev nD) (t : Fin grid0.N) (s : Slots) (hk : kb (pt t) = 0) (hd : kb (pt t) = qb (pt t)) :
    row64 (F := F) (φ := .f32) (View.canon (atC m c t s hk hd).2.2.2.1) 3 = newA true (row128 (blk2 m c t) 3) (row64 (blk1 m c t) 3) (start (blk0 m c t) 3 (kbF t)) (row1 k0_pay1 3) (row64 k0_pay3 3) (row64 (blk3 m c t) 3) :=
  by
  refine canon_other64 (h := 3) (k := 7) (by decide) <| canon_other64 (h := 3) (k := 6) (by decide) <| canon_other64 (h := 3) (k := 5) (by decide) <| canon_other64 (h := 3) (k := 4) (by decide) <| canon_here64 3 _ _ <| newA_of (mp' := runC.sl.v289 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (ap' := runC.sl.v551 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd)) (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off3_eq t 3)) (rdC_mp3 m c t s hk hd) (rdC_ap3 m c t s hk hd) (load64 (M := spec0_3.stage (s 3)) (hstage0_3 ((s 3).cast nbuf0_3)) (blk3 m c t) 3) rfl

theorem atC_A4 (c : Dev nD) (t : Fin grid0.N) (s : Slots) (hk : kb (pt t) = 0) (hd : kb (pt t) = qb (pt t)) :
    row64 (F := F) (φ := .f32) (View.canon (atC m c t s hk hd).2.2.2.1) 4 = newA true (row128 (blk2 m c t) 4) (row64 (blk1 m c t) 4) (start (blk0 m c t) 4 (kbF t)) (row1 k0_pay1 4) (row64 k0_pay3 4) (row64 (blk3 m c t) 4) :=
  by
  refine canon_other64 (h := 4) (k := 7) (by decide) <| canon_other64 (h := 4) (k := 6) (by decide) <| canon_other64 (h := 4) (k := 5) (by decide) <| canon_here64 4 _ _ <| newA_of (mp' := runC.sl.v387 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (ap' := runC.sl.v649 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd)) (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off3_eq t 4)) (rdC_mp4 m c t s hk hd) (rdC_ap4 m c t s hk hd) (load64 (M := spec0_3.stage (s 3)) (hstage0_3 ((s 3).cast nbuf0_3)) (blk3 m c t) 4) rfl

theorem atC_A5 (c : Dev nD) (t : Fin grid0.N) (s : Slots) (hk : kb (pt t) = 0) (hd : kb (pt t) = qb (pt t)) :
    row64 (F := F) (φ := .f32) (View.canon (atC m c t s hk hd).2.2.2.1) 5 = newA true (row128 (blk2 m c t) 5) (row64 (blk1 m c t) 5) (start (blk0 m c t) 5 (kbF t)) (row1 k0_pay1 5) (row64 k0_pay3 5) (row64 (blk3 m c t) 5) :=
  by
  refine canon_other64 (h := 5) (k := 7) (by decide) <| canon_other64 (h := 5) (k := 6) (by decide) <| canon_here64 5 _ _ <| newA_of (mp' := runC.sl.v485 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (ap' := runC.sl.v747 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd)) (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off3_eq t 5)) (rdC_mp5 m c t s hk hd) (rdC_ap5 m c t s hk hd) (load64 (M := spec0_3.stage (s 3)) (hstage0_3 ((s 3).cast nbuf0_3)) (blk3 m c t) 5) rfl

theorem atC_A6 (c : Dev nD) (t : Fin grid0.N) (s : Slots) (hk : kb (pt t) = 0) (hd : kb (pt t) = qb (pt t)) :
    row64 (F := F) (φ := .f32) (View.canon (atC m c t s hk hd).2.2.2.1) 6 = newA true (row128 (blk2 m c t) 6) (row64 (blk1 m c t) 6) (start (blk0 m c t) 6 (kbF t)) (row1 k0_pay1 6) (row64 k0_pay3 6) (row64 (blk3 m c t) 6) :=
  by
  refine canon_other64 (h := 6) (k := 7) (by decide) <| canon_here64 6 _ _ <| newA_of (mp' := runC.sl.v583 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (ap' := runC.sl.v777 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd)) (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off3_eq t 6)) (rdC_mp6 m c t s hk hd) (rdC_ap6 m c t s hk hd) (load64 (M := spec0_3.stage (s 3)) (hstage0_3 ((s 3).cast nbuf0_3)) (blk3 m c t) 6) rfl

theorem atC_A7 (c : Dev nD) (t : Fin grid0.N) (s : Slots) (hk : kb (pt t) = 0) (hd : kb (pt t) = qb (pt t)) :
    row64 (F := F) (φ := .f32) (View.canon (atC m c t s hk hd).2.2.2.1) 7 = newA true (row128 (blk2 m c t) 7) (row64 (blk1 m c t) 7) (start (blk0 m c t) 7 (kbF t)) (row1 k0_pay1 7) (row64 k0_pay3 7) (row64 (blk3 m c t) 7) :=
  by
  refine canon_here64 7 _ _ <| newA_of (mp' := runC.sl.v681 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (tbl 0) (tbl 1) (blk0 m c t) (blk1 m c t) (blk2 m c t) (hchk t) ((hdiag t).mpr hd)) (ap' := runC.sl.v788 c (grid0.coords t) (Memref.whole main_c) (Memref.whole main_c_0) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.whole cc0_scratch2) (tbl 0) (tbl 1) (blk0 m c t) (blk1 m c t) (blk2 m c t) (blk3 m c t) (hchk t) ((hdiag t).mpr hd)) (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off3_eq t 7)) (rdC_mp7 m c t s hk hd) (rdC_ap7 m c t s hk hd) (load64 (M := spec0_3.stage (s 3)) (hstage0_3 ((s 3).cast nbuf0_3)) (blk3 m c t) 7) rfl

end Cert.KernelIdeal.Flash

end
-- ==== Proof.Flash.KernelIdeal.StepD.lean ====
module

public import proofs.«01_k».proof.Proof.Flash.KernelIdeal.Loads

@[expose] public section

set_option maxRecDepth 16384

noncomputable section

namespace Cert.KernelIdeal.Flash

open Idealize.ShloMosaic Idealize.ShloMosaic.TcCoe
open Cert.KernelIdeal Cert.KernelIdeal.Gen

variable {F : FTy → Type} [FloatOps F]

variable (m : (ℓ : Loc nD τ sig) → Buf (Elt F) ℓ)

/-! Run D, row by row: each row it leaves is the head's step of the rows it found. -/

theorem atD_M0 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 0 = newM true (row128 (blk2 m c t) 0) (row64 (blk1 m c t) 0) (start (blk0 m c t) 0 (kbF t)) (row1 xm 0) :=
  canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <|
  newM_of (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off3_eq t 0)) (load1 (M := Memref.whole cc0_scratch0) (Memref.isWhole_whole _) xm 0) rfl

theorem atD_M1 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 1 = newM true (row128 (blk2 m c t) 1) (row64 (blk1 m c t) 1) (start (blk0 m c t) 1 (kbF t)) (row1 xm 1) :=
  canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <|
  newM_of (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off3_eq t 1)) (load1 (M := Memref.whole cc0_scratch0) (Memref.isWhole_whole _) xm 1) rfl

theorem atD_M2 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 2 = newM true (row128 (blk2 m c t) 2) (row64 (blk1 m c t) 2) (start (blk0 m c t) 2 (kbF t)) (row1 xm 2) :=
  canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <|
  newM_of (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off3_eq t 2)) (load1 (M := Memref.whole cc0_scratch0) (Memref.isWhole_whole _) xm 2) rfl

theorem atD_M3 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 3 = newM true (row128 (blk2 m c t) 3) (row64 (blk1 m c t) 3) (start (blk0 m c t) 3 (kbF t)) (row1 xm 3) :=
  canon_other1 (h := 3) (k := 7) (by decide) <| canon_other1 (h := 3) (k := 6) (by decide) <| canon_other1 (h := 3) (k := 5) (by decide) <| canon_other1 (h := 3) (k := 4) (by decide) <| canon_here1 3 _ _ <|
  newM_of (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off3_eq t 3)) (load1 (M := Memref.whole cc0_scratch0) (Memref.isWhole_whole _) xm 3) rfl

theorem atD_M4 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 4 = newM true (row128 (blk2 m c t) 4) (row64 (blk1 m c t) 4) (start (blk0 m c t) 4 (kbF t)) (row1 xm 4) :=
  canon_other1 (h := 4) (k := 7) (by decide) <| canon_other1 (h := 4) (k := 6) (by decide) <| canon_other1 (h := 4) (k := 5) (by decide) <| canon_here1 4 _ _ <|
  newM_of (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off3_eq t 4)) (load1 (M := Memref.whole cc0_scratch0) (Memref.isWhole_whole _) xm 4) rfl

theorem atD_M5 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 5 = newM true (row128 (blk2 m c t) 5) (row64 (blk1 m c t) 5) (start (blk0 m c t) 5 (kbF t)) (row1 xm 5) :=
  canon_other1 (h := 5) (k := 7) (by decide) <| canon_other1 (h := 5) (k := 6) (by decide) <| canon_here1 5 _ _ <|
  newM_of (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off3_eq t 5)) (load1 (M := Memref.whole cc0_scratch0) (Memref.isWhole_whole _) xm 5) rfl

theorem atD_M6 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 6 = newM true (row128 (blk2 m c t) 6) (row64 (blk1 m c t) 6) (start (blk0 m c t) 6 (kbF t)) (row1 xm 6) :=
  canon_other1 (h := 6) (k := 7) (by decide) <| canon_here1 6 _ _ <|
  newM_of (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off3_eq t 6)) (load1 (M := Memref.whole cc0_scratch0) (Memref.isWhole_whole _) xm 6) rfl

theorem atD_M7 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.1) 7 = newM true (row128 (blk2 m c t) 7) (row64 (blk1 m c t) 7) (start (blk0 m c t) 7 (kbF t)) (row1 xm 7) :=
  canon_here1 7 _ _ <|
  newM_of (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off3_eq t 7)) (load1 (M := Memref.whole cc0_scratch0) (Memref.isWhole_whole _) xm 7) rfl

theorem atD_L0 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 0 = newL true (row128 (blk2 m c t) 0) (row64 (blk1 m c t) 0) (start (blk0 m c t) 0 (kbF t)) (row1 xm 0) (row1 xl 0) :=
  canon_other1 (h := 0) (k := 7) (by decide) <| canon_other1 (h := 0) (k := 6) (by decide) <| canon_other1 (h := 0) (k := 5) (by decide) <| canon_other1 (h := 0) (k := 4) (by decide) <| canon_other1 (h := 0) (k := 3) (by decide) <| canon_other1 (h := 0) (k := 2) (by decide) <| canon_other1 (h := 0) (k := 1) (by decide) <| canon_here1 0 _ _ <|
  newL_of (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off3_eq t 0)) (load1 (M := Memref.whole cc0_scratch0) (Memref.isWhole_whole _) xm 0) (load1 (M := Memref.whole cc0_scratch1) (Memref.isWhole_whole _) xl 0) rfl

theorem atD_L1 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 1 = newL true (row128 (blk2 m c t) 1) (row64 (blk1 m c t) 1) (start (blk0 m c t) 1 (kbF t)) (row1 xm 1) (row1 xl 1) :=
  canon_other1 (h := 1) (k := 7) (by decide) <| canon_other1 (h := 1) (k := 6) (by decide) <| canon_other1 (h := 1) (k := 5) (by decide) <| canon_other1 (h := 1) (k := 4) (by decide) <| canon_other1 (h := 1) (k := 3) (by decide) <| canon_other1 (h := 1) (k := 2) (by decide) <| canon_here1 1 _ _ <|
  newL_of (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off3_eq t 1)) (load1 (M := Memref.whole cc0_scratch0) (Memref.isWhole_whole _) xm 1) (load1 (M := Memref.whole cc0_scratch1) (Memref.isWhole_whole _) xl 1) rfl

theorem atD_L2 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 2 = newL true (row128 (blk2 m c t) 2) (row64 (blk1 m c t) 2) (start (blk0 m c t) 2 (kbF t)) (row1 xm 2) (row1 xl 2) :=
  canon_other1 (h := 2) (k := 7) (by decide) <| canon_other1 (h := 2) (k := 6) (by decide) <| canon_other1 (h := 2) (k := 5) (by decide) <| canon_other1 (h := 2) (k := 4) (by decide) <| canon_other1 (h := 2) (k := 3) (by decide) <| canon_here1 2 _ _ <|
  newL_of (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off3_eq t 2)) (load1 (M := Memref.whole cc0_scratch0) (Memref.isWhole_whole _) xm 2) (load1 (M := Memref.whole cc0_scratch1) (Memref.isWhole_whole _) xl 2) rfl

theorem atD_L3 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 3 = newL true (row128 (blk2 m c t) 3) (row64 (blk1 m c t) 3) (start (blk0 m c t) 3 (kbF t)) (row1 xm 3) (row1 xl 3) :=
  canon_other1 (h := 3) (k := 7) (by decide) <| canon_other1 (h := 3) (k := 6) (by decide) <| canon_other1 (h := 3) (k := 5) (by decide) <| canon_other1 (h := 3) (k := 4) (by decide) <| canon_here1 3 _ _ <|
  newL_of (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off3_eq t 3)) (load1 (M := Memref.whole cc0_scratch0) (Memref.isWhole_whole _) xm 3) (load1 (M := Memref.whole cc0_scratch1) (Memref.isWhole_whole _) xl 3) rfl

theorem atD_L4 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 4 = newL true (row128 (blk2 m c t) 4) (row64 (blk1 m c t) 4) (start (blk0 m c t) 4 (kbF t)) (row1 xm 4) (row1 xl 4) :=
  canon_other1 (h := 4) (k := 7) (by decide) <| canon_other1 (h := 4) (k := 6) (by decide) <| canon_other1 (h := 4) (k := 5) (by decide) <| canon_here1 4 _ _ <|
  newL_of (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off3_eq t 4)) (load1 (M := Memref.whole cc0_scratch0) (Memref.isWhole_whole _) xm 4) (load1 (M := Memref.whole cc0_scratch1) (Memref.isWhole_whole _) xl 4) rfl

theorem atD_L5 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 5 = newL true (row128 (blk2 m c t) 5) (row64 (blk1 m c t) 5) (start (blk0 m c t) 5 (kbF t)) (row1 xm 5) (row1 xl 5) :=
  canon_other1 (h := 5) (k := 7) (by decide) <| canon_other1 (h := 5) (k := 6) (by decide) <| canon_here1 5 _ _ <|
  newL_of (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off3_eq t 5)) (load1 (M := Memref.whole cc0_scratch0) (Memref.isWhole_whole _) xm 5) (load1 (M := Memref.whole cc0_scratch1) (Memref.isWhole_whole _) xl 5) rfl

theorem atD_L6 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 6 = newL true (row128 (blk2 m c t) 6) (row64 (blk1 m c t) 6) (start (blk0 m c t) 6 (kbF t)) (row1 xm 6) (row1 xl 6) :=
  canon_other1 (h := 6) (k := 7) (by decide) <| canon_here1 6 _ _ <|
  newL_of (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off3_eq t 6)) (load1 (M := Memref.whole cc0_scratch0) (Memref.isWhole_whole _) xm 6) (load1 (M := Memref.whole cc0_scratch1) (Memref.isWhole_whole _) xl 6) rfl

theorem atD_L7 (c : Dev nD) (t : Fin grid0.N) (s : Slots) (hk : ¬kb (pt t) = 0) (hd : kb (pt t) = qb (pt t)) (xm xl : Vec F S8x1x512 .f32) (xa : Vec F S8x64x512 .f32) :
    row1 (F := F) (View.canon (atD m c t s hk hd xm xl xa).2.2.1) 7 = newL true (row128 (blk2 m c t) 7) (row64 (blk1 m c t) 7) (start (blk0 m c t) 7 (kbF t)) (row1 xm 7) (row1 xl 7) :=
  canon_here1 7 _ _ <|
  newL_of (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off3_eq t 7)) (load1 (M := Memref.whole cc0_scratch0) (Memref.isWhole_whole _) xm 7) (load1 (M := Memref.whole cc0_scratch1) (Memref.isWhole_whole _) xl 7) rfl

theorem atD_A0 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 0 = newA true (row128 (blk2 m c t) 0) (row64 (blk1 m c t) 0) (start (blk0 m c t) 0 (kbF t)) (row1 xm 0) (row64 xa 0) (row64 (blk3 m c t) 0) :=
  canon_other64 (h := 0) (k := 7) (by decide) <| canon_other64 (h := 0) (k := 6) (by decide) <| canon_other64 (h := 0) (k := 5) (by decide) <| canon_other64 (h := 0) (k := 4) (by decide) <| canon_other64 (h := 0) (k := 3) (by decide) <| canon_other64 (h := 0) (k := 2) (by decide) <| canon_other64 (h := 0) (k := 1) (by decide) <| canon_here64 0 _ _ <|
  newA_of (load128 (M := spec0_2.stage (s 2)) (hstage0_2 ((s 2).cast nbuf0_2)) (blk2 m c t) 0) (load64 (M := spec0_1.stage (s 1)) (hstage0_1 ((s 1).cast nbuf0_1)) (blk1 m c t) 0) (load_start (M := spec0_0.stage (s 0)) (hstage0_0 ((s 0).cast nbuf0_0)) (blk0 m c t) _ 0 (kbF t) (off3_eq t 0)) (load1 (M := Memref.whole cc0_scratch0) (Memref.isWhole_whole _) xm 0) (load64 (M := Memref.whole cc0_scratch2) (Memref.isWhole_whole _) xa 0) (load64 (M := spec0_3.stage (s 3)) (hstage0_3 ((s 3).cast nbuf0_3)) (blk3 m c t) 0) rfl

theorem atD_A1 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 1 = newA true (row128 (blk2 m c t) 1) (row64 (blk1 m c t) 1) (start (blk0 m c t) 1 (kbF t)) (row1 xm 1) (row64 xa 1) (row64 (blk3 m c t) 1) :=
  canon_other64 (h := 1) (k := 7) (by decide) <| canon_other64 (h := 1) (k := 6) (by decide) <| canon_other64 (h := 1) (k := 5) (by decide) <| canon_other64 (h := 1) (k := 4) (by decide) <| canon_other64 (h := 1) (k := 3) (by decide) <| canon_other64 (h := 1) (k := 2) (by decide) <| canon_here64 1 _ _ <|
  newA_of (load128 (M := spec0_2.stage (s 2)) (hstage0_2 ((s 2).cast nbuf0_2)) (blk2 m c t) 1) (load64 (M := spec0_1.stage (s 1)) (hstage0_1 ((s 1).cast nbuf0_1)) (blk1 m c t) 1) (load_start (M := spec0_0.stage (s 0)) (hstage0_0 ((s 0).cast nbuf0_0)) (blk0 m c t) _ 1 (kbF t) (off3_eq t 1)) (load1 (M := Memref.whole cc0_scratch0) (Memref.isWhole_whole _) xm 1) (load64 (M := Memref.whole cc0_scratch2) (Memref.isWhole_whole _) xa 1) (load64 (M := spec0_3.stage (s 3)) (hstage0_3 ((s 3).cast nbuf0_3)) (blk3 m c t) 1) rfl

theorem atD_A2 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 2 = newA true (row128 (blk2 m c t) 2) (row64 (blk1 m c t) 2) (start (blk0 m c t) 2 (kbF t)) (row1 xm 2) (row64 xa 2) (row64 (blk3 m c t) 2) :=
  canon_other64 (h := 2) (k := 7) (by decide) <| canon_other64 (h := 2) (k := 6) (by decide) <| canon_other64 (h := 2) (k := 5) (by decide) <| canon_other64 (h := 2) (k := 4) (by decide) <| canon_other64 (h := 2) (k := 3) (by decide) <| canon_here64 2 _ _ <|
  newA_of (load128 (M := spec0_2.stage (s 2)) (hstage0_2 ((s 2).cast nbuf0_2)) (blk2 m c t) 2) (load64 (M := spec0_1.stage (s 1)) (hstage0_1 ((s 1).cast nbuf0_1)) (blk1 m c t) 2) (load_start (M := spec0_0.stage (s 0)) (hstage0_0 ((s 0).cast nbuf0_0)) (blk0 m c t) _ 2 (kbF t) (off3_eq t 2)) (load1 (M := Memref.whole cc0_scratch0) (Memref.isWhole_whole _) xm 2) (load64 (M := Memref.whole cc0_scratch2) (Memref.isWhole_whole _) xa 2) (load64 (M := spec0_3.stage (s 3)) (hstage0_3 ((s 3).cast nbuf0_3)) (blk3 m c t) 2) rfl

theorem atD_A3 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 3 = newA true (row128 (blk2 m c t) 3) (row64 (blk1 m c t) 3) (start (blk0 m c t) 3 (kbF t)) (row1 xm 3) (row64 xa 3) (row64 (blk3 m c t) 3) :=
  canon_other64 (h := 3) (k := 7) (by decide) <| canon_other64 (h := 3) (k := 6) (by decide) <| canon_other64 (h := 3) (k := 5) (by decide) <| canon_other64 (h := 3) (k := 4) (by decide) <| canon_here64 3 _ _ <|
  newA_of (load128 (M := spec0_2.stage (s 2)) (hstage0_2 ((s 2).cast nbuf0_2)) (blk2 m c t) 3) (load64 (M := spec0_1.stage (s 1)) (hstage0_1 ((s 1).cast nbuf0_1)) (blk1 m c t) 3) (load_start (M := spec0_0.stage (s 0)) (hstage0_0 ((s 0).cast nbuf0_0)) (blk0 m c t) _ 3 (kbF t) (off3_eq t 3)) (load1 (M := Memref.whole cc0_scratch0) (Memref.isWhole_whole _) xm 3) (load64 (M := Memref.whole cc0_scratch2) (Memref.isWhole_whole _) xa 3) (load64 (M := spec0_3.stage (s 3)) (hstage0_3 ((s 3).cast nbuf0_3)) (blk3 m c t) 3) rfl

theorem atD_A4 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 4 = newA true (row128 (blk2 m c t) 4) (row64 (blk1 m c t) 4) (start (blk0 m c t) 4 (kbF t)) (row1 xm 4) (row64 xa 4) (row64 (blk3 m c t) 4) :=
  canon_other64 (h := 4) (k := 7) (by decide) <| canon_other64 (h := 4) (k := 6) (by decide) <| canon_other64 (h := 4) (k := 5) (by decide) <| canon_here64 4 _ _ <|
  newA_of (load128 (M := spec0_2.stage (s 2)) (hstage0_2 ((s 2).cast nbuf0_2)) (blk2 m c t) 4) (load64 (M := spec0_1.stage (s 1)) (hstage0_1 ((s 1).cast nbuf0_1)) (blk1 m c t) 4) (load_start (M := spec0_0.stage (s 0)) (hstage0_0 ((s 0).cast nbuf0_0)) (blk0 m c t) _ 4 (kbF t) (off3_eq t 4)) (load1 (M := Memref.whole cc0_scratch0) (Memref.isWhole_whole _) xm 4) (load64 (M := Memref.whole cc0_scratch2) (Memref.isWhole_whole _) xa 4) (load64 (M := spec0_3.stage (s 3)) (hstage0_3 ((s 3).cast nbuf0_3)) (blk3 m c t) 4) rfl

theorem atD_A5 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 5 = newA true (row128 (blk2 m c t) 5) (row64 (blk1 m c t) 5) (start (blk0 m c t) 5 (kbF t)) (row1 xm 5) (row64 xa 5) (row64 (blk3 m c t) 5) :=
  canon_other64 (h := 5) (k := 7) (by decide) <| canon_other64 (h := 5) (k := 6) (by decide) <| canon_here64 5 _ _ <|
  newA_of (load128 (M := spec0_2.stage (s 2)) (hstage0_2 ((s 2).cast nbuf0_2)) (blk2 m c t) 5) (load64 (M := spec0_1.stage (s 1)) (hstage0_1 ((s 1).cast nbuf0_1)) (blk1 m c t) 5) (load_start (M := spec0_0.stage (s 0)) (hstage0_0 ((s 0).cast nbuf0_0)) (blk0 m c t) _ 5 (kbF t) (off3_eq t 5)) (load1 (M := Memref.whole cc0_scratch0) (Memref.isWhole_whole _) xm 5) (load64 (M := Memref.whole cc0_scratch2) (Memref.isWhole_whole _) xa 5) (load64 (M := spec0_3.stage (s 3)) (hstage0_3 ((s 3).cast nbuf0_3)) (blk3 m c t) 5) rfl

theorem atD_A6 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 6 = newA true (row128 (blk2 m c t) 6) (row64 (blk1 m c t) 6) (start (blk0 m c t) 6 (kbF t)) (row1 xm 6) (row64 xa 6) (row64 (blk3 m c t) 6) :=
  canon_other64 (h := 6) (k := 7) (by decide) <| canon_here64 6 _ _ <|
  newA_of (load128 (M := spec0_2.stage (s 2)) (hstage0_2 ((s 2).cast nbuf0_2)) (blk2 m c t) 6) (load64 (M := spec0_1.stage (s 1)) (hstage0_1 ((s 1).cast nbuf0_1)) (blk1 m c t) 6) (load_start (M := spec0_0.stage (s 0)) (hstage0_0 ((s 0).cast nbuf0_0)) (blk0 m c t) _ 6 (kbF t) (off3_eq t 6)) (load1 (M := Memref.whole cc0_scratch0) (Memref.isWhole_whole _) xm 6) (load64 (M := Memref.whole cc0_scratch2) (Memref.isWhole_whole _) xa 6) (load64 (M := spec0_3.stage (s 3)) (hstage0_3 ((s 3).cast nbuf0_3)) (blk3 m c t) 6) rfl

theorem atD_A7 (c : Dev nD) (t : Fin grid0.N) (s : Slots) (hk : ¬kb (pt t) = 0) (hd : kb (pt t) = qb (pt t)) (xm xl : Vec F S8x1x512 .f32) (xa : Vec F S8x64x512 .f32) :
    row64 (F := F) (φ := .f32) (View.canon (atD m c t s hk hd xm xl xa).2.2.2.1) 7 = newA true (row128 (blk2 m c t) 7) (row64 (blk1 m c t) 7) (start (blk0 m c t) 7 (kbF t)) (row1 xm 7) (row64 xa 7) (row64 (blk3 m c t) 7) :=
  canon_here64 7 _ _ <|
  newA_of (load128 (M := spec0_2.stage (s 2)) (hstage0_2 ((s 2).cast nbuf0_2)) (blk2 m c t) 7) (load64 (M := spec0_1.stage (s 1)) (hstage0_1 ((s 1).cast nbuf0_1)) (blk1 m c t) 7) (load_start (M := spec0_0.stage (s 0)) (hstage0_0 ((s 0).cast nbuf0_0)) (blk0 m c t) _ 7 (kbF t) (off3_eq t 7)) (load1 (M := Memref.whole cc0_scratch0) (Memref.isWhole_whole _) xm 7) (load64 (M := Memref.whole cc0_scratch2) (Memref.isWhole_whole _) xa 7) (load64 (M := spec0_3.stage (s 3)) (hstage0_3 ((s 3).cast nbuf0_3)) (blk3 m c t) 7) rfl

end Cert.KernelIdeal.Flash

end
-- ==== Proof.Flash.KernelIdeal.Steps.lean ====
module

public import proofs.«01_k».proof.Proof.Flash.KernelIdeal.StepA
public import proofs.«01_k».proof.Proof.Flash.KernelIdeal.StepB
public import proofs.«01_k».proof.Proof.Flash.KernelIdeal.StepC
public import proofs.«01_k».proof.Proof.Flash.KernelIdeal.StepD

@[expose] public section

set_option maxRecDepth 16384

noncomputable section

namespace Cert.KernelIdeal.Flash

open Idealize.ShloMosaic Idealize.ShloMosaic.TcCoe
open Cert.KernelIdeal Cert.KernelIdeal.Gen

variable {F : FTy → Type} [FloatOps F]

variable (m : (ℓ : Loc nD τ sig) → Buf (Elt F) ℓ)

/-! A grid point's step of all heads, and what the last point of a query block writes out. -/

theorem stepA (c : Dev nD) (t : Fin grid0.N) (s : Slots) (hk : kb (pt t) = 0) (hd : kb (pt t) < qb (pt t)) :
    Step (F := F) false (blk0 m c t) (kbF t) (blk1 m c t) (blk2 m c t) (blk3 m c t) k0_pay1 k0_pay2 k0_pay3 (View.canon (atA m c t s hk hd).1) (View.canon (atA m c t s hk hd).2.1) (View.canon (atA m c t s hk hd).2.2.1) where
  m h := match h with
    | 0 => atA_M0 m c t s hk hd
    | 1 => atA_M1 m c t s hk hd
    | 2 => atA_M2 m c t s hk hd
    | 3 => atA_M3 m c t s hk hd
    | 4 => atA_M4 m c t s hk hd
    | 5 => atA_M5 m c t s hk hd
    | 6 => atA_M6 m c t s hk hd
    | 7 => atA_M7 m c t s hk hd
  l h := match h with
    | 0 => atA_L0 m c t s hk hd
    | 1 => atA_L1 m c t s hk hd
    | 2 => atA_L2 m c t s hk hd
    | 3 => atA_L3 m c t s hk hd
    | 4 => atA_L4 m c t s hk hd
    | 5 => atA_L5 m c t s hk hd
    | 6 => atA_L6 m c t s hk hd
    | 7 => atA_L7 m c t s hk hd
  a h := match h with
    | 0 => atA_A0 m c t s hk hd
    | 1 => atA_A1 m c t s hk hd
    | 2 => atA_A2 m c t s hk hd
    | 3 => atA_A3 m c t s hk hd
    | 4 => atA_A4 m c t s hk hd
    | 5 => atA_A5 m c t s hk hd
    | 6 => atA_A6 m c t s hk hd
    | 7 => atA_A7 m c t s hk hd

theorem stepB (c : Dev nD) (t : Fin grid0.N) (s : Slots) (hk : ¬kb (pt t) = 0) (hd : kb (pt t) < qb (pt t)) (xm xl : Vec F S8x1x512 .f32) (xa : Vec F S8x64x512 .f32) :
    Step (F := F) false (blk0 m c t) (kbF t) (blk1 m c t) (blk2 m c t) (blk3 m c t) xm xl xa (View.canon (atB m c t s hk hd xm xl xa).1) (View.canon (atB m c t s hk hd xm xl xa).2.1) (View.canon (atB m c t s hk hd xm xl xa).2.2.1) where
  m h := match h with
    | 0 => atB_M0 m c t s hk hd xm xl xa
    | 1 => atB_M1 m c t s hk hd xm xl xa
    | 2 => atB_M2 m c t s hk hd xm xl xa
    | 3 => atB_M3 m c t s hk hd xm xl xa
    | 4 => atB_M4 m c t s hk hd xm xl xa
    | 5 => atB_M5 m c t s hk hd xm xl xa
    | 6 => atB_M6 m c t s hk hd xm xl xa
    | 7 => atB_M7 m c t s hk hd xm xl xa
  l h := match h with
    | 0 => atB_L0 m c t s hk hd xm xl xa
    | 1 => atB_L1 m c t s hk hd xm xl xa
    | 2 => atB_L2 m c t s hk hd xm xl xa
    | 3 => atB_L3 m c t s hk hd xm xl xa
    | 4 => atB_L4 m c t s hk hd xm xl xa
    | 5 => atB_L5 m c t s hk hd xm xl xa
    | 6 => atB_L6 m c t s hk hd xm xl xa
    | 7 => atB_L7 m c t s hk hd xm xl xa
  a h := match h with
    | 0 => atB_A0 m c t s hk hd xm xl xa
    | 1 => atB_A1 m c t s hk hd xm xl xa
    | 2 => atB_A2 m c t s hk hd xm xl xa
    | 3 => atB_A3 m c t s hk hd xm xl xa
    | 4 => atB_A4 m c t s hk hd xm xl xa
    | 5 => atB_A5 m c t s hk hd xm xl xa
    | 6 => atB_A6 m c t s hk hd xm xl xa
    | 7 => atB_A7 m c t s hk hd xm xl xa

set_option cleanup.letToHave false in set_option maxHeartbeats 2000000 in
theorem stepC (c : Dev nD) (t : Fin grid0.N) (s : Slots) (hk : kb (pt t) = 0) (hd : kb (pt t) = qb (pt t)) :
    Step (F := F) true (blk0 m c t) (kbF t) (blk1 m c t) (blk2 m c t) (blk3 m c t) k0_pay1 k0_pay2 k0_pay3 (View.canon (atC m c t s hk hd).2.1) (View.canon (atC m c t s hk hd).2.2.1) (View.canon (atC m c t s hk hd).2.2.2.1) where
  m h := match h with
    | 0 => atC_M0 m c t s hk hd
    | 1 => atC_M1 m c t s hk hd
    | 2 => atC_M2 m c t s hk hd
    | 3 => atC_M3 m c t s hk hd
    | 4 => atC_M4 m c t s hk hd
    | 5 => atC_M5 m c t s hk hd
    | 6 => atC_M6 m c t s hk hd
    | 7 => atC_M7 m c t s hk hd
  l h := match h with
    | 0 => atC_L0 m c t s hk hd
    | 1 => atC_L1 m c t s hk hd
    | 2 => atC_L2 m c t s hk hd
    | 3 => atC_L3 m c t s hk hd
    | 4 => atC_L4 m c t s hk hd
    | 5 => atC_L5 m c t s hk hd
    | 6 => atC_L6 m c t s hk hd
    | 7 => atC_L7 m c t s hk hd
  a h := match h with
    | 0 => atC_A0 m c t s hk hd
    | 1 => atC_A1 m c t s hk hd
    | 2 => atC_A2 m c t s hk hd
    | 3 => atC_A3 m c t s hk hd
    | 4 => atC_A4 m c t s hk hd
    | 5 => atC_A5 m c t s hk hd
    | 6 => atC_A6 m c t s hk hd
    | 7 => atC_A7 m c t s hk hd

set_option cleanup.letToHave false in set_option maxHeartbeats 2000000 in
theorem stepD (c : Dev nD) (t : Fin grid0.N) (s : Slots) (hk : ¬kb (pt t) = 0) (hd : kb (pt t) = qb (pt t)) (xm xl : Vec F S8x1x512 .f32) (xa : Vec F S8x64x512 .f32) :
    Step (F := F) true (blk0 m c t) (kbF t) (blk1 m c t) (blk2 m c t) (blk3 m c t) xm xl xa (View.canon (atD m c t s hk hd xm xl xa).2.1) (View.canon (atD m c t s hk hd xm xl xa).2.2.1) (View.canon (atD m c t s hk hd xm xl xa).2.2.2.1) where
  m h := match h with
    | 0 => atD_M0 m c t s hk hd xm xl xa
    | 1 => atD_M1 m c t s hk hd xm xl xa
    | 2 => atD_M2 m c t s hk hd xm xl xa
    | 3 => atD_M3 m c t s hk hd xm xl xa
    | 4 => atD_M4 m c t s hk hd xm xl xa
    | 5 => atD_M5 m c t s hk hd xm xl xa
    | 6 => atD_M6 m c t s hk hd xm xl xa
    | 7 => atD_M7 m c t s hk hd xm xl xa
  l h := match h with
    | 0 => atD_L0 m c t s hk hd xm xl xa
    | 1 => atD_L1 m c t s hk hd xm xl xa
    | 2 => atD_L2 m c t s hk hd xm xl xa
    | 3 => atD_L3 m c t s hk hd xm xl xa
    | 4 => atD_L4 m c t s hk hd xm xl xa
    | 5 => atD_L5 m c t s hk hd xm xl xa
    | 6 => atD_L6 m c t s hk hd xm xl xa
    | 7 => atD_L7 m c t s hk hd xm xl xa
  a h := match h with
    | 0 => atD_A0 m c t s hk hd xm xl xa
    | 1 => atD_A1 m c t s hk hd xm xl xa
    | 2 => atD_A2 m c t s hk hd xm xl xa
    | 3 => atD_A3 m c t s hk hd xm xl xa
    | 4 => atD_A4 m c t s hk hd xm xl xa
    | 5 => atD_A5 m c t s hk hd xm xl xa
    | 6 => atD_A6 m c t s hk hd xm xl xa
    | 7 => atD_A7 m c t s hk hd xm xl xa

theorem canon_whole64 (inb : ∀ a, (![0, 0, 0] : Fin 3 → ℕ) a + S8x64x512.size a ≤ S8x64x512.size a) (z : Vec F S8x64x512 .f32) (L : List (View.Piece (Elt F) S8x64x512 .f32)) :
    View.canon (s := S8x64x512) (Val := Elt F) (e := .f32) (⟨Rect.unit (s := S8x64x512) ![0, 0, 0] S8x64x512.size inb, z⟩ :: L) = z :=
  funext fun y => by
    have e := View.canon_cons_emb (s := S8x64x512) (Val := Elt F) (e := .f32) (Rect.unit (s := S8x64x512) ![0, 0, 0] S8x64x512.size inb) z L y
    rw [emb_all64 inb y] at e
    exact e

theorem readAll64 {sp : Space} {v : View sig .tc sp S8x64x512 .f32} (inb : ∀ a, (![0, 0, 0] : Fin 3 → ℕ) a + S8x64x512.size a ≤ S8x64x512.size a) (L : List (View.Piece (Elt F) S8x64x512 .f32)) :
    View.readCov (Val := Elt F) v L (Rect.unit (s := S8x64x512) ![0, 0, 0] S8x64x512.size inb).toLoadRect = View.canon (s := S8x64x512) (Val := Elt F) (e := .f32) L :=
  funext fun y => (congrFun (View.readCov_eq_canon' v L _) y).trans (congrArg (View.canon (s := S8x64x512) (Val := Elt F) (e := .f32) L) (emb_all64 inb y))

theorem readAll1 {sp : Space} {v : View sig .tc sp S8x1x512 .f32} (inb : ∀ a, (![0, 0, 0] : Fin 3 → ℕ) a + S8x1x512.size a ≤ S8x1x512.size a) (L : List (View.Piece (Elt F) S8x1x512 .f32)) :
    View.readCov (Val := Elt F) v L (Rect.unit (s := S8x1x512) ![0, 0, 0] S8x1x512.size inb).toLoadRect = View.canon (s := S8x1x512) (Val := Elt F) (e := .f32) L :=
  funext fun y => (congrFun (View.readCov_eq_canon' v L _) y).trans (congrArg (View.canon (s := S8x1x512) (Val := Elt F) (e := .f32) L) (emb_all1 inb y))

theorem out_of {LO LA : List (View.Piece (Elt F) S8x64x512 .f32)} {LL : List (View.Piece (Elt F) S8x1x512 .f32)} {a : Vec F S8x64x512 .f32} {l : Vec F S8x1x512 .f32}
    (h1 : a = View.canon (s := S8x64x512) (Val := Elt F) (e := .f32) LA) (h2 : l = View.canon (s := S8x1x512) (Val := Elt F) (e := .f32) LL)
    (h : View.canon (s := S8x64x512) (Val := Elt F) (e := .f32) LO = k0_pay8 a l) :
    View.canon (s := S8x64x512) (Val := Elt F) (e := .f32) LO = k0_pay8 (View.canon (s := S8x64x512) (Val := Elt F) (e := .f32) LA) (View.canon (s := S8x1x512) (Val := Elt F) (e := .f32) LL) := by
  subst h1 h2; exact h

set_option cleanup.letToHave false in set_option maxHeartbeats 2000000 in
theorem outC (c : Dev nD) (t : Fin grid0.N) (s : Slots) (hk : kb (pt t) = 0) (hd : kb (pt t) = qb (pt t)) :
    View.canon (atC m c t s hk hd).1 = k0_pay8 (F := F) (View.canon (atC m c t s hk hd).2.2.2.1) (View.canon (atC m c t s hk hd).2.2.1) :=
  out_of (readAll64 inb_S8x64x512_S8x64x512_0_0_0 _) (readAll1 inb_S8x1x512_S8x1x512_0_0_0 _) (canon_whole64 inb_S8x64x512_S8x64x512_0_0_0 _ [])

set_option cleanup.letToHave false in set_option maxHeartbeats 2000000 in
theorem outD (c : Dev nD) (t : Fin grid0.N) (s : Slots) (hk : ¬kb (pt t) = 0) (hd : kb (pt t) = qb (pt t)) (xm xl : Vec F S8x1x512 .f32) (xa : Vec F S8x64x512 .f32) :
    View.canon (atD m c t s hk hd xm xl xa).1 = k0_pay8 (F := F) (View.canon (atD m c t s hk hd xm xl xa).2.2.2.1) (View.canon (atD m c t s hk hd xm xl xa).2.2.1) :=
  out_of (readAll64 inb_S8x64x512_S8x64x512_0_0_0 _) (readAll1 inb_S8x1x512_S8x1x512_0_0_0 _) (canon_whole64 inb_S8x64x512_S8x64x512_0_0_0 _ [])

end Cert.KernelIdeal.Flash

end
-- ==== Proof.Flash.KernelIdeal.Invariant.lean ====
module

public import proofs.«01_k».proof.Proof.Flash.KernelIdeal.Entries
public import proofs.«01_k».proof.Proof.Flash.KernelIdeal.RowsIdeal
public import proofs.«01_k».proof.Proof.Flash.KernelIdeal.Steps

@[expose] public section

set_option maxRecDepth 16384

noncomputable section

namespace Cert.KernelIdeal.Flash

open Idealize.ShloMosaic Idealize.ShloMosaic.TcCoe
open Cert.KernelIdeal Cert.KernelIdeal.Gen Cert.FlashMath

/-! What the scratch buffers hold before each grid point, and what the output block holds at the last block of a row. -/

variable (m : (ℓ : Loc nD τ sig) → Buf (Elt Ideal) ℓ) (c : Dev nD)

/-- A head's scores for a query. -/
abbrev zz (h : Fin 8) (t : ℕ) : ℕ → ℝ := score (argQ m c) (argK m c) (argG m c) h t
/-- A head's values. -/
abbrev vv (h : Fin 8) : Fin 64 → ℕ → EReal := value (argV m c) h

/-- The running sums of the queries of block `Q` after the keys before `T`. -/
def Held (Q T : ℕ) (xm xl : Vec Ideal S8x1x512 .f32) (xa : Vec Ideal S8x64x512 .f32) : Prop :=
  ∀ (h : Fin 8) (j : Fin 512), Good (zz m c h (512 * Q + j.val)) (vv m c h) (512 * Q + j.val) T (xm (ix3 h 0 j)) (xl (ix3 h 0 j)) (fun d => xa (ix3 h d j))

/-- Before the first key. -/
def Blank (T : ℕ) (xm xl : Vec Ideal S8x1x512 .f32) (xa : Vec Ideal S8x64x512 .f32) : Prop :=
  ∀ (h : Fin 8) (j : Fin 512), Fresh T (xm (ix3 h 0 j)) (xl (ix3 h 0 j)) (fun d => xa (ix3 h d j))

/-- Before point `n`: within a row, the running sums after the keys before its block. -/
def Inv (n : ℕ) (xm xl : Vec Ideal S8x1x512 .f32) (xa : Vec Ideal S8x64x512 .f32) : Prop :=
  ∀ hn : n < 528, kb ⟨n, hn⟩ ≠ 0 → Held m c (qb ⟨n, hn⟩) (512 * kb ⟨n, hn⟩) xm xl xa

/-- The output block of the last block of a row: the attention of its queries. -/
def Rl (t : Fin grid0.N) (X : Vec Ideal S8x64x512 .f32) : Prop :=
  ∀ (h : Fin 8) (d : Fin 64) (j : Fin 512), X (ix3 h d j) = attn (zz m c h (512 * qb (pt t) + j.val)) (vv m c h) (512 * qb (pt t) + j.val) d

variable {m} {c}

theorem blank_pay : Blank 0 (k0_pay1 (F := Ideal)) (k0_pay2 (F := Ideal)) (k0_pay3 (F := Ideal)) :=
  fun h j => ⟨rfl, pay1_apply _, pay2_apply _, fun d => pay3_apply _⟩

/-- One grid point's step keeps the running sums. -/
theorem held_step (H : Real m c) (b : Bool) (t : Fin grid0.N) (hb : b = true ↔ kb (pt t) = qb (pt t))
    (xm xl : Vec Ideal S8x1x512 .f32) (xa : Vec Ideal S8x64x512 .f32) (ym yl : Vec Ideal S8x1x512 .f32) (ya : Vec Ideal S8x64x512 .f32)
    (S : Step b (blk0 m c t) (kbF t) (blk1 m c t) (blk2 m c t) (blk3 m c t) xm xl xa ym yl ya)
    (hx : Blank (512 * kb (pt t)) xm xl xa ∨ Held m c (qb (pt t)) (512 * kb (pt t)) xm xl xa) :
    Held m c (qb (pt t)) (512 * kb (pt t) + 512) ym yl ya := by
  intro h j
  have hp := pts (pt t)
  have hj := j.isLt
  have em : ym (ix3 h 0 j) = _ := (row1_apply ym h j).symm.trans (congrFun (S.m h) (ix3 0 0 j))
  have el : yl (ix3 h 0 j) = _ := (row1_apply yl h j).symm.trans (congrFun (S.l h) (ix3 0 0 j))
  have ea : (fun d => ya (ix3 h d j)) = _ := funext fun d => (row64_apply ya h d j).symm.trans (congrFun (S.a h) (ix3 0 d j))
  rw [em, el, ea]
  refine good_step b _ _ _ _ _ _ _ j _ _ _ _ (by omega) (fun i => ?_)
    (fun i d => entry (argK m c) h d (512 * kb (pt t) + i.val))
    (fun d => entry (argQ m c) h d (512 * qb (pt t) + j.val) * (0.125 * (Real.log 2)⁻¹))
    (fun i => gateSum (argG m c) h (512 * kb (pt t) + i.val) * (Real.log 2)⁻¹ - gateSum (argG m c) h (512 * kb (pt t)) * (Real.log 2)⁻¹)
    (gateSum (argG m c) h (512 * kb (pt t)) * (Real.log 2)⁻¹) ?_ (fun i d => ?_) (fun d => ?_) (fun d i => ?_) (fun i => ?_) ?_
  · have hi := i.isLt
    constructor
    · intro h'
      by_cases e : b = true
      · have := h' e; have := hb.mp e; omega
      · have : kb (pt t) ≠ qb (pt t) := fun e' => e (hb.mpr e')
        omega
    · intro h' e
      have := hb.mp e; omega
  · rw [start_apply, blk0_apply]
    exact fs_real H h (kbF t) _
  · rw [row128_apply, blk2_apply, k_real H]
    have e : (512 * kb (pt t) + i.val) / 512 = kb (pt t) := by have := i.isLt; omega
    dsimp only
    rw [e]
  · rw [row64_apply, blk1_apply, q_real H]
  · rw [row64_apply, blk3_apply, v_value]
  · show score _ _ _ _ _ _ = _
    unfold score
    ring
  · rw [row1_apply, row1_apply]
    simp only [row64_apply]
    exact hx.imp (fun f => f h j) (fun f => f h j)

/-- The block after one that is not the row's last, -/
theorem next_off : ∀ t : Fin 528, ∀ h : t.val + 1 < 528, kb t < qb t → qb ⟨t.val + 1, h⟩ = qb t ∧ kb ⟨t.val + 1, h⟩ = kb t + 1 := by decide +kernel
/-- and the block after the row's last. -/
theorem next_diag : ∀ t : Fin 528, ∀ h : t.val + 1 < 528, kb t = qb t → kb ⟨t.val + 1, h⟩ = 0 := by decide +kernel

theorem inv_off (t : Fin grid0.N) (hd : kb (pt t) < qb (pt t)) (ym yl : Vec Ideal S8x1x512 .f32) (ya : Vec Ideal S8x64x512 .f32)
    (h : Held m c (qb (pt t)) (512 * kb (pt t) + 512) ym yl ya) : Inv m c (t.val + 1) ym yl ya := by
  intro hn _
  have e := next_off (pt t) hn hd
  have e1 : qb ⟨t.val + 1, hn⟩ = qb (pt t) := e.1
  have e2 : kb ⟨t.val + 1, hn⟩ = kb (pt t) + 1 := e.2
  rw [e1, e2, Nat.mul_add]
  exact h

theorem inv_diag (t : Fin grid0.N) (hd : kb (pt t) = qb (pt t)) (ym yl : Vec Ideal S8x1x512 .f32) (ya : Vec Ideal S8x64x512 .f32) :
    Inv m c (t.val + 1) ym yl ya := fun hn h0 => absurd (next_diag (pt t) hn hd) h0

theorem inv_held (t : Fin grid0.N) (hk : ¬kb (pt t) = 0) (xm xl : Vec Ideal S8x1x512 .f32) (xa : Vec Ideal S8x64x512 .f32) (h : Inv m c t.val xm xl xa) :
    Held m c (qb (pt t)) (512 * kb (pt t)) xm xl xa := h (pt t).isLt hk

theorem rl_of_held (t : Fin grid0.N) (hd : kb (pt t) = qb (pt t)) (ym yl : Vec Ideal S8x1x512 .f32) (ya : Vec Ideal S8x64x512 .f32)
    (h : Held m c (qb (pt t)) (512 * kb (pt t) + 512) ym yl ya) : Rl m c t (k0_pay8 ya yl) := by
  intro g d j
  have hp := pts (pt t)
  rw [out_apply]
  exact good_out _ _ _ _ _ _ _ (h g j) (by have := j.isLt; omega) (by omega) d

/-- The four runs keep it. -/
theorem closed (H : Real m c) : Closed m c (Inv m c) (Rl m c) where
  zero xm xl xa := fun hn h0 => absurd ((by decide +kernel : ∀ h : 0 < 528, kb ⟨0, h⟩ = 0) hn) h0
  A t s hk hd := inv_off t hd _ _ _ (held_step H false t (by simp; omega) _ _ _ _ _ _ (stepA m c t s hk hd) (.inl (by rw [hk]; exact blank_pay)))
  B t s hk hd xm xl xa h := inv_off t hd _ _ _ (held_step H false t (by simp; omega) _ _ _ _ _ _ (stepB m c t s hk hd xm xl xa) (.inr (inv_held t hk _ _ _ h)))
  C t s hk hd := by
    refine ⟨inv_diag t hd _ _ _, ?_⟩
    rw [outC]
    exact rl_of_held t hd _ _ _ (held_step H true t (by simp [hd]) _ _ _ _ _ _ (stepC m c t s hk hd) (.inl (by rw [hk]; exact blank_pay)))
  D t s hk hd xm xl xa h := by
    refine ⟨inv_diag t hd _ _ _, ?_⟩
    rw [outD]
    exact rl_of_held t hd _ _ _ (held_step H true t (by simp [hd]) _ _ _ _ _ _ (stepD m c t s hk hd xm xl xa) (.inr (inv_held t hk _ _ _ h)))

end Cert.KernelIdeal.Flash

end
-- ==== Proof.Flash.KernelIdeal.Output.lean ====
module

public import proofs.«01_k».proof.Proof.Flash.KernelIdeal.Invariant
public import proofs.«01_k».proof.Proof.Flash.KernelIdeal.Launch
public import Idealize.ShloMosaic.Lib.Pipeline.ArrRel
public import Idealize.ShloMosaic.Lib.Pipeline.ValueKit.Geometry

@[expose] public section

set_option maxRecDepth 16384

noncomputable section

namespace Cert.KernelIdeal.Flash

open Idealize.ShloMosaic Idealize.ShloMosaic.TcCoe
open Idealize.SL.Sem
open Cert.KernelIdeal Cert.KernelIdeal.Gen Cert.FlashMath
open Idealize.ShloMosaic.Pipeline (RDat)

/-! The result array: every block of queries is written back once, after the row's last block. -/

theorem last_diag : ∀ t : Fin 528, t.val + 1 = 528 → kb t = qb t := by decide +kernel
theorem diag_moves : ∀ t : Fin 528, ∀ h : t.val + 1 < 528, kb t = qb t → qb ⟨t.val + 1, h⟩ ≠ qb t := by decide +kernel
theorem diag_exists : ∀ Q : Fin 32, ∃ t : Fin 528, kb t = Q.val ∧ qb t = Q.val := by decide +kernel

theorem index4_last (t : Fin grid0.N) : ((cfgT (F := Ideal)).win 4).index t (⟨2, by decide⟩ : Fin 3) = qb (pt t) := by
  show ((tbl (F := Ideal)).at 0 (Rect.unit (s := S528) (k0_off1 (grid0.coords t)) S1.size (k0_off1_inb (grid0.coords t))) numel1_S1).toNat = _
  rw [at_val0]

theorem index4_of (t u : Fin grid0.N) (h : qb (pt t) = qb (pt u)) : ((cfgT (F := Ideal)).win 4).index t = ((cfgT (F := Ideal)).win 4).index u := by
  funext a
  match a with
  | ⟨0, _⟩ => rfl
  | ⟨1, _⟩ => rfl
  | ⟨2, _⟩ => exact (index4_last t).trans (h.trans (index4_last u).symm)

/-- A block of the result is written back at the row's last block. -/
theorem flush_iff (t : Fin grid0.N) : ((cfgT (F := Ideal)).win 4).flush t = true ↔ kb (pt t) = qb (pt t) := by
  have hN : grid0.N = 528 := N_0
  have hk := (pts (pt t)).2.1
  unfold Pipeline.Window.flush
  rw [show ((cfgT (F := Ideal)).win 4).isOut = true from rfl, Bool.true_and, Bool.or_eq_true, decide_eq_true_iff, decide_eq_true_iff]
  constructor
  · rintro (h | ⟨h, hne⟩)
    · exact last_diag (pt t) (h.trans hN)
    · by_contra hd
      exact hne (index4_of _ _ (next_off (pt t) (Nat.lt_of_lt_of_eq h hN) (by omega)).1)
  · intro hd
    by_cases h : t.val + 1 = grid0.N
    · exact .inl h
    · have h' : t.val + 1 < grid0.N := lt_of_le_of_ne t.isLt h
      refine .inr ⟨h', fun e => ?_⟩
      have e2 := congrFun e (⟨2, by decide⟩ : Fin 3)
      exact diag_moves (pt t) (Nat.lt_of_lt_of_eq h' hN) hd ((index4_last ⟨t.val + 1, h'⟩).symm.trans (e2.trans (index4_last t)))

variable (m : (ℓ : Loc nD τ sig) → Buf (Elt Ideal) ℓ)

/-- The attention as an array. -/
def outArr (c : Dev nD) : Vec Ideal S8x64x16384 .f32 := fun i => attn (zz m c (i 0) (i 2).val) (vv m c (i 0)) (i 2).val (i 1)

/-- Where a block of the result lies. -/
theorem emb4 (t : Fin grid0.N) (G : Vec Ideal S8x64x16384 .f32) (h : Fin 8) (d : Fin 64) (j : Fin 512) :
    G ((((cfgT (F := Ideal)).win 4).blk t).view.emb (ix3 h d j)) = G (ix3 h d ⟨512 * qb (pt t) + j.val, qlt t j⟩) := by
  refine congrArg G (funext fun a => Fin.ext ?_)
  refine (ValueKit.rect_emb_unit_val _ _ _ _ _).trans ?_
  match a with
  | ⟨0, _⟩ => exact Nat.zero_add _
  | ⟨1, _⟩ => exact Nat.zero_add _
  | ⟨2, _⟩ =>
    show ((cfgT (F := Ideal)).win 4).index t (⟨2, by decide⟩ : Fin 3) * 512 + j.val = _
    rw [index4_last, Nat.mul_comm]; rfl

theorem ix3_eta (y : S8x64x512.Idx) : y = ix3 (y 0) (y 1) (y 2) := by
  funext a
  match a with
  | ⟨0, _⟩ => rfl
  | ⟨1, _⟩ => rfl
  | ⟨2, _⟩ => rfl

theorem outArr_apply (c : Dev nD) (h : Fin 8) (d : Fin 64) (q : Fin 16384) : outArr m c (ix3 h d q) = attn (zz m c h q.val) (vv m c h) q.val d := rfl

/-- What is written back is the array's block. -/
theorem block_out (c : Dev nD) (t : Fin grid0.N) (X : Vec Ideal S8x64x512 .f32) (hX : Rl m c t X) (y : S8x64x512.Idx) :
    X y = outArr m c ((((cfgT (F := Ideal)).win 4).blk t).view.emb y) := by
  obtain ⟨h, d, j, rfl⟩ : ∃ h d j, y = ix3 h d j := ⟨_, _, _, ix3_eta y⟩
  exact (hX h d j).trans ((outArr_apply m c h d ⟨512 * qb (pt t) + j.val, qlt t j⟩).symm.trans (emb4 t (outArr m c) h d j).symm)

/-- Every place of the array is in a block that is written back. -/
theorem block_cover (i : S8x64x16384.Idx) : ∃ t : Fin grid0.N, ((cfgT (F := Ideal)).win 4).flush t = true ∧ i ∈ (((cfgT (F := Ideal)).win 4).blk t).view.set := by
  have h0 : (i 0).val < 8 := (i 0).isLt
  have h1 : (i 1).val < 64 := (i 1).isLt
  have h2 : (i 2).val < 16384 := (i 2).isLt
  obtain ⟨t, hk, hq⟩ := diag_exists ⟨(i 2).val / 512, by omega⟩
  have hq' : qb (pt (t.cast N_0.symm)) = (i 2).val / 512 := hq
  refine ⟨t.cast N_0.symm, (flush_iff _).mpr (hk.trans hq.symm), ?_⟩
  refine (ValueKit.mem_set_slice_whole_iff main_v47 _ i (Pipeline.Window.mem_rect_iff ((cfgT (F := Ideal)).win 4) _ i rfl)).mpr fun a => ?_
  match a with
  | ⟨0, _⟩ => exact ⟨Nat.zero_le _, Nat.lt_of_lt_of_eq h0 (Nat.zero_add 8).symm⟩
  | ⟨1, _⟩ => exact ⟨Nat.zero_le _, Nat.lt_of_lt_of_eq h1 (Nat.zero_add 64).symm⟩
  | ⟨2, _⟩ =>
    have e := index4_last (t.cast N_0.symm)
    show ((cfgT (F := Ideal)).win 4).index (t.cast N_0.symm) (⟨2, by decide⟩ : Fin 3) * 512 ≤ (i 2).val
      ∧ (i 2).val < ((cfgT (F := Ideal)).win 4).index (t.cast N_0.symm) (⟨2, by decide⟩ : Fin 3) * 512 + 512
    rw [e, hq']
    constructor <;> omega

/-- The result array after the run. -/
theorem out_eq {Rel : Dev nD → ℕ → Vec Ideal S8x1x512 .f32 → Vec Ideal S8x1x512 .f32 → Vec Ideal S8x64x512 .f32 → Prop} {r}
    (h : RDat.FramePost (cfgT (F := Ideal)) (fun c => rdat m c (Rel c) (Rl m c)) (V m) r) (c : Dev nD) :
    r.2.mem ((c.tc : Thread nD τ).loc main_v47) = outArr m c := by
  obtain ⟨after, hL, hA⟩ := h.exists_exact c
  refine (hA 4).trans ?_
  refine Pipeline.Dat.arrAt_eq_of_emb ((rdat m c (Rel c) (Rl m c)).withAfter after) (4 : Fin 5)
    (show Buf (Elt Ideal) ((c.tc : Thread nD τ).loc main_v47) from outArr m c) (fun t hf y => ?_) (fun i => block_cover i)
  obtain ⟨Y, -, hR⟩ := hL 4 t hf
  exact block_out m c t (after 4 t) (hR ((flush_iff t).mp hf)) y

/-- The program's result is the attention, its arguments unchanged. -/
theorem value (ρ : Dev nD → PrngReg) (H : ∀ c, Real m c) :
    θ_run defs (onTc (τ := τ) (main (F := Ideal))) ⟨m, fun _ => 0, ρ⟩ (fun r => ∀ c : Dev nD, r.2.mem ((c.tc : Thread nD τ).loc main_v47) = outArr m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨out_eq m h.1 c, args_of_post m h.1 c⟩) (run_main m ρ (fun c => Inv m c) (fun c => Rl m c) fun c => closed (H c))

end Cert.KernelIdeal.Flash

end
-- ==== Proof.Flash.Math.Reference.lean ====
module

public import proofs.«01_k».proof.Proof.Gen.ReferenceIdeal.Read
public import proofs.«01_k».proof.Proof.Flash.Math.Data
public import proofs.«01_k».proof.Proof.Flash.KernelIdeal.Words
public import Idealize.ShloMosaic.Lib.Pointwise
public import Idealize.ShloMosaic.Lib.WordCmp

@[expose] public section

set_option maxRecDepth 16384

noncomputable section

namespace Cert.ReferenceIdeal.Read

open Idealize.ShloMosaic Idealize.ShloMosaic.TcCoe
open Cert.ReferenceIdeal Cert.ReferenceIdeal.Gen Cert.FlashMath

/-! The reference's values, at an index. -/

variable (x0 x1 x2 : BufTy.Contents (Elt Ideal) ⟨S1x16384x8x64, .f32⟩) (x3 : BufTy.Contents (Elt Ideal) ⟨S1x16384x8, .f32⟩)

/-- The running sums of the gates' logarithms. -/
theorem gates_at (t : Fin 16384) (h : Fin 8) : val_main_v0 (F := Ideal) x3 (ix3 0 t h) = runSum (fun s => x3 (ix3 0 s h)) t := by
  unfold val_main_v0 Host.reduceWindowAdd
  rw [Ideal.hostReduceWindowAdd_def]
  refine window_mid x3 _ ?_ _ h t
  exact Ideal.ofBits_zero_f32

/-- The scores. -/
theorem scores_at (h : Fin 8) (q s : Fin 16384) : val_main_v12 (F := Ideal) x0 x1 x3 (ix4 0 h q s)
    = (∑ d : Fin 64, x0 (ix4 0 q h d) * x1 (ix4 0 s h d)) * Ideal.ofBits .f32 1040187392#32 + val_main_v0 (F := Ideal) x3 (ix3 0 q h) - val_main_v0 (F := Ideal) x3 (ix3 0 s h) := by
  pointwise [val_main_v12, val_main_v11, val_main_v10, val_main_v9, val_main_v8, val_main_v7, val_main_v6, val_main_v5, val_main_v4, val_main_v3, val_main_cst, val_main_v2]

/-- The scores, the keys after the query at −∞. -/
theorem masked_at (h : Fin 8) (q s : Fin 16384) : val_main_v18 (F := Ideal) x0 x1 x3 (ix4 0 h q s)
    = if s.val ≤ q.val then val_main_v12 (F := Ideal) x0 x1 x3 (ix4 0 h q s) else ⊥ := by
  have e : val_main_v18 (F := Ideal) x0 x1 x3 (ix4 0 h q s) = Scalar.select (IntOp.cmpi .sle (BitVec.ofNat 32 s.val) (BitVec.ofNat 32 q.val))
      (val_main_v12 (F := Ideal) x0 x1 x3 (ix4 0 h q s)) (Ideal.ofBits .f32 4286578688#32) := by
    unfold val_main_v18
    pointwise [val_main_v17, val_main_v16, val_main_v15, val_main_v14, val_main_v13, val_main_v1, val_main_call1_v2, val_main_call1_v1, val_main_call1_v0, val_main_cst_0]
    rfl
  rw [e, WordCmp.cmpi_sle_ofNat (by omega) (by omega), word_bot]
  by_cases hij : s.val ≤ q.val
  · rw [decide_eq_true hij, if_pos hij]; rfl
  · rw [decide_eq_false hij, if_neg hij]; rfl

/-- A query's largest score. -/
theorem top_at (h : Fin 8) (q : Fin 16384) : val_main_v19 (F := Ideal) x0 x1 x3 (ix3 0 h q)
    = Finset.univ.fold max ⊥ (fun s : Fin 16384 => val_main_v18 (F := Ideal) x0 x1 x3 (ix4 0 h q s)) := by
  have e : val_main_v19 (F := Ideal) x0 x1 x3 (ix3 0 h q)
      = Finset.univ.fold max (val_main_cst_1 (F := Ideal) (Shape.Idx.first h_S_)) (fun s : Fin 16384 => val_main_v18 (F := Ideal) x0 x1 x3 (ix4 0 h q s)) := by
    unfold val_main_v19
    pointwise []
  rw [e]
  exact congrArg (fun b => Finset.univ.fold max b _) word_bot

/-- The exponentials relative to it. -/
theorem exps_at (h : Fin 8) (q s : Fin 16384) : val_main_v25 (F := Ideal) x0 x1 x3 (ix4 0 h q s)
    = Ideal.exp (val_main_v18 (F := Ideal) x0 x1 x3 (ix4 0 h q s) - max ⊥ (val_main_v19 (F := Ideal) x0 x1 x3 (ix3 0 h q))) := by
  rw [val_main_v25_apply, val_main_v24_apply, val_main_v23_apply, val_main_v22_apply, val_main_v21_apply, val_main_v20_apply]
  have i : idx_main_v22 (idx_main_v23 (ix4 0 h q s)) = ix3 0 h q := by
    funext a
    match a with
    | ⟨0, _⟩ => rfl
    | ⟨1, _⟩ => rfl
    | ⟨2, _⟩ => rfl
  rw [i]
  generalize val_main_v18 (F := Ideal) x0 x1 x3 (ix4 0 h q s) = A
  generalize val_main_v19 (F := Ideal) x0 x1 x3 (ix3 0 h q) = B
  have hc : val_main_cst_2 (F := Ideal) (idx_main_v20 (ix3 0 h q)) = ⊥ := word_bot
  rw [hc]
  rfl

/-- The softmax. -/
theorem soft_at (h : Fin 8) (q s : Fin 16384) : val_main_v29 (F := Ideal) x0 x1 x3 (ix4 0 h q s)
    = Ideal.div (val_main_v25 (F := Ideal) x0 x1 x3 (ix4 0 h q s)) (0 + ∑ s' : Fin 16384, val_main_v25 (F := Ideal) x0 x1 x3 (ix4 0 h q s')) := by
  rw [val_main_v29_apply, val_main_v28_apply, val_main_v27_apply, val_main_v26_apply]
  have i : idx_main_v27 (idx_main_v28 (ix4 0 h q s)) = ix3 0 h q := by
    funext a
    match a with
    | ⟨0, _⟩ => rfl
    | ⟨1, _⟩ => rfl
    | ⟨2, _⟩ => rfl
  have i' : ∀ k, idx_main_v26 (ix3 0 h q) k = ix4 0 h q k := fun k => by
    funext a
    match a with
    | ⟨0, _⟩ => rfl
    | ⟨1, _⟩ => rfl
    | ⟨2, _⟩ => rfl
    | ⟨3, _⟩ => rfl
  have hc : val_main_cst_3 (F := Ideal) (Shape.Idx.first h_S_) = 0 := Ideal.ofBits_zero_f32
  rw [i, hc, Finset.sum_congr rfl fun k _ => congrArg (val_main_v25 (F := Ideal) x0 x1 x3) (i' k)]
  rfl

/-- The result. -/
theorem result_at (h : Fin 8) (d : Fin 64) (q : Fin 16384) : val_main_v30 (F := Ideal) x0 x1 x2 x3 (ix3 h d q)
    = ∑ s : Fin 16384, x2 (ix4 0 s h d) * val_main_v29 (F := Ideal) x0 x1 x3 (ix4 0 h q s) := by
  have e : val_main_v30 (F := Ideal) x0 x1 x2 x3 (ix3 h d q)
      = ∑ b : Fin 1, ∑ s : Fin 16384, x2 (ix4 b s h d) * val_main_v29 (F := Ideal) x0 x1 x3 (ix4 b h q s) := by
    unfold val_main_v30
    pointwise []
  rw [e, Fin.sum_univ_one]

/-- The reference is the attention. -/
theorem reference_attn (h0 : Finite (s := SHead) x0) (h1 : Finite (s := SHead) x1) (h3 : Finite (s := SGate) x3) (h : Fin 8) (d : Fin 64) (q : Fin 16384) :
    val_main_v30 (F := Ideal) x0 x1 x2 x3 (ix3 h d q) = attn (score x0 x1 x3 h q.val) (value x2 h) q.val d := by
  have hS : ∀ s : Fin 16384, val_main_v12 (F := Ideal) x0 x1 x3 (ix4 0 h q s)
      = (((∑ d, entry x0 h d q.val * entry x1 h d s.val) * 0.125 + gateSum x3 h q.val - gateSum x3 h s.val : ℝ) : EReal) := fun s => by
    have hd : (∑ d : Fin 64, x0 (ix4 0 q h d) * x1 (ix4 0 s h d) : EReal) = ((∑ d, entry x0 h d q.val * entry x1 h d s.val : ℝ) : EReal) := by
      rw [coe_sum]
      refine Finset.sum_congr rfl fun d _ => ?_
      rw [EReal.coe_mul, ← entry_eq h0, ← entry_eq h1]
    rw [scores_at, gates_at, gates_at, hd, gateSum_eq h3, gateSum_eq h3, word_eighth, ← EReal.coe_mul, ← EReal.coe_add, ← EReal.coe_sub]
  have hM : ∀ s : Fin 16384, val_main_v18 (F := Ideal) x0 x1 x3 (ix4 0 h q s) = if s.val ≤ q.val then
      (((∑ d, entry x0 h d q.val * entry x1 h d s.val) * 0.125 + gateSum x3 h q.val - gateSum x3 h s.val : ℝ) : EReal) else ⊥ := fun s => by
    rw [masked_at, hS]
  obtain ⟨M, hmax⟩ := max_real q.isLt _ _ hM
  rw [result_at, Finset.sum_congr rfl fun s _ => congrArg₂ (· * ·) (value_eq x2 h d s) (soft_at x0 x1 x3 h q s)]
  refine softmax_out (score x0 x1 x3 h q.val) (value x2 h) q.val q.isLt d
    (fun s => (∑ d, entry x0 h d q.val * entry x1 h d s.val) * 0.125 + gateSum x3 h q.val - gateSum x3 h s.val) (gateSum x3 h q.val) (fun s => ?_)
    (fun s => val_main_v25 (F := Ideal) x0 x1 x3 (ix4 0 h q s)) M (fun s => ?_)
  · have hl : Real.log 2 ≠ 0 := (Real.log_pos (by norm_num)).ne'
    have e : ∑ d, entry x1 h d s.val * (entry x0 h d q.val * (0.125 * (Real.log 2)⁻¹))
        = (∑ d, entry x0 h d q.val * entry x1 h d s.val) * 0.125 * (Real.log 2)⁻¹ := by
      rw [Finset.sum_mul, Finset.sum_mul]
      exact Finset.sum_congr rfl fun d _ => by ring
    unfold score
    rw [e]
    field_simp
    ring
  · rw [exps_at, top_at, hmax, hM]
    exact exp_masked _ _ _

end Cert.ReferenceIdeal.Read

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Input.Agree
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite3
public import proofs.«01_k».proof.Proof.Combine.Agree
public import proofs.«01_k».proof.Proof.Combine.Pre
public import proofs.«01_k».proof.Proof.Flash.Kernel.Launch
public import proofs.«01_k».proof.Proof.Flash.KernelIdeal.Launch
public import proofs.«01_k».proof.Proof.Flash.KernelIdeal.Output
public import proofs.«01_k».proof.Proof.Flash.Math.Reference
public import proofs.«01_k».proof.Proof.Flash.Math.Pre

@[expose] public section

noncomputable section

namespace Cert.Proof

open Idealize.ShloMosaic Idealize.SL.Sem Cert.Kernel

/-- The reference runs, leaves its arguments and has no counter. -/
theorem refFrame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition makes the queries, the keys and the gates' logarithms real. -/
theorem real_of_pre [hP : Cert.Pre_finite.Facts] (m : (ℓ : Loc Cert.KernelIdeal.nD Cert.KernelIdeal.τ Cert.KernelIdeal.sig) → Buf (Elt Ideal) ℓ)
    (h : Pre_KernelIdeal_finite m) (c : Dev Cert.KernelIdeal.nD) : Cert.KernelIdeal.Flash.Real m c :=
  let ⟨hq, hk, hg⟩ := Cert.Pre_finite.finite_of _ _ _ _ (h c)
  ⟨hq, hk, hg⟩

/-- The reference's result is the attention of its arguments. -/
theorem refValue (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (H : Cert.KernelIdeal.Flash.Real m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v30 m' c = Cert.KernelIdeal.Flash.outArr m c := by
  rw [Cert.ReferenceIdeal.Read.val_main_v30_eq, e0, e1, e2, e3]
  funext i
  obtain ⟨h, d, q, rfl⟩ : ∃ (h : Fin 8) (d : Fin 64) (q : Fin 16384), i = ix3 h d q := ⟨i 0, i 1, i 2, by
    funext a
    match a with
    | ⟨0, _⟩ => rfl
    | ⟨1, _⟩ => rfl
    | ⟨2, _⟩ => rfl⟩
  exact (Cert.ReferenceIdeal.Read.reference_attn _ _ _ _ H.q H.k H.g h d q).trans (Cert.KernelIdeal.Flash.outArr_apply m c h d q).symm

/-- The kernel computes the attention of the reference. -/
theorem equal [hP : Cert.Pre_finite.Facts] : algebraic_KernelIdeal_ReferenceIdeal_pre_finite := by
  intro m g m' g' hpre hargs
  refine ⟨fun c => Cert.KernelIdeal.Flash.outArr m c, Cert.KernelIdeal.Flash.value m g (real_of_pre m hpre), ?_⟩
  refine (θ_run Cert.ReferenceIdeal.defs _ _).mono (fun r h c => ⟨(h c).1.trans ?_, (h c).2⟩) (Cert.ReferenceIdeal.Value.run (F := Ideal) m' g')
  obtain ⟨e0, e1, e2, e3⟩ := hargs c
  exact refValue m m' c (real_of_pre m hpre c) e0 e1 e2 e3

/-- The projection's reference runs, leaves its arguments and has no counter. -/
theorem refFrame2 : quiescent_Reference2Ideal := fun m ρ _ =>
  (θ_run Cert.Reference2Ideal.defs _ _).mono (fun r h => ⟨fun c => (h c).2.2.2.2.2.2.2.2.2, sem_eq_zero_of_no_sems (by decide) r.2⟩)
    (Cert.Reference2Ideal.Value.run (F := Ideal) m ρ)

/-- The kernel computes the input projection of the reference. -/
theorem equal2 : algebraic_Kernel2Ideal_Reference2Ideal := by
  intro m g m' g' _ hargs
  refine ⟨fun c => Cert.Kernel2Ideal.Input.outMain m c 0 (by decide), fun c => Cert.Kernel2Ideal.Input.outMain m c 512 (by decide), fun c => Cert.Kernel2Ideal.Input.outMain m c 1024 (by decide), fun c => Cert.Kernel2Ideal.Input.outMain m c 1544 (by decide), fun c => Cert.Kernel2Ideal.Input.outMain m c 2056 (by decide), fun c => Cert.Kernel2Ideal.Input.outMain m c 2568 (by decide), fun c => Cert.Kernel2Ideal.Input.outMain m c 3088 (by decide),
    fun c => Cert.Kernel2Ideal.Input.outGate m c, fun c => Cert.Kernel2Ideal.Input.outGateT m c, ?_, ?_⟩
  · refine (θ_run Cert.Kernel2Ideal.defs _ _).mono (fun r h c => ?_) (Cert.Kernel2Ideal.Value.run_blocks (F := Ideal) m g)
    obtain ⟨h0, h1, h2, h3, h4, h5, h6, h7, h8, ha⟩ := h c
    exact ⟨h0.trans (Cert.Kernel2Ideal.Input.arr7 m c), h1.trans (Cert.Kernel2Ideal.Input.arr8 m c), h2.trans (Cert.Kernel2Ideal.Input.arr9 m c), h3.trans (Cert.Kernel2Ideal.Input.arr10 m c), h4.trans (Cert.Kernel2Ideal.Input.arr11 m c), h5.trans (Cert.Kernel2Ideal.Input.arr12 m c), h6.trans (Cert.Kernel2Ideal.Input.arr13 m c), h7.trans (Cert.Kernel2Ideal.Input.arr14 m c), h8.trans (Cert.Kernel2Ideal.Input.arr15 m c), ha⟩
  · refine (θ_run Cert.Reference2Ideal.defs _ _).mono (fun r h c => ?_) (Cert.Reference2Ideal.Value.run (F := Ideal) m' g')
    obtain ⟨h0, h1, h2, h3, h4, h5, h6, h7, h8, ha⟩ := h c
    obtain ⟨e0, e1, e2, e3, e4, e5, e6, e7⟩ := hargs c
    refine ⟨h0.trans ((Cert.Reference2Ideal.Read.val_main_v21_eq _ _ _ _ _).trans ?_), h1.trans ((Cert.Reference2Ideal.Read.val_main_v22_eq _ _ _ _ _).trans ?_), h2.trans ((Cert.Reference2Ideal.Read.val_main_v23_eq _ _ _ _ _).trans ?_), h3.trans ((Cert.Reference2Ideal.Read.val_main_v25_eq _ _ _ _ _).trans ?_), h4.trans ((Cert.Reference2Ideal.Read.val_main_v26_eq _ _ _ _ _).trans ?_), h5.trans ((Cert.Reference2Ideal.Read.val_main_v27_eq _ _ _ _ _).trans ?_), h6.trans ((Cert.Reference2Ideal.Read.val_main_v30_eq _ _ _ _ _).trans ?_),
      h7.trans ((Cert.Reference2Ideal.Read.val_main_v44_eq m' c).trans ?_), h8.trans ((Cert.Reference2Ideal.Read.val_main_v45_eq m' c).trans ?_), ha⟩
    · rw [e0, e1, e2, e3, e4]; exact Cert.InputAgree.main0 m c
    · rw [e0, e1, e2, e3, e4]; exact Cert.InputAgree.main512 m c
    · rw [e0, e1, e2, e3, e4]; exact Cert.InputAgree.main1024 m c
    · rw [e0, e1, e2, e3, e4]; exact Cert.InputAgree.main1544 m c
    · rw [e0, e1, e2, e3, e4]; exact Cert.InputAgree.main2056 m c
    · rw [e0, e1, e2, e3, e4]; exact Cert.InputAgree.main2568 m c
    · rw [e0, e1, e2, e3, e4]; exact Cert.InputAgree.main3088 m c
    · rw [e0, e1, e2, e3, e4, e5, e6, e7]; exact Cert.InputAgree.gates m c
    · rw [e0, e1, e2, e3, e4, e5, e6, e7]; exact Cert.InputAgree.gatesT m c

/-- The combination's reference runs, leaves its arguments and has no counter. -/
theorem refFrame3 : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The third call's precondition makes the two mixers' outputs real. -/
theorem mixers_of_pre [hP : Cert.Pre_finite3.Facts] (m : (ℓ : Loc Cert.Kernel3Ideal.nD Cert.Kernel3Ideal.τ Cert.Kernel3Ideal.sig) → Buf (Elt Ideal) ℓ)
    (h : Pre_Kernel3Ideal_finite3 m) (c : Dev Cert.Kernel3Ideal.nD) : Cert.Kernel3Ideal.Combine.Mixers m c :=
  let ⟨ha, hb⟩ := Cert.Pre_finite3.finite_of _ _ _ _ _ _ _ _ _ _ _ _ _ (h c)
  ⟨ha, hb⟩

/-- The kernel computes the combination of the reference. -/
theorem equal3 [hP : Cert.Pre_finite3.Facts] : algebraic_Kernel3Ideal_Reference3Ideal_pre_finite3 := by
  intro m g m' g' hpre hargs
  refine ⟨fun c => Cert.Kernel3Ideal.Combine.outX1 m c, fun c => Cert.Kernel3Ideal.Combine.outH2 m c, fun c => Cert.Kernel3Ideal.Combine.outScores m c, ?_, ?_⟩
  · refine (θ_run Cert.Kernel3Ideal.defs _ _).mono (fun r h c => ?_) (Cert.Kernel3Ideal.Value.run_blocks (F := Ideal) m g)
    obtain ⟨h0, h1, h2, ha⟩ := h c
    have M := mixers_of_pre m hpre c
    exact ⟨h0.trans (Cert.Kernel3Ideal.Combine.arr15 m c M), h1.trans (Cert.Kernel3Ideal.Combine.arr16 m c M), h2.trans (Cert.Kernel3Ideal.Combine.arr17 m c M), ha⟩
  · refine (θ_run Cert.Reference3Ideal.defs _ _).mono (fun r h c => ?_) (Cert.Reference3Ideal.Value.run (F := Ideal) m' g')
    obtain ⟨h0, h1, h2, ha⟩ := h c
    obtain ⟨e0, e1, e2, e3, e4, e5, e6, e7, e8, e9, e10, e11, e12⟩ := hargs c
    refine ⟨h0.trans ((Cert.Reference3Ideal.Read.val_main_v65_eq _ _ _ _ _ _ _ _).trans ?_), h1.trans ((Cert.Reference3Ideal.Read.val_main_v66_eq m' c).trans ?_), h2.trans ((Cert.Reference3Ideal.Read.val_main_v67_eq m' c).trans ?_), ha⟩
    · rw [e0, e1, e2, e3, e4, e7, e8, e10]; exact Cert.CombineAgree.x1 m c
    · rw [e0, e1, e2, e3, e4, e5, e6, e7, e8, e9, e10]; exact Cert.CombineAgree.h2 m c
    · exact Cert.CombineAgree.scores_of m c e0 e1 e2 e3 e4 e5 e6 e7 e8 e9 e10 e11 e12

/-- The programs run, leave their arguments and end with every counter at zero; each kernel agrees with its reference. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_finite.facts, Cert.Pre_finite3.Gen.facts,
  fun m ρ _ => Cert.Kernel.Flash.frame m ρ, fun m ρ _ => Cert.KernelIdeal.Flash.frame m ρ, fun m ρ _ => Cert.KernelIdeal.Flash.frame m ρ,
  refFrame, fun m ρ _ => refFrame m ρ trivial, fun m ρ _ => Cert.Kernel2.Gen.frame m ρ, fun m ρ _ => Cert.Kernel2Ideal.Gen.frame m ρ,
  refFrame2, fun m ρ _ => Cert.Kernel3.Gen.frame m ρ, fun m ρ _ => Cert.Kernel3Ideal.Gen.frame m ρ, fun m ρ _ => Cert.Kernel3Ideal.Gen.frame m ρ,
  refFrame3, fun m ρ _ => refFrame3 m ρ trivial, trivial, @equal Cert.Pre_finite.facts, trivial, equal2, trivial, @equal3 Cert.Pre_finite3.Gen.facts⟩

end Cert.Proof

end
